-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInRefIdeal (m : (ℓ : Loc Cert.FfnDwInRefIdeal.nD Cert.FfnDwInRefIdeal.τ Cert.FfnDwInRefIdeal.sig) → Buf (Elt Ideal) ℓ) : Prop :=
  True

def Pre_FfnDwOut (m : (ℓ : Loc Cert.FfnDwOut.nD Cert.FfnDwOut.τ Cert.FfnDwOut.sig) → Buf (Elt Bits) ℓ) : Prop :=
  True

def Pre_FfnDwOutIdeal (m : (ℓ : Loc Cert.FfnDwOutIdeal.nD Cert.FfnDwOutIdeal.τ Cert.FfnDwOutIdeal.sig) → Buf (Elt Ideal) ℓ) : Prop :=
  True

def Pre_FfnDwOutRefIdeal (m : (ℓ : Loc Cert.FfnDwOutRefIdeal.nD Cert.FfnDwOutRefIdeal.τ Cert.FfnDwOutRefIdeal.sig) → Buf (Elt Ideal) ℓ) : Prop :=
  True

def Pre_AttnDwIn (m : (ℓ : Loc Cert.AttnDwIn.nD Cert.AttnDwIn.τ Cert.AttnDwIn.sig) → Buf (Elt Bits) ℓ) : Prop :=
  True

def Pre_AttnDwInIdeal (m : (ℓ : Loc Cert.AttnDwInIdeal.nD Cert.AttnDwInIdeal.τ Cert.AttnDwInIdeal.sig) → Buf (Elt Ideal) ℓ) : Prop :=
  True

def Pre_AttnDwInRefIdeal (m : (ℓ : Loc Cert.AttnDwInRefIdeal.nD Cert.AttnDwInRefIdeal.τ Cert.AttnDwInRefIdeal.sig) → Buf (Elt Ideal) ℓ) : Prop :=
  True

def Pre_AttnDwOut (m : (ℓ : Loc Cert.AttnDwOut.nD Cert.AttnDwOut.τ Cert.AttnDwOut.sig) → Buf (Elt Bits) ℓ) : Prop :=
  True

def Pre_AttnDwOutIdeal (m : (ℓ : Loc Cert.AttnDwOutIdeal.nD Cert.AttnDwOutIdeal.τ Cert.AttnDwOutIdeal.sig) → Buf (Elt Ideal) ℓ) : Prop :=
  True

def Pre_AttnDwOutRefIdeal (m : (ℓ : Loc Cert.AttnDwOutRefIdeal.nD Cert.AttnDwOutRefIdeal.τ Cert.AttnDwOutRefIdeal.sig) → Buf (Elt Ideal) ℓ) : Prop :=
  True

def Pre_SsmDwZ (m : (ℓ : Loc Cert.SsmDwZ.nD Cert.SsmDwZ.τ Cert.SsmDwZ.sig) → Buf (Elt Bits) ℓ) : Prop :=
  True

def Pre_SsmDwZIdeal (m : (ℓ : Loc Cert.SsmDwZIdeal.nD Cert.SsmDwZIdeal.τ Cert.SsmDwZIdeal.sig) → Buf (Elt Ideal) ℓ) : Prop :=
  True

def Pre_SsmDwZRefIdeal (m : (ℓ : Loc Cert.SsmDwZRefIdeal.nD Cert.SsmDwZRefIdeal.τ Cert.SsmDwZRefIdeal.sig) → Buf (Elt Ideal) ℓ) : Prop :=
  True

def Pre_SsmDwX (m : (ℓ : Loc Cert.SsmDwX.nD Cert.SsmDwX.τ Cert.SsmDwX.sig) → Buf (Elt Bits) ℓ) : Prop :=
  True

def Pre_SsmDwXIdeal (m : (ℓ : Loc Cert.SsmDwXIdeal.nD Cert.SsmDwXIdeal.τ Cert.SsmDwXIdeal.sig) → Buf (Elt Ideal) ℓ) : Prop :=
  True

def Pre_SsmDwXRefIdeal (m : (ℓ : Loc Cert.SsmDwXRefIdeal.nD Cert.SsmDwXRefIdeal.τ Cert.SsmDwXRefIdeal.sig) → Buf (Elt Ideal) ℓ) : Prop :=
  True

def Pre_SsmDwOut (m : (ℓ : Loc Cert.SsmDwOut.nD Cert.SsmDwOut.τ Cert.SsmDwOut.sig) → Buf (Elt Bits) ℓ) : Prop :=
  True

def Pre_SsmDwOutIdeal (m : (ℓ : Loc Cert.SsmDwOutIdeal.nD Cert.SsmDwOutIdeal.τ Cert.SsmDwOutIdeal.sig) → Buf (Elt Ideal) ℓ) : Prop :=
  True

def Pre_SsmDwOutRefIdeal (m : (ℓ : Loc Cert.SsmDwOutRefIdeal.nD Cert.SsmDwOutRefIdeal.τ Cert.SsmDwOutRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_AttnDh (m : (ℓ : Loc Cert.AttnDh.nD Cert.AttnDh.τ Cert.AttnDh.sig) → Buf (Elt Bits) ℓ) : Prop :=
  True

def Pre_AttnDhIdeal (m : (ℓ : Loc Cert.AttnDhIdeal.nD Cert.AttnDhIdeal.τ Cert.AttnDhIdeal.sig) → Buf (Elt Ideal) ℓ) : Prop :=
  True

def Pre_AttnDhRefIdeal (m : (ℓ : Loc Cert.AttnDhRefIdeal.nD Cert.AttnDhRefIdeal.τ Cert.AttnDhRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutIdeal_finite_fwd [hPre_finite_fwd : Cert.Pre_finite_fwd.Facts] (m : (ℓ : Loc Cert.AttnOutIdeal.nD Cert.AttnOutIdeal.τ Cert.AttnOutIdeal.sig) → Buf (Elt Ideal) ℓ) : Prop :=
  ∀ c : Dev Cert.AttnOutIdeal.nD,
    (Cert.Pre_finite_fwd.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3))) = (fun _ => 1#1)

def Pre_AttnOutRefIdeal (m : (ℓ : Loc Cert.AttnOutRefIdeal.nD Cert.AttnOutRefIdeal.τ Cert.AttnOutRefIdeal.sig) → Buf (Elt Ideal) ℓ) : Prop :=
  True

def Pre_AttnOutRefIdeal_finite_fwd [hPre_finite_fwd : Cert.Pre_finite_fwd.Facts] (m : (ℓ : Loc Cert.AttnOutRefIdeal.nD Cert.AttnOutRefIdeal.τ Cert.AttnOutRefIdeal.sig) → Buf (Elt Ideal) ℓ) : Prop :=
  ∀ c : Dev Cert.AttnOutRefIdeal.nD,
    (Cert.Pre_finite_fwd.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ r.2.sem = fun _ => 0)

def quiescent_FfnDwInRefIdeal [hFfnDwInRefIdeal : Cert.FfnDwInRefIdeal.Facts] : Prop :=
  ∀ (m : (ℓ : Loc Cert.FfnDwInRefIdeal.nD Cert.FfnDwInRefIdeal.τ Cert.FfnDwInRefIdeal.sig) → Buf (Elt Ideal) ℓ) (g : Dev Cert.FfnDwInRefIdeal.nD → PrngReg), Pre_FfnDwInRefIdeal m →
    θ_run (Cert.FfnDwInRefIdeal.defs (F := Ideal)) (onTc (τ := Cert.FfnDwInRefIdeal.τ) (Cert.FfnDwInRefIdeal.main (F := Ideal))) ⟨m, fun _ => 0, g⟩ (fun r => (∀ c : Dev Cert.FfnDwInRefIdeal.nD,
      r.2.mem ((c.tc : Thread Cert.FfnDwInRefIdeal.nD Cert.FfnDwInRefIdeal.τ).loc Cert.FfnDwInRefIdeal.main_arg0) = m ((c.tc : Thread Cert.FfnDwInRefIdeal.nD Cert.FfnDwInRefIdeal.τ).loc Cert.FfnDwInRefIdeal.main_arg0)
      ∧ r.2.mem ((c.tc : Thread Cert.FfnDwInRefIdeal.nD Cert.FfnDwInRefIdeal.τ).loc Cert.FfnDwInRefIdeal.main_arg1) = m ((c.tc : Thread Cert.FfnDwInRefIdeal.nD Cert.FfnDwInRefIdeal.τ).loc Cert.FfnDwInRefIdeal.main_arg1))
      ∧ r.2.sem = fun _ => 0)

def quiescent_FfnDwOut [hFfnDwOut : Cert.FfnDwOut.Facts] : Prop :=
  ∀ (m : (ℓ : Loc Cert.FfnDwOut.nD Cert.FfnDwOut.τ Cert.FfnDwOut.sig) → Buf (Elt Bits) ℓ) (g : Dev Cert.FfnDwOut.nD → PrngReg), Pre_FfnDwOut m →
    θ_run (Cert.FfnDwOut.defs (F := Bits)) (onTc (τ := Cert.FfnDwOut.τ) (Cert.FfnDwOut.main (F := Bits))) ⟨m, fun _ => 0, g⟩ (fun r => (∀ c : Dev Cert.FfnDwOut.nD,
      r.2.mem ((c.tc : Thread Cert.FfnDwOut.nD Cert.FfnDwOut.τ).loc Cert.FfnDwOut.main_arg0) = m ((c.tc : Thread Cert.FfnDwOut.nD Cert.FfnDwOut.τ).loc Cert.FfnDwOut.main_arg0)
      ∧ r.2.mem ((c.tc : Thread Cert.FfnDwOut.nD Cert.FfnDwOut.τ).loc Cert.FfnDwOut.main_arg1) = m ((c.tc : Thread Cert.FfnDwOut.nD Cert.FfnDwOut.τ).loc Cert.FfnDwOut.main_arg1))
      ∧ r.2.sem = fun _ => 0)

def quiescent_FfnDwOutIdeal [hFfnDwOutIdeal : Cert.FfnDwOutIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg), Pre_FfnDwOutIdeal m →
    θ_run (Cert.FfnDwOutIdeal.defs (F := Ideal)) (onTc (τ := Cert.FfnDwOutIdeal.τ) (Cert.FfnDwOutIdeal.main (F := Ideal))) ⟨m, fun _ => 0, g⟩ (fun r => (∀ c : Dev Cert.FfnDwOutIdeal.nD,
      r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
      ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ r.2.sem = fun _ => 0)

def quiescent_FfnDwOutRefIdeal [hFfnDwOutRefIdeal : Cert.FfnDwOutRefIdeal.Facts] : Prop :=
  ∀ (m : (ℓ : Loc Cert.FfnDwOutRefIdeal.nD Cert.FfnDwOutRefIdeal.τ Cert.FfnDwOutRefIdeal.sig) → Buf (Elt Ideal) ℓ) (g : Dev Cert.FfnDwOutRefIdeal.nD → PrngReg), Pre_FfnDwOutRefIdeal m →
    θ_run (Cert.FfnDwOutRefIdeal.defs (F := Ideal)) (onTc (τ := Cert.FfnDwOutRefIdeal.τ) (Cert.FfnDwOutRefIdeal.main (F := Ideal))) ⟨m, fun _ => 0, g⟩ (fun r => (∀ c : Dev Cert.FfnDwOutRefIdeal.nD,
      r.2.mem ((c.tc : Thread Cert.FfnDwOutRefIdeal.nD Cert.FfnDwOutRefIdeal.τ).loc Cert.FfnDwOutRefIdeal.main_arg0) = m ((c.tc : Thread Cert.FfnDwOutRefIdeal.nD Cert.FfnDwOutRefIdeal.τ).loc Cert.FfnDwOutRefIdeal.main_arg0)
      ∧ r.2.mem ((c.tc : Thread Cert.FfnDwOutRefIdeal.nD Cert.FfnDwOutRefIdeal.τ).loc Cert.FfnDwOutRefIdeal.main_arg1) = m ((c.tc : Thread Cert.FfnDwOutRefIdeal.nD Cert.FfnDwOutRefIdeal.τ).loc Cert.FfnDwOutRefIdeal.main_arg1))
      ∧ r.2.sem = fun _ => 0)

def quiescent_AttnDwIn [hAttnDwIn : Cert.AttnDwIn.Facts] : Prop :=
  ∀ (m : (ℓ : Loc Cert.AttnDwIn.nD Cert.AttnDwIn.τ Cert.AttnDwIn.sig) → Buf (Elt Bits) ℓ) (g : Dev Cert.AttnDwIn.nD → PrngReg), Pre_AttnDwIn m →
    θ_run (Cert.AttnDwIn.defs (F := Bits)) (onTc (τ := Cert.AttnDwIn.τ) (Cert.AttnDwIn.main (F := Bits))) ⟨m, fun _ => 0, g⟩ (fun r => (∀ c : Dev Cert.AttnDwIn.nD,
      r.2.mem ((c.tc : Thread Cert.AttnDwIn.nD Cert.AttnDwIn.τ).loc Cert.AttnDwIn.main_arg0) = m ((c.tc : Thread Cert.AttnDwIn.nD Cert.AttnDwIn.τ).loc Cert.AttnDwIn.main_arg0)
      ∧ r.2.mem ((c.tc : Thread Cert.AttnDwIn.nD Cert.AttnDwIn.τ).loc Cert.AttnDwIn.main_arg1) = m ((c.tc : Thread Cert.AttnDwIn.nD Cert.AttnDwIn.τ).loc Cert.AttnDwIn.main_arg1))
      ∧ r.2.sem = fun _ => 0)

def quiescent_AttnDwInIdeal [hAttnDwInIdeal : Cert.AttnDwInIdeal.Facts] : Prop :=
  ∀ (m : (ℓ : Loc Cert.AttnDwInIdeal.nD Cert.AttnDwInIdeal.τ Cert.AttnDwInIdeal.sig) → Buf (Elt Ideal) ℓ) (g : Dev Cert.AttnDwInIdeal.nD → PrngReg), Pre_AttnDwInIdeal m →
    θ_run (Cert.AttnDwInIdeal.defs (F := Ideal)) (onTc (τ := Cert.AttnDwInIdeal.τ) (Cert.AttnDwInIdeal.main (F := Ideal))) ⟨m, fun _ => 0, g⟩ (fun r => (∀ c : Dev Cert.AttnDwInIdeal.nD,
      r.2.mem ((c.tc : Thread Cert.AttnDwInIdeal.nD Cert.AttnDwInIdeal.τ).loc Cert.AttnDwInIdeal.main_arg0) = m ((c.tc : Thread Cert.AttnDwInIdeal.nD Cert.AttnDwInIdeal.τ).loc Cert.AttnDwInIdeal.main_arg0)
      ∧ r.2.mem ((c.tc : Thread Cert.AttnDwInIdeal.nD Cert.AttnDwInIdeal.τ).loc Cert.AttnDwInIdeal.main_arg1) = m ((c.tc : Thread Cert.AttnDwInIdeal.nD Cert.AttnDwInIdeal.τ).loc Cert.AttnDwInIdeal.main_arg1))
      ∧ r.2.sem = fun _ => 0)

def quiescent_AttnDwInRefIdeal [hAttnDwInRefIdeal : Cert.AttnDwInRefIdeal.Facts] : Prop :=
  ∀ (m : (ℓ : Loc Cert.AttnDwInRefIdeal.nD Cert.AttnDwInRefIdeal.τ Cert.AttnDwInRefIdeal.sig) → Buf (Elt Ideal) ℓ) (g : Dev Cert.AttnDwInRefIdeal.nD → PrngReg), Pre_AttnDwInRefIdeal m →
    θ_run (Cert.AttnDwInRefIdeal.defs (F := Ideal)) (onTc (τ := Cert.AttnDwInRefIdeal.τ) (Cert.AttnDwInRefIdeal.main (F := Ideal))) ⟨m, fun _ => 0, g⟩ (fun r => (∀ c : Dev Cert.AttnDwInRefIdeal.nD,
      r.2.mem ((c.tc : Thread Cert.AttnDwInRefIdeal.nD Cert.AttnDwInRefIdeal.τ).loc Cert.AttnDwInRefIdeal.main_arg0) = m ((c.tc : Thread Cert.AttnDwInRefIdeal.nD Cert.AttnDwInRefIdeal.τ).loc Cert.AttnDwInRefIdeal.main_arg0)
      ∧ r.2.mem ((c.tc : Thread Cert.AttnDwInRefIdeal.nD Cert.AttnDwInRefIdeal.τ).loc Cert.AttnDwInRefIdeal.main_arg1) = m ((c.tc : Thread Cert.AttnDwInRefIdeal.nD Cert.AttnDwInRefIdeal.τ).loc Cert.AttnDwInRefIdeal.main_arg1))
      ∧ r.2.sem = fun _ => 0)

def quiescent_AttnDwOut [hAttnDwOut : Cert.AttnDwOut.Facts] : Prop :=
  ∀ (m : (ℓ : Loc Cert.AttnDwOut.nD Cert.AttnDwOut.τ Cert.AttnDwOut.sig) → Buf (Elt Bits) ℓ) (g : Dev Cert.AttnDwOut.nD → PrngReg), Pre_AttnDwOut m →
    θ_run (Cert.AttnDwOut.defs (F := Bits)) (onTc (τ := Cert.AttnDwOut.τ) (Cert.AttnDwOut.main (F := Bits))) ⟨m, fun _ => 0, g⟩ (fun r => (∀ c : Dev Cert.AttnDwOut.nD,
      r.2.mem ((c.tc : Thread Cert.AttnDwOut.nD Cert.AttnDwOut.τ).loc Cert.AttnDwOut.main_arg0) = m ((c.tc : Thread Cert.AttnDwOut.nD Cert.AttnDwOut.τ).loc Cert.AttnDwOut.main_arg0)
      ∧ r.2.mem ((c.tc : Thread Cert.AttnDwOut.nD Cert.AttnDwOut.τ).loc Cert.AttnDwOut.main_arg1) = m ((c.tc : Thread Cert.AttnDwOut.nD Cert.AttnDwOut.τ).loc Cert.AttnDwOut.main_arg1))
      ∧ r.2.sem = fun _ => 0)

def quiescent_AttnDwOutIdeal [hAttnDwOutIdeal : Cert.AttnDwOutIdeal.Facts] : Prop :=
  ∀ (m : (ℓ : Loc Cert.AttnDwOutIdeal.nD Cert.AttnDwOutIdeal.τ Cert.AttnDwOutIdeal.sig) → Buf (Elt Ideal) ℓ) (g : Dev Cert.AttnDwOutIdeal.nD → PrngReg), Pre_AttnDwOutIdeal m →
    θ_run (Cert.AttnDwOutIdeal.defs (F := Ideal)) (onTc (τ := Cert.AttnDwOutIdeal.τ) (Cert.AttnDwOutIdeal.main (F := Ideal))) ⟨m, fun _ => 0, g⟩ (fun r => (∀ c : Dev Cert.AttnDwOutIdeal.nD,
      r.2.mem ((c.tc : Thread Cert.AttnDwOutIdeal.nD Cert.AttnDwOutIdeal.τ).loc Cert.AttnDwOutIdeal.main_arg0) = m ((c.tc : Thread Cert.AttnDwOutIdeal.nD Cert.AttnDwOutIdeal.τ).loc Cert.AttnDwOutIdeal.main_arg0)
      ∧ r.2.mem ((c.tc : Thread Cert.AttnDwOutIdeal.nD Cert.AttnDwOutIdeal.τ).loc Cert.AttnDwOutIdeal.main_arg1) = m ((c.tc : Thread Cert.AttnDwOutIdeal.nD Cert.AttnDwOutIdeal.τ).loc Cert.AttnDwOutIdeal.main_arg1))
      ∧ r.2.sem = fun _ => 0)

def quiescent_AttnDwOutRefIdeal [hAttnDwOutRefIdeal : Cert.AttnDwOutRefIdeal.Facts] : Prop :=
  ∀ (m : (ℓ : Loc Cert.AttnDwOutRefIdeal.nD Cert.AttnDwOutRefIdeal.τ Cert.AttnDwOutRefIdeal.sig) → Buf (Elt Ideal) ℓ) (g : Dev Cert.AttnDwOutRefIdeal.nD → PrngReg), Pre_AttnDwOutRefIdeal m →
    θ_run (Cert.AttnDwOutRefIdeal.defs (F := Ideal)) (onTc (τ := Cert.AttnDwOutRefIdeal.τ) (Cert.AttnDwOutRefIdeal.main (F := Ideal))) ⟨m, fun _ => 0, g⟩ (fun r => (∀ c : Dev Cert.AttnDwOutRefIdeal.nD,
      r.2.mem ((c.tc : Thread Cert.AttnDwOutRefIdeal.nD Cert.AttnDwOutRefIdeal.τ).loc Cert.AttnDwOutRefIdeal.main_arg0) = m ((c.tc : Thread Cert.AttnDwOutRefIdeal.nD Cert.AttnDwOutRefIdeal.τ).loc Cert.AttnDwOutRefIdeal.main_arg0)
      ∧ r.2.mem ((c.tc : Thread Cert.AttnDwOutRefIdeal.nD Cert.AttnDwOutRefIdeal.τ).loc Cert.AttnDwOutRefIdeal.main_arg1) = m ((c.tc : Thread Cert.AttnDwOutRefIdeal.nD Cert.AttnDwOutRefIdeal.τ).loc Cert.AttnDwOutRefIdeal.main_arg1))
      ∧ r.2.sem = fun _ => 0)

def quiescent_SsmDwZ [hSsmDwZ : Cert.SsmDwZ.Facts] : Prop :=
  ∀ (m : (ℓ : Loc Cert.SsmDwZ.nD Cert.SsmDwZ.τ Cert.SsmDwZ.sig) → Buf (Elt Bits) ℓ) (g : Dev Cert.SsmDwZ.nD → PrngReg), Pre_SsmDwZ m →
    θ_run (Cert.SsmDwZ.defs (F := Bits)) (onTc (τ := Cert.SsmDwZ.τ) (Cert.SsmDwZ.main (F := Bits))) ⟨m, fun _ => 0, g⟩ (fun r => (∀ c : Dev Cert.SsmDwZ.nD,
      r.2.mem ((c.tc : Thread Cert.SsmDwZ.nD Cert.SsmDwZ.τ).loc Cert.SsmDwZ.main_arg0) = m ((c.tc : Thread Cert.SsmDwZ.nD Cert.SsmDwZ.τ).loc Cert.SsmDwZ.main_arg0)
      ∧ r.2.mem ((c.tc : Thread Cert.SsmDwZ.nD Cert.SsmDwZ.τ).loc Cert.SsmDwZ.main_arg1) = m ((c.tc : Thread Cert.SsmDwZ.nD Cert.SsmDwZ.τ).loc Cert.SsmDwZ.main_arg1))
      ∧ r.2.sem = fun _ => 0)

def quiescent_SsmDwZIdeal [hSsmDwZIdeal : Cert.SsmDwZIdeal.Facts] : Prop :=
  ∀ (m : (ℓ : Loc Cert.SsmDwZIdeal.nD Cert.SsmDwZIdeal.τ Cert.SsmDwZIdeal.sig) → Buf (Elt Ideal) ℓ) (g : Dev Cert.SsmDwZIdeal.nD → PrngReg), Pre_SsmDwZIdeal m →
    θ_run (Cert.SsmDwZIdeal.defs (F := Ideal)) (onTc (τ := Cert.SsmDwZIdeal.τ) (Cert.SsmDwZIdeal.main (F := Ideal))) ⟨m, fun _ => 0, g⟩ (fun r => (∀ c : Dev Cert.SsmDwZIdeal.nD,
      r.2.mem ((c.tc : Thread Cert.SsmDwZIdeal.nD Cert.SsmDwZIdeal.τ).loc Cert.SsmDwZIdeal.main_arg0) = m ((c.tc : Thread Cert.SsmDwZIdeal.nD Cert.SsmDwZIdeal.τ).loc Cert.SsmDwZIdeal.main_arg0)
      ∧ r.2.mem ((c.tc : Thread Cert.SsmDwZIdeal.nD Cert.SsmDwZIdeal.τ).loc Cert.SsmDwZIdeal.main_arg1) = m ((c.tc : Thread Cert.SsmDwZIdeal.nD Cert.SsmDwZIdeal.τ).loc Cert.SsmDwZIdeal.main_arg1))
      ∧ r.2.sem = fun _ => 0)

def quiescent_SsmDwZRefIdeal [hSsmDwZRefIdeal : Cert.SsmDwZRefIdeal.Facts] : Prop :=
  ∀ (m : (ℓ : Loc Cert.SsmDwZRefIdeal.nD Cert.SsmDwZRefIdeal.τ Cert.SsmDwZRefIdeal.sig) → Buf (Elt Ideal) ℓ) (g : Dev Cert.SsmDwZRefIdeal.nD → PrngReg), Pre_SsmDwZRefIdeal m →
    θ_run (Cert.SsmDwZRefIdeal.defs (F := Ideal)) (onTc (τ := Cert.SsmDwZRefIdeal.τ) (Cert.SsmDwZRefIdeal.main (F := Ideal))) ⟨m, fun _ => 0, g⟩ (fun r => (∀ c : Dev Cert.SsmDwZRefIdeal.nD,
      r.2.mem ((c.tc : Thread Cert.SsmDwZRefIdeal.nD Cert.SsmDwZRefIdeal.τ).loc Cert.SsmDwZRefIdeal.main_arg0) = m ((c.tc : Thread Cert.SsmDwZRefIdeal.nD Cert.SsmDwZRefIdeal.τ).loc Cert.SsmDwZRefIdeal.main_arg0)
      ∧ r.2.mem ((c.tc : Thread Cert.SsmDwZRefIdeal.nD Cert.SsmDwZRefIdeal.τ).loc Cert.SsmDwZRefIdeal.main_arg1) = m ((c.tc : Thread Cert.SsmDwZRefIdeal.nD Cert.SsmDwZRefIdeal.τ).loc Cert.SsmDwZRefIdeal.main_arg1))
      ∧ r.2.sem = fun _ => 0)

def quiescent_SsmDwX [hSsmDwX : Cert.SsmDwX.Facts] : Prop :=
  ∀ (m : (ℓ : Loc Cert.SsmDwX.nD Cert.SsmDwX.τ Cert.SsmDwX.sig) → Buf (Elt Bits) ℓ) (g : Dev Cert.SsmDwX.nD → PrngReg), Pre_SsmDwX m →
    θ_run (Cert.SsmDwX.defs (F := Bits)) (onTc (τ := Cert.SsmDwX.τ) (Cert.SsmDwX.main (F := Bits))) ⟨m, fun _ => 0, g⟩ (fun r => (∀ c : Dev Cert.SsmDwX.nD,
      r.2.mem ((c.tc : Thread Cert.SsmDwX.nD Cert.SsmDwX.τ).loc Cert.SsmDwX.main_arg0) = m ((c.tc : Thread Cert.SsmDwX.nD Cert.SsmDwX.τ).loc Cert.SsmDwX.main_arg0)
      ∧ r.2.mem ((c.tc : Thread Cert.SsmDwX.nD Cert.SsmDwX.τ).loc Cert.SsmDwX.main_arg1) = m ((c.tc : Thread Cert.SsmDwX.nD Cert.SsmDwX.τ).loc Cert.SsmDwX.main_arg1))
      ∧ r.2.sem = fun _ => 0)

def quiescent_SsmDwXIdeal [hSsmDwXIdeal : Cert.SsmDwXIdeal.Facts] : Prop :=
  ∀ (m : (ℓ : Loc Cert.SsmDwXIdeal.nD Cert.SsmDwXIdeal.τ Cert.SsmDwXIdeal.sig) → Buf (Elt Ideal) ℓ) (g : Dev Cert.SsmDwXIdeal.nD → PrngReg), Pre_SsmDwXIdeal m →
    θ_run (Cert.SsmDwXIdeal.defs (F := Ideal)) (onTc (τ := Cert.SsmDwXIdeal.τ) (Cert.SsmDwXIdeal.main (F := Ideal))) ⟨m, fun _ => 0, g⟩ (fun r => (∀ c : Dev Cert.SsmDwXIdeal.nD,
      r.2.mem ((c.tc : Thread Cert.SsmDwXIdeal.nD Cert.SsmDwXIdeal.τ).loc Cert.SsmDwXIdeal.main_arg0) = m ((c.tc : Thread Cert.SsmDwXIdeal.nD Cert.SsmDwXIdeal.τ).loc Cert.SsmDwXIdeal.main_arg0)
      ∧ r.2.mem ((c.tc : Thread Cert.SsmDwXIdeal.nD Cert.SsmDwXIdeal.τ).loc Cert.SsmDwXIdeal.main_arg1) = m ((c.tc : Thread Cert.SsmDwXIdeal.nD Cert.SsmDwXIdeal.τ).loc Cert.SsmDwXIdeal.main_arg1))
      ∧ r.2.sem = fun _ => 0)

def quiescent_SsmDwXRefIdeal [hSsmDwXRefIdeal : Cert.SsmDwXRefIdeal.Facts] : Prop :=
  ∀ (m : (ℓ : Loc Cert.SsmDwXRefIdeal.nD Cert.SsmDwXRefIdeal.τ Cert.SsmDwXRefIdeal.sig) → Buf (Elt Ideal) ℓ) (g : Dev Cert.SsmDwXRefIdeal.nD → PrngReg), Pre_SsmDwXRefIdeal m →
    θ_run (Cert.SsmDwXRefIdeal.defs (F := Ideal)) (onTc (τ := Cert.SsmDwXRefIdeal.τ) (Cert.SsmDwXRefIdeal.main (F := Ideal))) ⟨m, fun _ => 0, g⟩ (fun r => (∀ c : Dev Cert.SsmDwXRefIdeal.nD,
      r.2.mem ((c.tc : Thread Cert.SsmDwXRefIdeal.nD Cert.SsmDwXRefIdeal.τ).loc Cert.SsmDwXRefIdeal.main_arg0) = m ((c.tc : Thread Cert.SsmDwXRefIdeal.nD Cert.SsmDwXRefIdeal.τ).loc Cert.SsmDwXRefIdeal.main_arg0)
      ∧ r.2.mem ((c.tc : Thread Cert.SsmDwXRefIdeal.nD Cert.SsmDwXRefIdeal.τ).loc Cert.SsmDwXRefIdeal.main_arg1) = m ((c.tc : Thread Cert.SsmDwXRefIdeal.nD Cert.SsmDwXRefIdeal.τ).loc Cert.SsmDwXRefIdeal.main_arg1))
      ∧ r.2.sem = fun _ => 0)

def quiescent_SsmDwOut [hSsmDwOut : Cert.SsmDwOut.Facts] : Prop :=
  ∀ (m : (ℓ : Loc Cert.SsmDwOut.nD Cert.SsmDwOut.τ Cert.SsmDwOut.sig) → Buf (Elt Bits) ℓ) (g : Dev Cert.SsmDwOut.nD → PrngReg), Pre_SsmDwOut m →
    θ_run (Cert.SsmDwOut.defs (F := Bits)) (onTc (τ := Cert.SsmDwOut.τ) (Cert.SsmDwOut.main (F := Bits))) ⟨m, fun _ => 0, g⟩ (fun r => (∀ c : Dev Cert.SsmDwOut.nD,
      r.2.mem ((c.tc : Thread Cert.SsmDwOut.nD Cert.SsmDwOut.τ).loc Cert.SsmDwOut.main_arg0) = m ((c.tc : Thread Cert.SsmDwOut.nD Cert.SsmDwOut.τ).loc Cert.SsmDwOut.main_arg0)
      ∧ r.2.mem ((c.tc : Thread Cert.SsmDwOut.nD Cert.SsmDwOut.τ).loc Cert.SsmDwOut.main_arg1) = m ((c.tc : Thread Cert.SsmDwOut.nD Cert.SsmDwOut.τ).loc Cert.SsmDwOut.main_arg1))
      ∧ r.2.sem = fun _ => 0)

def quiescent_SsmDwOutIdeal [hSsmDwOutIdeal : Cert.SsmDwOutIdeal.Facts] : Prop :=
  ∀ (m : (ℓ : Loc Cert.SsmDwOutIdeal.nD Cert.SsmDwOutIdeal.τ Cert.SsmDwOutIdeal.sig) → Buf (Elt Ideal) ℓ) (g : Dev Cert.SsmDwOutIdeal.nD → PrngReg), Pre_SsmDwOutIdeal m →
    θ_run (Cert.SsmDwOutIdeal.defs (F := Ideal)) (onTc (τ := Cert.SsmDwOutIdeal.τ) (Cert.SsmDwOutIdeal.main (F := Ideal))) ⟨m, fun _ => 0, g⟩ (fun r => (∀ c : Dev Cert.SsmDwOutIdeal.nD,
      r.2.mem ((c.tc : Thread Cert.SsmDwOutIdeal.nD Cert.SsmDwOutIdeal.τ).loc Cert.SsmDwOutIdeal.main_arg0) = m ((c.tc : Thread Cert.SsmDwOutIdeal.nD Cert.SsmDwOutIdeal.τ).loc Cert.SsmDwOutIdeal.main_arg0)
      ∧ r.2.mem ((c.tc : Thread Cert.SsmDwOutIdeal.nD Cert.SsmDwOutIdeal.τ).loc Cert.SsmDwOutIdeal.main_arg1) = m ((c.tc : Thread Cert.SsmDwOutIdeal.nD Cert.SsmDwOutIdeal.τ).loc Cert.SsmDwOutIdeal.main_arg1))
      ∧ r.2.sem = fun _ => 0)

def quiescent_SsmDwOutRefIdeal [hSsmDwOutRefIdeal : Cert.SsmDwOutRefIdeal.Facts] : Prop :=
  ∀ (m : (ℓ : Loc Cert.SsmDwOutRefIdeal.nD Cert.SsmDwOutRefIdeal.τ Cert.SsmDwOutRefIdeal.sig) → Buf (Elt Ideal) ℓ) (g : Dev Cert.SsmDwOutRefIdeal.nD → PrngReg), Pre_SsmDwOutRefIdeal m →
    θ_run (Cert.SsmDwOutRefIdeal.defs (F := Ideal)) (onTc (τ := Cert.SsmDwOutRefIdeal.τ) (Cert.SsmDwOutRefIdeal.main (F := Ideal))) ⟨m, fun _ => 0, g⟩ (fun r => (∀ c : Dev Cert.SsmDwOutRefIdeal.nD,
      r.2.mem ((c.tc : Thread Cert.SsmDwOutRefIdeal.nD Cert.SsmDwOutRefIdeal.τ).loc Cert.SsmDwOutRefIdeal.main_arg0) = m ((c.tc : Thread Cert.SsmDwOutRefIdeal.nD Cert.SsmDwOutRefIdeal.τ).loc Cert.SsmDwOutRefIdeal.main_arg0)
      ∧ r.2.mem ((c.tc : Thread Cert.SsmDwOutRefIdeal.nD Cert.SsmDwOutRefIdeal.τ).loc Cert.SsmDwOutRefIdeal.main_arg1) = m ((c.tc : Thread Cert.SsmDwOutRefIdeal.nD Cert.SsmDwOutRefIdeal.τ).loc Cert.SsmDwOutRefIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5))
      ∧ r.2.sem = fun _ => 0)

def quiescent_AttnDh [hAttnDh : Cert.AttnDh.Facts] : Prop :=
  ∀ (m : (ℓ : Loc Cert.AttnDh.nD Cert.AttnDh.τ Cert.AttnDh.sig) → Buf (Elt Bits) ℓ) (g : Dev Cert.AttnDh.nD → PrngReg), Pre_AttnDh m →
    θ_run (Cert.AttnDh.defs (F := Bits)) (onTc (τ := Cert.AttnDh.τ) (Cert.AttnDh.main (F := Bits))) ⟨m, fun _ => 0, g⟩ (fun r => (∀ c : Dev Cert.AttnDh.nD,
      r.2.mem ((c.tc : Thread Cert.AttnDh.nD Cert.AttnDh.τ).loc Cert.AttnDh.main_arg0) = m ((c.tc : Thread Cert.AttnDh.nD Cert.AttnDh.τ).loc Cert.AttnDh.main_arg0)
      ∧ r.2.mem ((c.tc : Thread Cert.AttnDh.nD Cert.AttnDh.τ).loc Cert.AttnDh.main_arg1) = m ((c.tc : Thread Cert.AttnDh.nD Cert.AttnDh.τ).loc Cert.AttnDh.main_arg1)
      ∧ r.2.mem ((c.tc : Thread Cert.AttnDh.nD Cert.AttnDh.τ).loc Cert.AttnDh.main_arg2) = m ((c.tc : Thread Cert.AttnDh.nD Cert.AttnDh.τ).loc Cert.AttnDh.main_arg2)
      ∧ r.2.mem ((c.tc : Thread Cert.AttnDh.nD Cert.AttnDh.τ).loc Cert.AttnDh.main_arg3) = m ((c.tc : Thread Cert.AttnDh.nD Cert.AttnDh.τ).loc Cert.AttnDh.main_arg3)
      ∧ r.2.mem ((c.tc : Thread Cert.AttnDh.nD Cert.AttnDh.τ).loc Cert.AttnDh.main_arg4) = m ((c.tc : Thread Cert.AttnDh.nD Cert.AttnDh.τ).loc Cert.AttnDh.main_arg4))
      ∧ r.2.sem = fun _ => 0)

def quiescent_AttnDhIdeal [hAttnDhIdeal : Cert.AttnDhIdeal.Facts] : Prop :=
  ∀ (m : (ℓ : Loc Cert.AttnDhIdeal.nD Cert.AttnDhIdeal.τ Cert.AttnDhIdeal.sig) → Buf (Elt Ideal) ℓ) (g : Dev Cert.AttnDhIdeal.nD → PrngReg), Pre_AttnDhIdeal m →
    θ_run (Cert.AttnDhIdeal.defs (F := Ideal)) (onTc (τ := Cert.AttnDhIdeal.τ) (Cert.AttnDhIdeal.main (F := Ideal))) ⟨m, fun _ => 0, g⟩ (fun r => (∀ c : Dev Cert.AttnDhIdeal.nD,
      r.2.mem ((c.tc : Thread Cert.AttnDhIdeal.nD Cert.AttnDhIdeal.τ).loc Cert.AttnDhIdeal.main_arg0) = m ((c.tc : Thread Cert.AttnDhIdeal.nD Cert.AttnDhIdeal.τ).loc Cert.AttnDhIdeal.main_arg0)
      ∧ r.2.mem ((c.tc : Thread Cert.AttnDhIdeal.nD Cert.AttnDhIdeal.τ).loc Cert.AttnDhIdeal.main_arg1) = m ((c.tc : Thread Cert.AttnDhIdeal.nD Cert.AttnDhIdeal.τ).loc Cert.AttnDhIdeal.main_arg1)
      ∧ r.2.mem ((c.tc : Thread Cert.AttnDhIdeal.nD Cert.AttnDhIdeal.τ).loc Cert.AttnDhIdeal.main_arg2) = m ((c.tc : Thread Cert.AttnDhIdeal.nD Cert.AttnDhIdeal.τ).loc Cert.AttnDhIdeal.main_arg2)
      ∧ r.2.mem ((c.tc : Thread Cert.AttnDhIdeal.nD Cert.AttnDhIdeal.τ).loc Cert.AttnDhIdeal.main_arg3) = m ((c.tc : Thread Cert.AttnDhIdeal.nD Cert.AttnDhIdeal.τ).loc Cert.AttnDhIdeal.main_arg3)
      ∧ r.2.mem ((c.tc : Thread Cert.AttnDhIdeal.nD Cert.AttnDhIdeal.τ).loc Cert.AttnDhIdeal.main_arg4) = m ((c.tc : Thread Cert.AttnDhIdeal.nD Cert.AttnDhIdeal.τ).loc Cert.AttnDhIdeal.main_arg4))
      ∧ r.2.sem = fun _ => 0)

def quiescent_AttnDhRefIdeal [hAttnDhRefIdeal : Cert.AttnDhRefIdeal.Facts] : Prop :=
  ∀ (m : (ℓ : Loc Cert.AttnDhRefIdeal.nD Cert.AttnDhRefIdeal.τ Cert.AttnDhRefIdeal.sig) → Buf (Elt Ideal) ℓ) (g : Dev Cert.AttnDhRefIdeal.nD → PrngReg), Pre_AttnDhRefIdeal m →
    θ_run (Cert.AttnDhRefIdeal.defs (F := Ideal)) (onTc (τ := Cert.AttnDhRefIdeal.τ) (Cert.AttnDhRefIdeal.main (F := Ideal))) ⟨m, fun _ => 0, g⟩ (fun r => (∀ c : Dev Cert.AttnDhRefIdeal.nD,
      r.2.mem ((c.tc : Thread Cert.AttnDhRefIdeal.nD Cert.AttnDhRefIdeal.τ).loc Cert.AttnDhRefIdeal.main_arg0) = m ((c.tc : Thread Cert.AttnDhRefIdeal.nD Cert.AttnDhRefIdeal.τ).loc Cert.AttnDhRefIdeal.main_arg0)
      ∧ r.2.mem ((c.tc : Thread Cert.AttnDhRefIdeal.nD Cert.AttnDhRefIdeal.τ).loc Cert.AttnDhRefIdeal.main_arg1) = m ((c.tc : Thread Cert.AttnDhRefIdeal.nD Cert.AttnDhRefIdeal.τ).loc Cert.AttnDhRefIdeal.main_arg1)
      ∧ r.2.mem ((c.tc : Thread Cert.AttnDhRefIdeal.nD Cert.AttnDhRefIdeal.τ).loc Cert.AttnDhRefIdeal.main_arg2) = m ((c.tc : Thread Cert.AttnDhRefIdeal.nD Cert.AttnDhRefIdeal.τ).loc Cert.AttnDhRefIdeal.main_arg2)
      ∧ r.2.mem ((c.tc : Thread Cert.AttnDhRefIdeal.nD Cert.AttnDhRefIdeal.τ).loc Cert.AttnDhRefIdeal.main_arg3) = m ((c.tc : Thread Cert.AttnDhRefIdeal.nD Cert.AttnDhRefIdeal.τ).loc Cert.AttnDhRefIdeal.main_arg3)
      ∧ r.2.mem ((c.tc : Thread Cert.AttnDhRefIdeal.nD Cert.AttnDhRefIdeal.τ).loc Cert.AttnDhRefIdeal.main_arg4) = m ((c.tc : Thread Cert.AttnDhRefIdeal.nD Cert.AttnDhRefIdeal.τ).loc Cert.AttnDhRefIdeal.main_arg4))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutIdeal_pre_finite_fwd [hAttnOutIdeal : Cert.AttnOutIdeal.Facts] [hPre_finite_fwd : Cert.Pre_finite_fwd.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal_finite_fwd m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_AttnOutRefIdeal_pre_finite_fwd [hAttnOutRefIdeal : Cert.AttnOutRefIdeal.Facts] [hPre_finite_fwd : Cert.Pre_finite_fwd.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal_finite_fwd m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8)) (v1 : (c : Dev Cert.FfnIdeal.nD) → Buf (Elt Ideal) ((c.tc : Thread Cert.FfnIdeal.nD Cert.FfnIdeal.τ).loc Cert.FfnIdeal.main_v9)) (v2 : (c : Dev Cert.FfnIdeal.nD) → Buf (Elt Ideal) ((c.tc : Thread Cert.FfnIdeal.nD Cert.FfnIdeal.τ).loc Cert.FfnIdeal.main_v10_0)) (v3 : (c : Dev Cert.FfnIdeal.nD) → Buf (Elt Ideal) ((c.tc : Thread Cert.FfnIdeal.nD Cert.FfnIdeal.τ).loc Cert.FfnIdeal.main_v10_1)) (v4 : (c : Dev Cert.FfnIdeal.nD) → Buf (Elt Ideal) ((c.tc : Thread Cert.FfnIdeal.nD Cert.FfnIdeal.τ).loc Cert.FfnIdeal.main_v11)) (v5 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_v9) = v1 c
          ∧ r.2.mem ((c.tc : Thread Cert.FfnIdeal.nD Cert.FfnIdeal.τ).loc Cert.FfnIdeal.main_v10_0) = v2 c
          ∧ r.2.mem ((c.tc : Thread Cert.FfnIdeal.nD Cert.FfnIdeal.τ).loc Cert.FfnIdeal.main_v10_1) = v3 c
          ∧ r.2.mem ((c.tc : Thread Cert.FfnIdeal.nD Cert.FfnIdeal.τ).loc Cert.FfnIdeal.main_v11) = v4 c
          ∧ r.2.mem ((c.tc : Thread Cert.FfnIdeal.nD Cert.FfnIdeal.τ).loc Cert.FfnIdeal.main_v12) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v8) = v0 c
          ∧ r.2.mem ((c.tc : Thread Cert.FfnRefIdeal.nD Cert.FfnRefIdeal.τ).loc Cert.FfnRefIdeal.main_v9) = v1 c
          ∧ r.2.mem ((c.tc : Thread Cert.FfnRefIdeal.nD Cert.FfnRefIdeal.τ).loc Cert.FfnRefIdeal.main_v7) = v2 c
          ∧ r.2.mem ((c.tc : Thread Cert.FfnRefIdeal.nD Cert.FfnRefIdeal.τ).loc Cert.FfnRefIdeal.main_v23) = v3 c
          ∧ r.2.mem ((c.tc : Thread Cert.FfnRefIdeal.nD Cert.FfnRefIdeal.τ).loc Cert.FfnRefIdeal.main_v24) = v4 c
          ∧ r.2.mem ((c.tc : Thread Cert.FfnRefIdeal.nD Cert.FfnRefIdeal.τ).loc Cert.FfnRefIdeal.main_v5) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v8)) (v1 : (c : Dev Cert.MixIdeal.nD) → Buf (Elt Ideal) ((c.tc : Thread Cert.MixIdeal.nD Cert.MixIdeal.τ).loc Cert.MixIdeal.main_v10_0)) (v2 : (c : Dev Cert.MixIdeal.nD) → Buf (Elt Ideal) ((c.tc : Thread Cert.MixIdeal.nD Cert.MixIdeal.τ).loc Cert.MixIdeal.main_v10_1)) (v3 : (c : Dev Cert.MixIdeal.nD) → Buf (Elt Ideal) ((c.tc : Thread Cert.MixIdeal.nD Cert.MixIdeal.τ).loc Cert.MixIdeal.main_v11)) (v4 : (c : Dev Cert.MixIdeal.nD) → Buf (Elt Ideal) ((c.tc : Thread Cert.MixIdeal.nD Cert.MixIdeal.τ).loc Cert.MixIdeal.main_v12)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_v10_0) = v1 c
          ∧ r.2.mem ((c.tc : Thread Cert.MixIdeal.nD Cert.MixIdeal.τ).loc Cert.MixIdeal.main_v10_1) = v2 c
          ∧ r.2.mem ((c.tc : Thread Cert.MixIdeal.nD Cert.MixIdeal.τ).loc Cert.MixIdeal.main_v11) = v3 c
          ∧ r.2.mem ((c.tc : Thread Cert.MixIdeal.nD Cert.MixIdeal.τ).loc Cert.MixIdeal.main_v12) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v6) = v0 c
          ∧ r.2.mem ((c.tc : Thread Cert.MixRefIdeal.nD Cert.MixRefIdeal.τ).loc Cert.MixRefIdeal.main_v2) = v1 c
          ∧ r.2.mem ((c.tc : Thread Cert.MixRefIdeal.nD Cert.MixRefIdeal.τ).loc Cert.MixRefIdeal.main_v19) = v2 c
          ∧ r.2.mem ((c.tc : Thread Cert.MixRefIdeal.nD Cert.MixRefIdeal.τ).loc Cert.MixRefIdeal.main_v20) = v3 c
          ∧ r.2.mem ((c.tc : Thread Cert.MixRefIdeal.nD Cert.MixRefIdeal.τ).loc Cert.MixRefIdeal.main_v21) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)) →
    ∃ (v0 : (c : Dev Cert.SsmIdeal.nD) → Buf (Elt Ideal) ((c.tc : Thread Cert.SsmIdeal.nD Cert.SsmIdeal.τ).loc Cert.SsmIdeal.main_v9)) (v1 : (c : Dev Cert.SsmIdeal.nD) → Buf (Elt Ideal) ((c.tc : Thread Cert.SsmIdeal.nD Cert.SsmIdeal.τ).loc Cert.SsmIdeal.main_v10)) (v2 : (c : Dev Cert.SsmIdeal.nD) → Buf (Elt Ideal) ((c.tc : Thread Cert.SsmIdeal.nD Cert.SsmIdeal.τ).loc Cert.SsmIdeal.main_v11_0)) (v3 : (c : Dev Cert.SsmIdeal.nD) → Buf (Elt Ideal) ((c.tc : Thread Cert.SsmIdeal.nD Cert.SsmIdeal.τ).loc Cert.SsmIdeal.main_v11_1)) (v4 : (c : Dev Cert.SsmIdeal.nD) → Buf (Elt Ideal) ((c.tc : Thread Cert.SsmIdeal.nD Cert.SsmIdeal.τ).loc Cert.SsmIdeal.main_v12)) (v5 : (c : Dev Cert.SsmIdeal.nD) → Buf (Elt Ideal) ((c.tc : Thread Cert.SsmIdeal.nD Cert.SsmIdeal.τ).loc Cert.SsmIdeal.main_v14)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v9) = v0 c
          ∧ r.2.mem ((c.tc : Thread Cert.SsmIdeal.nD Cert.SsmIdeal.τ).loc Cert.SsmIdeal.main_v10) = v1 c
          ∧ r.2.mem ((c.tc : Thread Cert.SsmIdeal.nD Cert.SsmIdeal.τ).loc Cert.SsmIdeal.main_v11_0) = v2 c
          ∧ r.2.mem ((c.tc : Thread Cert.SsmIdeal.nD Cert.SsmIdeal.τ).loc Cert.SsmIdeal.main_v11_1) = v3 c
          ∧ r.2.mem ((c.tc : Thread Cert.SsmIdeal.nD Cert.SsmIdeal.τ).loc Cert.SsmIdeal.main_v12) = v4 c
          ∧ r.2.mem ((c.tc : Thread Cert.SsmIdeal.nD Cert.SsmIdeal.τ).loc Cert.SsmIdeal.main_v14) = v5 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v14) = v0 c
          ∧ r.2.mem ((c.tc : Thread Cert.SsmRefIdeal.nD Cert.SsmRefIdeal.τ).loc Cert.SsmRefIdeal.main_v15) = v1 c
          ∧ r.2.mem ((c.tc : Thread Cert.SsmRefIdeal.nD Cert.SsmRefIdeal.τ).loc Cert.SsmRefIdeal.main_v13) = v2 c
          ∧ r.2.mem ((c.tc : Thread Cert.SsmRefIdeal.nD Cert.SsmRefIdeal.τ).loc Cert.SsmRefIdeal.main_v28) = v3 c
          ∧ r.2.mem ((c.tc : Thread Cert.SsmRefIdeal.nD Cert.SsmRefIdeal.τ).loc Cert.SsmRefIdeal.main_v29) = v4 c
          ∧ r.2.mem ((c.tc : Thread Cert.SsmRefIdeal.nD Cert.SsmRefIdeal.τ).loc Cert.SsmRefIdeal.main_v11) = v5 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8))

def preserves_FfnDwIn_FfnDwInIdeal : Prop :=
  True

def algebraic_FfnDwInIdeal_FfnDwInRefIdeal [hFfnDwInIdeal : Cert.FfnDwInIdeal.Facts] [hFfnDwInRefIdeal : Cert.FfnDwInRefIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInRefIdeal.nD Cert.FfnDwInRefIdeal.τ Cert.FfnDwInRefIdeal.sig) → Buf (Elt Ideal) ℓ) (g' : Dev Cert.FfnDwInRefIdeal.nD → PrngReg), Pre_FfnDwInIdeal m →
    (∀ c : Dev Cert.FfnDwInIdeal.nD,
      m' ((c.tc : Thread Cert.FfnDwInRefIdeal.nD Cert.FfnDwInRefIdeal.τ).loc Cert.FfnDwInRefIdeal.main_arg0) = m ((c.tc : Thread Cert.FfnDwInIdeal.nD Cert.FfnDwInIdeal.τ).loc Cert.FfnDwInIdeal.main_arg0)
      ∧ m' ((c.tc : Thread Cert.FfnDwInRefIdeal.nD Cert.FfnDwInRefIdeal.τ).loc Cert.FfnDwInRefIdeal.main_arg1) = m ((c.tc : Thread Cert.FfnDwInIdeal.nD Cert.FfnDwInIdeal.τ).loc Cert.FfnDwInIdeal.main_arg1)) →
    ∃ (v0 : (c : Dev Cert.FfnDwInIdeal.nD) → Buf (Elt Ideal) ((c.tc : Thread Cert.FfnDwInIdeal.nD Cert.FfnDwInIdeal.τ).loc Cert.FfnDwInIdeal.main_v2)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v2) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ θ_run (Cert.FfnDwInRefIdeal.defs (F := Ideal)) (onTc (τ := Cert.FfnDwInRefIdeal.τ) (Cert.FfnDwInRefIdeal.main (F := Ideal))) ⟨m', fun _ => 0, g'⟩ (fun r => ∀ c : Dev Cert.FfnDwInRefIdeal.nD,
          r.2.mem ((c.tc : Thread Cert.FfnDwInRefIdeal.nD Cert.FfnDwInRefIdeal.τ).loc Cert.FfnDwInRefIdeal.main_v3) = v0 c
          ∧ r.2.mem ((c.tc : Thread Cert.FfnDwInRefIdeal.nD Cert.FfnDwInRefIdeal.τ).loc Cert.FfnDwInRefIdeal.main_arg0) = m' ((c.tc : Thread Cert.FfnDwInRefIdeal.nD Cert.FfnDwInRefIdeal.τ).loc Cert.FfnDwInRefIdeal.main_arg0)
          ∧ r.2.mem ((c.tc : Thread Cert.FfnDwInRefIdeal.nD Cert.FfnDwInRefIdeal.τ).loc Cert.FfnDwInRefIdeal.main_arg1) = m' ((c.tc : Thread Cert.FfnDwInRefIdeal.nD Cert.FfnDwInRefIdeal.τ).loc Cert.FfnDwInRefIdeal.main_arg1))

def preserves_FfnDwOut_FfnDwOutIdeal : Prop :=
  True

def algebraic_FfnDwOutIdeal_FfnDwOutRefIdeal [hFfnDwOutIdeal : Cert.FfnDwOutIdeal.Facts] [hFfnDwOutRefIdeal : Cert.FfnDwOutRefIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg)
    (m' : (ℓ : Loc Cert.FfnDwOutRefIdeal.nD Cert.FfnDwOutRefIdeal.τ Cert.FfnDwOutRefIdeal.sig) → Buf (Elt Ideal) ℓ) (g' : Dev Cert.FfnDwOutRefIdeal.nD → PrngReg), Pre_FfnDwOutIdeal m →
    (∀ c : Dev Cert.FfnDwOutIdeal.nD,
      m' ((c.tc : Thread Cert.FfnDwOutRefIdeal.nD Cert.FfnDwOutRefIdeal.τ).loc Cert.FfnDwOutRefIdeal.main_arg0) = m ((c.tc : Thread Cert.FfnDwOutIdeal.nD Cert.FfnDwOutIdeal.τ).loc Cert.FfnDwOutIdeal.main_arg0)
      ∧ m' ((c.tc : Thread Cert.FfnDwOutRefIdeal.nD Cert.FfnDwOutRefIdeal.τ).loc Cert.FfnDwOutRefIdeal.main_arg1) = m ((c.tc : Thread Cert.FfnDwOutIdeal.nD Cert.FfnDwOutIdeal.τ).loc Cert.FfnDwOutIdeal.main_arg1)) →
    ∃ (v0 : (c : Dev Cert.FfnDwOutIdeal.nD) → Buf (Elt Ideal) ((c.tc : Thread Cert.FfnDwOutIdeal.nD Cert.FfnDwOutIdeal.τ).loc Cert.FfnDwOutIdeal.main_v2)),
      θ_run (Cert.FfnDwOutIdeal.defs (F := Ideal)) (onTc (τ := Cert.FfnDwOutIdeal.τ) (Cert.FfnDwOutIdeal.main (F := Ideal))) ⟨m, fun _ => 0, g⟩ (fun r => ∀ c : Dev Cert.FfnDwOutIdeal.nD,
          r.2.mem ((c.tc : Thread Cert.FfnDwOutIdeal.nD Cert.FfnDwOutIdeal.τ).loc Cert.FfnDwOutIdeal.main_v2) = v0 c
          ∧ r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
          ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ θ_run (Cert.FfnDwOutRefIdeal.defs (F := Ideal)) (onTc (τ := Cert.FfnDwOutRefIdeal.τ) (Cert.FfnDwOutRefIdeal.main (F := Ideal))) ⟨m', fun _ => 0, g'⟩ (fun r => ∀ c : Dev Cert.FfnDwOutRefIdeal.nD,
          r.2.mem ((c.tc : Thread Cert.FfnDwOutRefIdeal.nD Cert.FfnDwOutRefIdeal.τ).loc Cert.FfnDwOutRefIdeal.main_v3) = v0 c
          ∧ r.2.mem ((c.tc : Thread Cert.FfnDwOutRefIdeal.nD Cert.FfnDwOutRefIdeal.τ).loc Cert.FfnDwOutRefIdeal.main_arg0) = m' ((c.tc : Thread Cert.FfnDwOutRefIdeal.nD Cert.FfnDwOutRefIdeal.τ).loc Cert.FfnDwOutRefIdeal.main_arg0)
          ∧ r.2.mem ((c.tc : Thread Cert.FfnDwOutRefIdeal.nD Cert.FfnDwOutRefIdeal.τ).loc Cert.FfnDwOutRefIdeal.main_arg1) = m' ((c.tc : Thread Cert.FfnDwOutRefIdeal.nD Cert.FfnDwOutRefIdeal.τ).loc Cert.FfnDwOutRefIdeal.main_arg1))

def preserves_AttnDwIn_AttnDwInIdeal : Prop :=
  True

def algebraic_AttnDwInIdeal_AttnDwInRefIdeal [hAttnDwInIdeal : Cert.AttnDwInIdeal.Facts] [hAttnDwInRefIdeal : Cert.AttnDwInRefIdeal.Facts] : Prop :=
  ∀ (m : (ℓ : Loc Cert.AttnDwInIdeal.nD Cert.AttnDwInIdeal.τ Cert.AttnDwInIdeal.sig) → Buf (Elt Ideal) ℓ) (g : Dev Cert.AttnDwInIdeal.nD → PrngReg)
    (m' : (ℓ : Loc Cert.AttnDwInRefIdeal.nD Cert.AttnDwInRefIdeal.τ Cert.AttnDwInRefIdeal.sig) → Buf (Elt Ideal) ℓ) (g' : Dev Cert.AttnDwInRefIdeal.nD → PrngReg), Pre_AttnDwInIdeal m →
    (∀ c : Dev Cert.AttnDwInIdeal.nD,
      m' ((c.tc : Thread Cert.AttnDwInRefIdeal.nD Cert.AttnDwInRefIdeal.τ).loc Cert.AttnDwInRefIdeal.main_arg0) = m ((c.tc : Thread Cert.AttnDwInIdeal.nD Cert.AttnDwInIdeal.τ).loc Cert.AttnDwInIdeal.main_arg0)
      ∧ m' ((c.tc : Thread Cert.AttnDwInRefIdeal.nD Cert.AttnDwInRefIdeal.τ).loc Cert.AttnDwInRefIdeal.main_arg1) = m ((c.tc : Thread Cert.AttnDwInIdeal.nD Cert.AttnDwInIdeal.τ).loc Cert.AttnDwInIdeal.main_arg1)) →
    ∃ (v0 : (c : Dev Cert.AttnDwInIdeal.nD) → Buf (Elt Ideal) ((c.tc : Thread Cert.AttnDwInIdeal.nD Cert.AttnDwInIdeal.τ).loc Cert.AttnDwInIdeal.main_v2)),
      θ_run (Cert.AttnDwInIdeal.defs (F := Ideal)) (onTc (τ := Cert.AttnDwInIdeal.τ) (Cert.AttnDwInIdeal.main (F := Ideal))) ⟨m, fun _ => 0, g⟩ (fun r => ∀ c : Dev Cert.AttnDwInIdeal.nD,
          r.2.mem ((c.tc : Thread Cert.AttnDwInIdeal.nD Cert.AttnDwInIdeal.τ).loc Cert.AttnDwInIdeal.main_v2) = v0 c
          ∧ r.2.mem ((c.tc : Thread Cert.AttnDwInIdeal.nD Cert.AttnDwInIdeal.τ).loc Cert.AttnDwInIdeal.main_arg0) = m ((c.tc : Thread Cert.AttnDwInIdeal.nD Cert.AttnDwInIdeal.τ).loc Cert.AttnDwInIdeal.main_arg0)
          ∧ r.2.mem ((c.tc : Thread Cert.AttnDwInIdeal.nD Cert.AttnDwInIdeal.τ).loc Cert.AttnDwInIdeal.main_arg1) = m ((c.tc : Thread Cert.AttnDwInIdeal.nD Cert.AttnDwInIdeal.τ).loc Cert.AttnDwInIdeal.main_arg1))
      ∧ θ_run (Cert.AttnDwInRefIdeal.defs (F := Ideal)) (onTc (τ := Cert.AttnDwInRefIdeal.τ) (Cert.AttnDwInRefIdeal.main (F := Ideal))) ⟨m', fun _ => 0, g'⟩ (fun r => ∀ c : Dev Cert.AttnDwInRefIdeal.nD,
          r.2.mem ((c.tc : Thread Cert.AttnDwInRefIdeal.nD Cert.AttnDwInRefIdeal.τ).loc Cert.AttnDwInRefIdeal.main_v3) = v0 c
          ∧ r.2.mem ((c.tc : Thread Cert.AttnDwInRefIdeal.nD Cert.AttnDwInRefIdeal.τ).loc Cert.AttnDwInRefIdeal.main_arg0) = m' ((c.tc : Thread Cert.AttnDwInRefIdeal.nD Cert.AttnDwInRefIdeal.τ).loc Cert.AttnDwInRefIdeal.main_arg0)
          ∧ r.2.mem ((c.tc : Thread Cert.AttnDwInRefIdeal.nD Cert.AttnDwInRefIdeal.τ).loc Cert.AttnDwInRefIdeal.main_arg1) = m' ((c.tc : Thread Cert.AttnDwInRefIdeal.nD Cert.AttnDwInRefIdeal.τ).loc Cert.AttnDwInRefIdeal.main_arg1))

def preserves_AttnDwOut_AttnDwOutIdeal : Prop :=
  True

def algebraic_AttnDwOutIdeal_AttnDwOutRefIdeal [hAttnDwOutIdeal : Cert.AttnDwOutIdeal.Facts] [hAttnDwOutRefIdeal : Cert.AttnDwOutRefIdeal.Facts] : Prop :=
  ∀ (m : (ℓ : Loc Cert.AttnDwOutIdeal.nD Cert.AttnDwOutIdeal.τ Cert.AttnDwOutIdeal.sig) → Buf (Elt Ideal) ℓ) (g : Dev Cert.AttnDwOutIdeal.nD → PrngReg)
    (m' : (ℓ : Loc Cert.AttnDwOutRefIdeal.nD Cert.AttnDwOutRefIdeal.τ Cert.AttnDwOutRefIdeal.sig) → Buf (Elt Ideal) ℓ) (g' : Dev Cert.AttnDwOutRefIdeal.nD → PrngReg), Pre_AttnDwOutIdeal m →
    (∀ c : Dev Cert.AttnDwOutIdeal.nD,
      m' ((c.tc : Thread Cert.AttnDwOutRefIdeal.nD Cert.AttnDwOutRefIdeal.τ).loc Cert.AttnDwOutRefIdeal.main_arg0) = m ((c.tc : Thread Cert.AttnDwOutIdeal.nD Cert.AttnDwOutIdeal.τ).loc Cert.AttnDwOutIdeal.main_arg0)
      ∧ m' ((c.tc : Thread Cert.AttnDwOutRefIdeal.nD Cert.AttnDwOutRefIdeal.τ).loc Cert.AttnDwOutRefIdeal.main_arg1) = m ((c.tc : Thread Cert.AttnDwOutIdeal.nD Cert.AttnDwOutIdeal.τ).loc Cert.AttnDwOutIdeal.main_arg1)) →
    ∃ (v0 : (c : Dev Cert.AttnDwOutIdeal.nD) → Buf (Elt Ideal) ((c.tc : Thread Cert.AttnDwOutIdeal.nD Cert.AttnDwOutIdeal.τ).loc Cert.AttnDwOutIdeal.main_v2)),
      θ_run (Cert.AttnDwOutIdeal.defs (F := Ideal)) (onTc (τ := Cert.AttnDwOutIdeal.τ) (Cert.AttnDwOutIdeal.main (F := Ideal))) ⟨m, fun _ => 0, g⟩ (fun r => ∀ c : Dev Cert.AttnDwOutIdeal.nD,
          r.2.mem ((c.tc : Thread Cert.AttnDwOutIdeal.nD Cert.AttnDwOutIdeal.τ).loc Cert.AttnDwOutIdeal.main_v2) = v0 c
          ∧ r.2.mem ((c.tc : Thread Cert.AttnDwOutIdeal.nD Cert.AttnDwOutIdeal.τ).loc Cert.AttnDwOutIdeal.main_arg0) = m ((c.tc : Thread Cert.AttnDwOutIdeal.nD Cert.AttnDwOutIdeal.τ).loc Cert.AttnDwOutIdeal.main_arg0)
          ∧ r.2.mem ((c.tc : Thread Cert.AttnDwOutIdeal.nD Cert.AttnDwOutIdeal.τ).loc Cert.AttnDwOutIdeal.main_arg1) = m ((c.tc : Thread Cert.AttnDwOutIdeal.nD Cert.AttnDwOutIdeal.τ).loc Cert.AttnDwOutIdeal.main_arg1))
      ∧ θ_run (Cert.AttnDwOutRefIdeal.defs (F := Ideal)) (onTc (τ := Cert.AttnDwOutRefIdeal.τ) (Cert.AttnDwOutRefIdeal.main (F := Ideal))) ⟨m', fun _ => 0, g'⟩ (fun r => ∀ c : Dev Cert.AttnDwOutRefIdeal.nD,
          r.2.mem ((c.tc : Thread Cert.AttnDwOutRefIdeal.nD Cert.AttnDwOutRefIdeal.τ).loc Cert.AttnDwOutRefIdeal.main_v3) = v0 c
          ∧ r.2.mem ((c.tc : Thread Cert.AttnDwOutRefIdeal.nD Cert.AttnDwOutRefIdeal.τ).loc Cert.AttnDwOutRefIdeal.main_arg0) = m' ((c.tc : Thread Cert.AttnDwOutRefIdeal.nD Cert.AttnDwOutRefIdeal.τ).loc Cert.AttnDwOutRefIdeal.main_arg0)
          ∧ r.2.mem ((c.tc : Thread Cert.AttnDwOutRefIdeal.nD Cert.AttnDwOutRefIdeal.τ).loc Cert.AttnDwOutRefIdeal.main_arg1) = m' ((c.tc : Thread Cert.AttnDwOutRefIdeal.nD Cert.AttnDwOutRefIdeal.τ).loc Cert.AttnDwOutRefIdeal.main_arg1))

def preserves_SsmDwZ_SsmDwZIdeal : Prop :=
  True

def algebraic_SsmDwZIdeal_SsmDwZRefIdeal [hSsmDwZIdeal : Cert.SsmDwZIdeal.Facts] [hSsmDwZRefIdeal : Cert.SsmDwZRefIdeal.Facts] : Prop :=
  ∀ (m : (ℓ : Loc Cert.SsmDwZIdeal.nD Cert.SsmDwZIdeal.τ Cert.SsmDwZIdeal.sig) → Buf (Elt Ideal) ℓ) (g : Dev Cert.SsmDwZIdeal.nD → PrngReg)
    (m' : (ℓ : Loc Cert.SsmDwZRefIdeal.nD Cert.SsmDwZRefIdeal.τ Cert.SsmDwZRefIdeal.sig) → Buf (Elt Ideal) ℓ) (g' : Dev Cert.SsmDwZRefIdeal.nD → PrngReg), Pre_SsmDwZIdeal m →
    (∀ c : Dev Cert.SsmDwZIdeal.nD,
      m' ((c.tc : Thread Cert.SsmDwZRefIdeal.nD Cert.SsmDwZRefIdeal.τ).loc Cert.SsmDwZRefIdeal.main_arg0) = m ((c.tc : Thread Cert.SsmDwZIdeal.nD Cert.SsmDwZIdeal.τ).loc Cert.SsmDwZIdeal.main_arg0)
      ∧ m' ((c.tc : Thread Cert.SsmDwZRefIdeal.nD Cert.SsmDwZRefIdeal.τ).loc Cert.SsmDwZRefIdeal.main_arg1) = m ((c.tc : Thread Cert.SsmDwZIdeal.nD Cert.SsmDwZIdeal.τ).loc Cert.SsmDwZIdeal.main_arg1)) →
    ∃ (v0 : (c : Dev Cert.SsmDwZIdeal.nD) → Buf (Elt Ideal) ((c.tc : Thread Cert.SsmDwZIdeal.nD Cert.SsmDwZIdeal.τ).loc Cert.SsmDwZIdeal.main_v2)),
      θ_run (Cert.SsmDwZIdeal.defs (F := Ideal)) (onTc (τ := Cert.SsmDwZIdeal.τ) (Cert.SsmDwZIdeal.main (F := Ideal))) ⟨m, fun _ => 0, g⟩ (fun r => ∀ c : Dev Cert.SsmDwZIdeal.nD,
          r.2.mem ((c.tc : Thread Cert.SsmDwZIdeal.nD Cert.SsmDwZIdeal.τ).loc Cert.SsmDwZIdeal.main_v2) = v0 c
          ∧ r.2.mem ((c.tc : Thread Cert.SsmDwZIdeal.nD Cert.SsmDwZIdeal.τ).loc Cert.SsmDwZIdeal.main_arg0) = m ((c.tc : Thread Cert.SsmDwZIdeal.nD Cert.SsmDwZIdeal.τ).loc Cert.SsmDwZIdeal.main_arg0)
          ∧ r.2.mem ((c.tc : Thread Cert.SsmDwZIdeal.nD Cert.SsmDwZIdeal.τ).loc Cert.SsmDwZIdeal.main_arg1) = m ((c.tc : Thread Cert.SsmDwZIdeal.nD Cert.SsmDwZIdeal.τ).loc Cert.SsmDwZIdeal.main_arg1))
      ∧ θ_run (Cert.SsmDwZRefIdeal.defs (F := Ideal)) (onTc (τ := Cert.SsmDwZRefIdeal.τ) (Cert.SsmDwZRefIdeal.main (F := Ideal))) ⟨m', fun _ => 0, g'⟩ (fun r => ∀ c : Dev Cert.SsmDwZRefIdeal.nD,
          r.2.mem ((c.tc : Thread Cert.SsmDwZRefIdeal.nD Cert.SsmDwZRefIdeal.τ).loc Cert.SsmDwZRefIdeal.main_v3) = v0 c
          ∧ r.2.mem ((c.tc : Thread Cert.SsmDwZRefIdeal.nD Cert.SsmDwZRefIdeal.τ).loc Cert.SsmDwZRefIdeal.main_arg0) = m' ((c.tc : Thread Cert.SsmDwZRefIdeal.nD Cert.SsmDwZRefIdeal.τ).loc Cert.SsmDwZRefIdeal.main_arg0)
          ∧ r.2.mem ((c.tc : Thread Cert.SsmDwZRefIdeal.nD Cert.SsmDwZRefIdeal.τ).loc Cert.SsmDwZRefIdeal.main_arg1) = m' ((c.tc : Thread Cert.SsmDwZRefIdeal.nD Cert.SsmDwZRefIdeal.τ).loc Cert.SsmDwZRefIdeal.main_arg1))

def preserves_SsmDwX_SsmDwXIdeal : Prop :=
  True

def algebraic_SsmDwXIdeal_SsmDwXRefIdeal [hSsmDwXIdeal : Cert.SsmDwXIdeal.Facts] [hSsmDwXRefIdeal : Cert.SsmDwXRefIdeal.Facts] : Prop :=
  ∀ (m : (ℓ : Loc Cert.SsmDwXIdeal.nD Cert.SsmDwXIdeal.τ Cert.SsmDwXIdeal.sig) → Buf (Elt Ideal) ℓ) (g : Dev Cert.SsmDwXIdeal.nD → PrngReg)
    (m' : (ℓ : Loc Cert.SsmDwXRefIdeal.nD Cert.SsmDwXRefIdeal.τ Cert.SsmDwXRefIdeal.sig) → Buf (Elt Ideal) ℓ) (g' : Dev Cert.SsmDwXRefIdeal.nD → PrngReg), Pre_SsmDwXIdeal m →
    (∀ c : Dev Cert.SsmDwXIdeal.nD,
      m' ((c.tc : Thread Cert.SsmDwXRefIdeal.nD Cert.SsmDwXRefIdeal.τ).loc Cert.SsmDwXRefIdeal.main_arg0) = m ((c.tc : Thread Cert.SsmDwXIdeal.nD Cert.SsmDwXIdeal.τ).loc Cert.SsmDwXIdeal.main_arg0)
      ∧ m' ((c.tc : Thread Cert.SsmDwXRefIdeal.nD Cert.SsmDwXRefIdeal.τ).loc Cert.SsmDwXRefIdeal.main_arg1) = m ((c.tc : Thread Cert.SsmDwXIdeal.nD Cert.SsmDwXIdeal.τ).loc Cert.SsmDwXIdeal.main_arg1)) →
    ∃ (v0 : (c : Dev Cert.SsmDwXIdeal.nD) → Buf (Elt Ideal) ((c.tc : Thread Cert.SsmDwXIdeal.nD Cert.SsmDwXIdeal.τ).loc Cert.SsmDwXIdeal.main_v2)),
      θ_run (Cert.SsmDwXIdeal.defs (F := Ideal)) (onTc (τ := Cert.SsmDwXIdeal.τ) (Cert.SsmDwXIdeal.main (F := Ideal))) ⟨m, fun _ => 0, g⟩ (fun r => ∀ c : Dev Cert.SsmDwXIdeal.nD,
          r.2.mem ((c.tc : Thread Cert.SsmDwXIdeal.nD Cert.SsmDwXIdeal.τ).loc Cert.SsmDwXIdeal.main_v2) = v0 c
          ∧ r.2.mem ((c.tc : Thread Cert.SsmDwXIdeal.nD Cert.SsmDwXIdeal.τ).loc Cert.SsmDwXIdeal.main_arg0) = m ((c.tc : Thread Cert.SsmDwXIdeal.nD Cert.SsmDwXIdeal.τ).loc Cert.SsmDwXIdeal.main_arg0)
          ∧ r.2.mem ((c.tc : Thread Cert.SsmDwXIdeal.nD Cert.SsmDwXIdeal.τ).loc Cert.SsmDwXIdeal.main_arg1) = m ((c.tc : Thread Cert.SsmDwXIdeal.nD Cert.SsmDwXIdeal.τ).loc Cert.SsmDwXIdeal.main_arg1))
      ∧ θ_run (Cert.SsmDwXRefIdeal.defs (F := Ideal)) (onTc (τ := Cert.SsmDwXRefIdeal.τ) (Cert.SsmDwXRefIdeal.main (F := Ideal))) ⟨m', fun _ => 0, g'⟩ (fun r => ∀ c : Dev Cert.SsmDwXRefIdeal.nD,
          r.2.mem ((c.tc : Thread Cert.SsmDwXRefIdeal.nD Cert.SsmDwXRefIdeal.τ).loc Cert.SsmDwXRefIdeal.main_v3) = v0 c
          ∧ r.2.mem ((c.tc : Thread Cert.SsmDwXRefIdeal.nD Cert.SsmDwXRefIdeal.τ).loc Cert.SsmDwXRefIdeal.main_arg0) = m' ((c.tc : Thread Cert.SsmDwXRefIdeal.nD Cert.SsmDwXRefIdeal.τ).loc Cert.SsmDwXRefIdeal.main_arg0)
          ∧ r.2.mem ((c.tc : Thread Cert.SsmDwXRefIdeal.nD Cert.SsmDwXRefIdeal.τ).loc Cert.SsmDwXRefIdeal.main_arg1) = m' ((c.tc : Thread Cert.SsmDwXRefIdeal.nD Cert.SsmDwXRefIdeal.τ).loc Cert.SsmDwXRefIdeal.main_arg1))

def preserves_SsmDwOut_SsmDwOutIdeal : Prop :=
  True

def algebraic_SsmDwOutIdeal_SsmDwOutRefIdeal [hSsmDwOutIdeal : Cert.SsmDwOutIdeal.Facts] [hSsmDwOutRefIdeal : Cert.SsmDwOutRefIdeal.Facts] : Prop :=
  ∀ (m : (ℓ : Loc Cert.SsmDwOutIdeal.nD Cert.SsmDwOutIdeal.τ Cert.SsmDwOutIdeal.sig) → Buf (Elt Ideal) ℓ) (g : Dev Cert.SsmDwOutIdeal.nD → PrngReg)
    (m' : (ℓ : Loc Cert.SsmDwOutRefIdeal.nD Cert.SsmDwOutRefIdeal.τ Cert.SsmDwOutRefIdeal.sig) → Buf (Elt Ideal) ℓ) (g' : Dev Cert.SsmDwOutRefIdeal.nD → PrngReg), Pre_SsmDwOutIdeal m →
    (∀ c : Dev Cert.SsmDwOutIdeal.nD,
      m' ((c.tc : Thread Cert.SsmDwOutRefIdeal.nD Cert.SsmDwOutRefIdeal.τ).loc Cert.SsmDwOutRefIdeal.main_arg0) = m ((c.tc : Thread Cert.SsmDwOutIdeal.nD Cert.SsmDwOutIdeal.τ).loc Cert.SsmDwOutIdeal.main_arg0)
      ∧ m' ((c.tc : Thread Cert.SsmDwOutRefIdeal.nD Cert.SsmDwOutRefIdeal.τ).loc Cert.SsmDwOutRefIdeal.main_arg1) = m ((c.tc : Thread Cert.SsmDwOutIdeal.nD Cert.SsmDwOutIdeal.τ).loc Cert.SsmDwOutIdeal.main_arg1)) →
    ∃ (v0 : (c : Dev Cert.SsmDwOutIdeal.nD) → Buf (Elt Ideal) ((c.tc : Thread Cert.SsmDwOutIdeal.nD Cert.SsmDwOutIdeal.τ).loc Cert.SsmDwOutIdeal.main_v2)),
      θ_run (Cert.SsmDwOutIdeal.defs (F := Ideal)) (onTc (τ := Cert.SsmDwOutIdeal.τ) (Cert.SsmDwOutIdeal.main (F := Ideal))) ⟨m, fun _ => 0, g⟩ (fun r => ∀ c : Dev Cert.SsmDwOutIdeal.nD,
          r.2.mem ((c.tc : Thread Cert.SsmDwOutIdeal.nD Cert.SsmDwOutIdeal.τ).loc Cert.SsmDwOutIdeal.main_v2) = v0 c
          ∧ r.2.mem ((c.tc : Thread Cert.SsmDwOutIdeal.nD Cert.SsmDwOutIdeal.τ).loc Cert.SsmDwOutIdeal.main_arg0) = m ((c.tc : Thread Cert.SsmDwOutIdeal.nD Cert.SsmDwOutIdeal.τ).loc Cert.SsmDwOutIdeal.main_arg0)
          ∧ r.2.mem ((c.tc : Thread Cert.SsmDwOutIdeal.nD Cert.SsmDwOutIdeal.τ).loc Cert.SsmDwOutIdeal.main_arg1) = m ((c.tc : Thread Cert.SsmDwOutIdeal.nD Cert.SsmDwOutIdeal.τ).loc Cert.SsmDwOutIdeal.main_arg1))
      ∧ θ_run (Cert.SsmDwOutRefIdeal.defs (F := Ideal)) (onTc (τ := Cert.SsmDwOutRefIdeal.τ) (Cert.SsmDwOutRefIdeal.main (F := Ideal))) ⟨m', fun _ => 0, g'⟩ (fun r => ∀ c : Dev Cert.SsmDwOutRefIdeal.nD,
          r.2.mem ((c.tc : Thread Cert.SsmDwOutRefIdeal.nD Cert.SsmDwOutRefIdeal.τ).loc Cert.SsmDwOutRefIdeal.main_v3) = v0 c
          ∧ r.2.mem ((c.tc : Thread Cert.SsmDwOutRefIdeal.nD Cert.SsmDwOutRefIdeal.τ).loc Cert.SsmDwOutRefIdeal.main_arg0) = m' ((c.tc : Thread Cert.SsmDwOutRefIdeal.nD Cert.SsmDwOutRefIdeal.τ).loc Cert.SsmDwOutRefIdeal.main_arg0)
          ∧ r.2.mem ((c.tc : Thread Cert.SsmDwOutRefIdeal.nD Cert.SsmDwOutRefIdeal.τ).loc Cert.SsmDwOutRefIdeal.main_arg1) = m' ((c.tc : Thread Cert.SsmDwOutRefIdeal.nD Cert.SsmDwOutRefIdeal.τ).loc Cert.SsmDwOutRefIdeal.main_arg1))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)
      ∧ m' ((c.tc : Thread Cert.FfnDhRefIdeal.nD Cert.FfnDhRefIdeal.τ).loc Cert.FfnDhRefIdeal.main_arg5) = m ((c.tc : Thread Cert.FfnDhIdeal.nD Cert.FfnDhIdeal.τ).loc Cert.FfnDhIdeal.main_arg5)) →
    ∃ (v0 : (c : Dev Cert.FfnDhIdeal.nD) → Buf (Elt Ideal) ((c.tc : Thread Cert.FfnDhIdeal.nD Cert.FfnDhIdeal.τ).loc Cert.FfnDhIdeal.main_v2_0)) (v1 : (c : Dev Cert.FfnDhIdeal.nD) → Buf (Elt Ideal) ((c.tc : Thread Cert.FfnDhIdeal.nD Cert.FfnDhIdeal.τ).loc Cert.FfnDhIdeal.main_v2_1)) (v2 : (c : Dev Cert.FfnDhIdeal.nD) → Buf (Elt Ideal) ((c.tc : Thread Cert.FfnDhIdeal.nD Cert.FfnDhIdeal.τ).loc Cert.FfnDhIdeal.main_v2_2)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v2_0) = v0 c
          ∧ r.2.mem ((c.tc : Thread Cert.FfnDhIdeal.nD Cert.FfnDhIdeal.τ).loc Cert.FfnDhIdeal.main_v2_1) = v1 c
          ∧ r.2.mem ((c.tc : Thread Cert.FfnDhIdeal.nD Cert.FfnDhIdeal.τ).loc Cert.FfnDhIdeal.main_v2_2) = v2 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v37) = v0 c
          ∧ r.2.mem ((c.tc : Thread Cert.FfnDhRefIdeal.nD Cert.FfnDhRefIdeal.τ).loc Cert.FfnDhRefIdeal.main_v39) = v1 c
          ∧ r.2.mem ((c.tc : Thread Cert.FfnDhRefIdeal.nD Cert.FfnDhRefIdeal.τ).loc Cert.FfnDhRefIdeal.main_v20) = v2 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4)
          ∧ r.2.mem ((c.tc : Thread Cert.FfnDhRefIdeal.nD Cert.FfnDhRefIdeal.τ).loc Cert.FfnDhRefIdeal.main_arg5) = m' ((c.tc : Thread Cert.FfnDhRefIdeal.nD Cert.FfnDhRefIdeal.τ).loc Cert.FfnDhRefIdeal.main_arg5))

def preserves_AttnDh_AttnDhIdeal : Prop :=
  True

def algebraic_AttnDhIdeal_AttnDhRefIdeal [hAttnDhIdeal : Cert.AttnDhIdeal.Facts] [hAttnDhRefIdeal : Cert.AttnDhRefIdeal.Facts] : Prop :=
  ∀ (m : (ℓ : Loc Cert.AttnDhIdeal.nD Cert.AttnDhIdeal.τ Cert.AttnDhIdeal.sig) → Buf (Elt Ideal) ℓ) (g : Dev Cert.AttnDhIdeal.nD → PrngReg)
    (m' : (ℓ : Loc Cert.AttnDhRefIdeal.nD Cert.AttnDhRefIdeal.τ Cert.AttnDhRefIdeal.sig) → Buf (Elt Ideal) ℓ) (g' : Dev Cert.AttnDhRefIdeal.nD → PrngReg), Pre_AttnDhIdeal m →
    (∀ c : Dev Cert.AttnDhIdeal.nD,
      m' ((c.tc : Thread Cert.AttnDhRefIdeal.nD Cert.AttnDhRefIdeal.τ).loc Cert.AttnDhRefIdeal.main_arg0) = m ((c.tc : Thread Cert.AttnDhIdeal.nD Cert.AttnDhIdeal.τ).loc Cert.AttnDhIdeal.main_arg0)
      ∧ m' ((c.tc : Thread Cert.AttnDhRefIdeal.nD Cert.AttnDhRefIdeal.τ).loc Cert.AttnDhRefIdeal.main_arg1) = m ((c.tc : Thread Cert.AttnDhIdeal.nD Cert.AttnDhIdeal.τ).loc Cert.AttnDhIdeal.main_arg1)
      ∧ m' ((c.tc : Thread Cert.AttnDhRefIdeal.nD Cert.AttnDhRefIdeal.τ).loc Cert.AttnDhRefIdeal.main_arg2) = m ((c.tc : Thread Cert.AttnDhIdeal.nD Cert.AttnDhIdeal.τ).loc Cert.AttnDhIdeal.main_arg2)
      ∧ m' ((c.tc : Thread Cert.AttnDhRefIdeal.nD Cert.AttnDhRefIdeal.τ).loc Cert.AttnDhRefIdeal.main_arg3) = m ((c.tc : Thread Cert.AttnDhIdeal.nD Cert.AttnDhIdeal.τ).loc Cert.AttnDhIdeal.main_arg3)
      ∧ m' ((c.tc : Thread Cert.AttnDhRefIdeal.nD Cert.AttnDhRefIdeal.τ).loc Cert.AttnDhRefIdeal.main_arg4) = m ((c.tc : Thread Cert.AttnDhIdeal.nD Cert.AttnDhIdeal.τ).loc Cert.AttnDhIdeal.main_arg4)) →
    ∃ (v0 : (c : Dev Cert.AttnDhIdeal.nD) → Buf (Elt Ideal) ((c.tc : Thread Cert.AttnDhIdeal.nD Cert.AttnDhIdeal.τ).loc Cert.AttnDhIdeal.main_v2_0)) (v1 : (c : Dev Cert.AttnDhIdeal.nD) → Buf (Elt Ideal) ((c.tc : Thread Cert.AttnDhIdeal.nD Cert.AttnDhIdeal.τ).loc Cert.AttnDhIdeal.main_v2_1)) (v2 : (c : Dev Cert.AttnDhIdeal.nD) → Buf (Elt Ideal) ((c.tc : Thread Cert.AttnDhIdeal.nD Cert.AttnDhIdeal.τ).loc Cert.AttnDhIdeal.main_v2_2)),
      θ_run (Cert.AttnDhIdeal.defs (F := Ideal)) (onTc (τ := Cert.AttnDhIdeal.τ) (Cert.AttnDhIdeal.main (F := Ideal))) ⟨m, fun _ => 0, g⟩ (fun r => ∀ c : Dev Cert.AttnDhIdeal.nD,
          r.2.mem ((c.tc : Thread Cert.AttnDhIdeal.nD Cert.AttnDhIdeal.τ).loc Cert.AttnDhIdeal.main_v2_0) = v0 c
          ∧ r.2.mem ((c.tc : Thread Cert.AttnDhIdeal.nD Cert.AttnDhIdeal.τ).loc Cert.AttnDhIdeal.main_v2_1) = v1 c
          ∧ r.2.mem ((c.tc : Thread Cert.AttnDhIdeal.nD Cert.AttnDhIdeal.τ).loc Cert.AttnDhIdeal.main_v2_2) = v2 c
          ∧ r.2.mem ((c.tc : Thread Cert.AttnDhIdeal.nD Cert.AttnDhIdeal.τ).loc Cert.AttnDhIdeal.main_arg0) = m ((c.tc : Thread Cert.AttnDhIdeal.nD Cert.AttnDhIdeal.τ).loc Cert.AttnDhIdeal.main_arg0)
          ∧ r.2.mem ((c.tc : Thread Cert.AttnDhIdeal.nD Cert.AttnDhIdeal.τ).loc Cert.AttnDhIdeal.main_arg1) = m ((c.tc : Thread Cert.AttnDhIdeal.nD Cert.AttnDhIdeal.τ).loc Cert.AttnDhIdeal.main_arg1)
          ∧ r.2.mem ((c.tc : Thread Cert.AttnDhIdeal.nD Cert.AttnDhIdeal.τ).loc Cert.AttnDhIdeal.main_arg2) = m ((c.tc : Thread Cert.AttnDhIdeal.nD Cert.AttnDhIdeal.τ).loc Cert.AttnDhIdeal.main_arg2)
          ∧ r.2.mem ((c.tc : Thread Cert.AttnDhIdeal.nD Cert.AttnDhIdeal.τ).loc Cert.AttnDhIdeal.main_arg3) = m ((c.tc : Thread Cert.AttnDhIdeal.nD Cert.AttnDhIdeal.τ).loc Cert.AttnDhIdeal.main_arg3)
          ∧ r.2.mem ((c.tc : Thread Cert.AttnDhIdeal.nD Cert.AttnDhIdeal.τ).loc Cert.AttnDhIdeal.main_arg4) = m ((c.tc : Thread Cert.AttnDhIdeal.nD Cert.AttnDhIdeal.τ).loc Cert.AttnDhIdeal.main_arg4))
      ∧ θ_run (Cert.AttnDhRefIdeal.defs (F := Ideal)) (onTc (τ := Cert.AttnDhRefIdeal.τ) (Cert.AttnDhRefIdeal.main (F := Ideal))) ⟨m', fun _ => 0, g'⟩ (fun r => ∀ c : Dev Cert.AttnDhRefIdeal.nD,
          r.2.mem ((c.tc : Thread Cert.AttnDhRefIdeal.nD Cert.AttnDhRefIdeal.τ).loc Cert.AttnDhRefIdeal.main_v36) = v0 c
          ∧ r.2.mem ((c.tc : Thread Cert.AttnDhRefIdeal.nD Cert.AttnDhRefIdeal.τ).loc Cert.AttnDhRefIdeal.main_v38) = v1 c
          ∧ r.2.mem ((c.tc : Thread Cert.AttnDhRefIdeal.nD Cert.AttnDhRefIdeal.τ).loc Cert.AttnDhRefIdeal.main_v19) = v2 c
          ∧ r.2.mem ((c.tc : Thread Cert.AttnDhRefIdeal.nD Cert.AttnDhRefIdeal.τ).loc Cert.AttnDhRefIdeal.main_arg0) = m' ((c.tc : Thread Cert.AttnDhRefIdeal.nD Cert.AttnDhRefIdeal.τ).loc Cert.AttnDhRefIdeal.main_arg0)
          ∧ r.2.mem ((c.tc : Thread Cert.AttnDhRefIdeal.nD Cert.AttnDhRefIdeal.τ).loc Cert.AttnDhRefIdeal.main_arg1) = m' ((c.tc : Thread Cert.AttnDhRefIdeal.nD Cert.AttnDhRefIdeal.τ).loc Cert.AttnDhRefIdeal.main_arg1)
          ∧ r.2.mem ((c.tc : Thread Cert.AttnDhRefIdeal.nD Cert.AttnDhRefIdeal.τ).loc Cert.AttnDhRefIdeal.main_arg2) = m' ((c.tc : Thread Cert.AttnDhRefIdeal.nD Cert.AttnDhRefIdeal.τ).loc Cert.AttnDhRefIdeal.main_arg2)
          ∧ r.2.mem ((c.tc : Thread Cert.AttnDhRefIdeal.nD Cert.AttnDhRefIdeal.τ).loc Cert.AttnDhRefIdeal.main_arg3) = m' ((c.tc : Thread Cert.AttnDhRefIdeal.nD Cert.AttnDhRefIdeal.τ).loc Cert.AttnDhRefIdeal.main_arg3)
          ∧ r.2.mem ((c.tc : Thread Cert.AttnDhRefIdeal.nD Cert.AttnDhRefIdeal.τ).loc Cert.AttnDhRefIdeal.main_arg4) = m' ((c.tc : Thread Cert.AttnDhRefIdeal.nD Cert.AttnDhRefIdeal.τ).loc Cert.AttnDhRefIdeal.main_arg4))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)) →
    ∃ (v0 : (c : Dev Cert.FfnLossIdeal.nD) → Buf (Elt Ideal) ((c.tc : Thread Cert.FfnLossIdeal.nD Cert.FfnLossIdeal.τ).loc Cert.FfnLossIdeal.main_v2_0)) (v1 : (c : Dev Cert.FfnLossIdeal.nD) → Buf (Elt Ideal) ((c.tc : Thread Cert.FfnLossIdeal.nD Cert.FfnLossIdeal.τ).loc Cert.FfnLossIdeal.main_v2_1)) (v2 : (c : Dev Cert.FfnLossIdeal.nD) → Buf (Elt Ideal) ((c.tc : Thread Cert.FfnLossIdeal.nD Cert.FfnLossIdeal.τ).loc Cert.FfnLossIdeal.main_v4)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v2_0) = v0 c
          ∧ r.2.mem ((c.tc : Thread Cert.FfnLossIdeal.nD Cert.FfnLossIdeal.τ).loc Cert.FfnLossIdeal.main_v2_1) = v1 c
          ∧ r.2.mem ((c.tc : Thread Cert.FfnLossIdeal.nD Cert.FfnLossIdeal.τ).loc Cert.FfnLossIdeal.main_v4) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v16) = v0 c
          ∧ r.2.mem ((c.tc : Thread Cert.FfnLossRefIdeal.nD Cert.FfnLossRefIdeal.τ).loc Cert.FfnLossRefIdeal.main_v17) = v1 c
          ∧ r.2.mem ((c.tc : Thread Cert.FfnLossRefIdeal.nD Cert.FfnLossRefIdeal.τ).loc Cert.FfnLossRefIdeal.main_v10) = v2 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3))

def preserves_AttnOut_AttnOutIdeal : Prop :=
  True

def algebraic_AttnOutIdeal_AttnOutRefIdeal_pre_finite_fwd [hAttnOutIdeal : Cert.AttnOutIdeal.Facts] [hAttnOutRefIdeal : Cert.AttnOutRefIdeal.Facts] [hPre_finite_fwd : Cert.Pre_finite_fwd.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal_finite_fwd m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v8)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v8) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v58) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hSsm : Cert.Ssm.Facts) (hSsmIdeal : Cert.SsmIdeal.Facts) (hSsmRefIdeal : Cert.SsmRefIdeal.Facts) (hFfnDwIn : Cert.FfnDwIn.Facts) (hFfnDwInIdeal : Cert.FfnDwInIdeal.Facts) (hFfnDwInRefIdeal : Cert.FfnDwInRefIdeal.Facts) (hFfnDwOut : Cert.FfnDwOut.Facts) (hFfnDwOutIdeal : Cert.FfnDwOutIdeal.Facts) (hFfnDwOutRefIdeal : Cert.FfnDwOutRefIdeal.Facts) (hAttnDwIn : Cert.AttnDwIn.Facts) (hAttnDwInIdeal : Cert.AttnDwInIdeal.Facts) (hAttnDwInRefIdeal : Cert.AttnDwInRefIdeal.Facts) (hAttnDwOut : Cert.AttnDwOut.Facts) (hAttnDwOutIdeal : Cert.AttnDwOutIdeal.Facts) (hAttnDwOutRefIdeal : Cert.AttnDwOutRefIdeal.Facts) (hSsmDwZ : Cert.SsmDwZ.Facts) (hSsmDwZIdeal : Cert.SsmDwZIdeal.Facts) (hSsmDwZRefIdeal : Cert.SsmDwZRefIdeal.Facts) (hSsmDwX : Cert.SsmDwX.Facts) (hSsmDwXIdeal : Cert.SsmDwXIdeal.Facts) (hSsmDwXRefIdeal : Cert.SsmDwXRefIdeal.Facts) (hSsmDwOut : Cert.SsmDwOut.Facts) (hSsmDwOutIdeal : Cert.SsmDwOutIdeal.Facts) (hSsmDwOutRefIdeal : Cert.SsmDwOutRefIdeal.Facts) (hFfnDh : Cert.FfnDh.Facts) (hFfnDhIdeal : Cert.FfnDhIdeal.Facts) (hFfnDhRefIdeal : Cert.FfnDhRefIdeal.Facts) (hAttnDh : Cert.AttnDh.Facts) (hAttnDhIdeal : Cert.AttnDhIdeal.Facts) (hAttnDhRefIdeal : Cert.AttnDhRefIdeal.Facts) (hFfnLoss : Cert.FfnLoss.Facts) (hFfnLossIdeal : Cert.FfnLossIdeal.Facts) (hFfnLossRefIdeal : Cert.FfnLossRefIdeal.Facts) (hAttnOut : Cert.AttnOut.Facts) (hAttnOutIdeal : Cert.AttnOutIdeal.Facts) (hAttnOutRefIdeal : Cert.AttnOutRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Ssm (hSsm := hSsm)
    ∧ quiescent_SsmIdeal (hSsmIdeal := hSsmIdeal)
    ∧ quiescent_SsmRefIdeal (hSsmRefIdeal := hSsmRefIdeal)
    ∧ quiescent_FfnDwIn (hFfnDwIn := hFfnDwIn)
    ∧ quiescent_FfnDwInIdeal (hFfnDwInIdeal := hFfnDwInIdeal)
    ∧ quiescent_FfnDwInRefIdeal (hFfnDwInRefIdeal := hFfnDwInRefIdeal)
    ∧ quiescent_FfnDwOut (hFfnDwOut := hFfnDwOut)
    ∧ quiescent_FfnDwOutIdeal (hFfnDwOutIdeal := hFfnDwOutIdeal)
    ∧ quiescent_FfnDwOutRefIdeal (hFfnDwOutRefIdeal := hFfnDwOutRefIdeal)
    ∧ quiescent_AttnDwIn (hAttnDwIn := hAttnDwIn)
    ∧ quiescent_AttnDwInIdeal (hAttnDwInIdeal := hAttnDwInIdeal)
    ∧ quiescent_AttnDwInRefIdeal (hAttnDwInRefIdeal := hAttnDwInRefIdeal)
    ∧ quiescent_AttnDwOut (hAttnDwOut := hAttnDwOut)
    ∧ quiescent_AttnDwOutIdeal (hAttnDwOutIdeal := hAttnDwOutIdeal)
    ∧ quiescent_AttnDwOutRefIdeal (hAttnDwOutRefIdeal := hAttnDwOutRefIdeal)
    ∧ quiescent_SsmDwZ (hSsmDwZ := hSsmDwZ)
    ∧ quiescent_SsmDwZIdeal (hSsmDwZIdeal := hSsmDwZIdeal)
    ∧ quiescent_SsmDwZRefIdeal (hSsmDwZRefIdeal := hSsmDwZRefIdeal)
    ∧ quiescent_SsmDwX (hSsmDwX := hSsmDwX)
    ∧ quiescent_SsmDwXIdeal (hSsmDwXIdeal := hSsmDwXIdeal)
    ∧ quiescent_SsmDwXRefIdeal (hSsmDwXRefIdeal := hSsmDwXRefIdeal)
    ∧ quiescent_SsmDwOut (hSsmDwOut := hSsmDwOut)
    ∧ quiescent_SsmDwOutIdeal (hSsmDwOutIdeal := hSsmDwOutIdeal)
    ∧ quiescent_SsmDwOutRefIdeal (hSsmDwOutRefIdeal := hSsmDwOutRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_AttnDh (hAttnDh := hAttnDh)
    ∧ quiescent_AttnDhIdeal (hAttnDhIdeal := hAttnDhIdeal)
    ∧ quiescent_AttnDhRefIdeal (hAttnDhRefIdeal := hAttnDhRefIdeal)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_AttnOut (hAttnOut := hAttnOut)
    ∧ quiescent_AttnOutIdeal (hAttnOutIdeal := hAttnOutIdeal)
    ∧ quiescent_AttnOutIdeal_pre_finite_fwd (hAttnOutIdeal := hAttnOutIdeal) (hPre_finite_fwd := hPre_finite_fwd)
    ∧ quiescent_AttnOutRefIdeal (hAttnOutRefIdeal := hAttnOutRefIdeal)
    ∧ quiescent_AttnOutRefIdeal_pre_finite_fwd (hAttnOutRefIdeal := hAttnOutRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Ssm_SsmIdeal
    ∧ algebraic_SsmIdeal_SsmRefIdeal (hSsmIdeal := hSsmIdeal) (hSsmRefIdeal := hSsmRefIdeal)
    ∧ preserves_FfnDwIn_FfnDwInIdeal
    ∧ algebraic_FfnDwInIdeal_FfnDwInRefIdeal (hFfnDwInIdeal := hFfnDwInIdeal) (hFfnDwInRefIdeal := hFfnDwInRefIdeal)
    ∧ preserves_FfnDwOut_FfnDwOutIdeal
    ∧ algebraic_FfnDwOutIdeal_FfnDwOutRefIdeal (hFfnDwOutIdeal := hFfnDwOutIdeal) (hFfnDwOutRefIdeal := hFfnDwOutRefIdeal)
    ∧ preserves_AttnDwIn_AttnDwInIdeal
    ∧ algebraic_AttnDwInIdeal_AttnDwInRefIdeal (hAttnDwInIdeal := hAttnDwInIdeal) (hAttnDwInRefIdeal := hAttnDwInRefIdeal)
    ∧ preserves_AttnDwOut_AttnDwOutIdeal
    ∧ algebraic_AttnDwOutIdeal_AttnDwOutRefIdeal (hAttnDwOutIdeal := hAttnDwOutIdeal) (hAttnDwOutRefIdeal := hAttnDwOutRefIdeal)
    ∧ preserves_SsmDwZ_SsmDwZIdeal
    ∧ algebraic_SsmDwZIdeal_SsmDwZRefIdeal (hSsmDwZIdeal := hSsmDwZIdeal) (hSsmDwZRefIdeal := hSsmDwZRefIdeal)
    ∧ preserves_SsmDwX_SsmDwXIdeal
    ∧ algebraic_SsmDwXIdeal_SsmDwXRefIdeal (hSsmDwXIdeal := hSsmDwXIdeal) (hSsmDwXRefIdeal := hSsmDwXRefIdeal)
    ∧ preserves_SsmDwOut_SsmDwOutIdeal
    ∧ algebraic_SsmDwOutIdeal_SsmDwOutRefIdeal (hSsmDwOutIdeal := hSsmDwOutIdeal) (hSsmDwOutRefIdeal := hSsmDwOutRefIdeal)
    ∧ preserves_FfnDh_FfnDhIdeal
    ∧ algebraic_FfnDhIdeal_FfnDhRefIdeal (hFfnDhIdeal := hFfnDhIdeal) (hFfnDhRefIdeal := hFfnDhRefIdeal)
    ∧ preserves_AttnDh_AttnDhIdeal
    ∧ algebraic_AttnDhIdeal_AttnDhRefIdeal (hAttnDhIdeal := hAttnDhIdeal) (hAttnDhRefIdeal := hAttnDhRefIdeal)
    ∧ preserves_FfnLoss_FfnLossIdeal
    ∧ algebraic_FfnLossIdeal_FfnLossRefIdeal (hFfnLossIdeal := hFfnLossIdeal) (hFfnLossRefIdeal := hFfnLossRefIdeal)
    ∧ preserves_AttnOut_AttnOutIdeal
    ∧ algebraic_AttnOutIdeal_AttnOutRefIdeal_pre_finite_fwd (hAttnOutIdeal := hAttnOutIdeal) (hAttnOutRefIdeal := hAttnOutRefIdeal) (hPre_finite_fwd := hPre_finite_fwd)
-- ==== Pre_finite.lean ====
abbrev S8192x512 : Shape := ⟨2, ![8192, 512]⟩
abbrev S8704x512 : Shape := ⟨2, ![8704, 512]⟩
abbrev S8x64x576 : Shape := ⟨3, ![8, 64, 576]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8704x512 : S_.BroadcastsInDim S8704x512 (![] : Fin 0 → Fin S8704x512.rank)
  reducesTo_S8704x512_S_d0_1 : S8704x512.ReducesTo [0, 1] S_
  bcast_S_S8x64x576 : S_.BroadcastsInDim S8x64x576 (![] : Fin 0 → Fin S8x64x576.rank)
  reducesTo_S8x64x576_S_d0_1_2 : S8x64x576.ReducesTo [0, 1, 2] S_

variable [Facts]

def fn {F : FTy → Type} [FloatOps F] (main_arg0 : FVec F S8192x512 .f32) (main_arg1 : FVec F S8704x512 .f32) (main_arg2 : FVec F S8704x512 .f32) (main_arg3 : FVec F S8192x512 .f32) (main_arg4 : FVec F S8x64x576 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8704x512 .f32 := Host.absf main_arg1
  let main_cst_0 : FVec F S_ .f32 := constant S_ .f32 0x7F800000#32
  let main_v5 : FVec F S8704x512 .f32 := broadcastInDim S8704x512 ![] bcast_S_S8704x512 main_cst_0
  let main_v6 : IVec S8704x512 1 := cmpf .olt main_v4 main_v5
  let main_c_1 : IVec S_ 1 := constantI S_ 1 1#1
  let main_v7 : IVec S_ 1 := (fun x v => Host.reduce IntOp.andi x v reducesTo_S8704x512_S_d0_1 h_S_) main_v6 main_c_1
  let main_v8 : IVec S_ 1 := andi main_v3 main_v7
  let main_v9 : FVec F S8x64x576 .f32 := Host.absf main_arg4
  let main_cst_2 : FVec F S_ .f32 := constant S_ .f32 0x7F800000#32
  let main_v10 : FVec F S8x64x576 .f32 := broadcastInDim S8x64x576 ![] bcast_S_S8x64x576 main_cst_2
  let main_v11 : IVec S8x64x576 1 := cmpf .olt main_v9 main_v10
  let main_c_3 : IVec S_ 1 := constantI S_ 1 1#1
  let main_v12 : IVec S_ 1 := (fun x v => Host.reduce IntOp.andi x v reducesTo_S8x64x576_S_d0_1_2 h_S_) main_v11 main_c_3
  let main_v13 : IVec S_ 1 := andi main_v8 main_v12
  main_v13
-- ==== Pre_finite_fwd.lean ====
abbrev S8192x512 : Shape := ⟨2, ![8192, 512]⟩
abbrev S8704x512 : Shape := ⟨2, ![8704, 512]⟩
abbrev S8x64x576 : Shape := ⟨3, ![8, 64, 576]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8704x512 : S_.BroadcastsInDim S8704x512 (![] : Fin 0 → Fin S8704x512.rank)
  reducesTo_S8704x512_S_d0_1 : S8704x512.ReducesTo [0, 1] S_
  bcast_S_S8x64x576 : S_.BroadcastsInDim S8x64x576 (![] : Fin 0 → Fin S8x64x576.rank)
  reducesTo_S8x64x576_S_d0_1_2 : S8x64x576.ReducesTo [0, 1, 2] S_

variable [Facts]

def fn {F : FTy → Type} [FloatOps F] (main_arg0 : FVec F S8192x512 .f32) (main_arg1 : FVec F S8704x512 .f32) (main_arg2 : FVec F S8704x512 .f32) (main_arg3 : FVec F S8x64x576 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8704x512 .f32 := Host.absf main_arg1
  let main_cst_0 : FVec F S_ .f32 := constant S_ .f32 0x7F800000#32
  let main_v5 : FVec F S8704x512 .f32 := broadcastInDim S8704x512 ![] bcast_S_S8704x512 main_cst_0
  let main_v6 : IVec S8704x512 1 := cmpf .olt main_v4 main_v5
  let main_c_1 : IVec S_ 1 := constantI S_ 1 1#1
  let main_v7 : IVec S_ 1 := (fun x v => Host.reduce IntOp.andi x v reducesTo_S8704x512_S_d0_1 h_S_) main_v6 main_c_1
  let main_v8 : IVec S_ 1 := andi main_v3 main_v7
  let main_v9 : FVec F S8x64x576 .f32 := Host.absf main_arg3
  let main_cst_2 : FVec F S_ .f32 := constant S_ .f32 0x7F800000#32
  let main_v10 : FVec F S8x64x576 .f32 := broadcastInDim S8x64x576 ![] bcast_S_S8x64x576 main_cst_2
  let main_v11 : IVec S8x64x576 1 := cmpf .olt main_v9 main_v10
  let main_c_3 : IVec S_ 1 := constantI S_ 1 1#1
  let main_v12 : IVec S_ 1 := (fun x v => Host.reduce IntOp.andi x v reducesTo_S8x64x576_S_d0_1_2 h_S_) main_v11 main_c_3
  let main_v13 : IVec S_ 1 := andi main_v8 main_v12
  main_v13
-- ==== Kernel.lean ====
abbrev S8192x512 : Shape := ⟨2, ![8192, 512]⟩
abbrev S8704x512 : Shape := ⟨2, ![8704, 512]⟩
abbrev S8x64x576 : Shape := ⟨3, ![8, 64, 576]⟩
abbrev S_ : Shape := ⟨0, ![]⟩
abbrev S8x64x768 : Shape := ⟨3, ![8, 64, 768]⟩
abbrev S8x256x768 : Shape := ⟨3, ![8, 256, 768]⟩
abbrev S256x128 : Shape := ⟨2, ![256, 128]⟩
abbrev S8704x128 : Shape := ⟨2, ![8704, 128]⟩
abbrev S2x256x768 : Shape := ⟨3, ![2, 256, 768]⟩
abbrev S1x128 : Shape := ⟨2, ![1, 128]⟩
abbrev S1x768 : Shape := ⟨2, ![1, 768]⟩
abbrev S768x128 : Shape := ⟨2, ![768, 128]⟩
abbrev S512x128 : Shape := ⟨2, ![512, 128]⟩
abbrev S512x768 : Shape := ⟨2, ![512, 768]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩

abbrev nBuf : Space → Nat
  | .hbm => 33
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8704x512, .f32⟩
  | .hbm, ⟨2, _⟩ => ⟨S8704x512, .f32⟩
  | .hbm, ⟨3, _⟩ => ⟨S8192x512, .f32⟩
  | .hbm, ⟨4, _⟩ => ⟨S8x64x576, .f32⟩
  | .hbm, ⟨5, _⟩ => ⟨S_, .f32⟩
  | .hbm, ⟨6, _⟩ => ⟨S_, .f32⟩
  | .hbm, ⟨7, _⟩ => ⟨S8x64x768, .f32⟩
  | .hbm, ⟨8, _⟩ => ⟨S_, .f32⟩
  | .hbm, ⟨9, _⟩ => ⟨S_, .f32⟩
  | .hbm, ⟨10, _⟩ => ⟨S8x64x768, .f32⟩
  | .hbm, ⟨11, _⟩ => ⟨S_, .f32⟩
  | .hbm, ⟨12, _⟩ => ⟨S_, .f32⟩
  | .hbm, ⟨13, _⟩ => ⟨S8x64x768, .f32⟩
  | .hbm, ⟨14, _⟩ => ⟨S_, .f32⟩
  | .hbm, ⟨15, _⟩ => ⟨S_, .f32⟩
  | .hbm, ⟨16, _⟩ => ⟨S8x64x768, .f32⟩
  | .hbm, ⟨17, _⟩ => ⟨S8x256x768, .f32⟩
  | .hbm, ⟨18, _⟩ => ⟨S8192x512, .bf16⟩
  | .hbm, ⟨19, _⟩ => ⟨S8704x512, .bf16⟩
  | .hbm, ⟨20, _⟩ => ⟨S8704x512, .bf16⟩
  | .hbm, ⟨21, _⟩ => ⟨S8192x512, .bf16⟩
  | .hbm, ⟨22, _⟩ => ⟨S8192x512, .f32⟩
  | .hbm, ⟨23, _⟩ => ⟨S8704x512, .f32⟩
  | .hbm, ⟨24, _⟩ => ⟨S8704x512, .f32⟩
  | .hbm, ⟨25, _⟩ => ⟨S8x256x768, .f32⟩
  | .hbm, ⟨26, _⟩ => ⟨S8x64x576, .f32⟩
  | .hbm, ⟨27, _⟩ => ⟨S8x64x576, .f32⟩
  | .hbm, ⟨28, _⟩ => ⟨S8x64x576, .f32⟩
  | .hbm, ⟨29, _⟩ => ⟨S8x64x576, .f32⟩
  | .hbm, ⟨30, _⟩ => ⟨S8x64x576, .f32⟩
  | .hbm, ⟨31, _⟩ => ⟨S8x64x576, .f32⟩
  | .hbm, ⟨32, _⟩ => ⟨S8x64x576, .f32⟩
  | .local _ .vmem, ⟨0, _⟩ => ⟨S256x128, .bf16⟩
  | .local _ .vmem, ⟨1, _⟩ => ⟨S256x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S256x128, .bf16⟩
  | .local _ .vmem, ⟨7, _⟩ => ⟨S256x128, .bf16⟩
  | .local _ .vmem, ⟨8, _⟩ => ⟨S2x256x768, .f32⟩
  | .local _ .vmem, ⟨9, _⟩ => ⟨S2x256x768, .f32⟩
  | .local _ .vmem, ⟨10, _⟩ => ⟨S256x128, .f32⟩
  | .local _ .vmem, ⟨11, _⟩ => ⟨S256x128, .f32⟩
  | .local _ .vmem, ⟨12, _⟩ => ⟨S8704x128, .f32⟩
  | .local _ .vmem, ⟨13, _⟩ => ⟨S8704x128, .f32⟩
  | .local _ .vmem, ⟨14, _⟩ => ⟨S8704x128, .f32⟩
  | .local _ .vmem, ⟨15, _⟩ => ⟨S8704x128, .f32⟩
  | .local _ .vmem, ⟨16, _⟩ => ⟨S2x256x768, .f32⟩
  | .local _ .vmem, ⟨17, _⟩ => ⟨S2x256x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_cst_0 : Ref sig .tc := ⟨.hbm, 8, rfl⟩
abbrev main_call1_v0 : Ref sig .tc := ⟨.hbm, 9, rfl⟩
abbrev main_v1 : Ref sig .tc := ⟨.hbm, 10, rfl⟩
abbrev main_cst_1 : Ref sig .tc := ⟨.hbm, 11, rfl⟩
abbrev main_call2_v0 : Ref sig .tc := ⟨.hbm, 12, rfl⟩
abbrev main_v2 : Ref sig .tc := ⟨.hbm, 13, rfl⟩
abbrev main_cst_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_mult2 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c0_i32_1 : BitVec 32 := 0#32
  let v13 : BitVec 32 := Scalar.addi v4 c0_i32_1
  v13
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let c0_i32_1 : BitVec 32 := 0#32
  let v13 : BitVec 32 := Scalar.addi v4 c0_i32_1
  let v14 : BitVec 32 := v13
  let v15 : Index := Scalar.indexCast v14
  let c0 : Index := 0#32
  ![v15.toNat, 0]
def k0_mult3 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c0_i32_2 : BitVec 32 := 0#32
  let v18 : BitVec 32 := Scalar.addi v4 c0_i32_2
  v18
def k0_mult4 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c0_i32_44 : BitVec 32 := 0#32
  let v129 : BitVec 32 := Scalar.addi v4 c0_i32_44
  v129
def k0_mult5 (i : grid0.Coords) : BitVec 32 :=
  let arg1 : BitVec 32 := BitVec.ofNat 32 (i 1).val
  let c256_i32 : BitVec 32 := 256#32
  let v3 : BitVec 32 := Scalar.muli arg1 c256_i32
  let v4 : BitVec 32 := v3
  let c0_i32_49 : BitVec 32 := 0#32
  let v140 : BitVec 32 := Scalar.addi v4 c0_i32_49
  v140
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8704x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8704x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x512 : Shape := ⟨2, ![8192, 512]⟩
abbrev S8704x512 : Shape := ⟨2, ![8704, 512]⟩
abbrev S8x64x576 : Shape := ⟨3, ![8, 64, 576]⟩
abbrev S128x64x8x64 : Shape := ⟨4, ![128, 64, 8, 64]⟩
abbrev S136x64x8x64 : Shape := ⟨4, ![136, 64, 8, 64]⟩
abbrev S128x576x8x64 : Shape := ⟨4, ![128, 576, 8, 64]⟩
abbrev S576 : Shape := ⟨1, ![576]⟩
abbrev S_ : Shape := ⟨0, ![]⟩
abbrev S128 : Shape := ⟨1, ![128]⟩
abbrev S128x8x64x576 : Shape := ⟨4, ![128, 8, 64, 576]⟩
abbrev S1x8x64x576 : Shape := ⟨4, ![1, 8, 64, 576]⟩
abbrev S128x1 : Shape := ⟨2, ![128, 1]⟩
abbrev S1x576 : Shape := ⟨2, ![1, 576]⟩
abbrev S128x576 : Shape := ⟨2, ![128, 576]⟩
abbrev S128x1x1x576 : Shape := ⟨4, ![128, 1, 1, 576]⟩
abbrev S128x8x64 : Shape := ⟨3, ![128, 8, 64]⟩
abbrev S128x8x64x1 : Shape := ⟨4, ![128, 8, 64, 1]⟩
abbrev S128x8x64x64 : Shape := ⟨4, ![128, 8, 64, 64]⟩
abbrev S128x8x576x64 : Shape := ⟨4, ![128, 8, 576, 64]⟩

abbrev nBuf : Space → Nat
  | .hbm => 207
  | .vmem => 0
  | .smem => 0
  | _ => 0

abbrev hbmTy0_0 (i : Nat) : BufTy := match i % 128 with
  | 0 => ⟨S8192x512, .f32⟩
  | 1 => ⟨S8704x512, .f32⟩
  | 2 => ⟨S8704x512, .f32⟩
  | 3 => ⟨S8192x512, .f32⟩
  | 4 => ⟨S8x64x576, .f32⟩
  | 5 => ⟨S128x64x8x64, .f32⟩
  | 6 => ⟨S136x64x8x64, .f32⟩
  | 7 => ⟨S128x64x8x64, .f32⟩
  | 8 => ⟨S128x64x8x64, .f32⟩
  | 9 => ⟨S128x64x8x64, .f32⟩
  | 10 => ⟨S128x64x8x64, .f32⟩
  | 11 => ⟨S128x64x8x64, .f32⟩
  | 12 => ⟨S128x64x8x64, .f32⟩
  | 13 => ⟨S128x64x8x64, .f32⟩
  | 14 => ⟨S128x64x8x64, .f32⟩
  | 15 => ⟨S128x64x8x64, .f32⟩
  | 16 => ⟨S128x576x8x64, .f32⟩
  | 17 => ⟨S136x64x8x64, .f32⟩
  | 18 => ⟨S128x64x8x64, .f32⟩
  | 19 => ⟨S128x64x8x64, .f32⟩
  | 20 => ⟨S128x64x8x64, .f32⟩
  | 21 => ⟨S128x64x8x64, .f32⟩
  | 22 => ⟨S128x64x8x64, .f32⟩
  | 23 => ⟨S128x64x8x64, .f32⟩
  | 24 => ⟨S128x64x8x64, .f32⟩
  | 25 => ⟨S128x64x8x64, .f32⟩
  | 26 => ⟨S128x64x8x64, .f32⟩
  | 27 => ⟨S128x576x8x64, .f32⟩
  | 28 => ⟨S576, .i32⟩
  | 29 => ⟨S_, .i32⟩
  | 30 => ⟨S576, .i32⟩
  | 31 => ⟨S576, .i32⟩
  | 32 => ⟨S128, .i32⟩
  | 33 => ⟨S_, .i32⟩
  | 34 => ⟨S128, .i32⟩
  | 35 => ⟨S128, .i32⟩
  | 36 => ⟨S128x8x64x576, .f32⟩
  | 37 => ⟨S_, .f32⟩
  | 38 => ⟨S128x8x64x576, .f32⟩
  | 39 => ⟨S128x8x64x576, .f32⟩
  | 40 => ⟨S1x8x64x576, .f32⟩
  | 41 => ⟨S128x8x64x576, .f32⟩
  | 42 => ⟨S128x8x64x576, .f32⟩
  | 43 => ⟨S128x1, .i32⟩
  | 44 => ⟨S1x576, .i32⟩
  | 45 => ⟨S128x576, .i32⟩
  | 46 => ⟨S128x576, .i32⟩
  | 47 => ⟨S128x576, .i32⟩
  | 48 => ⟨S_, .i32⟩
  | 49 => ⟨S128x576, .i32⟩
  | 50 => ⟨S128x576, .i1⟩
  | 51 => ⟨S128x1x1x576, .i1⟩
  | 52 => ⟨S_, .f32⟩
  | 53 => ⟨S_, .f32⟩
  | 54 => ⟨S128x8x64x576, .i1⟩
  | 55 => ⟨S128x8x64x576, .f32⟩
  | 56 => ⟨S128x8x64x576, .f32⟩
  | 57 => ⟨S_, .f32⟩
  | 58 => ⟨S128x8x64x576, .f32⟩
  | 59 => ⟨S_, .f32⟩
  | 60 => ⟨S128x8x64, .f32⟩
  | 61 => ⟨S128x8x64x1, .f32⟩
  | 62 => ⟨S128x8x64x576, .f32⟩
  | 63 => ⟨S128x8x64x576, .i1⟩
  | 64 => ⟨S128x8x64x576, .f32⟩
  | 65 => ⟨S_, .f32⟩
  | 66 => ⟨S128x8x64, .f32⟩
  | 67 => ⟨S_, .f32⟩
  | 68 => ⟨S128x8x64, .f32⟩
  | 69 => ⟨S128x8x64, .f32⟩
  | 70 => ⟨S_, .f32⟩
  | 71 => ⟨S128x8x64, .f32⟩
  | 72 => ⟨S128x8x64, .i1⟩
  | 73 => ⟨S_, .f32⟩
  | 74 => ⟨S128x8x64, .f32⟩
  | 75 => ⟨S128x8x64, .i1⟩
  | 76 => ⟨S_, .f32⟩
  | 77 => ⟨S128x8x64, .f32⟩
  | 78 => ⟨S_, .f32⟩
  | 79 => ⟨S128x8x64, .f32⟩
  | 80 => ⟨S_, .f32⟩
  | 81 => ⟨S128x8x64, .f32⟩
  | 82 => ⟨S128x8x64, .f32⟩
  | 83 => ⟨S128x8x64, .f32⟩
  | 84 => ⟨S128x8x64x1, .f32⟩
  | 85 => ⟨S128x8x64x576, .f32⟩
  | 86 => ⟨S128x8x64x576, .f32⟩
  | 87 => ⟨S128x8x64x576, .f32⟩
  | 88 => ⟨S_, .f32⟩
  | 89 => ⟨S128x8x64, .f32⟩
  | 90 => ⟨S128x8x64x1, .f32⟩
  | 91 => ⟨S128x8x64x576, .f32⟩
  | 92 => ⟨S128x8x64x576, .f32⟩
  | 93 => ⟨S128x8x64x1, .f32⟩
  | 94 => ⟨S_, .f32⟩
  | 95 => ⟨S128x8x64x1, .f32⟩
  | 96 => ⟨S128x8x64x1, .f32⟩
  | 97 => ⟨S128x8x64x64, .f32⟩
  | 98 => ⟨S128x64x8x64, .f32⟩
  | 99 => ⟨S8192x512, .f32⟩
  | 100 => ⟨S128x64x8x64, .f32⟩
  | 101 => ⟨S128x8x64x64, .f32⟩
  | 102 => ⟨S128x8x64x576, .f32⟩
  | 103 => ⟨S128x8x64x576, .f32⟩
  | 104 => ⟨S128x576x8x64, .f32⟩
  | 105 => ⟨S128x8x64x576, .f32⟩
  | 106 => ⟨S128x8x64x576, .f32⟩
  | 107 => ⟨S128x8x64x576, .f32⟩
  | 108 => ⟨S_, .f32⟩
  | 109 => ⟨S128x8x64, .f32⟩
  | 110 => ⟨S128x8x64x1, .f32⟩
  | 111 => ⟨S128x8x64x1, .f32⟩
  | 112 => ⟨S128x8x64x576, .f32⟩
  | 113 => ⟨S128x8x64x576, .f32⟩
  | 114 => ⟨S_, .f32⟩
  | 115 => ⟨S128x8x64, .f32⟩
  | 116 => ⟨S128x8x64x576, .f32⟩
  | 117 => ⟨S128x8x64x576, .f32⟩
  | 118 => ⟨S128x8x64x576, .f32⟩
  | 119 => ⟨S_, .f32⟩
  | 120 => ⟨S128x8x64x576, .f32⟩
  | 121 => ⟨S128x8x64x576, .f32⟩
  | 122 => ⟨S_, .f32⟩
  | 123 => ⟨S8x64x576, .f32⟩
  | 124 => ⟨S1x8x64x576, .f32⟩
  | 125 => ⟨S_, .f32⟩
  | 126 => ⟨S8x64x576, .f32⟩
  | 127 => ⟨S_, .f32⟩
  | _ => ⟨S8192x512, .f32⟩

abbrev hbmTy0_1 (i : Nat) : BufTy := match i % 128 with
  | 0 => ⟨S128x8x64x576, .f32⟩
  | 1 => ⟨S128x8x64x576, .f32⟩
  | 2 => ⟨S128x8x576x64, .f32⟩
  | 3 => ⟨S128x576x8x64, .f32⟩
  | 4 => ⟨S128x8x64x64, .f32⟩
  | 5 => ⟨S128x64x8x64, .f32⟩
  | 6 => ⟨S128x64x8x64, .f32⟩
  | 7 => ⟨S128x64x8x64, .f32⟩
  | 8 => ⟨S128x64x8x64, .f32⟩
  | 9 => ⟨S128x64x8x64, .f32⟩
  | 10 => ⟨S128x64x8x64, .f32⟩
  | 11 => ⟨S128x64x8x64, .f32⟩
  | 12 => ⟨S128x64x8x64, .f32⟩
  | 13 => ⟨S128x64x8x64, .f32⟩
  | 14 => ⟨S128x64x8x64, .f32⟩
  | 15 => ⟨S_, .f32⟩
  | 16 => ⟨S136x64x8x64, .f32⟩
  | 17 => ⟨S_, .f32⟩
  | 18 => ⟨S136x64x8x64, .f32⟩
  | 19 => ⟨S136x64x8x64, .f32⟩
  | 20 => ⟨S_, .f32⟩
  | 21 => ⟨S136x64x8x64, .f32⟩
  | 22 => ⟨S136x64x8x64, .f32⟩
  | 23 => ⟨S_, .f32⟩
  | 24 => ⟨S136x64x8x64, .f32⟩
  | 25 => ⟨S136x64x8x64, .f32⟩
  | 26 => ⟨S_, .f32⟩
  | 27 => ⟨S136x64x8x64, .f32⟩
  | 28 => ⟨S136x64x8x64, .f32⟩
  | 29 => ⟨S_, .f32⟩
  | 30 => ⟨S136x64x8x64, .f32⟩
  | 31 => ⟨S136x64x8x64, .f32⟩
  | 32 => ⟨S_, .f32⟩
  | 33 => ⟨S136x64x8x64, .f32⟩
  | 34 => ⟨S136x64x8x64, .f32⟩
  | 35 => ⟨S_, .f32⟩
  | 36 => ⟨S136x64x8x64, .f32⟩
  | 37 => ⟨S136x64x8x64, .f32⟩
  | 38 => ⟨S_, .f32⟩
  | 39 => ⟨S136x64x8x64, .f32⟩
  | 40 => ⟨S136x64x8x64, .f32⟩
  | 41 => ⟨S8704x512, .f32⟩
  | 42 => ⟨S128x64x8x64, .f32⟩
  | 43 => ⟨S128x64x8x64, .f32⟩
  | 44 => ⟨S128x64x8x64, .f32⟩
  | 45 => ⟨S128x64x8x64, .f32⟩
  | 46 => ⟨S128x64x8x64, .f32⟩
  | 47 => ⟨S128x64x8x64, .f32⟩
  | 48 => ⟨S128x64x8x64, .f32⟩
  | 49 => ⟨S128x64x8x64, .f32⟩
  | 50 => ⟨S128x64x8x64, .f32⟩
  | 51 => ⟨S_, .f32⟩
  | 52 => ⟨S136x64x8x64, .f32⟩
  | 53 => ⟨S_, .f32⟩
  | 54 => ⟨S136x64x8x64, .f32⟩
  | 55 => ⟨S136x64x8x64, .f32⟩
  | 56 => ⟨S_, .f32⟩
  | 57 => ⟨S136x64x8x64, .f32⟩
  | 58 => ⟨S136x64x8x64, .f32⟩
  | 59 => ⟨S_, .f32⟩
  | 60 => ⟨S136x64x8x64, .f32⟩
  | 61 => ⟨S136x64x8x64, .f32⟩
  | 62 => ⟨S_, .f32⟩
  | 63 => ⟨S136x64x8x64, .f32⟩
  | 64 => ⟨S136x64x8x64, .f32⟩
  | 65 => ⟨S_, .f32⟩
  | 66 => ⟨S136x64x8x64, .f32⟩
  | 67 => ⟨S136x64x8x64, .f32⟩
  | 68 => ⟨S_, .f32⟩
  | 69 => ⟨S136x64x8x64, .f32⟩
  | 70 => ⟨S136x64x8x64, .f32⟩
  | 71 => ⟨S_, .f32⟩
  | 72 => ⟨S136x64x8x64, .f32⟩
  | 73 => ⟨S136x64x8x64, .f32⟩
  | 74 => ⟨S_, .f32⟩
  | 75 => ⟨S136x64x8x64, .f32⟩
  | 76 => ⟨S136x64x8x64, .f32⟩
  | 77 => ⟨S8704x512, .f32⟩
  | 78 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_1 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_call0_v0 : Ref sig .tc := ⟨.hbm, 53, rfl⟩
abbrev main_v43_1 : Ref sig .tc := ⟨.hbm, 54, rfl⟩
abbrev main_call0_v2 : Ref sig .tc := ⟨.hbm, 55, rfl⟩
abbrev main_v43_0 : Ref sig .tc := ⟨.hbm, 56, rfl⟩
abbrev main_call0_cst : Ref sig .tc := ⟨.hbm, 57, rfl⟩
abbrev main_v43_2 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_call1_cst : Ref sig .tc := ⟨.hbm, 119, rfl⟩
abbrev main_call1_v0 : Ref sig .tc := ⟨.hbm, 120, rfl⟩
abbrev main_v92 : Ref sig .tc := ⟨.hbm, 121, rfl⟩
abbrev main_cst_15 : Ref sig .tc := ⟨.hbm, 122, rfl⟩
abbrev main_v93 : Ref sig .tc := ⟨.hbm, 123, rfl⟩
abbrev main_v94 : Ref sig .tc := ⟨.hbm, 124, rfl⟩
abbrev main_cst_16 : Ref sig .tc := ⟨.hbm, 125, rfl⟩
abbrev main_v95 : Ref sig .tc := ⟨.hbm, 126, rfl⟩
abbrev main_cst_17 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_18 : Ref sig .tc := ⟨.hbm, 143, rfl⟩
abbrev main_v111 : Ref sig .tc := ⟨.hbm, 144, rfl⟩
abbrev main_cst_19 : Ref sig .tc := ⟨.hbm, 145, rfl⟩
abbrev main_v112 : Ref sig .tc := ⟨.hbm, 146, rfl⟩
abbrev main_v113 : Ref sig .tc := ⟨.hbm, 147, rfl⟩
abbrev main_cst_20 : Ref sig .tc := ⟨.hbm, 148, rfl⟩
abbrev main_v114 : Ref sig .tc := ⟨.hbm, 149, rfl⟩
abbrev main_v115 : Ref sig .tc := ⟨.hbm, 150, rfl⟩
abbrev main_cst_21 : Ref sig .tc := ⟨.hbm, 151, rfl⟩
abbrev main_v116 : Ref sig .tc := ⟨.hbm, 152, rfl⟩
abbrev main_v117 : Ref sig .tc := ⟨.hbm, 153, rfl⟩
abbrev main_cst_22 : Ref sig .tc := ⟨.hbm, 154, rfl⟩
abbrev main_v118 : Ref sig .tc := ⟨.hbm, 155, rfl⟩
abbrev main_v119 : Ref sig .tc := ⟨.hbm, 156, rfl⟩
abbrev main_cst_23 : Ref sig .tc := ⟨.hbm, 157, rfl⟩
abbrev main_v120 : Ref sig .tc := ⟨.hbm, 158, rfl⟩
abbrev main_v121 : Ref sig .tc := ⟨.hbm, 159, rfl⟩
abbrev main_cst_24 : Ref sig .tc := ⟨.hbm, 160, rfl⟩
abbrev main_v122 : Ref sig .tc := ⟨.hbm, 161, rfl⟩
abbrev main_v123 : Ref sig .tc := ⟨.hbm, 162, rfl⟩
abbrev main_cst_25 : Ref sig .tc := ⟨.hbm, 163, rfl⟩
abbrev main_v124 : Ref sig .tc := ⟨.hbm, 164, rfl⟩
abbrev main_v125 : Ref sig .tc := ⟨.hbm, 165, rfl⟩
abbrev main_cst_26 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_27 : Ref sig .tc := ⟨.hbm, 179, rfl⟩
abbrev main_v138 : Ref sig .tc := ⟨.hbm, 180, rfl⟩
abbrev main_cst_28 : Ref sig .tc := ⟨.hbm, 181, rfl⟩
abbrev main_v139 : Ref sig .tc := ⟨.hbm, 182, rfl⟩
abbrev main_v140 : Ref sig .tc := ⟨.hbm, 183, rfl⟩
abbrev main_cst_29 : Ref sig .tc := ⟨.hbm, 184, rfl⟩
abbrev main_v141 : Ref sig .tc := ⟨.hbm, 185, rfl⟩
abbrev main_v142 : Ref sig .tc := ⟨.hbm, 186, rfl⟩
abbrev main_cst_30 : Ref sig .tc := ⟨.hbm, 187, rfl⟩
abbrev main_v143 : Ref sig .tc := ⟨.hbm, 188, rfl⟩
abbrev main_v144 : Ref sig .tc := ⟨.hbm, 189, rfl⟩
abbrev main_cst_31 : Ref sig .tc := ⟨.hbm, 190, rfl⟩
abbrev main_v145 : Ref sig .tc := ⟨.hbm, 191, rfl⟩
abbrev main_v146 : Ref sig .tc := ⟨.hbm, 192, rfl⟩
abbrev main_cst_32 : Ref sig .tc := ⟨.hbm, 193, rfl⟩
abbrev main_v147 : Ref sig .tc := ⟨.hbm, 194, rfl⟩
abbrev main_v148 : Ref sig .tc := ⟨.hbm, 195, rfl⟩
abbrev main_cst_33 : Ref sig .tc := ⟨.hbm, 196, rfl⟩
abbrev main_v149 : Ref sig .tc := ⟨.hbm, 197, rfl⟩
abbrev main_v150 : Ref sig .tc := ⟨.hbm, 198, rfl⟩
abbrev main_cst_34 : Ref sig .tc := ⟨.hbm, 199, rfl⟩
abbrev main_v151 : Ref sig .tc := ⟨.hbm, 200, rfl⟩
abbrev main_v152 : Ref sig .tc := ⟨.hbm, 201, rfl⟩
abbrev main_cst_35 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩

abbrev nD : Nat := 1
abbrev τ : Topo := Topo.v7x

variable {F : FTy → Type} [FloatOps F]
-- ==== Ffn.lean ====
abbrev S8192x1024 : Shape := ⟨2, ![8192, 1024]⟩
abbrev S1024x5632 : Shape := ⟨2, ![1024, 5632]⟩
abbrev S8192x2816 : Shape := ⟨2, ![8192, 2816]⟩
abbrev S2816x1024 : Shape := ⟨2, ![2816, 1024]⟩
abbrev S1x1024 : Shape := ⟨2, ![1, 1024]⟩
abbrev S1024x2816 : Shape := ⟨2, ![1024, 2816]⟩
abbrev S1024x1024 : Shape := ⟨2, ![1024, 1024]⟩
abbrev S1024x1408 : Shape := ⟨2, ![1024, 1408]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1408x1024 : Shape := ⟨2, ![1408, 1024]⟩

abbrev nBuf : Space → Nat
  | .hbm => 22
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2816, .f32⟩
  | .hbm, ⟨8, _⟩ => ⟨S8192x1024, .bf16⟩
  | .hbm, ⟨9, _⟩ => ⟨S1024x5632, .bf16⟩
  | .hbm, ⟨10, _⟩ => ⟨S8192x2816, .bf16⟩
  | .hbm, ⟨11, _⟩ => ⟨S2816x1024, .bf16⟩
  | .hbm, ⟨12, _⟩ => ⟨S8192x1024, .bf16⟩
  | .hbm, ⟨13, _⟩ => ⟨S8192x2816, .bf16⟩
  | .hbm, ⟨14, _⟩ => ⟨S1024x2816, .bf16⟩
  | .hbm, ⟨15, _⟩ => ⟨S1024x2816, .bf16⟩
  | .hbm, ⟨16, _⟩ => ⟨S8192x2816, .bf16⟩
  | .hbm, ⟨17, _⟩ => ⟨S8192x2816, .bf16⟩
  | .hbm, ⟨18, _⟩ => ⟨S8192x1024, .f32⟩
  | .hbm, ⟨19, _⟩ => ⟨S8192x1024, .bf16⟩
  | .hbm, ⟨20, _⟩ => ⟨S8192x2816, .bf16⟩
  | .hbm, ⟨21, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S512x2816, .bf16⟩
  | .local _ .vmem, ⟨13, _⟩ => ⟨S512x2816, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1408x1024, .bf16⟩
  | .local _ .vmem, ⟨25, _⟩ => ⟨S1408x1024, .bf16⟩
  | .local _ .vmem, ⟨26, _⟩ => ⟨S1024x1408, .bf16⟩
  | .local _ .vmem, ⟨27, _⟩ => ⟨S1024x1408, .bf16⟩
  | .local _ .vmem, ⟨28, _⟩ => ⟨S512x2816, .bf16⟩
  | .local _ .vmem, ⟨29, _⟩ => ⟨S512x2816, .bf16⟩
  | .local _ .vmem, ⟨30, _⟩ => ⟨S1024x2816, .bf16⟩
  | .local _ .vmem, ⟨31, _⟩ => ⟨S512x1024, .f32⟩
  | .local _ .vmem, ⟨32, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x2816 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== FfnRefIdeal.lean ====
abbrev S8192x1024 : Shape := ⟨2, ![8192, 1024]⟩
abbrev S1024x5632 : Shape := ⟨2, ![1024, 5632]⟩
abbrev S8192x2816 : Shape := ⟨2, ![8192, 2816]⟩
abbrev S2816x1024 : Shape := ⟨2, ![2816, 1024]⟩
abbrev S1x1024 : Shape := ⟨2, ![1, 1024]⟩
abbrev S8192x5632 : Shape := ⟨2, ![8192, 5632]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2816, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S1024x2816, .f32⟩
  | .hbm, ⟨12, _⟩ => ⟨S8192x2816, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x2816, .bf16⟩
  | .hbm, ⟨17, _⟩ => ⟨S8192x2816, .bf16⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x2816, .f32⟩
  | .hbm, ⟨34, _⟩ => ⟨S8192x1024, .bf16⟩
  | .hbm, ⟨35, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Mix.lean ====
abbrev S8192x1024 : Shape := ⟨2, ![8192, 1024]⟩
abbrev S1024x2304 : Shape := ⟨2, ![1024, 2304]⟩
abbrev S8192x512 : Shape := ⟨2, ![8192, 512]⟩
abbrev S1024x1024 : Shape := ⟨2, ![1024, 1024]⟩
abbrev S1x1024 : Shape := ⟨2, ![1, 1024]⟩
abbrev S512x1024 : Shape := ⟨2, ![512, 1024]⟩
abbrev S8192x2304 : Shape := ⟨2, ![8192, 2304]⟩
abbrev S1024x1152 : Shape := ⟨2, ![1024, 1152]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S1024x2304, .f32⟩
  | .hbm, ⟨2, _⟩ => ⟨S8192x512, .f32⟩
  | .hbm, ⟨3, _⟩ => ⟨S8192x512, .f32⟩
  | .hbm, ⟨4, _⟩ => ⟨S1024x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1024x2304, .bf16⟩
  | .hbm, ⟨10, _⟩ => ⟨S8192x512, .bf16⟩
  | .hbm, ⟨11, _⟩ => ⟨S8192x512, .bf16⟩
  | .hbm, ⟨12, _⟩ => ⟨S1024x1024, .bf16⟩
  | .hbm, ⟨13, _⟩ => ⟨S8192x1024, .bf16⟩
  | .hbm, ⟨14, _⟩ => ⟨S512x1024, .bf16⟩
  | .hbm, ⟨15, _⟩ => ⟨S512x1024, .bf16⟩
  | .hbm, ⟨16, _⟩ => ⟨S8192x2304, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x512, .bf16⟩
  | .hbm, ⟨21, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S512x512, .bf16⟩
  | .local _ .vmem, ⟨14, _⟩ => ⟨S512x512, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1024x1024, .bf16⟩
  | .local _ .vmem, ⟨25, _⟩ => ⟨S512x1024, .bf16⟩
  | .local _ .vmem, ⟨26, _⟩ => ⟨S1024x512, .bf16⟩
  | .local _ .vmem, ⟨27, _⟩ => ⟨S1024x512, .bf16⟩
  | .local _ .vmem, ⟨28, _⟩ => ⟨S1024x1024, .bf16⟩
  | .local _ .vmem, ⟨29, _⟩ => ⟨S1024x1024, .bf16⟩
  | .local _ .vmem, ⟨30, _⟩ => ⟨S512x1024, .bf16⟩
  | .local _ .vmem, ⟨31, _⟩ => ⟨S1024x512, .bf16⟩
  | .local _ .vmem, ⟨32, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== MixRefIdeal.lean ====
abbrev S8192x1024 : Shape := ⟨2, ![8192, 1024]⟩
abbrev S1024x2304 : Shape := ⟨2, ![1024, 2304]⟩
abbrev S8192x512 : Shape := ⟨2, ![8192, 512]⟩
abbrev S1024x1024 : Shape := ⟨2, ![1024, 1024]⟩
abbrev S1x1024 : Shape := ⟨2, ![1, 1024]⟩
abbrev S8192x2304 : Shape := ⟨2, ![8192, 2304]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2304, .f32⟩
  | .hbm, ⟨2, _⟩ => ⟨S8192x512, .f32⟩
  | .hbm, ⟨3, _⟩ => ⟨S8192x512, .f32⟩
  | .hbm, ⟨4, _⟩ => ⟨S1024x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S8192x2304, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x512, .bf16⟩
  | .hbm, ⟨32, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Ssm.lean ====
abbrev S8192x1024 : Shape := ⟨2, ![8192, 1024]⟩
abbrev S1024x5152 : Shape := ⟨2, ![1024, 5152]⟩
abbrev S8192x2048 : Shape := ⟨2, ![8192, 2048]⟩
abbrev S2048x1024 : Shape := ⟨2, ![2048, 1024]⟩
abbrev S1x1024 : Shape := ⟨2, ![1, 1024]⟩
abbrev S8192x3072 : Shape := ⟨2, ![8192, 3072]⟩
abbrev S1024x2048 : Shape := ⟨2, ![1024, 2048]⟩
abbrev S1024x3072 : Shape := ⟨2, ![1024, 3072]⟩
abbrev S1024x1024 : Shape := ⟨2, ![1024, 1024]⟩
abbrev S1024x1536 : Shape := ⟨2, ![1024, 1536]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩

abbrev nBuf : Space → Nat
  | .hbm => 25
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S1024x5152, .f32⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2048, .f32⟩
  | .hbm, ⟨8, _⟩ => ⟨S8192x3072, .f32⟩
  | .hbm, ⟨9, _⟩ => ⟨S8192x1024, .bf16⟩
  | .hbm, ⟨10, _⟩ => ⟨S1024x5152, .bf16⟩
  | .hbm, ⟨11, _⟩ => ⟨S8192x2048, .bf16⟩
  | .hbm, ⟨12, _⟩ => ⟨S2048x1024, .bf16⟩
  | .hbm, ⟨13, _⟩ => ⟨S8192x1024, .bf16⟩
  | .hbm, ⟨14, _⟩ => ⟨S8192x2048, .bf16⟩
  | .hbm, ⟨15, _⟩ => ⟨S8192x3072, .bf16⟩
  | .hbm, ⟨16, _⟩ => ⟨S1024x2048, .bf16⟩
  | .hbm, ⟨17, _⟩ => ⟨S1024x3072, .bf16⟩
  | .hbm, ⟨18, _⟩ => ⟨S8192x2048, .bf16⟩
  | .hbm, ⟨19, _⟩ => ⟨S8192x3072, .bf16⟩
  | .hbm, ⟨20, _⟩ => ⟨S8192x1024, .f32⟩
  | .hbm, ⟨21, _⟩ => ⟨S8192x1024, .bf16⟩
  | .hbm, ⟨22, _⟩ => ⟨S8192x2048, .f32⟩
  | .hbm, ⟨23, _⟩ => ⟨S8192x1024, .f32⟩
  | .hbm, ⟨24, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1536, .bf16⟩
  | .local _ .vmem, ⟨9, _⟩ => ⟨S1024x1536, .bf16⟩
  | .local _ .vmem, ⟨10, _⟩ => ⟨S1024x1536, .bf16⟩
  | .local _ .vmem, ⟨11, _⟩ => ⟨S1024x1536, .bf16⟩
  | .local _ .vmem, ⟨12, _⟩ => ⟨S512x2048, .bf16⟩
  | .local _ .vmem, ⟨13, _⟩ => ⟨S512x2048, .bf16⟩
  | .local _ .vmem, ⟨14, _⟩ => ⟨S2048x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | .local _ .vmem, ⟨28, _⟩ => ⟨S512x2048, .bf16⟩
  | .local _ .vmem, ⟨29, _⟩ => ⟨S512x2048, .bf16⟩
  | .local _ .vmem, ⟨30, _⟩ => ⟨S1024x2048, .bf16⟩
  | .local _ .vmem, ⟨31, _⟩ => ⟨S512x1024, .f32⟩
  | .local _ .vmem, ⟨32, _⟩ => ⟨S512x1024, .f32⟩
  | .local _ .vmem, ⟨33, _⟩ => ⟨S512x3072, .bf16⟩
  | .local _ .vmem, ⟨34, _⟩ => ⟨S512x3072, .bf16⟩
  | .local _ .vmem, ⟨35, _⟩ => ⟨S1024x3072, .bf16⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S1024x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x3072 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S1024x3072 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== SsmRefIdeal.lean ====
abbrev S8192x1024 : Shape := ⟨2, ![8192, 1024]⟩
abbrev S1024x5152 : Shape := ⟨2, ![1024, 5152]⟩
abbrev S8192x2048 : Shape := ⟨2, ![8192, 2048]⟩
abbrev S2048x1024 : Shape := ⟨2, ![2048, 1024]⟩
abbrev S1x1024 : Shape := ⟨2, ![1, 1024]⟩
abbrev S8192x3072 : Shape := ⟨2, ![8192, 3072]⟩
abbrev S8192x5152 : Shape := ⟨2, ![8192, 5152]⟩
abbrev S8192x32 : Shape := ⟨2, ![8192, 32]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5152, .f32⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x2048, .f32⟩
  | .hbm, ⟨8, _⟩ => ⟨S8192x3072, .f32⟩
  | .hbm, ⟨9, _⟩ => ⟨S8192x5152, .f32⟩
  | .hbm, ⟨10, _⟩ => ⟨S8192x2048, .f32⟩
  | .hbm, ⟨11, _⟩ => ⟨S8192x3072, .f32⟩
  | .hbm, ⟨12, _⟩ => ⟨S8192x32, .f32⟩
  | .hbm, ⟨13, _⟩ => ⟨S1024x2048, .f32⟩
  | .hbm, ⟨14, _⟩ => ⟨S1024x3072, .f32⟩
  | .hbm, ⟨15, _⟩ => ⟨S1024x32, .f32⟩
  | .hbm, ⟨16, _⟩ => ⟨S8192x2048, .f32⟩
  | .hbm, ⟨17, _⟩ => ⟨S8192x3072, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2048, .bf16⟩
  | .hbm, ⟨24, _⟩ => ⟨S8192x3072, .bf16⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== FfnDwIn.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwInIdeal.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwInRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDwOut.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwOutIdeal.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwOutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnDwIn.lean ====
abbrev S8192x1024 : Shape := ⟨2, ![8192, 1024]⟩
abbrev S8192x2304 : Shape := ⟨2, ![8192, 2304]⟩
abbrev S1024x2304 : Shape := ⟨2, ![1024, 2304]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2304, .f32⟩
  | .hbm, ⟨2, _⟩ => ⟨S8192x1024, .bf16⟩
  | .hbm, ⟨3, _⟩ => ⟨S8192x2304, .bf16⟩
  | .hbm, ⟨4, _⟩ => ⟨S1024x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnDwInIdeal.lean ====
abbrev S8192x1024 : Shape := ⟨2, ![8192, 1024]⟩
abbrev S8192x2304 : Shape := ⟨2, ![8192, 2304]⟩
abbrev S1024x2304 : Shape := ⟨2, ![1024, 2304]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2304, .f32⟩
  | .hbm, ⟨2, _⟩ => ⟨S8192x1024, .bf16⟩
  | .hbm, ⟨3, _⟩ => ⟨S8192x2304, .bf16⟩
  | .hbm, ⟨4, _⟩ => ⟨S1024x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnDwInRefIdeal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2304, .f32⟩
  | .hbm, ⟨2, _⟩ => ⟨S_, .f32⟩
  | .hbm, ⟨3, _⟩ => ⟨S1024x2304, .f32⟩
  | .hbm, ⟨4, _⟩ => ⟨S8192x2304, .f32⟩
  | .hbm, ⟨5, _⟩ => ⟨S2304x1024, .f32⟩
  | .hbm, ⟨6, _⟩ => ⟨S1024x2304, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnDwOut.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnDwOutIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnDwOutRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsmDwZ.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwZIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwZRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsmDwX.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwXIdeal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwXRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsmDwOut.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwOutRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDh.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x2816, .f32⟩
  | .hbm, ⟨1, _⟩ => ⟨S1024x2816, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x2816, .bf16⟩
  | .hbm, ⟨7, _⟩ => ⟨S1024x2816, .bf16⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_21 : BitVec 32 := 0#32
  let v41 : BitVec 1 := Scalar.cmpi .ne v40 c0_i32_21
  v41

def k0_cond2 (i : grid0.Coords) : BitVec 1 :=
  let arg0 : BitVec 32 := BitVec.ofNat 32 (i 0).val
  let c0_i32_22 : BitVec 32 := 0#32
  let v42 : BitVec 1 := Scalar.cmpi .ne arg0 c0_i32_22
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDhRefIdeal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x2816, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== AttnDh.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x2304, .f32⟩
  | .hbm, ⟨1, _⟩ => ⟨S1024x2304, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2304, .bf16⟩
  | .hbm, ⟨6, _⟩ => ⟨S1024x2304, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S1024x2304, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .ne arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AttnDhRefIdeal.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S1024x2304, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2304, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FfnLoss.lean ====
abbrev S8192x2816 : Shape := ⟨2, ![8192, 2816]⟩
abbrev S2816x1024 : Shape := ⟨2, ![2816, 1024]⟩
abbrev S8192x1024 : Shape := ⟨2, ![8192, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1, .f32⟩
  | .hbm, ⟨10, _⟩ => ⟨S_, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnLossRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== AttnOut.lean ====
abbrev S8192x512 : Shape := ⟨2, ![8192, 512]⟩
abbrev S8704x512 : Shape := ⟨2, ![8704, 512]⟩
abbrev S8x64x576 : Shape := ⟨3, ![8, 64, 576]⟩
abbrev S_ : Shape := ⟨0, ![]⟩
abbrev S8x64x768 : Shape := ⟨3, ![8, 64, 768]⟩
abbrev S8x256x768 : Shape := ⟨3, ![8, 256, 768]⟩
abbrev S256x128 : Shape := ⟨2, ![256, 128]⟩
abbrev S8704x128 : Shape := ⟨2, ![8704, 128]⟩
abbrev S2x256x768 : Shape := ⟨3, ![2, 256, 768]⟩
abbrev S1x128 : Shape := ⟨2, ![1, 128]⟩
abbrev S1x768 : Shape := ⟨2, ![1, 768]⟩
abbrev S768x128 : Shape := ⟨2, ![768, 128]⟩
abbrev S512x128 : Shape := ⟨2, ![512, 128]⟩
abbrev S512x768 : Shape := ⟨2, ![512, 768]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩

abbrev nBuf : Space → Nat
  | .hbm => 21
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8704x512, .f32⟩
  | .hbm, ⟨2, _⟩ => ⟨S8704x512, .f32⟩
  | .hbm, ⟨3, _⟩ => ⟨S8x64x576, .f32⟩
  | .hbm, ⟨4, _⟩ => ⟨S8192x512, .bf16⟩
  | .hbm, ⟨5, _⟩ => ⟨S8704x512, .bf16⟩
  | .hbm, ⟨6, _⟩ => ⟨S8704x512, .bf16⟩
  | .hbm, ⟨7, _⟩ => ⟨S_, .f32⟩
  | .hbm, ⟨8, _⟩ => ⟨S_, .f32⟩
  | .hbm, ⟨9, _⟩ => ⟨S8x64x768, .f32⟩
  | .hbm, ⟨10, _⟩ => ⟨S_, .f32⟩
  | .hbm, ⟨11, _⟩ => ⟨S_, .f32⟩
  | .hbm, ⟨12, _⟩ => ⟨S8x64x768, .f32⟩
  | .hbm, ⟨13, _⟩ => ⟨S_, .f32⟩
  | .hbm, ⟨14, _⟩ => ⟨S_, .f32⟩
  | .hbm, ⟨15, _⟩ => ⟨S8x64x768, .f32⟩
  | .hbm, ⟨16, _⟩ => ⟨S_, .f32⟩
  | .hbm, ⟨17, _⟩ => ⟨S_, .f32⟩
  | .hbm, ⟨18, _⟩ => ⟨S8x64x768, .f32⟩
  | .hbm, ⟨19, _⟩ => ⟨S8x256x768, .f32⟩
  | .hbm, ⟨20, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S2x256x768, .f32⟩
  | .local _ .vmem, ⟨7, _⟩ => ⟨S2x256x768, .f32⟩
  | .local _ .vmem, ⟨8, _⟩ => ⟨S256x128, .bf16⟩
  | .local _ .vmem, ⟨9, _⟩ => ⟨S256x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_call0_v0 : Ref sig .tc := ⟨.hbm, 8, rfl⟩
abbrev main_v3 : Ref sig .tc := ⟨.hbm, 9, rfl⟩
abbrev main_cst_0 : Ref sig .tc := ⟨.hbm, 10, rfl⟩
abbrev main_call1_v0 : Ref sig .tc := ⟨.hbm, 11, rfl⟩
abbrev main_v4 : Ref sig .tc := ⟨.hbm, 12, rfl⟩
abbrev main_cst_1 : Ref sig .tc := ⟨.hbm, 13, rfl⟩
abbrev main_call2_v0 : Ref sig .tc := ⟨.hbm, 14, rfl⟩
abbrev main_v5 : Ref sig .tc := ⟨.hbm, 15, rfl⟩
abbrev main_cst_2 : Ref sig .tc := ⟨.hbm, 16, rfl⟩
abbrev main_call3_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_mult2 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c0_i32 : BitVec 32 := 0#32
  let v10 : BitVec 32 := Scalar.addi v1 c0_i32
  v10
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let c0_i32 : BitVec 32 := 0#32
  let v10 : BitVec 32 := Scalar.addi v1 c0_i32
  let v11 : BitVec 32 := v10
  let v12 : Index := Scalar.indexCast v11
  let c0 : Index := 0#32
  ![v12.toNat, 0]
def k0_mult3 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c0_i32_0 : BitVec 32 := 0#32
  let v15 : BitVec 32 := Scalar.addi v1 c0_i32_0
  v15
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnOutRefIdeal.lean ====
abbrev S8192x512 : Shape := ⟨2, ![8192, 512]⟩
abbrev S8704x512 : Shape := ⟨2, ![8704, 512]⟩
abbrev S8x64x576 : Shape := ⟨3, ![8, 64, 576]⟩
abbrev S128x64x8x64 : Shape := ⟨4, ![128, 64, 8, 64]⟩
abbrev S136x64x8x64 : Shape := ⟨4, ![136, 64, 8, 64]⟩
abbrev S128x576x8x64 : Shape := ⟨4, ![128, 576, 8, 64]⟩
abbrev S576 : Shape := ⟨1, ![576]⟩
abbrev S_ : Shape := ⟨0, ![]⟩
abbrev S128 : Shape := ⟨1, ![128]⟩
abbrev S128x8x64x576 : Shape := ⟨4, ![128, 8, 64, 576]⟩
abbrev S1x8x64x576 : Shape := ⟨4, ![1, 8, 64, 576]⟩
abbrev S128x1 : Shape := ⟨2, ![128, 1]⟩
abbrev S1x576 : Shape := ⟨2, ![1, 576]⟩
abbrev S128x576 : Shape := ⟨2, ![128, 576]⟩
abbrev S128x1x1x576 : Shape := ⟨4, ![128, 1, 1, 576]⟩
abbrev S128x8x64 : Shape := ⟨3, ![128, 8, 64]⟩
abbrev S128x8x64x1 : Shape := ⟨4, ![128, 8, 64, 1]⟩
abbrev S128x8x64x64 : Shape := ⟨4, ![128, 8, 64, 64]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8704x512, .f32⟩
  | .hbm, ⟨2, _⟩ => ⟨S8704x512, .f32⟩
  | .hbm, ⟨3, _⟩ => ⟨S8x64x576, .f32⟩
  | .hbm, ⟨4, _⟩ => ⟨S128x64x8x64, .f32⟩
  | .hbm, ⟨5, _⟩ => ⟨S136x64x8x64, .f32⟩
  | .hbm, ⟨6, _⟩ => ⟨S128x64x8x64, .f32⟩
  | .hbm, ⟨7, _⟩ => ⟨S128x64x8x64, .f32⟩
  | .hbm, ⟨8, _⟩ => ⟨S128x64x8x64, .f32⟩
  | .hbm, ⟨9, _⟩ => ⟨S128x64x8x64, .f32⟩
  | .hbm, ⟨10, _⟩ => ⟨S128x64x8x64, .f32⟩
  | .hbm, ⟨11, _⟩ => ⟨S128x64x8x64, .f32⟩
  | .hbm, ⟨12, _⟩ => ⟨S128x64x8x64, .f32⟩
  | .hbm, ⟨13, _⟩ => ⟨S128x64x8x64, .f32⟩
  | .hbm, ⟨14, _⟩ => ⟨S128x64x8x64, .f32⟩
  | .hbm, ⟨15, _⟩ => ⟨S128x576x8x64, .f32⟩
  | .hbm, ⟨16, _⟩ => ⟨S136x64x8x64, .f32⟩
  | .hbm, ⟨17, _⟩ => ⟨S128x64x8x64, .f32⟩
  | .hbm, ⟨18, _⟩ => ⟨S128x64x8x64, .f32⟩
  | .hbm, ⟨19, _⟩ => ⟨S128x64x8x64, .f32⟩
  | .hbm, ⟨20, _⟩ => ⟨S128x64x8x64, .f32⟩
  | .hbm, ⟨21, _⟩ => ⟨S128x64x8x64, .f32⟩
  | .hbm, ⟨22, _⟩ => ⟨S128x64x8x64, .f32⟩
  | .hbm, ⟨23, _⟩ => ⟨S128x64x8x64, .f32⟩
  | .hbm, ⟨24, _⟩ => ⟨S128x64x8x64, .f32⟩
  | .hbm, ⟨25, _⟩ => ⟨S128x64x8x64, .f32⟩
  | .hbm, ⟨26, _⟩ => ⟨S128x576x8x64, .f32⟩
  | .hbm, ⟨27, _⟩ => ⟨S576, .i32⟩
  | .hbm, ⟨28, _⟩ => ⟨S_, .i32⟩
  | .hbm, ⟨29, _⟩ => ⟨S576, .i32⟩
  | .hbm, ⟨30, _⟩ => ⟨S576, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128x8x64x576, .f32⟩
  | .hbm, ⟨36, _⟩ => ⟨S_, .f32⟩
  | .hbm, ⟨37, _⟩ => ⟨S128x8x64x576, .f32⟩
  | .hbm, ⟨38, _⟩ => ⟨S128x8x64x576, .f32⟩
  | .hbm, ⟨39, _⟩ => ⟨S1x8x64x576, .f32⟩
  | .hbm, ⟨40, _⟩ => ⟨S128x8x64x576, .f32⟩
  | .hbm, ⟨41, _⟩ => ⟨S128x8x64x576, .f32⟩
  | .hbm, ⟨42, _⟩ => ⟨S128x1, .i32⟩
  | .hbm, ⟨43, _⟩ => ⟨S1x576, .i32⟩
  | .hbm, ⟨44, _⟩ => ⟨S128x576, .i32⟩
  | .hbm, ⟨45, _⟩ => ⟨S128x576, .i32⟩
  | .hbm, ⟨46, _⟩ => ⟨S128x576, .i32⟩
  | .hbm, ⟨47, _⟩ => ⟨S_, .i32⟩
  | .hbm, ⟨48, _⟩ => ⟨S128x576, .i32⟩
  | .hbm, ⟨49, _⟩ => ⟨S128x576, .i1⟩
  | .hbm, ⟨50, _⟩ => ⟨S128x1x1x576, .i1⟩
  | .hbm, ⟨51, _⟩ => ⟨S_, .f32⟩
  | .hbm, ⟨52, _⟩ => ⟨S_, .f32⟩
  | .hbm, ⟨53, _⟩ => ⟨S128x8x64x576, .i1⟩
  | .hbm, ⟨54, _⟩ => ⟨S128x8x64x576, .f32⟩
  | .hbm, ⟨55, _⟩ => ⟨S128x8x64x576, .f32⟩
  | .hbm, ⟨56, _⟩ => ⟨S_, .f32⟩
  | .hbm, ⟨57, _⟩ => ⟨S128x8x64, .f32⟩
  | .hbm, ⟨58, _⟩ => ⟨S_, .f32⟩
  | .hbm, ⟨59, _⟩ => ⟨S128x8x64, .f32⟩
  | .hbm, ⟨60, _⟩ => ⟨S128x8x64, .f32⟩
  | .hbm, ⟨61, _⟩ => ⟨S128x8x64x1, .f32⟩
  | .hbm, ⟨62, _⟩ => ⟨S128x8x64x576, .f32⟩
  | .hbm, ⟨63, _⟩ => ⟨S128x8x64x576, .f32⟩
  | .hbm, ⟨64, _⟩ => ⟨S128x8x64x576, .f32⟩
  | .hbm, ⟨65, _⟩ => ⟨S_, .f32⟩
  | .hbm, ⟨66, _⟩ => ⟨S128x8x64, .f32⟩
  | .hbm, ⟨67, _⟩ => ⟨S128x8x64x1, .f32⟩
  | .hbm, ⟨68, _⟩ => ⟨S128x8x64x576, .f32⟩
  | .hbm, ⟨69, _⟩ => ⟨S128x8x64x576, .f32⟩
  | .hbm, ⟨70, _⟩ => ⟨S128x8x64x64, .f32⟩
  | .hbm, ⟨71, _⟩ => ⟨S128x64x8x64, .f32⟩
  | .hbm, ⟨72, _⟩ => ⟨S8192x512, .f32⟩
  | .hbm, ⟨73, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.Mat.lean ====
/- The products of matrices over the extended reals, by row and column. -/
module

public import Idealize.ShloMosaic.Lib.Pointwise
public import Idealize.ShloMosaic.PureOps.Ideal
public import Idealize.ShloMosaic.Lib.Pointwise.Index

@[expose] public section

noncomputable section

namespace Cert.Mat

open Idealize.ShloMosaic
open scoped BigOperators

/-- The product of two matrices. -/
def nn {M K N : ℕ} (x : Fin M → Fin K → EReal) (w : Fin K → Fin N → EReal) (r : Fin M) (s : Fin N) : EReal := ∑ k, x r k * w k s

/-- The product of a matrix and the transpose of another. -/
def nt {M K N : ℕ} (x : Fin M → Fin K → EReal) (w : Fin N → Fin K → EReal) (r : Fin M) (s : Fin N) : EReal := ∑ k, x r k * w s k

/-- The product of the transpose of a matrix and another. -/
def tn {M K N : ℕ} (x : Fin K → Fin M → EReal) (w : Fin K → Fin N → EReal) (r : Fin M) (s : Fin N) : EReal := ∑ k, x k r * w k s

/-- The entry of a product read at another row and column with the same numbers. -/
theorem nn_congr {M K N : ℕ} (x : Fin M → Fin K → EReal) (w : Fin K → Fin N → EReal) {r r' : Fin M} {s s' : Fin N}
    (hr : r.val = r'.val) (hs : s.val = s'.val) : nn x w r s = nn x w r' s' := by
  rw [Fin.ext hr, Fin.ext hs]

/-- The literal zero. -/
theorem bits_zero : Ideal.ofBits .f32 0#32 = 0 := by
  simp [Ideal.ofBits, Ideal.ieee]

/-- An array of two axes. -/
abbrev Mtx (M N : ℕ) := (⟨2, ![M, N]⟩ : Shape).Idx → EReal

/-- Its entries by row and column. -/
abbrev at2 {M N : ℕ} (x : Mtx M N) (r : Fin M) (s : Fin N) : EReal := x (ix2 r s)

/-- The columns of a matrix from column `o` on. -/
def cols {M N N' : ℕ} (o : ℕ) (h : o + N ≤ N') (w : Fin M → Fin N' → EReal) (r : Fin M) (s : Fin N) : EReal :=
  w r ⟨o + s.val, lt_of_lt_of_le (Nat.add_lt_add_left s.isLt o) h⟩

/-- The rows of a matrix from row `o` on. -/
def rws {M M' N : ℕ} (o : ℕ) (h : o + M ≤ M') (w : Fin M' → Fin N → EReal) (r : Fin M) (s : Fin N) : EReal :=
  w ⟨o + r.val, lt_of_lt_of_le (Nat.add_lt_add_left r.isLt o) h⟩ s

/-- The same entries in the same places make the same array. -/
theorem mtx_ext {M N : ℕ} {x y : Mtx M N} (h : ∀ (r : Fin M) (s : Fin N), x (ix2 r s) = y (ix2 r s)) : x = y :=
  funext fun j => by rw [← ix2_eta j]; exact h (j 0) (j 1)

/-- A sum over 8192 rows, block by block of 2048. -/
theorem sum_rows (f : Fin 8192 → EReal) :
    (∑ k, f k) = ∑ i : Fin 4, ∑ x : Fin 2048, f ⟨2048 * i.val + x.val, by omega⟩ := by
  rw [← Fintype.sum_prod_type' (f := fun (i : Fin 4) (x : Fin 2048) => f ⟨2048 * i.val + x.val, by omega⟩)]
  refine (Equiv.sum_comp (finProdFinEquiv (m := 4) (n := 2048)) f).symm.trans (Finset.sum_congr rfl fun p _ => ?_)
  exact congrArg f (Fin.ext (by show p.2.val + 2048 * p.1.val = 2048 * p.1.val + p.2.val; omega))

/-- A sum of products depends only on the values of the factors. -/
theorem sum_mul_congr {n : ℕ} {a b a' b' : Fin n → EReal} (ha : ∀ k, a k = a' k) (hb : ∀ k, b k = b' k) :
    (∑ k, a k * b k) = ∑ k, a' k * b' k :=
  Finset.sum_congr rfl fun k _ => by rw [ha k, hb k]

/-- A row of 1024 numbers divided by the root of the mean of its squares, and scaled by a vector of gains, at one column. -/
def rmsn (x g : Fin 1024 → EReal) (s : Fin 1024) : EReal :=
  x s * Ideal.rsqrt (Ideal.div (∑ k, x k * x k) (Ideal.ofBits .f32 0x44800000#32) + Ideal.ofBits .f32 0x358637BD#32) * g s

end Cert.Mat

end
-- ==== Proof.FfnVal.lean ====
/- What each product of the feed-forward block leaves in its results' arrays, of the arrays that it is entered with. -/
module

public import Idealize.ShloMosaic.Lib.Pipeline.ValueKit
public import Idealize.ShloMosaic.Lib.Claim
public import proofs.«01_k».proof.Proof.Gen.FfnIdeal.Frame
public import proofs.«01_k».proof.Proof.Mat

@[expose] public section

set_option maxRecDepth 16384

noncomputable section

namespace Cert.FfnIdeal.Value

open Idealize.ShloMosaic Idealize.ShloMosaic.TcCoe Idealize.SL.Sem
open Cert.FfnIdeal Cert.FfnIdeal.Gen Cert.Mat
open scoped BigOperators

variable (V : (c : Dev nD) → (b : Ref sig .tc) → Buf (Elt Ideal) ((c : Thread nD τ).loc b))

/-! The arrays that the products are of, by row and column. -/

abbrev x_v0 (c : Dev nD) (r : Fin 8192) (k : Fin 1024) : EReal := (V c main_v0 : FVec Ideal S8192x1024 .bf16) (ix2 r k)
abbrev x_v2 (c : Dev nD) (r : Fin 8192) (k : Fin 2816) : EReal := (V c main_v2 : FVec Ideal S8192x2816 .bf16) (ix2 r k)
abbrev x_v3 (c : Dev nD) (r : Fin 2816) (k : Fin 1024) : EReal := (V c main_v3 : FVec Ideal S2816x1024 .bf16) (ix2 r k)
abbrev x_v4 (c : Dev nD) (r : Fin 8192) (k : Fin 1024) : EReal := (V c main_v4 : FVec Ideal S8192x1024 .bf16) (ix2 r k)
abbrev x_v5 (c : Dev nD) (r : Fin 8192) (k : Fin 2816) : EReal := (V c main_v5 : FVec Ideal S8192x2816 .bf16) (ix2 r k)
abbrev x_v6 (c : Dev nD) (r : Fin 1024) (k : Fin 2816) : EReal := (V c main_v6 : FVec Ideal S1024x2816 .bf16) (ix2 r k)
abbrev x_v7 (c : Dev nD) (r : Fin 1024) (k : Fin 2816) : EReal := (V c main_v7 : FVec Ideal S1024x2816 .bf16) (ix2 r k)
abbrev x_arg4 (c : Dev nD) (r : Fin 8192) (k : Fin 1024) : EReal := (V c main_arg4 : FVec Ideal S8192x1024 .f32) (ix2 r k)
abbrev x_arg5 (c : Dev nD) (r : Fin 1) (k : Fin 1024) : EReal := (V c main_arg5 : FVec Ideal S1x1024 .f32) (ix2 r k)

theorem idx0 : ∀ t : Fin cfg0.N,
    win0_0.index t = ![t.val % 8, 0] ∧ win0_1.index t = ![0, t.val / 8] ∧ win0_2.index t = ![t.val % 8, t.val / 8] :=
  (by decide +kernel : ∀ t : Fin grid0.N, _)

/-- The gate's product. -/
theorem arr0 (c : Dev nD) :
    (dat0 V c).arrAt 2 cfg0.N = fun j : S8192x2816.Idx => nn (x_v0 V c) (x_v6 V c) (j 0) (j 1) := by
  refine (dat0 V c).arrAt_eq_of_covers 2 _ (by decide +kernel) fun t hf y => ?_
  blk_simp
  rw [after0_2]
  obtain ⟨a, l, rfl⟩ : ∃ (a : Fin 1024) (l : Fin 1408), y = ix2 a l := ⟨y 0, y 1, (ix2_eta y).symm⟩
  frame_out
  pointwise [k0_pay1]
  unfold nn
  refine sum_mul_congr (fun k => ?_) fun k => ?_
  · blk_simp [iblk0]
    blk_ext [idx0 t]
  · blk_simp [iblk0]
    blk_ext [idx0 t]

theorem idx1 : ∀ t : Fin cfg1.N,
    win1_0.index t = ![t.val % 8, 0] ∧ win1_1.index t = ![0, t.val / 8] ∧ win1_2.index t = ![t.val % 8, t.val / 8] :=
  (by decide +kernel : ∀ t : Fin grid1.N, _)

/-- The other half's product. -/
theorem arr1 (c : Dev nD) :
    (dat1 V c).arrAt 2 cfg1.N = fun j : S8192x2816.Idx => nn (x_v0 V c) (x_v7 V c) (j 0) (j 1) := by
  refine (dat1 V c).arrAt_eq_of_covers 2 _ (by decide +kernel) fun t hf y => ?_
  blk_simp
  rw [after1_2]
  obtain ⟨a, l, rfl⟩ : ∃ (a : Fin 1024) (l : Fin 1408), y = ix2 a l := ⟨y 0, y 1, (ix2_eta y).symm⟩
  frame_out
  pointwise [k1_pay1]
  unfold nn
  refine sum_mul_congr (fun k => ?_) fun k => ?_
  · blk_simp [iblk1]
    blk_ext [idx1 t]
  · blk_simp [iblk1]
    blk_ext [idx1 t]

theorem idx2 : ∀ t : Fin cfg2.N,
    win2_0.index t = ![t.val, 0] ∧ win2_1.index t = ![0, 0] ∧ win2_2.index t = ![t.val, 0] ∧ win2_3.index t = ![0, 0]
      ∧ win2_4.index t = ![t.val, 0] ∧ win2_5.index t = ![t.val, 0] :=
  (by decide +kernel : ∀ t : Fin grid2.N, _)

/-- The sum on one tile of rows. -/
theorem row2 (c : Dev nD) (t : Fin cfg2.N) (a : Fin 512) (s : Fin 1024) (r : Fin 8192) (hr : r.val = t.val * 512 + a.val) :
    k2_pay1 (iblk2 V c 0 t : FVec Ideal S512x2816 .bf16) (iblk2 V c 1 t : FVec Ideal S2816x1024 .bf16) (iblk2 V c 2 t : FVec Ideal S512x1024 .f32) (ix2 a s)
      = nn (x_v2 V c) (x_v3 V c) r s + x_arg4 V c r s := by
  pointwise [k2_pay1]
  unfold nn
  refine congrArg₂ (· + ·) (Finset.sum_congr rfl fun k _ => congrArg₂ (· * ·) ?_ ?_) ?_
  · blk_simp [iblk2]
    blk_ext [idx2 t, hr]
  · blk_simp [iblk2]
    blk_ext [idx2 t]
  · blk_simp [iblk2]
    blk_ext [idx2 t, hr]

/-- The product back to the model's width, with the residual added. -/
theorem arr2_4 (c : Dev nD) :
    (dat2 V c).arrAt 4 cfg2.N = fun j : S8192x1024.Idx => nn (x_v2 V c) (x_v3 V c) (j 0) (j 1) + x_arg4 V c (j 0) (j 1) := by
  refine (dat2 V c).arrAt_eq_of_covers 4 _ (by decide +kernel) fun t hf y => ?_
  blk_simp
  rw [after2_4]
  obtain ⟨a, l, rfl⟩ : ∃ (a : Fin 512) (l : Fin 1024), y = ix2 a l := ⟨y 0, y 1, (ix2_eta y).symm⟩
  have e0 : ((win2_4.blk t).view.emb (ix2 a l) 0).val = t.val * 512 + a.val := by blk_simp [idx2 t]
  have e1 : ((win2_4.blk t).view.emb (ix2 a l) 1 : Fin 1024) = l := Fin.ext (by blk_simp [idx2 t])
  frame_out
  refine (row2 V c t a l _ e0).trans ?_
  exact congrArg (fun s : Fin 1024 => nn (x_v2 V c) (x_v3 V c) _ s + x_arg4 V c _ s) e1.symm

/-- The norm of its rows. -/
theorem arr2_5 (c : Dev nD) :
    (dat2 V c).arrAt 5 cfg2.N = fun j : S8192x1024.Idx =>
      rmsn (fun s => nn (x_v2 V c) (x_v3 V c) (j 0) s + x_arg4 V c (j 0) s) (fun s => x_arg5 V c 0 s) (j 1) := by
  refine (dat2 V c).arrAt_eq_of_covers 5 _ (by decide +kernel) fun t hf y => ?_
  blk_simp
  rw [after2_5]
  obtain ⟨a, l, rfl⟩ : ∃ (a : Fin 512) (l : Fin 1024), y = ix2 a l := ⟨y 0, y 1, (ix2_eta y).symm⟩
  have e0 : ((win2_5.blk t).view.emb (ix2 a l) 0).val = t.val * 512 + a.val := by blk_simp [idx2 t]
  have e1 : ((win2_5.blk t).view.emb (ix2 a l) 1 : Fin 1024) = l := Fin.ext (by blk_simp [idx2 t])
  have eg : ∀ s : Fin 1024, (iblk2 V c 3 t : FVec Ideal S1x1024 .f32) (ix2 0 s) = x_arg5 V c 0 s := by
    intro s
    blk_simp [iblk2]
    blk_ext [idx2 t]
  refine Eq.trans ?_ (congrArg (rmsn (fun s => nn (x_v2 V c) (x_v3 V c) _ s + x_arg4 V c _ s) (fun s => x_arg5 V c 0 s)) e1.symm)
  frame_out
  pointwise [k2_pay2]
  simp only [row2 V c t a _ _ e0, eg]
  rfl

theorem idx3 : ∀ t : Fin cfg3.N,
    win3_0.index t = ![t.val % 8, 0] ∧ win3_1.index t = ![t.val / 8, 0] ∧ win3_2.index t = ![t.val % 8, t.val / 8] :=
  (by decide +kernel : ∀ t : Fin grid3.N, _)

/-- The cotangent of the activation. -/
theorem arr3 (c : Dev nD) :
    (dat3 V c).arrAt 2 cfg3.N = fun j : S8192x2816.Idx => nt (x_v4 V c) (x_v3 V c) (j 0) (j 1) := by
  refine (dat3 V c).arrAt_eq_of_covers 2 _ (by decide +kernel) fun t hf y => ?_
  blk_simp
  rw [after3_2]
  obtain ⟨a, l, rfl⟩ : ∃ (a : Fin 1024) (l : Fin 1408), y = ix2 a l := ⟨y 0, y 1, (ix2_eta y).symm⟩
  frame_out
  pointwise [k3_pay1]
  unfold nt
  refine sum_mul_congr (fun k => ?_) fun k => ?_
  · blk_simp [iblk3]
    blk_ext [idx3 t]
  · blk_simp [iblk3]
    blk_ext [idx3 t]

theorem idx4 : ∀ t : Fin cfg4.N,
    win4_0.index t = ![t.val % 16, 0] ∧ win4_1.index t = ![t.val / 16, 0] ∧ win4_2.index t = ![t.val % 16, t.val / 16] :=
  (by decide +kernel : ∀ t : Fin grid4.N, _)

/-- The gate's part of the cotangent of the input. -/
theorem arr4 (c : Dev nD) :
    (dat4 V c).arrAt 2 cfg4.N = fun j : S8192x1024.Idx => nt (x_v5 V c) (x_v6 V c) (j 0) (j 1) := by
  refine (dat4 V c).arrAt_eq_of_covers 2 _ (by decide +kernel) fun t hf y => ?_
  blk_simp
  rw [after4_2]
  obtain ⟨a, l, rfl⟩ : ∃ (a : Fin 512) (l : Fin 1024), y = ix2 a l := ⟨y 0, y 1, (ix2_eta y).symm⟩
  frame_out
  pointwise [k4_pay1]
  unfold nt
  refine sum_mul_congr (fun k => ?_) fun k => ?_
  · blk_simp [iblk4]
    blk_ext [idx4 t]
  · blk_simp [iblk4]
    blk_ext [idx4 t]

end Cert.FfnIdeal.Value

end
-- ==== Proof.FfnSpec.lean ====
/- What each result of the program `Ffn` is of its arguments, as matrices over the extended reals. -/
module

public import proofs.«01_k».proof.Proof.Mat

@[expose] public section

noncomputable section

namespace Cert.FfnSpec

open Idealize.ShloMosaic Cert.Mat

/-- The gate. -/
def gate (a0 : Mtx 8192 1024) (a1 : Mtx 1024 5632) : Mtx 8192 2816 := fun j =>
  nn (at2 a0) (cols (N := 2816) 0 (by norm_num) (at2 a1)) (j 0) (j 1)

/-- The other half. -/
def up (a0 : Mtx 8192 1024) (a1 : Mtx 1024 5632) : Mtx 8192 2816 := fun j =>
  nn (at2 a0) (cols (N := 2816) 2816 (by norm_num) (at2 a1)) (j 0) (j 1)

/-- The residual with the product added. -/
def out (a2 : Mtx 8192 2816) (a3 : Mtx 2816 1024) (a4 : Mtx 8192 1024) : Mtx 8192 1024 := fun j =>
  nn (at2 a2) (at2 a3) (j 0) (j 1) + (at2 a4) (j 0) (j 1)

/-- Its norm. -/
def norm (a2 : Mtx 8192 2816) (a3 : Mtx 2816 1024) (a4 : Mtx 8192 1024) (a5 : Mtx 1 1024) : Mtx 8192 1024 := fun j =>
  rmsn (fun s => nn (at2 a2) (at2 a3) (j 0) s + (at2 a4) (j 0) s) (fun s => at2 a5 0 s) (j 1)

/-- The activation's cotangent. -/
def dact (a3 : Mtx 2816 1024) (a6 : Mtx 8192 1024) : Mtx 8192 2816 := fun j =>
  nt (at2 a6) (at2 a3) (j 0) (j 1)

/-- The gate's part of the input's cotangent. -/
def dh (a1 : Mtx 1024 5632) (a7 : Mtx 8192 2816) : Mtx 8192 1024 := fun j =>
  nt (at2 a7) (cols (N := 2816) 0 (by norm_num) (at2 a1)) (j 0) (j 1)

end Cert.FfnSpec

end
-- ==== Proof.FfnRun.lean ====
/- The launch of the program `Ffn`: every fair execution ends with its results at the products of its arguments. -/
module

public import Idealize.ShloMosaic.Lib.StableHlo.ReadAt
public import proofs.«01_k».proof.Proof.FfnVal
public import proofs.«01_k».proof.Proof.FfnSpec

@[expose] public section

set_option maxRecDepth 16384

noncomputable section

namespace Cert.FfnIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen Cert.Mat

variable (m : (ℓ : Loc nD τ sig) → Buf (Elt Ideal) ℓ) (ρ : Dev nD → PrngReg)

/-- The resources of the run. -/
abbrev World := MT nD τ sig Unit (Elt Ideal) ℕ (UR sig nD τ) ℕ

/-- Every execution ends with each array as the last call leaves it. -/
theorem run_all : θ_run defs (onTc (τ := τ) (main (F := Ideal))) ⟨m, fun _ => 0, ρ⟩ (fun r =>
    ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp World)
            ⊢ BI.own (emb₁ (initOf (Pipeline.cells cfgs cellOf_inj) (Pipeline.launchToks cfgs cellOf_inj))) from .rfl)
        iexact Hu
      iapply (show (BI.emp : sProp World) ⊢ bigSep Finset.univ (fun _ : Dev nD => (BI.emp : sProp World)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c => h c)

/-! The arrays that the host writes before the first call. -/

abbrev a0 (c : Dev nD) : Mtx 8192 1024 := (m ((c : Thread nD τ).loc main_arg0) : FVec Ideal S8192x1024 .f32)
abbrev a1 (c : Dev nD) : Mtx 1024 5632 := (m ((c : Thread nD τ).loc main_arg1) : FVec Ideal S1024x5632 .f32)
abbrev a2 (c : Dev nD) : Mtx 8192 2816 := (m ((c : Thread nD τ).loc main_arg2) : FVec Ideal S8192x2816 .f32)
abbrev a3 (c : Dev nD) : Mtx 2816 1024 := (m ((c : Thread nD τ).loc main_arg3) : FVec Ideal S2816x1024 .f32)
abbrev a4 (c : Dev nD) : Mtx 8192 1024 := (m ((c : Thread nD τ).loc main_arg4) : FVec Ideal S8192x1024 .f32)
abbrev a5 (c : Dev nD) : Mtx 1 1024 := (m ((c : Thread nD τ).loc main_arg5) : FVec Ideal S1x1024 .f32)
abbrev a6 (c : Dev nD) : Mtx 8192 1024 := (m ((c : Thread nD τ).loc main_arg6) : FVec Ideal S8192x1024 .f32)
abbrev a7 (c : Dev nD) : Mtx 8192 2816 := (m ((c : Thread nD τ).loc main_arg7) : FVec Ideal S8192x2816 .f32)

theorem h_v0 (c : Dev nD) : x_v0 (V1 m ρ) c = (at2 (a0 m c)) := by
  funext r k
  show (StableHlo.after hostOps0 (W0 m ρ c) (Proc.devRef .tc main_v0) : FVec Ideal S8192x1024 .bf16) (ix2 r k) = _
  after_reads_at
theorem h_v2 (c : Dev nD) : x_v2 (V1 m ρ) c = (at2 (a2 m c)) := by
  funext r k
  show (StableHlo.after hostOps0 (W0 m ρ c) (Proc.devRef .tc main_v2) : FVec Ideal S8192x2816 .bf16) (ix2 r k) = _
  after_reads_at
theorem h_v3 (c : Dev nD) : x_v3 (V1 m ρ) c = (at2 (a3 m c)) := by
  funext r k
  show (StableHlo.after hostOps0 (W0 m ρ c) (Proc.devRef .tc main_v3) : FVec Ideal S2816x1024 .bf16) (ix2 r k) = _
  after_reads_at
theorem h_v4 (c : Dev nD) : x_v4 (V1 m ρ) c = (at2 (a6 m c)) := by
  funext r k
  show (StableHlo.after hostOps0 (W0 m ρ c) (Proc.devRef .tc main_v4) : FVec Ideal S8192x1024 .bf16) (ix2 r k) = _
  after_reads_at
theorem h_v5 (c : Dev nD) : x_v5 (V1 m ρ) c = (at2 (a7 m c)) := by
  funext r k
  show (StableHlo.after hostOps0 (W0 m ρ c) (Proc.devRef .tc main_v5) : FVec Ideal S8192x2816 .bf16) (ix2 r k) = _
  after_reads_at
theorem h_v6 (c : Dev nD) : x_v6 (V1 m ρ) c = (cols (N := 2816) 0 (by norm_num) (at2 (a1 m c))) := by
  funext r k
  show (StableHlo.after hostOps0 (W0 m ρ c) (Proc.devRef .tc main_v6) : FVec Ideal S1024x2816 .bf16) (ix2 r k) = _
  after_reads_at
  all_goals first | rfl | (simp only [cols, rws, Nat.zero_add]; rfl) | simp only [cols, rws, Nat.zero_add]
theorem h_v7 (c : Dev nD) : x_v7 (V1 m ρ) c = (cols (N := 2816) 2816 (by norm_num) (at2 (a1 m c))) := by
  funext r k
  show (StableHlo.after hostOps0 (W0 m ρ c) (Proc.devRef .tc main_v7) : FVec Ideal S1024x2816 .bf16) (ix2 r k) = _
  after_reads_at
  all_goals first | rfl | (simp only [cols, rws, Nat.zero_add]; rfl) | simp only [cols, rws, Nat.zero_add]

/-! What each call reads. -/

theorem r0_v0 (c : Dev nD) : x_v0 (V1 m ρ) c = (at2 (a0 m c)) := by
  exact h_v0 m ρ c
theorem r0_v6 (c : Dev nD) : x_v6 (V1 m ρ) c = (cols (N := 2816) 0 (by norm_num) (at2 (a1 m c))) := by
  exact h_v6 m ρ c
theorem r1_v0 (c : Dev nD) : x_v0 (V2 m ρ) c = (at2 (a0 m c)) := by
  refine Eq.trans ?_ (h_v0 m ρ c)
  funext r k
  exact congrFun ((W2_of m ρ c main_v0 (by decide +kernel)).trans (rfl)) (ix2 r k)
theorem r1_v7 (c : Dev nD) : x_v7 (V2 m ρ) c = (cols (N := 2816) 2816 (by norm_num) (at2 (a1 m c))) := by
  refine Eq.trans ?_ (h_v7 m ρ c)
  funext r k
  exact congrFun ((W2_of m ρ c main_v7 (by decide +kernel)).trans (rfl)) (ix2 r k)
theorem r2_v2 (c : Dev nD) : x_v2 (V3 m ρ) c = (at2 (a2 m c)) := by
  refine Eq.trans ?_ (h_v2 m ρ c)
  funext r k
  exact congrFun ((W3_of m ρ c main_v2 (by decide +kernel)).trans ((W2_of m ρ c main_v2 (by decide +kernel)).trans (rfl))) (ix2 r k)
theorem r2_v3 (c : Dev nD) : x_v3 (V3 m ρ) c = (at2 (a3 m c)) := by
  refine Eq.trans ?_ (h_v3 m ρ c)
  funext r k
  exact congrFun ((W3_of m ρ c main_v3 (by decide +kernel)).trans ((W2_of m ρ c main_v3 (by decide +kernel)).trans (rfl))) (ix2 r k)
theorem r2_arg4 (c : Dev nD) : x_arg4 (V3 m ρ) c = at2 (a4 m c) := by
  funext r k
  exact congrFun (W3_args m ρ c main_arg4 (by decide +kernel)) (ix2 r k)
theorem r2_arg5 (c : Dev nD) : x_arg5 (V3 m ρ) c = at2 (a5 m c) := by
  funext r k
  exact congrFun (W3_args m ρ c main_arg5 (by decide +kernel)) (ix2 r k)
theorem r3_v4 (c : Dev nD) : x_v4 (V4 m ρ) c = (at2 (a6 m c)) := by
  refine Eq.trans ?_ (h_v4 m ρ c)
  funext r k
  exact congrFun ((W4_of m ρ c main_v4 (by decide +kernel)).trans ((W3_of m ρ c main_v4 (by decide +kernel)).trans ((W2_of m ρ c main_v4 (by decide +kernel)).trans (rfl)))) (ix2 r k)
theorem r3_v3 (c : Dev nD) : x_v3 (V4 m ρ) c = (at2 (a3 m c)) := by
  refine Eq.trans ?_ (h_v3 m ρ c)
  funext r k
  exact congrFun ((W4_of m ρ c main_v3 (by decide +kernel)).trans ((W3_of m ρ c main_v3 (by decide +kernel)).trans ((W2_of m ρ c main_v3 (by decide +kernel)).trans (rfl)))) (ix2 r k)
theorem r4_v5 (c : Dev nD) : x_v5 (V5 m ρ) c = (at2 (a7 m c)) := by
  refine Eq.trans ?_ (h_v5 m ρ c)
  funext r k
  exact congrFun ((W5_of m ρ c main_v5 (by decide +kernel)).trans ((W4_of m ρ c main_v5 (by decide +kernel)).trans ((W3_of m ρ c main_v5 (by decide +kernel)).trans ((W2_of m ρ c main_v5 (by decide +kernel)).trans (rfl))))) (ix2 r k)
theorem r4_v6 (c : Dev nD) : x_v6 (V5 m ρ) c = (cols (N := 2816) 0 (by norm_num) (at2 (a1 m c))) := by
  refine Eq.trans ?_ (h_v6 m ρ c)
  funext r k
  exact congrFun ((W5_of m ρ c main_v6 (by decide +kernel)).trans ((W4_of m ρ c main_v6 (by decide +kernel)).trans ((W3_of m ρ c main_v6 (by decide +kernel)).trans ((W2_of m ρ c main_v6 (by decide +kernel)).trans (rfl))))) (ix2 r k)

/-! The results. -/

/-- The gate. -/
theorem res_gate (c : Dev nD) : W6 m ρ c (Proc.devRef .tc main_v8) = FfnSpec.gate (a0 m c) (a1 m c) := by
  refine (W6_of m ρ c main_v8 (by decide +kernel)).trans ((W5_of m ρ c main_v8 (by decide +kernel)).trans ((W4_of m ρ c main_v8 (by decide +kernel)).trans ((W3_of m ρ c main_v8 (by decide +kernel)).trans ((W2_arr m ρ c 2).trans (((arr0 (V1 m ρ) c)).trans ?_)))))
  rw [r0_v0 m ρ c, r0_v6 m ρ c]
  rfl

/-- The other half. -/
theorem res_up (c : Dev nD) : W6 m ρ c (Proc.devRef .tc main_v9) = FfnSpec.up (a0 m c) (a1 m c) := by
  refine (W6_of m ρ c main_v9 (by decide +kernel)).trans ((W5_of m ρ c main_v9 (by decide +kernel)).trans ((W4_of m ρ c main_v9 (by decide +kernel)).trans ((W3_arr m ρ c 2).trans (((arr1 (V2 m ρ) c)).trans ?_))))
  rw [r1_v0 m ρ c, r1_v7 m ρ c]
  rfl

/-- The residual with the product added. -/
theorem res_out (c : Dev nD) : W6 m ρ c (Proc.devRef .tc main_v10_0) = FfnSpec.out (a2 m c) (a3 m c) (a4 m c) := by
  refine (W6_of m ρ c main_v10_0 (by decide +kernel)).trans ((W5_of m ρ c main_v10_0 (by decide +kernel)).trans ((W4_arr m ρ c 4).trans (((arr2_4 (V3 m ρ) c)).trans ?_)))
  rw [r2_v2 m ρ c, r2_v3 m ρ c, r2_arg4 m ρ c]
  rfl

/-- Its norm. -/
theorem res_norm (c : Dev nD) : W6 m ρ c (Proc.devRef .tc main_v10_1) = FfnSpec.norm (a2 m c) (a3 m c) (a4 m c) (a5 m c) := by
  refine (W6_of m ρ c main_v10_1 (by decide +kernel)).trans ((W5_of m ρ c main_v10_1 (by decide +kernel)).trans ((W4_arr m ρ c 5).trans (((arr2_5 (V3 m ρ) c)).trans ?_)))
  rw [r2_v2 m ρ c, r2_v3 m ρ c, r2_arg4 m ρ c, r2_arg5 m ρ c]
  rfl

/-- The activation's cotangent. -/
theorem res_dact (c : Dev nD) : W6 m ρ c (Proc.devRef .tc main_v11) = FfnSpec.dact (a3 m c) (a6 m c) := by
  refine (W6_of m ρ c main_v11 (by decide +kernel)).trans ((W5_arr m ρ c 2).trans (((arr3 (V4 m ρ) c)).trans ?_))
  rw [r3_v4 m ρ c, r3_v3 m ρ c]
  rfl

/-- The gate's part of the input's cotangent. -/
theorem res_dh (c : Dev nD) : W6 m ρ c (Proc.devRef .tc main_v12) = FfnSpec.dh (a1 m c) (a7 m c) := by
  refine (W6_arr m ρ c 2).trans (((arr4 (V5 m ρ) c)).trans ?_)
  rw [r4_v5 m ρ c, r4_v6 m ρ c]
  rfl

/-- Every execution ends with the results at their values of the arguments, and the arguments unchanged. -/
theorem run_value : θ_run defs (onTc (τ := τ) (main (F := Ideal))) ⟨m, fun _ => 0, ρ⟩ (fun r => ∀ c : Dev nD,
      r.2.mem ((c.tc : Thread nD τ).loc main_v8) = FfnSpec.gate (a0 m c) (a1 m c)
      ∧ r.2.mem ((c.tc : Thread nD τ).loc main_v9) = FfnSpec.up (a0 m c) (a1 m c)
      ∧ r.2.mem ((c.tc : Thread nD τ).loc main_v10_0) = FfnSpec.out (a2 m c) (a3 m c) (a4 m c)
      ∧ r.2.mem ((c.tc : Thread nD τ).loc main_v10_1) = FfnSpec.norm (a2 m c) (a3 m c) (a4 m c) (a5 m c)
      ∧ r.2.mem ((c.tc : Thread nD τ).loc main_v11) = FfnSpec.dact (a3 m c) (a6 m c)
      ∧ r.2.mem ((c.tc : Thread nD τ).loc main_v12) = FfnSpec.dh (a1 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (res_gate m ρ c),
     (h c _ (mem_uc main_v9 (by decide))).trans (res_up m ρ c),
     (h c _ (mem_uc main_v10_0 (by decide))).trans (res_out m ρ c),
     (h c _ (mem_uc main_v10_1 (by decide))).trans (res_norm m ρ c),
     (h c _ (mem_uc main_v11 (by decide))).trans (res_dact m ρ c),
     (h c _ (mem_uc main_v12 (by decide))).trans (res_dh m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.FfnIdeal.Value

end
-- ==== Proof.FfnRef.lean ====
/- The reference of the program `Ffn`: each of its results is the same product of its arguments. -/
module

public import Idealize.ShloMosaic.Lib.Pipeline.ValueKit
public import Idealize.ShloMosaic.Lib.KernelVsHost
public import proofs.«01_k».proof.Proof.Gen.FfnRefIdeal.Read
public import proofs.«01_k».proof.Proof.FfnSpec

@[expose] public section

set_option maxRecDepth 16384

noncomputable section

namespace Cert.FfnRefIdeal.Read

open Idealize.ShloMosaic Idealize.ShloMosaic.TcCoe Idealize.SL.Sem
open Cert.FfnRefIdeal Cert.FfnRefIdeal.Gen Cert.Mat
open scoped BigOperators

theorem gate_eq (x0 : (⟨S8192x1024, .f32⟩ : BufTy).Contents (Elt Ideal)) (x1 : (⟨S1024x5632, .f32⟩ : BufTy).Contents (Elt Ideal)) :
    val_main_v8 (F := Ideal) x0 x1 = FfnSpec.gate x0 x1 := by
  refine mtx_ext fun r s => ?_
  unfold FfnSpec.gate nn
  show val_main_v1 (F := Ideal) x0 x1 (ix2 r s) = _
  rw [val_main_v1_apply, val_main_v0_apply]
  refine sum_mul_congr (fun k => ?_) fun k => ?_
  · exact congrArg x0 (funext fun n => Fin.ext (by fin_cases n <;> first | rfl | exact (Nat.zero_add _).symm))
  · exact congrArg x1 (funext fun n => Fin.ext (by fin_cases n <;> first | rfl | exact (Nat.zero_add _).symm))

theorem up_eq (x0 : (⟨S8192x1024, .f32⟩ : BufTy).Contents (Elt Ideal)) (x1 : (⟨S1024x5632, .f32⟩ : BufTy).Contents (Elt Ideal)) :
    val_main_v9 (F := Ideal) x0 x1 = FfnSpec.up x0 x1 := by
  refine mtx_ext fun r s => ?_
  unfold FfnSpec.up nn
  show val_main_v2 (F := Ideal) x0 x1 (ix2 r s) = _
  rw [val_main_v2_apply, val_main_v0_apply]
  refine sum_mul_congr (fun k => ?_) fun k => ?_
  · exact congrArg x0 (funext fun n => Fin.ext (by fin_cases n <;> first | rfl | exact (Nat.zero_add _).symm))
  · exact congrArg x1 (funext fun n => Fin.ext (by fin_cases n <;> first | rfl | exact (Nat.zero_add _).symm))

theorem out_eq (x2 : (⟨S8192x2816, .f32⟩ : BufTy).Contents (Elt Ideal)) (x3 : (⟨S2816x1024, .f32⟩ : BufTy).Contents (Elt Ideal)) (x4 : (⟨S8192x1024, .f32⟩ : BufTy).Contents (Elt Ideal)) :
    val_main_v7 (F := Ideal) x2 x3 x4 = FfnSpec.out x2 x3 x4 := by
  refine mtx_ext fun r s => ?_
  unfold FfnSpec.out nn
  refine (val_main_v7_apply x2 x3 x4 (ix2 r s)).trans ((add_comm (G := EReal) _ _).trans (congrArg (· + (x4 (ix2 r s) : EReal)) ?_))
  rw [val_main_v6_apply]
  refine sum_mul_congr (fun k => ?_) fun k => ?_
  · exact congrArg x2 (funext fun n => Fin.ext (by fin_cases n <;> first | rfl | exact (Nat.zero_add _).symm))
  · exact congrArg x3 (funext fun n => Fin.ext (by fin_cases n <;> first | rfl | exact (Nat.zero_add _).symm))

theorem norm_eq (x2 : (⟨S8192x2816, .f32⟩ : BufTy).Contents (Elt Ideal)) (x3 : (⟨S2816x1024, .f32⟩ : BufTy).Contents (Elt Ideal)) (x4 : (⟨S8192x1024, .f32⟩ : BufTy).Contents (Elt Ideal)) (x5 : (⟨S1x1024, .f32⟩ : BufTy).Contents (Elt Ideal)) :
    val_main_v23 (F := Ideal) x2 x3 x4 x5 = FfnSpec.norm x2 x3 x4 x5 := by
  refine mtx_ext fun r s => ?_
  have hx : ∀ k : Fin 1024, (val_main_v7 (F := Ideal) x2 x3 x4 (ix2 r k) : EReal) = FfnSpec.out x2 x3 x4 (ix2 r k) :=
    fun k => congrFun (out_eq x2 x3 x4) (ix2 r k)
  have hsum : (val_main_v11 (F := Ideal) x2 x3 x4 (ix1 r) : EReal)
      = ∑ k : Fin 1024, FfnSpec.out x2 x3 x4 (ix2 r k) * FfnSpec.out x2 x3 x4 (ix2 r k) := by
    rw [val_main_v11_apply]
    refine (congrArg₂ (fun a b : EReal => a + b) bits_zero (Finset.sum_congr rfl fun k _ => ?_)).trans (zero_add _)
    have hi : idx_main_v11 (ix1 r) k = ix2 r k := funext fun n => by fin_cases n <;> rfl
    rw [hi]
    exact congrArg₂ (fun a b : EReal => a * b) (hx k) (hx k)
  have hr : (val_main_v18 (F := Ideal) x2 x3 x4 (ix2 r s) : EReal)
      = Ideal.rsqrt (Ideal.div (∑ k : Fin 1024, FfnSpec.out x2 x3 x4 (ix2 r k) * FfnSpec.out x2 x3 x4 (ix2 r k)) (Ideal.ofBits .f32 0x44800000#32)
        + Ideal.ofBits .f32 0x358637BD#32) := by
    rw [val_main_v18_apply]
    show Ideal.rsqrt (Ideal.div (val_main_v12 (F := Ideal) x2 x3 x4 (idx_main_v18 (ix2 r s))) (val_main_v13 (F := Ideal) (idx_main_v18 (ix2 r s)))
      + val_main_v15 (F := Ideal) (idx_main_v18 (ix2 r s))) = _
    have hi : idx_main_v12 (idx_main_v18 (ix2 r s)) = ix1 r := funext fun n => by fin_cases n; rfl
    rw [val_main_v12_apply, val_main_v13_apply, val_main_v15_apply, hi, hsum]
    rfl
  have hg : (val_main_v20 (F := Ideal) x5 (ix2 r s) : EReal) = at2 x5 0 s := by
    rw [val_main_v20_apply]
    exact congrArg x5 (funext fun n => by fin_cases n <;> rfl)
  show (val_main_v7 (F := Ideal) x2 x3 x4 (ix2 r s) : EReal) * val_main_v18 (F := Ideal) x2 x3 x4 (ix2 r s) * val_main_v20 (F := Ideal) x5 (ix2 r s) = _
  rw [hx s, hr, hg]
  rfl

theorem dact_eq (x3 : (⟨S2816x1024, .f32⟩ : BufTy).Contents (Elt Ideal)) (x6 : (⟨S8192x1024, .f32⟩ : BufTy).Contents (Elt Ideal)) :
    val_main_v24 (F := Ideal) x3 x6 = FfnSpec.dact x3 x6 := by
  refine mtx_ext fun r s => ?_
  unfold FfnSpec.dact nt
  show val_main_v22 (F := Ideal) x3 x6 (ix2 r s) = _
  rw [val_main_v22_apply]
  refine sum_mul_congr (fun k => ?_) fun k => ?_
  · exact congrArg x6 (funext fun n => Fin.ext (by fin_cases n <;> first | rfl | exact (Nat.zero_add _).symm))
  · exact congrArg x3 (funext fun n => Fin.ext (by fin_cases n <;> first | rfl | exact (Nat.zero_add _).symm))

theorem dh_eq (x1 : (⟨S1024x5632, .f32⟩ : BufTy).Contents (Elt Ideal)) (x7 : (⟨S8192x2816, .f32⟩ : BufTy).Contents (Elt Ideal)) :
    val_main_v5 (F := Ideal) x1 x7 = FfnSpec.dh x1 x7 := by
  refine mtx_ext fun r s => ?_
  unfold FfnSpec.dh nt
  rw [val_main_v5_apply]
  refine sum_mul_congr (fun k => congrArg x7 (funext fun n => Fin.ext (by fin_cases n <;> first | rfl | exact (Nat.zero_add _).symm))) fun k => ?_
  rw [val_main_v3_apply]
  exact congrArg x1 (funext fun n => Fin.ext (by fin_cases n <;> first | rfl | exact (Nat.zero_add _).symm))

variable (m : (ℓ : Loc nD τ sig) → Buf (Elt Ideal) ℓ) (ρ : Dev nD → PrngReg)

abbrev a0 (c : Dev nD) : Mtx 8192 1024 := (m ((c.tc : Thread nD τ).loc main_arg0) : FVec Ideal S8192x1024 .f32)
abbrev a1 (c : Dev nD) : Mtx 1024 5632 := (m ((c.tc : Thread nD τ).loc main_arg1) : FVec Ideal S1024x5632 .f32)
abbrev a2 (c : Dev nD) : Mtx 8192 2816 := (m ((c.tc : Thread nD τ).loc main_arg2) : FVec Ideal S8192x2816 .f32)
abbrev a3 (c : Dev nD) : Mtx 2816 1024 := (m ((c.tc : Thread nD τ).loc main_arg3) : FVec Ideal S2816x1024 .f32)
abbrev a4 (c : Dev nD) : Mtx 8192 1024 := (m ((c.tc : Thread nD τ).loc main_arg4) : FVec Ideal S8192x1024 .f32)
abbrev a5 (c : Dev nD) : Mtx 1 1024 := (m ((c.tc : Thread nD τ).loc main_arg5) : FVec Ideal S1x1024 .f32)
abbrev a6 (c : Dev nD) : Mtx 8192 1024 := (m ((c.tc : Thread nD τ).loc main_arg6) : FVec Ideal S8192x1024 .f32)
abbrev a7 (c : Dev nD) : Mtx 8192 2816 := (m ((c.tc : Thread nD τ).loc main_arg7) : FVec Ideal S8192x2816 .f32)

/-- The reference's run. -/
theorem run_value : θ_run defs (onTc (τ := τ) (main (F := Ideal))) ⟨m, fun _ => 0, ρ⟩ fun r => ∀ c : Dev nD,
      r.2.mem ((c.tc : Thread nD τ).loc main_v8) = FfnSpec.gate (a0 m c) (a1 m c)
      ∧ r.2.mem ((c.tc : Thread nD τ).loc main_v9) = FfnSpec.up (a0 m c) (a1 m c)
      ∧ r.2.mem ((c.tc : Thread nD τ).loc main_v7) = FfnSpec.out (a2 m c) (a3 m c) (a4 m c)
      ∧ r.2.mem ((c.tc : Thread nD τ).loc main_v23) = FfnSpec.norm (a2 m c) (a3 m c) (a4 m c) (a5 m c)
      ∧ r.2.mem ((c.tc : Thread nD τ).loc main_v24) = FfnSpec.dact (a3 m c) (a6 m c)
      ∧ r.2.mem ((c.tc : Thread nD τ).loc main_v5) = FfnSpec.dh (a1 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨r0, r1, r2, r3, r4, r5, ra⟩ := h c
    exact ⟨r0.trans ((val_main_v8_eq _ _).trans (gate_eq _ _)),
      r1.trans ((val_main_v9_eq _ _).trans (up_eq _ _)),
      r2.trans ((val_main_v7_eq _ _ _).trans (out_eq _ _ _)),
      r3.trans ((val_main_v23_eq _ _ _ _).trans (norm_eq _ _ _ _)),
      r4.trans ((val_main_v24_eq _ _).trans (dact_eq _ _)),
      r5.trans ((val_main_v5_eq _ _).trans (dh_eq _ _)), ra⟩) (Cert.FfnRefIdeal.Value.run m ρ)

end Cert.FfnRefIdeal.Read

end
-- ==== Proof.MixVal.lean ====
/- What each product of the attention's projections leaves in its results' arrays, of the arrays that it is entered with. -/
module

public import Idealize.ShloMosaic.Lib.Pipeline.ValueKit
public import Idealize.ShloMosaic.Lib.Claim
public import proofs.«01_k».proof.Proof.Gen.MixIdeal.Frame
public import proofs.«01_k».proof.Proof.Mat

@[expose] public section

set_option maxRecDepth 16384

noncomputable section

namespace Cert.MixIdeal.Value

open Idealize.ShloMosaic Idealize.ShloMosaic.TcCoe Idealize.SL.Sem
open Cert.MixIdeal Cert.MixIdeal.Gen Cert.Mat
open scoped BigOperators

variable (V : (c : Dev nD) → (b : Ref sig .tc) → Buf (Elt Ideal) ((c : Thread nD τ).loc b))

/-! The arrays that the products are of, by row and column. -/

abbrev x_v0 (c : Dev nD) (r : Fin 8192) (k : Fin 1024) : EReal := (V c main_v0 : FVec Ideal S8192x1024 .bf16) (ix2 r k)
abbrev x_v1 (c : Dev nD) (r : Fin 1024) (k : Fin 2304) : EReal := (V c main_v1 : FVec Ideal S1024x2304 .bf16) (ix2 r k)
abbrev x_v2 (c : Dev nD) (r : Fin 8192) (k : Fin 512) : EReal := (V c main_v2 : FVec Ideal S8192x512 .bf16) (ix2 r k)
abbrev x_v3 (c : Dev nD) (r : Fin 8192) (k : Fin 512) : EReal := (V c main_v3 : FVec Ideal S8192x512 .bf16) (ix2 r k)
abbrev x_v5 (c : Dev nD) (r : Fin 8192) (k : Fin 1024) : EReal := (V c main_v5 : FVec Ideal S8192x1024 .bf16) (ix2 r k)
abbrev x_v6 (c : Dev nD) (r : Fin 512) (k : Fin 1024) : EReal := (V c main_v6 : FVec Ideal S512x1024 .bf16) (ix2 r k)
abbrev x_v7 (c : Dev nD) (r : Fin 512) (k : Fin 1024) : EReal := (V c main_v7 : FVec Ideal S512x1024 .bf16) (ix2 r k)
abbrev x_v9 (c : Dev nD) (r : Fin 8192) (k : Fin 1024) : EReal := (V c main_v9 : FVec Ideal S8192x1024 .f32) (ix2 r k)
abbrev x_arg5 (c : Dev nD) (r : Fin 8192) (k : Fin 1024) : EReal := (V c main_arg5 : FVec Ideal S8192x1024 .f32) (ix2 r k)
abbrev x_arg6 (c : Dev nD) (r : Fin 1) (k : Fin 1024) : EReal := (V c main_arg6 : FVec Ideal S1x1024 .f32) (ix2 r k)

theorem idx0 : ∀ t : Fin cfg0.N,
    win0_0.index t = ![t.val % 8, 0] ∧ win0_1.index t = ![0, t.val / 8] ∧ win0_2.index t = ![t.val % 8, t.val / 8] :=
  (by decide +kernel : ∀ t : Fin grid0.N, _)

/-- The product of the input projection. -/
theorem arr0 (c : Dev nD) :
    (dat0 V c).arrAt 2 cfg0.N = fun j : S8192x2304.Idx => nn (x_v0 V c) (x_v1 V c) (j 0) (j 1) := by
  refine (dat0 V c).arrAt_eq_of_covers 2 _ (by decide +kernel) fun t hf y => ?_
  blk_simp
  rw [after0_2]
  obtain ⟨a, l, rfl⟩ : ∃ (a : Fin 1024) (l : Fin 1152), y = ix2 a l := ⟨y 0, y 1, (ix2_eta y).symm⟩
  frame_out
  pointwise [k0_pay1]
  unfold nn
  refine sum_mul_congr (fun k => ?_) fun k => ?_
  · blk_simp [iblk0]
    blk_ext [idx0 t]
  · blk_simp [iblk0]
    blk_ext [idx0 t]

theorem idx1 : ∀ t : Fin cfg1.N,
    win1_0.index t = ![t.val % 8, 0] ∧ win1_1.index t = ![0, t.val / 8] ∧ win1_2.index t = ![t.val % 8, t.val / 8] ∧ win1_3.index t = ![t.val % 8, t.val / 8] :=
  (by decide +kernel : ∀ t : Fin grid1.N, _)

/-- Mixer A's part of the output projection, with the residual added. -/
theorem arr1 (c : Dev nD) :
    (dat1 V c).arrAt 3 cfg1.N = fun j : S8192x1024.Idx => nn (x_v2 V c) (x_v6 V c) (j 0) (j 1) + x_arg5 V c (j 0) (j 1) := by
  refine (dat1 V c).arrAt_eq_of_covers 3 _ (by decide +kernel) fun t hf y => ?_
  blk_simp
  rw [after1_3]
  obtain ⟨a, l, rfl⟩ : ∃ (a : Fin 1024) (l : Fin 1024), y = ix2 a l := ⟨y 0, y 1, (ix2_eta y).symm⟩
  frame_out
  pointwise [k1_pay1]
  unfold nn
  refine congrArg₂ (· + ·) (Finset.sum_congr rfl fun k _ => congrArg₂ (· * ·) ?_ ?_) ?_
  · blk_simp [iblk1]
    blk_ext [idx1 t]
  · blk_simp [iblk1]
    blk_ext [idx1 t]
  · blk_simp [iblk1]
    blk_ext [idx1 t]

theorem idx2 : ∀ t : Fin cfg2.N,
    win2_0.index t = ![t.val, 0] ∧ win2_1.index t = ![0, 0] ∧ win2_2.index t = ![t.val, 0] ∧ win2_3.index t = ![0, 0]
      ∧ win2_4.index t = ![t.val, 0] ∧ win2_5.index t = ![t.val, 0] :=
  (by decide +kernel : ∀ t : Fin grid2.N, _)

/-- The sum on one tile of rows. -/
theorem row2 (c : Dev nD) (t : Fin cfg2.N) (a : Fin 512) (s : Fin 1024) (r : Fin 8192) (hr : r.val = t.val * 512 + a.val) :
    k2_pay1 (iblk2 V c 0 t : FVec Ideal S512x512 .bf16) (iblk2 V c 1 t : FVec Ideal S512x1024 .bf16) (iblk2 V c 2 t : FVec Ideal S512x1024 .f32) (ix2 a s)
      = nn (x_v3 V c) (x_v7 V c) r s + x_v9 V c r s := by
  pointwise [k2_pay1]
  unfold nn
  refine congrArg₂ (· + ·) (Finset.sum_congr rfl fun k _ => congrArg₂ (· * ·) ?_ ?_) ?_
  · blk_simp [iblk2]
    blk_ext [idx2 t, hr]
  · blk_simp [iblk2]
    blk_ext [idx2 t]
  · blk_simp [iblk2]
    blk_ext [idx2 t, hr]

/-- Mixer B's part of the output projection, added to mixer A's. -/
theorem arr2_4 (c : Dev nD) :
    (dat2 V c).arrAt 4 cfg2.N = fun j : S8192x1024.Idx => nn (x_v3 V c) (x_v7 V c) (j 0) (j 1) + x_v9 V c (j 0) (j 1) := by
  refine (dat2 V c).arrAt_eq_of_covers 4 _ (by decide +kernel) fun t hf y => ?_
  blk_simp
  rw [after2_4]
  obtain ⟨a, l, rfl⟩ : ∃ (a : Fin 512) (l : Fin 1024), y = ix2 a l := ⟨y 0, y 1, (ix2_eta y).symm⟩
  have e0 : ((win2_4.blk t).view.emb (ix2 a l) 0).val = t.val * 512 + a.val := by blk_simp [idx2 t]
  have e1 : ((win2_4.blk t).view.emb (ix2 a l) 1 : Fin 1024) = l := Fin.ext (by blk_simp [idx2 t])
  frame_out
  refine (row2 V c t a l _ e0).trans ?_
  exact congrArg (fun s : Fin 1024 => nn (x_v3 V c) (x_v7 V c) _ s + x_v9 V c _ s) e1.symm

/-- The norm of its rows. -/
theorem arr2_5 (c : Dev nD) :
    (dat2 V c).arrAt 5 cfg2.N = fun j : S8192x1024.Idx =>
      rmsn (fun s => nn (x_v3 V c) (x_v7 V c) (j 0) s + x_v9 V c (j 0) s) (fun s => x_arg6 V c 0 s) (j 1) := by
  refine (dat2 V c).arrAt_eq_of_covers 5 _ (by decide +kernel) fun t hf y => ?_
  blk_simp
  rw [after2_5]
  obtain ⟨a, l, rfl⟩ : ∃ (a : Fin 512) (l : Fin 1024), y = ix2 a l := ⟨y 0, y 1, (ix2_eta y).symm⟩
  have e0 : ((win2_5.blk t).view.emb (ix2 a l) 0).val = t.val * 512 + a.val := by blk_simp [idx2 t]
  have e1 : ((win2_5.blk t).view.emb (ix2 a l) 1 : Fin 1024) = l := Fin.ext (by blk_simp [idx2 t])
  have eg : ∀ s : Fin 1024, (iblk2 V c 3 t : FVec Ideal S1x1024 .f32) (ix2 0 s) = x_arg6 V c 0 s := by
    intro s
    blk_simp [iblk2]
    blk_ext [idx2 t]
  refine Eq.trans ?_ (congrArg (rmsn (fun s => nn (x_v3 V c) (x_v7 V c) _ s + x_v9 V c _ s) (fun s => x_arg6 V c 0 s)) e1.symm)
  frame_out
  pointwise [k2_pay2]
  simp only [row2 V c t a _ _ e0, eg]
  rfl

theorem idx3 : ∀ t : Fin cfg3.N,
    win3_0.index t = ![t.val % 8, 0] ∧ win3_1.index t = ![t.val / 8, 0] ∧ win3_2.index t = ![t.val % 8, t.val / 8] :=
  (by decide +kernel : ∀ t : Fin grid3.N, _)

/-- The cotangent of mixer A's result. -/
theorem arr3 (c : Dev nD) :
    (dat3 V c).arrAt 2 cfg3.N = fun j : S8192x512.Idx => nt (x_v5 V c) (x_v6 V c) (j 0) (j 1) := by
  refine (dat3 V c).arrAt_eq_of_covers 2 _ (by decide +kernel) fun t hf y => ?_
  blk_simp
  rw [after3_2]
  obtain ⟨a, l, rfl⟩ : ∃ (a : Fin 1024) (l : Fin 512), y = ix2 a l := ⟨y 0, y 1, (ix2_eta y).symm⟩
  frame_out
  pointwise [k3_pay1]
  unfold nt
  refine sum_mul_congr (fun k => ?_) fun k => ?_
  · blk_simp [iblk3]
    blk_ext [idx3 t]
  · blk_simp [iblk3]
    blk_ext [idx3 t]

theorem idx4 : ∀ t : Fin cfg4.N,
    win4_0.index t = ![t.val % 8, 0] ∧ win4_1.index t = ![t.val / 8, 0] ∧ win4_2.index t = ![t.val % 8, t.val / 8] :=
  (by decide +kernel : ∀ t : Fin grid4.N, _)

/-- The cotangent of mixer B's result. -/
theorem arr4 (c : Dev nD) :
    (dat4 V c).arrAt 2 cfg4.N = fun j : S8192x512.Idx => nt (x_v5 V c) (x_v7 V c) (j 0) (j 1) := by
  refine (dat4 V c).arrAt_eq_of_covers 2 _ (by decide +kernel) fun t hf y => ?_
  blk_simp
  rw [after4_2]
  obtain ⟨a, l, rfl⟩ : ∃ (a : Fin 1024) (l : Fin 512), y = ix2 a l := ⟨y 0, y 1, (ix2_eta y).symm⟩
  frame_out
  pointwise [k4_pay1]
  unfold nt
  refine sum_mul_congr (fun k => ?_) fun k => ?_
  · blk_simp [iblk4]
    blk_ext [idx4 t]
  · blk_simp [iblk4]
    blk_ext [idx4 t]

end Cert.MixIdeal.Value

end
-- ==== Proof.MixSpec.lean ====
/- What each result of the program `Mix` is of its arguments, as matrices over the extended reals. -/
module

public import proofs.«01_k».proof.Proof.Mat

@[expose] public section

noncomputable section

namespace Cert.MixSpec

open Idealize.ShloMosaic Cert.Mat

/-- The input projection. -/
def qkv (a0 : Mtx 8192 1024) (a1 : Mtx 1024 2304) : Mtx 8192 2304 := fun j =>
  nn (at2 a0) (at2 a1) (j 0) (j 1)

/-- The residual with both products added. -/
def out (a2 : Mtx 8192 512) (a3 : Mtx 8192 512) (a4 : Mtx 1024 1024) (a5 : Mtx 8192 1024) : Mtx 8192 1024 := fun j =>
  nn (at2 a3) (rws (M := 512) 512 (by norm_num) (at2 a4)) (j 0) (j 1) + (nn (at2 a2) (rws (M := 512) 0 (by norm_num) (at2 a4)) (j 0) (j 1) + (at2 a5) (j 0) (j 1))

/-- Its norm. -/
def norm (a2 : Mtx 8192 512) (a3 : Mtx 8192 512) (a4 : Mtx 1024 1024) (a5 : Mtx 8192 1024) (a6 : Mtx 1 1024) : Mtx 8192 1024 := fun j =>
  rmsn (fun s => nn (at2 a3) (rws (M := 512) 512 (by norm_num) (at2 a4)) (j 0) s + (nn (at2 a2) (rws (M := 512) 0 (by norm_num) (at2 a4)) (j 0) s + (at2 a5) (j 0) s)) (fun s => at2 a6 0 s) (j 1)

/-- The cotangent of mixer A's result. -/
def doa (a4 : Mtx 1024 1024) (a7 : Mtx 8192 1024) : Mtx 8192 512 := fun j =>
  nt (at2 a7) (rws (M := 512) 0 (by norm_num) (at2 a4)) (j 0) (j 1)

/-- The cotangent of mixer B's result. -/
def dob (a4 : Mtx 1024 1024) (a7 : Mtx 8192 1024) : Mtx 8192 512 := fun j =>
  nt (at2 a7) (rws (M := 512) 512 (by norm_num) (at2 a4)) (j 0) (j 1)

end Cert.MixSpec

end
-- ==== Proof.MixRun.lean ====
/- The launch of the program `Mix`: every fair execution ends with its results at the products of its arguments. -/
module

public import Idealize.ShloMosaic.Lib.StableHlo.ReadAt
public import proofs.«01_k».proof.Proof.MixVal
public import proofs.«01_k».proof.Proof.MixSpec

@[expose] public section

set_option maxRecDepth 16384

noncomputable section

namespace Cert.MixIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixIdeal Cert.MixIdeal.Gen Cert.Mat

variable (m : (ℓ : Loc nD τ sig) → Buf (Elt Ideal) ℓ) (ρ : Dev nD → PrngReg)

/-- The resources of the run. -/
abbrev World := MT nD τ sig Unit (Elt Ideal) ℕ (UR sig nD τ) ℕ

/-- Every execution ends with each array as the last call leaves it. -/
theorem run_all : θ_run defs (onTc (τ := τ) (main (F := Ideal))) ⟨m, fun _ => 0, ρ⟩ (fun r =>
    ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp World)
            ⊢ BI.own (emb₁ (initOf (Pipeline.cells cfgs cellOf_inj) (Pipeline.launchToks cfgs cellOf_inj))) from .rfl)
        iexact Hu
      iapply (show (BI.emp : sProp World) ⊢ bigSep Finset.univ (fun _ : Dev nD => (BI.emp : sProp World)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c => h c)

/-! The arrays that the host writes before the first call. -/

abbrev a0 (c : Dev nD) : Mtx 8192 1024 := (m ((c : Thread nD τ).loc main_arg0) : FVec Ideal S8192x1024 .f32)
abbrev a1 (c : Dev nD) : Mtx 1024 2304 := (m ((c : Thread nD τ).loc main_arg1) : FVec Ideal S1024x2304 .f32)
abbrev a2 (c : Dev nD) : Mtx 8192 512 := (m ((c : Thread nD τ).loc main_arg2) : FVec Ideal S8192x512 .f32)
abbrev a3 (c : Dev nD) : Mtx 8192 512 := (m ((c : Thread nD τ).loc main_arg3) : FVec Ideal S8192x512 .f32)
abbrev a4 (c : Dev nD) : Mtx 1024 1024 := (m ((c : Thread nD τ).loc main_arg4) : FVec Ideal S1024x1024 .f32)
abbrev a5 (c : Dev nD) : Mtx 8192 1024 := (m ((c : Thread nD τ).loc main_arg5) : FVec Ideal S8192x1024 .f32)
abbrev a6 (c : Dev nD) : Mtx 1 1024 := (m ((c : Thread nD τ).loc main_arg6) : FVec Ideal S1x1024 .f32)
abbrev a7 (c : Dev nD) : Mtx 8192 1024 := (m ((c : Thread nD τ).loc main_arg7) : FVec Ideal S8192x1024 .f32)

theorem h_v0 (c : Dev nD) : x_v0 (V1 m ρ) c = (at2 (a0 m c)) := by
  funext r k
  show (StableHlo.after hostOps0 (W0 m ρ c) (Proc.devRef .tc main_v0) : FVec Ideal S8192x1024 .bf16) (ix2 r k) = _
  after_reads_at
theorem h_v1 (c : Dev nD) : x_v1 (V1 m ρ) c = (at2 (a1 m c)) := by
  funext r k
  show (StableHlo.after hostOps0 (W0 m ρ c) (Proc.devRef .tc main_v1) : FVec Ideal S1024x2304 .bf16) (ix2 r k) = _
  after_reads_at
theorem h_v2 (c : Dev nD) : x_v2 (V1 m ρ) c = (at2 (a2 m c)) := by
  funext r k
  show (StableHlo.after hostOps0 (W0 m ρ c) (Proc.devRef .tc main_v2) : FVec Ideal S8192x512 .bf16) (ix2 r k) = _
  after_reads_at
theorem h_v3 (c : Dev nD) : x_v3 (V1 m ρ) c = (at2 (a3 m c)) := by
  funext r k
  show (StableHlo.after hostOps0 (W0 m ρ c) (Proc.devRef .tc main_v3) : FVec Ideal S8192x512 .bf16) (ix2 r k) = _
  after_reads_at
theorem h_v5 (c : Dev nD) : x_v5 (V1 m ρ) c = (at2 (a7 m c)) := by
  funext r k
  show (StableHlo.after hostOps0 (W0 m ρ c) (Proc.devRef .tc main_v5) : FVec Ideal S8192x1024 .bf16) (ix2 r k) = _
  after_reads_at
theorem h_v6 (c : Dev nD) : x_v6 (V1 m ρ) c = (rws (M := 512) 0 (by norm_num) (at2 (a4 m c))) := by
  funext r k
  show (StableHlo.after hostOps0 (W0 m ρ c) (Proc.devRef .tc main_v6) : FVec Ideal S512x1024 .bf16) (ix2 r k) = _
  after_reads_at
  all_goals first | rfl | (simp only [cols, rws, Nat.zero_add]; rfl) | simp only [cols, rws, Nat.zero_add]
theorem h_v7 (c : Dev nD) : x_v7 (V1 m ρ) c = (rws (M := 512) 512 (by norm_num) (at2 (a4 m c))) := by
  funext r k
  show (StableHlo.after hostOps0 (W0 m ρ c) (Proc.devRef .tc main_v7) : FVec Ideal S512x1024 .bf16) (ix2 r k) = _
  after_reads_at
  all_goals first | rfl | (simp only [cols, rws, Nat.zero_add]; rfl) | simp only [cols, rws, Nat.zero_add]

/-! What each call reads. -/

theorem r0_v0 (c : Dev nD) : x_v0 (V1 m ρ) c = (at2 (a0 m c)) := by
  exact h_v0 m ρ c
theorem r0_v1 (c : Dev nD) : x_v1 (V1 m ρ) c = (at2 (a1 m c)) := by
  exact h_v1 m ρ c
theorem r1_v2 (c : Dev nD) : x_v2 (V2 m ρ) c = (at2 (a2 m c)) := by
  refine Eq.trans ?_ (h_v2 m ρ c)
  funext r k
  exact congrFun ((W2_of m ρ c main_v2 (by decide +kernel)).trans (rfl)) (ix2 r k)
theorem r1_v6 (c : Dev nD) : x_v6 (V2 m ρ) c = (rws (M := 512) 0 (by norm_num) (at2 (a4 m c))) := by
  refine Eq.trans ?_ (h_v6 m ρ c)
  funext r k
  exact congrFun ((W2_of m ρ c main_v6 (by decide +kernel)).trans (rfl)) (ix2 r k)
theorem r1_arg5 (c : Dev nD) : x_arg5 (V2 m ρ) c = at2 (a5 m c) := by
  funext r k
  exact congrFun (W2_args m ρ c main_arg5 (by decide +kernel)) (ix2 r k)
theorem r2_v3 (c : Dev nD) : x_v3 (V3 m ρ) c = (at2 (a3 m c)) := by
  refine Eq.trans ?_ (h_v3 m ρ c)
  funext r k
  exact congrFun ((W3_of m ρ c main_v3 (by decide +kernel)).trans ((W2_of m ρ c main_v3 (by decide +kernel)).trans (rfl))) (ix2 r k)
theorem r2_v7 (c : Dev nD) : x_v7 (V3 m ρ) c = (rws (M := 512) 512 (by norm_num) (at2 (a4 m c))) := by
  refine Eq.trans ?_ (h_v7 m ρ c)
  funext r k
  exact congrFun ((W3_of m ρ c main_v7 (by decide +kernel)).trans ((W2_of m ρ c main_v7 (by decide +kernel)).trans (rfl))) (ix2 r k)
theorem r2_v9 (c : Dev nD) : x_v9 (V3 m ρ) c = (fun r s => nn (at2 (a2 m c)) (rws (M := 512) 0 (by norm_num) (at2 (a4 m c))) r s + (at2 (a5 m c)) r s) := by
  funext r k
  have e := (W3_arr m ρ c 3).trans (arr1 (V2 m ρ) c)
  refine (congrFun e (ix2 r k)).trans ?_
  rw [r1_v2 m ρ c, r1_v6 m ρ c, r1_arg5 m ρ c]
  rfl
theorem r2_arg6 (c : Dev nD) : x_arg6 (V3 m ρ) c = at2 (a6 m c) := by
  funext r k
  exact congrFun (W3_args m ρ c main_arg6 (by decide +kernel)) (ix2 r k)
theorem r3_v5 (c : Dev nD) : x_v5 (V4 m ρ) c = (at2 (a7 m c)) := by
  refine Eq.trans ?_ (h_v5 m ρ c)
  funext r k
  exact congrFun ((W4_of m ρ c main_v5 (by decide +kernel)).trans ((W3_of m ρ c main_v5 (by decide +kernel)).trans ((W2_of m ρ c main_v5 (by decide +kernel)).trans (rfl)))) (ix2 r k)
theorem r3_v6 (c : Dev nD) : x_v6 (V4 m ρ) c = (rws (M := 512) 0 (by norm_num) (at2 (a4 m c))) := by
  refine Eq.trans ?_ (h_v6 m ρ c)
  funext r k
  exact congrFun ((W4_of m ρ c main_v6 (by decide +kernel)).trans ((W3_of m ρ c main_v6 (by decide +kernel)).trans ((W2_of m ρ c main_v6 (by decide +kernel)).trans (rfl)))) (ix2 r k)
theorem r4_v5 (c : Dev nD) : x_v5 (V5 m ρ) c = (at2 (a7 m c)) := by
  refine Eq.trans ?_ (h_v5 m ρ c)
  funext r k
  exact congrFun ((W5_of m ρ c main_v5 (by decide +kernel)).trans ((W4_of m ρ c main_v5 (by decide +kernel)).trans ((W3_of m ρ c main_v5 (by decide +kernel)).trans ((W2_of m ρ c main_v5 (by decide +kernel)).trans (rfl))))) (ix2 r k)
theorem r4_v7 (c : Dev nD) : x_v7 (V5 m ρ) c = (rws (M := 512) 512 (by norm_num) (at2 (a4 m c))) := by
  refine Eq.trans ?_ (h_v7 m ρ c)
  funext r k
  exact congrFun ((W5_of m ρ c main_v7 (by decide +kernel)).trans ((W4_of m ρ c main_v7 (by decide +kernel)).trans ((W3_of m ρ c main_v7 (by decide +kernel)).trans ((W2_of m ρ c main_v7 (by decide +kernel)).trans (rfl))))) (ix2 r k)

/-! The results. -/

/-- The input projection. -/
theorem res_qkv (c : Dev nD) : W6 m ρ c (Proc.devRef .tc main_v8) = MixSpec.qkv (a0 m c) (a1 m c) := by
  refine (W6_of m ρ c main_v8 (by decide +kernel)).trans ((W5_of m ρ c main_v8 (by decide +kernel)).trans ((W4_of m ρ c main_v8 (by decide +kernel)).trans ((W3_of m ρ c main_v8 (by decide +kernel)).trans ((W2_arr m ρ c 2).trans (((arr0 (V1 m ρ) c)).trans ?_)))))
  rw [r0_v0 m ρ c, r0_v1 m ρ c]
  rfl

/-- The residual with both products added. -/
theorem res_out (c : Dev nD) : W6 m ρ c (Proc.devRef .tc main_v10_0) = MixSpec.out (a2 m c) (a3 m c) (a4 m c) (a5 m c) := by
  refine (W6_of m ρ c main_v10_0 (by decide +kernel)).trans ((W5_of m ρ c main_v10_0 (by decide +kernel)).trans ((W4_arr m ρ c 4).trans (((arr2_4 (V3 m ρ) c)).trans ?_)))
  rw [r2_v3 m ρ c, r2_v7 m ρ c, r2_v9 m ρ c]
  rfl

/-- Its norm. -/
theorem res_norm (c : Dev nD) : W6 m ρ c (Proc.devRef .tc main_v10_1) = MixSpec.norm (a2 m c) (a3 m c) (a4 m c) (a5 m c) (a6 m c) := by
  refine (W6_of m ρ c main_v10_1 (by decide +kernel)).trans ((W5_of m ρ c main_v10_1 (by decide +kernel)).trans ((W4_arr m ρ c 5).trans (((arr2_5 (V3 m ρ) c)).trans ?_)))
  rw [r2_v3 m ρ c, r2_v7 m ρ c, r2_v9 m ρ c, r2_arg6 m ρ c]
  rfl

/-- The cotangent of mixer A's result. -/
theorem res_doa (c : Dev nD) : W6 m ρ c (Proc.devRef .tc main_v11) = MixSpec.doa (a4 m c) (a7 m c) := by
  refine (W6_of m ρ c main_v11 (by decide +kernel)).trans ((W5_arr m ρ c 2).trans (((arr3 (V4 m ρ) c)).trans ?_))
  rw [r3_v5 m ρ c, r3_v6 m ρ c]
  rfl

/-- The cotangent of mixer B's result. -/
theorem res_dob (c : Dev nD) : W6 m ρ c (Proc.devRef .tc main_v12) = MixSpec.dob (a4 m c) (a7 m c) := by
  refine (W6_arr m ρ c 2).trans (((arr4 (V5 m ρ) c)).trans ?_)
  rw [r4_v5 m ρ c, r4_v7 m ρ c]
  rfl

/-- Every execution ends with the results at their values of the arguments, and the arguments unchanged. -/
theorem run_value : θ_run defs (onTc (τ := τ) (main (F := Ideal))) ⟨m, fun _ => 0, ρ⟩ (fun r => ∀ c : Dev nD,
      r.2.mem ((c.tc : Thread nD τ).loc main_v8) = MixSpec.qkv (a0 m c) (a1 m c)
      ∧ r.2.mem ((c.tc : Thread nD τ).loc main_v10_0) = MixSpec.out (a2 m c) (a3 m c) (a4 m c) (a5 m c)
      ∧ r.2.mem ((c.tc : Thread nD τ).loc main_v10_1) = MixSpec.norm (a2 m c) (a3 m c) (a4 m c) (a5 m c) (a6 m c)
      ∧ r.2.mem ((c.tc : Thread nD τ).loc main_v11) = MixSpec.doa (a4 m c) (a7 m c)
      ∧ r.2.mem ((c.tc : Thread nD τ).loc main_v12) = MixSpec.dob (a4 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (res_qkv m ρ c),
     (h c _ (mem_uc main_v10_0 (by decide))).trans (res_out m ρ c),
     (h c _ (mem_uc main_v10_1 (by decide))).trans (res_norm m ρ c),
     (h c _ (mem_uc main_v11 (by decide))).trans (res_doa m ρ c),
     (h c _ (mem_uc main_v12 (by decide))).trans (res_dob m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.MixIdeal.Value

end
-- ==== Proof.MixRef.lean ====
/- The reference of the program `Mix`: each of its results is the same product of its arguments. -/
module

public import Idealize.ShloMosaic.Lib.Pipeline.ValueKit
public import Idealize.ShloMosaic.Lib.KernelVsHost
public import proofs.«01_k».proof.Proof.Gen.MixRefIdeal.Read
public import proofs.«01_k».proof.Proof.MixSpec

@[expose] public section

set_option maxRecDepth 16384

noncomputable section

namespace Cert.MixRefIdeal.Read

open Idealize.ShloMosaic Idealize.ShloMosaic.TcCoe Idealize.SL.Sem
open Cert.MixRefIdeal Cert.MixRefIdeal.Gen Cert.Mat
open scoped BigOperators

/-- The two mixers' results side by side: the left half is mixer A's, the right half mixer B's. -/
theorem left_at (x2 x3 : (⟨S8192x512, .f32⟩ : BufTy).Contents (Elt Ideal)) (i : S8192x1024.Idx) (r : Fin 8192) (k : Fin 512)
    (h0 : (i 0).val = r.val) (h1 : (i 1).val = k.val) : val_main_v0 (F := Ideal) x2 x3 i = at2 x2 r k := by
  unfold val_main_v0
  refine concatenate_pair_apply_left (s₁ := S8192x512) (s₂ := S8192x512) 1 x2 x3 concatenates_S8192x512_S8192x512_S8192x1024_d1 i rfl (ix2 r k)
    (fun n => by fin_cases n; exacts [h0.symm, h1.symm])

theorem right_at (x2 x3 : (⟨S8192x512, .f32⟩ : BufTy).Contents (Elt Ideal)) (i : S8192x1024.Idx) (r : Fin 8192) (k : Fin 512)
    (h0 : (i 0).val = r.val) (h1 : (i 1).val = 512 + k.val) : val_main_v0 (F := Ideal) x2 x3 i = at2 x3 r k := by
  unfold val_main_v0
  refine concatenate_pair_apply_right (s₁ := S8192x512) (s₂ := S8192x512) 1 x2 x3 concatenates_S8192x512_S8192x512_S8192x1024_d1 i rfl rfl (ix2 r k)
    (fun n hn => by fin_cases n; exacts [h0.symm, absurd rfl hn]) ?_
  show k.val + 512 = (i 1).val
  omega

/-- A sum over 1024 columns, half by half. -/
theorem sum_halves (f : Fin 1024 → EReal) :
    (∑ k, f k) = (∑ k : Fin 512, f ⟨k.val, by omega⟩) + ∑ k : Fin 512, f ⟨512 + k.val, by omega⟩ :=
  Fin.sum_univ_add (a := 512) (b := 512) f

theorem qkv_eq (x0 : (⟨S8192x1024, .f32⟩ : BufTy).Contents (Elt Ideal)) (x1 : (⟨S1024x2304, .f32⟩ : BufTy).Contents (Elt Ideal)) :
    val_main_v6 (F := Ideal) x0 x1 = MixSpec.qkv x0 x1 := by
  refine mtx_ext fun r s => ?_
  unfold MixSpec.qkv nn
  rw [val_main_v6_apply]
  refine sum_mul_congr (fun k => ?_) fun k => ?_
  · exact congrArg x0 (funext fun n => Fin.ext (by fin_cases n <;> first | rfl | exact (Nat.zero_add _).symm))
  · exact congrArg x1 (funext fun n => Fin.ext (by fin_cases n <;> first | rfl | exact (Nat.zero_add _).symm))

theorem out_eq (x2 : (⟨S8192x512, .f32⟩ : BufTy).Contents (Elt Ideal)) (x3 : (⟨S8192x512, .f32⟩ : BufTy).Contents (Elt Ideal)) (x4 : (⟨S1024x1024, .f32⟩ : BufTy).Contents (Elt Ideal)) (x5 : (⟨S8192x1024, .f32⟩ : BufTy).Contents (Elt Ideal)) :
    val_main_v2 (F := Ideal) x2 x3 x4 x5 = MixSpec.out x2 x3 x4 x5 := by
  refine mtx_ext fun r s => ?_
  unfold MixSpec.out nn
  refine (val_main_v2_apply x2 x3 x4 x5 (ix2 r s)).trans ((add_comm (G := EReal) _ _).trans ?_)
  rw [val_main_v1_apply, sum_halves]
  refine (add_right_comm (G := EReal) _ _ _).trans ((add_comm (G := EReal) _ _).trans ?_)
  refine congrArg₂ (fun a b : EReal => a + b) (sum_mul_congr (fun k => ?_) fun k => ?_)
    (congrArg (fun a : EReal => a + x5 (ix2 r s)) (sum_mul_congr (fun k => ?_) fun k => ?_))
  · exact right_at x2 x3 _ r k rfl rfl
  · exact congrArg x4 (funext fun n => Fin.ext (by fin_cases n <;> rfl))
  · exact left_at x2 x3 _ r k rfl rfl
  · exact congrArg x4 (funext fun n => Fin.ext (by fin_cases n <;> first | rfl | exact (Nat.zero_add _).symm))

theorem norm_eq (x2 : (⟨S8192x512, .f32⟩ : BufTy).Contents (Elt Ideal)) (x3 : (⟨S8192x512, .f32⟩ : BufTy).Contents (Elt Ideal)) (x4 : (⟨S1024x1024, .f32⟩ : BufTy).Contents (Elt Ideal)) (x5 : (⟨S8192x1024, .f32⟩ : BufTy).Contents (Elt Ideal)) (x6 : (⟨S1x1024, .f32⟩ : BufTy).Contents (Elt Ideal)) :
    val_main_v19 (F := Ideal) x2 x3 x4 x5 x6 = MixSpec.norm x2 x3 x4 x5 x6 := by
  refine mtx_ext fun r s => ?_
  have hx : ∀ k : Fin 1024, (val_main_v2 (F := Ideal) x2 x3 x4 x5 (ix2 r k) : EReal) = MixSpec.out x2 x3 x4 x5 (ix2 r k) :=
    fun k => congrFun (out_eq x2 x3 x4 x5) (ix2 r k)
  have hsum : (val_main_v8 (F := Ideal) x2 x3 x4 x5 (ix1 r) : EReal)
      = ∑ k : Fin 1024, MixSpec.out x2 x3 x4 x5 (ix2 r k) * MixSpec.out x2 x3 x4 x5 (ix2 r k) := by
    rw [val_main_v8_apply]
    refine (congrArg₂ (fun a b : EReal => a + b) bits_zero (Finset.sum_congr rfl fun k _ => ?_)).trans (zero_add _)
    have hi : idx_main_v8 (ix1 r) k = ix2 r k := funext fun n => by fin_cases n <;> rfl
    rw [hi]
    exact congrArg₂ (fun a b : EReal => a * b) (hx k) (hx k)
  have hr : (val_main_v15 (F := Ideal) x2 x3 x4 x5 (ix2 r s) : EReal)
      = Ideal.rsqrt (Ideal.div (∑ k : Fin 1024, MixSpec.out x2 x3 x4 x5 (ix2 r k) * MixSpec.out x2 x3 x4 x5 (ix2 r k)) (Ideal.ofBits .f32 0x44800000#32)
        + Ideal.ofBits .f32 0x358637BD#32) := by
    rw [val_main_v15_apply]
    show Ideal.rsqrt (Ideal.div (val_main_v9 (F := Ideal) x2 x3 x4 x5 (idx_main_v15 (ix2 r s))) (val_main_v10 (F := Ideal) (idx_main_v15 (ix2 r s)))
      + val_main_v12 (F := Ideal) (idx_main_v15 (ix2 r s))) = _
    have hi : idx_main_v9 (idx_main_v15 (ix2 r s)) = ix1 r := funext fun n => by fin_cases n; rfl
    rw [val_main_v9_apply, val_main_v10_apply, val_main_v12_apply, hi, hsum]
    rfl
  have hg : (val_main_v17 (F := Ideal) x6 (ix2 r s) : EReal) = at2 x6 0 s := by
    rw [val_main_v17_apply]
    exact congrArg x6 (funext fun n => by fin_cases n <;> rfl)
  show (val_main_v2 (F := Ideal) x2 x3 x4 x5 (ix2 r s) : EReal) * val_main_v15 (F := Ideal) x2 x3 x4 x5 (ix2 r s) * val_main_v17 (F := Ideal) x6 (ix2 r s) = _
  rw [hx s, hr, hg]
  rfl

theorem doa_eq (x4 : (⟨S1024x1024, .f32⟩ : BufTy).Contents (Elt Ideal)) (x7 : (⟨S8192x1024, .f32⟩ : BufTy).Contents (Elt Ideal)) :
    val_main_v20 (F := Ideal) x4 x7 = MixSpec.doa x4 x7 := by
  refine mtx_ext fun r s => ?_
  unfold MixSpec.doa nt
  show val_main_v4 (F := Ideal) x4 x7 (ix2 r s) = _
  rw [val_main_v4_apply, val_main_v3_apply]
  refine sum_mul_congr (fun k => ?_) fun k => ?_
  · exact congrArg x7 (funext fun n => Fin.ext (by fin_cases n <;> first | rfl | exact (Nat.zero_add _).symm))
  · exact congrArg x4 (funext fun n => Fin.ext (by fin_cases n <;> first | rfl | exact (Nat.zero_add _).symm))

theorem dob_eq (x4 : (⟨S1024x1024, .f32⟩ : BufTy).Contents (Elt Ideal)) (x7 : (⟨S8192x1024, .f32⟩ : BufTy).Contents (Elt Ideal)) :
    val_main_v21 (F := Ideal) x4 x7 = MixSpec.dob x4 x7 := by
  refine mtx_ext fun r s => ?_
  unfold MixSpec.dob nt
  show val_main_v5 (F := Ideal) x4 x7 (ix2 r s) = _
  rw [val_main_v5_apply, val_main_v3_apply]
  refine sum_mul_congr (fun k => ?_) fun k => ?_
  · exact congrArg x7 (funext fun n => Fin.ext (by fin_cases n <;> first | rfl | exact (Nat.zero_add _).symm))
  · exact congrArg x4 (funext fun n => Fin.ext (by fin_cases n <;> first | rfl | exact (Nat.zero_add _).symm))

variable (m : (ℓ : Loc nD τ sig) → Buf (Elt Ideal) ℓ) (ρ : Dev nD → PrngReg)

abbrev a0 (c : Dev nD) : Mtx 8192 1024 := (m ((c.tc : Thread nD τ).loc main_arg0) : FVec Ideal S8192x1024 .f32)
abbrev a1 (c : Dev nD) : Mtx 1024 2304 := (m ((c.tc : Thread nD τ).loc main_arg1) : FVec Ideal S1024x2304 .f32)
abbrev a2 (c : Dev nD) : Mtx 8192 512 := (m ((c.tc : Thread nD τ).loc main_arg2) : FVec Ideal S8192x512 .f32)
abbrev a3 (c : Dev nD) : Mtx 8192 512 := (m ((c.tc : Thread nD τ).loc main_arg3) : FVec Ideal S8192x512 .f32)
abbrev a4 (c : Dev nD) : Mtx 1024 1024 := (m ((c.tc : Thread nD τ).loc main_arg4) : FVec Ideal S1024x1024 .f32)
abbrev a5 (c : Dev nD) : Mtx 8192 1024 := (m ((c.tc : Thread nD τ).loc main_arg5) : FVec Ideal S8192x1024 .f32)
abbrev a6 (c : Dev nD) : Mtx 1 1024 := (m ((c.tc : Thread nD τ).loc main_arg6) : FVec Ideal S1x1024 .f32)
abbrev a7 (c : Dev nD) : Mtx 8192 1024 := (m ((c.tc : Thread nD τ).loc main_arg7) : FVec Ideal S8192x1024 .f32)

/-- The reference's run. -/
theorem run_value : θ_run defs (onTc (τ := τ) (main (F := Ideal))) ⟨m, fun _ => 0, ρ⟩ fun r => ∀ c : Dev nD,
      r.2.mem ((c.tc : Thread nD τ).loc main_v6) = MixSpec.qkv (a0 m c) (a1 m c)
      ∧ r.2.mem ((c.tc : Thread nD τ).loc main_v2) = MixSpec.out (a2 m c) (a3 m c) (a4 m c) (a5 m c)
      ∧ r.2.mem ((c.tc : Thread nD τ).loc main_v19) = MixSpec.norm (a2 m c) (a3 m c) (a4 m c) (a5 m c) (a6 m c)
      ∧ r.2.mem ((c.tc : Thread nD τ).loc main_v20) = MixSpec.doa (a4 m c) (a7 m c)
      ∧ r.2.mem ((c.tc : Thread nD τ).loc main_v21) = MixSpec.dob (a4 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨r0, r1, r2, r3, r4, ra⟩ := h c
    exact ⟨r0.trans ((val_main_v6_eq _ _).trans (qkv_eq _ _)),
      r1.trans ((val_main_v2_eq _ _ _ _).trans (out_eq _ _ _ _)),
      r2.trans ((val_main_v19_eq _ _ _ _ _).trans (norm_eq _ _ _ _ _)),
      r3.trans ((val_main_v20_eq _ _).trans (doa_eq _ _)),
      r4.trans ((val_main_v21_eq _ _).trans (dob_eq _ _)), ra⟩) (Cert.MixRefIdeal.Value.run m ρ)

end Cert.MixRefIdeal.Read

end
-- ==== Proof.SsmVal.lean ====
/- What each product of the state-space mixer's projections leaves in its results' arrays, of the arrays that it is entered with. -/
module

public import Idealize.ShloMosaic.Lib.Pipeline.ValueKit
public import Idealize.ShloMosaic.Lib.Claim
public import proofs.«01_k».proof.Proof.Gen.SsmIdeal.Frame
public import proofs.«01_k».proof.Proof.Mat

@[expose] public section

set_option maxRecDepth 16384

noncomputable section

namespace Cert.SsmIdeal.Value

open Idealize.ShloMosaic Idealize.ShloMosaic.TcCoe Idealize.SL.Sem
open Cert.SsmIdeal Cert.SsmIdeal.Gen Cert.Mat
open scoped BigOperators

variable (V : (c : Dev nD) → (b : Ref sig .tc) → Buf (Elt Ideal) ((c : Thread nD τ).loc b))

/-! The arrays that the products are of, by row and column. -/

abbrev x_v0 (c : Dev nD) (r : Fin 8192) (k : Fin 1024) : EReal := (V c main_v0 : FVec Ideal S8192x1024 .bf16) (ix2 r k)
abbrev x_v2 (c : Dev nD) (r : Fin 8192) (k : Fin 2048) : EReal := (V c main_v2 : FVec Ideal S8192x2048 .bf16) (ix2 r k)
abbrev x_v3 (c : Dev nD) (r : Fin 2048) (k : Fin 1024) : EReal := (V c main_v3 : FVec Ideal S2048x1024 .bf16) (ix2 r k)
abbrev x_v4 (c : Dev nD) (r : Fin 8192) (k : Fin 1024) : EReal := (V c main_v4 : FVec Ideal S8192x1024 .bf16) (ix2 r k)
abbrev x_v5 (c : Dev nD) (r : Fin 8192) (k : Fin 2048) : EReal := (V c main_v5 : FVec Ideal S8192x2048 .bf16) (ix2 r k)
abbrev x_v6 (c : Dev nD) (r : Fin 8192) (k : Fin 3072) : EReal := (V c main_v6 : FVec Ideal S8192x3072 .bf16) (ix2 r k)
abbrev x_v7 (c : Dev nD) (r : Fin 1024) (k : Fin 2048) : EReal := (V c main_v7 : FVec Ideal S1024x2048 .bf16) (ix2 r k)
abbrev x_v8 (c : Dev nD) (r : Fin 1024) (k : Fin 3072) : EReal := (V c main_v8 : FVec Ideal S1024x3072 .bf16) (ix2 r k)
abbrev x_v13 (c : Dev nD) (r : Fin 8192) (k : Fin 1024) : EReal := (V c main_v13 : FVec Ideal S8192x1024 .f32) (ix2 r k)
abbrev x_arg4 (c : Dev nD) (r : Fin 8192) (k : Fin 1024) : EReal := (V c main_arg4 : FVec Ideal S8192x1024 .f32) (ix2 r k)
abbrev x_arg5 (c : Dev nD) (r : Fin 1) (k : Fin 1024) : EReal := (V c main_arg5 : FVec Ideal S1x1024 .f32) (ix2 r k)

theorem idx0 : ∀ t : Fin cfg0.N,
    win0_0.index t = ![t.val % 8, 0] ∧ win0_1.index t = ![0, t.val / 8] ∧ win0_2.index t = ![t.val % 8, t.val / 8] :=
  (by decide +kernel : ∀ t : Fin grid0.N, _)

/-- The product of the gate. -/
theorem arr0 (c : Dev nD) :
    (dat0 V c).arrAt 2 cfg0.N = fun j : S8192x2048.Idx => nn (x_v0 V c) (x_v7 V c) (j 0) (j 1) := by
  refine (dat0 V c).arrAt_eq_of_covers 2 _ (by decide +kernel) fun t hf y => ?_
  blk_simp
  rw [after0_2]
  obtain ⟨a, l, rfl⟩ : ∃ (a : Fin 1024) (l : Fin 1024), y = ix2 a l := ⟨y 0, y 1, (ix2_eta y).symm⟩
  frame_out
  pointwise [k0_pay1]
  unfold nn
  refine sum_mul_congr (fun k => ?_) fun k => ?_
  · blk_simp [iblk0]
    blk_ext [idx0 t]
  · blk_simp [iblk0]
    blk_ext [idx0 t]

theorem idx1 : ∀ t : Fin cfg1.N,
    win1_0.index t = ![t.val % 8, 0] ∧ win1_1.index t = ![0, t.val / 8] ∧ win1_2.index t = ![t.val % 8, t.val / 8] :=
  (by decide +kernel : ∀ t : Fin grid1.N, _)

/-- The product of the convolution's channels. -/
theorem arr1 (c : Dev nD) :
    (dat1 V c).arrAt 2 cfg1.N = fun j : S8192x3072.Idx => nn (x_v0 V c) (x_v8 V c) (j 0) (j 1) := by
  refine (dat1 V c).arrAt_eq_of_covers 2 _ (by decide +kernel) fun t hf y => ?_
  blk_simp
  rw [after1_2]
  obtain ⟨a, l, rfl⟩ : ∃ (a : Fin 1024) (l : Fin 1536), y = ix2 a l := ⟨y 0, y 1, (ix2_eta y).symm⟩
  frame_out
  pointwise [k1_pay1]
  unfold nn
  refine sum_mul_congr (fun k => ?_) fun k => ?_
  · blk_simp [iblk1]
    blk_ext [idx1 t]
  · blk_simp [iblk1]
    blk_ext [idx1 t]

theorem idx2 : ∀ t : Fin cfg2.N,
    win2_0.index t = ![t.val, 0] ∧ win2_1.index t = ![0, 0] ∧ win2_2.index t = ![t.val, 0] ∧ win2_3.index t = ![0, 0]
      ∧ win2_4.index t = ![t.val, 0] ∧ win2_5.index t = ![t.val, 0] :=
  (by decide +kernel : ∀ t : Fin grid2.N, _)

/-- The sum on one tile of rows. -/
theorem row2 (c : Dev nD) (t : Fin cfg2.N) (a : Fin 512) (s : Fin 1024) (r : Fin 8192) (hr : r.val = t.val * 512 + a.val) :
    k2_pay1 (iblk2 V c 0 t : FVec Ideal S512x2048 .bf16) (iblk2 V c 1 t : FVec Ideal S2048x1024 .bf16) (iblk2 V c 2 t : FVec Ideal S512x1024 .f32) (ix2 a s)
      = nn (x_v2 V c) (x_v3 V c) r s + x_arg4 V c r s := by
  pointwise [k2_pay1]
  unfold nn
  refine congrArg₂ (· + ·) (Finset.sum_congr rfl fun k _ => congrArg₂ (· * ·) ?_ ?_) ?_
  · blk_simp [iblk2]
    blk_ext [idx2 t, hr]
  · blk_simp [iblk2]
    blk_ext [idx2 t]
  · blk_simp [iblk2]
    blk_ext [idx2 t, hr]

/-- The product back to the model's width, with the residual added. -/
theorem arr2_4 (c : Dev nD) :
    (dat2 V c).arrAt 4 cfg2.N = fun j : S8192x1024.Idx => nn (x_v2 V c) (x_v3 V c) (j 0) (j 1) + x_arg4 V c (j 0) (j 1) := by
  refine (dat2 V c).arrAt_eq_of_covers 4 _ (by decide +kernel) fun t hf y => ?_
  blk_simp
  rw [after2_4]
  obtain ⟨a, l, rfl⟩ : ∃ (a : Fin 512) (l : Fin 1024), y = ix2 a l := ⟨y 0, y 1, (ix2_eta y).symm⟩
  have e0 : ((win2_4.blk t).view.emb (ix2 a l) 0).val = t.val * 512 + a.val := by blk_simp [idx2 t]
  have e1 : ((win2_4.blk t).view.emb (ix2 a l) 1 : Fin 1024) = l := Fin.ext (by blk_simp [idx2 t])
  frame_out
  refine (row2 V c t a l _ e0).trans ?_
  exact congrArg (fun s : Fin 1024 => nn (x_v2 V c) (x_v3 V c) _ s + x_arg4 V c _ s) e1.symm

/-- The norm of its rows. -/
theorem arr2_5 (c : Dev nD) :
    (dat2 V c).arrAt 5 cfg2.N = fun j : S8192x1024.Idx =>
      rmsn (fun s => nn (x_v2 V c) (x_v3 V c) (j 0) s + x_arg4 V c (j 0) s) (fun s => x_arg5 V c 0 s) (j 1) := by
  refine (dat2 V c).arrAt_eq_of_covers 5 _ (by decide +kernel) fun t hf y => ?_
  blk_simp
  rw [after2_5]
  obtain ⟨a, l, rfl⟩ : ∃ (a : Fin 512) (l : Fin 1024), y = ix2 a l := ⟨y 0, y 1, (ix2_eta y).symm⟩
  have e0 : ((win2_5.blk t).view.emb (ix2 a l) 0).val = t.val * 512 + a.val := by blk_simp [idx2 t]
  have e1 : ((win2_5.blk t).view.emb (ix2 a l) 1 : Fin 1024) = l := Fin.ext (by blk_simp [idx2 t])
  have eg : ∀ s : Fin 1024, (iblk2 V c 3 t : FVec Ideal S1x1024 .f32) (ix2 0 s) = x_arg5 V c 0 s := by
    intro s
    blk_simp [iblk2]
    blk_ext [idx2 t]
  refine Eq.trans ?_ (congrArg (rmsn (fun s => nn (x_v2 V c) (x_v3 V c) _ s + x_arg4 V c _ s) (fun s => x_arg5 V c 0 s)) e1.symm)
  frame_out
  pointwise [k2_pay2]
  simp only [row2 V c t a _ _ e0, eg]
  rfl

theorem idx3 : ∀ t : Fin cfg3.N,
    win3_0.index t = ![t.val % 8, 0] ∧ win3_1.index t = ![t.val / 8, 0] ∧ win3_2.index t = ![t.val % 8, t.val / 8] :=
  (by decide +kernel : ∀ t : Fin grid3.N, _)

/-- The cotangent of the mixer's result. -/
theorem arr3 (c : Dev nD) :
    (dat3 V c).arrAt 2 cfg3.N = fun j : S8192x2048.Idx => nt (x_v4 V c) (x_v3 V c) (j 0) (j 1) := by
  refine (dat3 V c).arrAt_eq_of_covers 2 _ (by decide +kernel) fun t hf y => ?_
  blk_simp
  rw [after3_2]
  obtain ⟨a, l, rfl⟩ : ∃ (a : Fin 1024) (l : Fin 1024), y = ix2 a l := ⟨y 0, y 1, (ix2_eta y).symm⟩
  frame_out
  pointwise [k3_pay1]
  unfold nt
  refine sum_mul_congr (fun k => ?_) fun k => ?_
  · blk_simp [iblk3]
    blk_ext [idx3 t]
  · blk_simp [iblk3]
    blk_ext [idx3 t]

theorem idx4 : ∀ t : Fin cfg4.N,
    win4_0.index t = ![t.val % 16, 0] ∧ win4_1.index t = ![t.val / 16, 0] ∧ win4_2.index t = ![t.val % 16, t.val / 16] :=
  (by decide +kernel : ∀ t : Fin grid4.N, _)

/-- The gate's part of the cotangent of the input. -/
theorem arr4 (c : Dev nD) :
    (dat4 V c).arrAt 2 cfg4.N = fun j : S8192x1024.Idx => nt (x_v5 V c) (x_v7 V c) (j 0) (j 1) := by
  refine (dat4 V c).arrAt_eq_of_covers 2 _ (by decide +kernel) fun t hf y => ?_
  blk_simp
  rw [after4_2]
  obtain ⟨a, l, rfl⟩ : ∃ (a : Fin 512) (l : Fin 1024), y = ix2 a l := ⟨y 0, y 1, (ix2_eta y).symm⟩
  frame_out
  pointwise [k4_pay1]
  unfold nt
  refine sum_mul_congr (fun k => ?_) fun k => ?_
  · blk_simp [iblk4]
    blk_ext [idx4 t]
  · blk_simp [iblk4]
    blk_ext [idx4 t]

theorem idx5 : ∀ t : Fin cfg5.N,
    win5_0.index t = ![t.val % 16, 0] ∧ win5_1.index t = ![t.val / 16, 0] ∧ win5_2.index t = ![t.val % 16, t.val / 16] ∧ win5_3.index t = ![t.val % 16, t.val / 16] :=
  (by decide +kernel : ∀ t : Fin grid5.N, _)

/-- The channels' part of the cotangent of the input, added to the gate's. -/
theorem arr5 (c : Dev nD) :
    (dat5 V c).arrAt 3 cfg5.N = fun j : S8192x1024.Idx => nt (x_v6 V c) (x_v8 V c) (j 0) (j 1) + x_v13 V c (j 0) (j 1) := by
  refine (dat5 V c).arrAt_eq_of_covers 3 _ (by decide +kernel) fun t hf y => ?_
  blk_simp
  rw [after5_3]
  obtain ⟨a, l, rfl⟩ : ∃ (a : Fin 512) (l : Fin 1024), y = ix2 a l := ⟨y 0, y 1, (ix2_eta y).symm⟩
  frame_out
  pointwise [k5_pay1]
  unfold nt
  refine congrArg₂ (· + ·) (Finset.sum_congr rfl fun k _ => congrArg₂ (· * ·) ?_ ?_) ?_
  · blk_simp [iblk5]
    blk_ext [idx5 t]
  · blk_simp [iblk5]
    blk_ext [idx5 t]
  · blk_simp [iblk5]
    blk_ext [idx5 t]

end Cert.SsmIdeal.Value

end
-- ==== Proof.SsmSpec.lean ====
/- What each result of the program `Ssm` is of its arguments, as matrices over the extended reals. -/
module

public import proofs.«01_k».proof.Proof.Mat

@[expose] public section

noncomputable section

namespace Cert.SsmSpec

open Idealize.ShloMosaic Cert.Mat

/-- The gate. -/
def gate (a0 : Mtx 8192 1024) (a1 : Mtx 1024 5152) : Mtx 8192 2048 := fun j =>
  nn (at2 a0) (cols (N := 2048) 0 (by norm_num) (at2 a1)) (j 0) (j 1)

/-- The channels. -/
def chan (a0 : Mtx 8192 1024) (a1 : Mtx 1024 5152) : Mtx 8192 3072 := fun j =>
  nn (at2 a0) (cols (N := 3072) 2048 (by norm_num) (at2 a1)) (j 0) (j 1)

/-- The residual with the product added. -/
def out (a2 : Mtx 8192 2048) (a3 : Mtx 2048 1024) (a4 : Mtx 8192 1024) : Mtx 8192 1024 := fun j =>
  nn (at2 a2) (at2 a3) (j 0) (j 1) + (at2 a4) (j 0) (j 1)

/-- Its norm. -/
def norm (a2 : Mtx 8192 2048) (a3 : Mtx 2048 1024) (a4 : Mtx 8192 1024) (a5 : Mtx 1 1024) : Mtx 8192 1024 := fun j =>
  rmsn (fun s => nn (at2 a2) (at2 a3) (j 0) s + (at2 a4) (j 0) s) (fun s => at2 a5 0 s) (j 1)

/-- The cotangent of the mixer's result. -/
def dy (a3 : Mtx 2048 1024) (a6 : Mtx 8192 1024) : Mtx 8192 2048 := fun j =>
  nt (at2 a6) (at2 a3) (j 0) (j 1)

/-- The input's cotangent. -/
def dh (a1 : Mtx 1024 5152) (a7 : Mtx 8192 2048) (a8 : Mtx 8192 3072) : Mtx 8192 1024 := fun j =>
  nt (at2 a8) (cols (N := 3072) 2048 (by norm_num) (at2 a1)) (j 0) (j 1) + (nt (at2 a7) (cols (N := 2048) 0 (by norm_num) (at2 a1)) (j 0) (j 1))

end Cert.SsmSpec

end
-- ==== Proof.SsmRun.lean ====
/- The launch of the program `Ssm`: every fair execution ends with its results at the products of its arguments. -/
module

public import Idealize.ShloMosaic.Lib.StableHlo.ReadAt
public import proofs.«01_k».proof.Proof.SsmVal
public import proofs.«01_k».proof.Proof.SsmSpec

@[expose] public section

set_option maxRecDepth 16384

noncomputable section

namespace Cert.SsmIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SsmIdeal Cert.SsmIdeal.Gen Cert.Mat

variable (m : (ℓ : Loc nD τ sig) → Buf (Elt Ideal) ℓ) (ρ : Dev nD → PrngReg)

/-- The resources of the run. -/
abbrev World := MT nD τ sig Unit (Elt Ideal) ℕ (UR sig nD τ) ℕ

/-- Every execution ends with each array as the last call leaves it. -/
theorem run_all : θ_run defs (onTc (τ := τ) (main (F := Ideal))) ⟨m, fun _ => 0, ρ⟩ (fun r =>
    ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp World)
            ⊢ BI.own (emb₁ (initOf (Pipeline.cells cfgs cellOf_inj) (Pipeline.launchToks cfgs cellOf_inj))) from .rfl)
        iexact Hu
      iapply (show (BI.emp : sProp World) ⊢ bigSep Finset.univ (fun _ : Dev nD => (BI.emp : sProp World)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => h c)

/-! The arrays that the host writes before the first call. -/

abbrev a0 (c : Dev nD) : Mtx 8192 1024 := (m ((c : Thread nD τ).loc main_arg0) : FVec Ideal S8192x1024 .f32)
abbrev a1 (c : Dev nD) : Mtx 1024 5152 := (m ((c : Thread nD τ).loc main_arg1) : FVec Ideal S1024x5152 .f32)
abbrev a2 (c : Dev nD) : Mtx 8192 2048 := (m ((c : Thread nD τ).loc main_arg2) : FVec Ideal S8192x2048 .f32)
abbrev a3 (c : Dev nD) : Mtx 2048 1024 := (m ((c : Thread nD τ).loc main_arg3) : FVec Ideal S2048x1024 .f32)
abbrev a4 (c : Dev nD) : Mtx 8192 1024 := (m ((c : Thread nD τ).loc main_arg4) : FVec Ideal S8192x1024 .f32)
abbrev a5 (c : Dev nD) : Mtx 1 1024 := (m ((c : Thread nD τ).loc main_arg5) : FVec Ideal S1x1024 .f32)
abbrev a6 (c : Dev nD) : Mtx 8192 1024 := (m ((c : Thread nD τ).loc main_arg6) : FVec Ideal S8192x1024 .f32)
abbrev a7 (c : Dev nD) : Mtx 8192 2048 := (m ((c : Thread nD τ).loc main_arg7) : FVec Ideal S8192x2048 .f32)
abbrev a8 (c : Dev nD) : Mtx 8192 3072 := (m ((c : Thread nD τ).loc main_arg8) : FVec Ideal S8192x3072 .f32)

theorem h_v0 (c : Dev nD) : x_v0 (V1 m ρ) c = (at2 (a0 m c)) := by
  funext r k
  show (StableHlo.after hostOps0 (W0 m ρ c) (Proc.devRef .tc main_v0) : FVec Ideal S8192x1024 .bf16) (ix2 r k) = _
  after_reads_at
theorem h_v2 (c : Dev nD) : x_v2 (V1 m ρ) c = (at2 (a2 m c)) := by
  funext r k
  show (StableHlo.after hostOps0 (W0 m ρ c) (Proc.devRef .tc main_v2) : FVec Ideal S8192x2048 .bf16) (ix2 r k) = _
  after_reads_at
theorem h_v3 (c : Dev nD) : x_v3 (V1 m ρ) c = (at2 (a3 m c)) := by
  funext r k
  show (StableHlo.after hostOps0 (W0 m ρ c) (Proc.devRef .tc main_v3) : FVec Ideal S2048x1024 .bf16) (ix2 r k) = _
  after_reads_at
theorem h_v4 (c : Dev nD) : x_v4 (V1 m ρ) c = (at2 (a6 m c)) := by
  funext r k
  show (StableHlo.after hostOps0 (W0 m ρ c) (Proc.devRef .tc main_v4) : FVec Ideal S8192x1024 .bf16) (ix2 r k) = _
  after_reads_at
theorem h_v5 (c : Dev nD) : x_v5 (V1 m ρ) c = (at2 (a7 m c)) := by
  funext r k
  show (StableHlo.after hostOps0 (W0 m ρ c) (Proc.devRef .tc main_v5) : FVec Ideal S8192x2048 .bf16) (ix2 r k) = _
  after_reads_at
theorem h_v6 (c : Dev nD) : x_v6 (V1 m ρ) c = (at2 (a8 m c)) := by
  funext r k
  show (StableHlo.after hostOps0 (W0 m ρ c) (Proc.devRef .tc main_v6) : FVec Ideal S8192x3072 .bf16) (ix2 r k) = _
  after_reads_at
theorem h_v7 (c : Dev nD) : x_v7 (V1 m ρ) c = (cols (N := 2048) 0 (by norm_num) (at2 (a1 m c))) := by
  funext r k
  show (StableHlo.after hostOps0 (W0 m ρ c) (Proc.devRef .tc main_v7) : FVec Ideal S1024x2048 .bf16) (ix2 r k) = _
  after_reads_at
  all_goals first | rfl | (simp only [cols, rws, Nat.zero_add]; rfl) | simp only [cols, rws, Nat.zero_add]
theorem h_v8 (c : Dev nD) : x_v8 (V1 m ρ) c = (cols (N := 3072) 2048 (by norm_num) (at2 (a1 m c))) := by
  funext r k
  show (StableHlo.after hostOps0 (W0 m ρ c) (Proc.devRef .tc main_v8) : FVec Ideal S1024x3072 .bf16) (ix2 r k) = _
  after_reads_at
  all_goals first | rfl | (simp only [cols, rws, Nat.zero_add]; rfl) | simp only [cols, rws, Nat.zero_add]

/-! What each call reads. -/

theorem r0_v0 (c : Dev nD) : x_v0 (V1 m ρ) c = (at2 (a0 m c)) := by
  exact h_v0 m ρ c
theorem r0_v7 (c : Dev nD) : x_v7 (V1 m ρ) c = (cols (N := 2048) 0 (by norm_num) (at2 (a1 m c))) := by
  exact h_v7 m ρ c
theorem r1_v0 (c : Dev nD) : x_v0 (V2 m ρ) c = (at2 (a0 m c)) := by
  refine Eq.trans ?_ (h_v0 m ρ c)
  funext r k
  exact congrFun ((W2_of m ρ c main_v0 (by decide +kernel)).trans (rfl)) (ix2 r k)
theorem r1_v8 (c : Dev nD) : x_v8 (V2 m ρ) c = (cols (N := 3072) 2048 (by norm_num) (at2 (a1 m c))) := by
  refine Eq.trans ?_ (h_v8 m ρ c)
  funext r k
  exact congrFun ((W2_of m ρ c main_v8 (by decide +kernel)).trans (rfl)) (ix2 r k)
theorem r2_v2 (c : Dev nD) : x_v2 (V3 m ρ) c = (at2 (a2 m c)) := by
  refine Eq.trans ?_ (h_v2 m ρ c)
  funext r k
  exact congrFun ((W3_of m ρ c main_v2 (by decide +kernel)).trans ((W2_of m ρ c main_v2 (by decide +kernel)).trans (rfl))) (ix2 r k)
theorem r2_v3 (c : Dev nD) : x_v3 (V3 m ρ) c = (at2 (a3 m c)) := by
  refine Eq.trans ?_ (h_v3 m ρ c)
  funext r k
  exact congrFun ((W3_of m ρ c main_v3 (by decide +kernel)).trans ((W2_of m ρ c main_v3 (by decide +kernel)).trans (rfl))) (ix2 r k)
theorem r2_arg4 (c : Dev nD) : x_arg4 (V3 m ρ) c = at2 (a4 m c) := by
  funext r k
  exact congrFun (W3_args m ρ c main_arg4 (by decide +kernel)) (ix2 r k)
theorem r2_arg5 (c : Dev nD) : x_arg5 (V3 m ρ) c = at2 (a5 m c) := by
  funext r k
  exact congrFun (W3_args m ρ c main_arg5 (by decide +kernel)) (ix2 r k)
theorem r3_v4 (c : Dev nD) : x_v4 (V4 m ρ) c = (at2 (a6 m c)) := by
  refine Eq.trans ?_ (h_v4 m ρ c)
  funext r k
  exact congrFun ((W4_of m ρ c main_v4 (by decide +kernel)).trans ((W3_of m ρ c main_v4 (by decide +kernel)).trans ((W2_of m ρ c main_v4 (by decide +kernel)).trans (rfl)))) (ix2 r k)
theorem r3_v3 (c : Dev nD) : x_v3 (V4 m ρ) c = (at2 (a3 m c)) := by
  refine Eq.trans ?_ (h_v3 m ρ c)
  funext r k
  exact congrFun ((W4_of m ρ c main_v3 (by decide +kernel)).trans ((W3_of m ρ c main_v3 (by decide +kernel)).trans ((W2_of m ρ c main_v3 (by decide +kernel)).trans (rfl)))) (ix2 r k)
theorem r4_v5 (c : Dev nD) : x_v5 (V5 m ρ) c = (at2 (a7 m c)) := by
  refine Eq.trans ?_ (h_v5 m ρ c)
  funext r k
  exact congrFun ((W5_of m ρ c main_v5 (by decide +kernel)).trans ((W4_of m ρ c main_v5 (by decide +kernel)).trans ((W3_of m ρ c main_v5 (by decide +kernel)).trans ((W2_of m ρ c main_v5 (by decide +kernel)).trans (rfl))))) (ix2 r k)
theorem r4_v7 (c : Dev nD) : x_v7 (V5 m ρ) c = (cols (N := 2048) 0 (by norm_num) (at2 (a1 m c))) := by
  refine Eq.trans ?_ (h_v7 m ρ c)
  funext r k
  exact congrFun ((W5_of m ρ c main_v7 (by decide +kernel)).trans ((W4_of m ρ c main_v7 (by decide +kernel)).trans ((W3_of m ρ c main_v7 (by decide +kernel)).trans ((W2_of m ρ c main_v7 (by decide +kernel)).trans (rfl))))) (ix2 r k)
theorem r5_v6 (c : Dev nD) : x_v6 (V6 m ρ) c = (at2 (a8 m c)) := by
  refine Eq.trans ?_ (h_v6 m ρ c)
  funext r k
  exact congrFun ((W6_of m ρ c main_v6 (by decide +kernel)).trans ((W5_of m ρ c main_v6 (by decide +kernel)).trans ((W4_of m ρ c main_v6 (by decide +kernel)).trans ((W3_of m ρ c main_v6 (by decide +kernel)).trans ((W2_of m ρ c main_v6 (by decide +kernel)).trans (rfl)))))) (ix2 r k)
theorem r5_v8 (c : Dev nD) : x_v8 (V6 m ρ) c = (cols (N := 3072) 2048 (by norm_num) (at2 (a1 m c))) := by
  refine Eq.trans ?_ (h_v8 m ρ c)
  funext r k
  exact congrFun ((W6_of m ρ c main_v8 (by decide +kernel)).trans ((W5_of m ρ c main_v8 (by decide +kernel)).trans ((W4_of m ρ c main_v8 (by decide +kernel)).trans ((W3_of m ρ c main_v8 (by decide +kernel)).trans ((W2_of m ρ c main_v8 (by decide +kernel)).trans (rfl)))))) (ix2 r k)
theorem r5_v13 (c : Dev nD) : x_v13 (V6 m ρ) c = (fun r s => nt (at2 (a7 m c)) (cols (N := 2048) 0 (by norm_num) (at2 (a1 m c))) r s) := by
  funext r k
  have e := (W6_arr m ρ c 2).trans (arr4 (V5 m ρ) c)
  refine (congrFun e (ix2 r k)).trans ?_
  rw [r4_v5 m ρ c, r4_v7 m ρ c]
  rfl

/-! The results. -/

/-- The gate. -/
theorem res_gate (c : Dev nD) : W7 m ρ c (Proc.devRef .tc main_v9) = SsmSpec.gate (a0 m c) (a1 m c) := by
  refine (W7_of m ρ c main_v9 (by decide +kernel)).trans ((W6_of m ρ c main_v9 (by decide +kernel)).trans ((W5_of m ρ c main_v9 (by decide +kernel)).trans ((W4_of m ρ c main_v9 (by decide +kernel)).trans ((W3_of m ρ c main_v9 (by decide +kernel)).trans ((W2_arr m ρ c 2).trans (((arr0 (V1 m ρ) c)).trans ?_))))))
  rw [r0_v0 m ρ c, r0_v7 m ρ c]
  rfl

/-- The channels. -/
theorem res_chan (c : Dev nD) : W7 m ρ c (Proc.devRef .tc main_v10) = SsmSpec.chan (a0 m c) (a1 m c) := by
  refine (W7_of m ρ c main_v10 (by decide +kernel)).trans ((W6_of m ρ c main_v10 (by decide +kernel)).trans ((W5_of m ρ c main_v10 (by decide +kernel)).trans ((W4_of m ρ c main_v10 (by decide +kernel)).trans ((W3_arr m ρ c 2).trans (((arr1 (V2 m ρ) c)).trans ?_)))))
  rw [r1_v0 m ρ c, r1_v8 m ρ c]
  rfl

/-- The residual with the product added. -/
theorem res_out (c : Dev nD) : W7 m ρ c (Proc.devRef .tc main_v11_0) = SsmSpec.out (a2 m c) (a3 m c) (a4 m c) := by
  refine (W7_of m ρ c main_v11_0 (by decide +kernel)).trans ((W6_of m ρ c main_v11_0 (by decide +kernel)).trans ((W5_of m ρ c main_v11_0 (by decide +kernel)).trans ((W4_arr m ρ c 4).trans (((arr2_4 (V3 m ρ) c)).trans ?_))))
  rw [r2_v2 m ρ c, r2_v3 m ρ c, r2_arg4 m ρ c]
  rfl

/-- Its norm. -/
theorem res_norm (c : Dev nD) : W7 m ρ c (Proc.devRef .tc main_v11_1) = SsmSpec.norm (a2 m c) (a3 m c) (a4 m c) (a5 m c) := by
  refine (W7_of m ρ c main_v11_1 (by decide +kernel)).trans ((W6_of m ρ c main_v11_1 (by decide +kernel)).trans ((W5_of m ρ c main_v11_1 (by decide +kernel)).trans ((W4_arr m ρ c 5).trans (((arr2_5 (V3 m ρ) c)).trans ?_))))
  rw [r2_v2 m ρ c, r2_v3 m ρ c, r2_arg4 m ρ c, r2_arg5 m ρ c]
  rfl

/-- The cotangent of the mixer's result. -/
theorem res_dy (c : Dev nD) : W7 m ρ c (Proc.devRef .tc main_v12) = SsmSpec.dy (a3 m c) (a6 m c) := by
  refine (W7_of m ρ c main_v12 (by decide +kernel)).trans ((W6_of m ρ c main_v12 (by decide +kernel)).trans ((W5_arr m ρ c 2).trans (((arr3 (V4 m ρ) c)).trans ?_)))
  rw [r3_v4 m ρ c, r3_v3 m ρ c]
  rfl

/-- The input's cotangent. -/
theorem res_dh (c : Dev nD) : W7 m ρ c (Proc.devRef .tc main_v14) = SsmSpec.dh (a1 m c) (a7 m c) (a8 m c) := by
  refine (W7_arr m ρ c 3).trans (((arr5 (V6 m ρ) c)).trans ?_)
  rw [r5_v6 m ρ c, r5_v8 m ρ c, r5_v13 m ρ c]
  rfl

/-- Every execution ends with the results at their values of the arguments, and the arguments unchanged. -/
theorem run_value : θ_run defs (onTc (τ := τ) (main (F := Ideal))) ⟨m, fun _ => 0, ρ⟩ (fun r => ∀ c : Dev nD,
      r.2.mem ((c.tc : Thread nD τ).loc main_v9) = SsmSpec.gate (a0 m c) (a1 m c)
      ∧ r.2.mem ((c.tc : Thread nD τ).loc main_v10) = SsmSpec.chan (a0 m c) (a1 m c)
      ∧ r.2.mem ((c.tc : Thread nD τ).loc main_v11_0) = SsmSpec.out (a2 m c) (a3 m c) (a4 m c)
      ∧ r.2.mem ((c.tc : Thread nD τ).loc main_v11_1) = SsmSpec.norm (a2 m c) (a3 m c) (a4 m c) (a5 m c)
      ∧ r.2.mem ((c.tc : Thread nD τ).loc main_v12) = SsmSpec.dy (a3 m c) (a6 m c)
      ∧ r.2.mem ((c.tc : Thread nD τ).loc main_v14) = SsmSpec.dh (a1 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (res_gate m ρ c),
     (h c _ (mem_uc main_v10 (by decide))).trans (res_chan m ρ c),
     (h c _ (mem_uc main_v11_0 (by decide))).trans (res_out m ρ c),
     (h c _ (mem_uc main_v11_1 (by decide))).trans (res_norm m ρ c),
     (h c _ (mem_uc main_v12 (by decide))).trans (res_dy m ρ c),
     (h c _ (mem_uc main_v14 (by decide))).trans (res_dh m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_all m ρ)

end Cert.SsmIdeal.Value

end
-- ==== Proof.SsmRef.lean ====
/- The reference of the program `Ssm`: each of its results is the same product of its arguments. -/
module

public import Idealize.ShloMosaic.Lib.Pipeline.ValueKit
public import Idealize.ShloMosaic.Lib.KernelVsHost
public import proofs.«01_k».proof.Proof.Gen.SsmRefIdeal.Read
public import proofs.«01_k».proof.Proof.SsmSpec

@[expose] public section

set_option maxRecDepth 16384

noncomputable section

namespace Cert.SsmRefIdeal.Read

open Idealize.ShloMosaic Idealize.ShloMosaic.TcCoe Idealize.SL.Sem
open Cert.SsmRefIdeal Cert.SsmRefIdeal.Gen Cert.Mat
open scoped BigOperators

theorem gate_eq (x0 : (⟨S8192x1024, .f32⟩ : BufTy).Contents (Elt Ideal)) (x1 : (⟨S1024x5152, .f32⟩ : BufTy).Contents (Elt Ideal)) :
    val_main_v14 (F := Ideal) x0 x1 = SsmSpec.gate x0 x1 := by
  refine mtx_ext fun r s => ?_
  unfold SsmSpec.gate nn
  show val_main_v1 (F := Ideal) x0 x1 (ix2 r s) = _
  rw [val_main_v1_apply, val_main_v0_apply]
  refine sum_mul_congr (fun k => ?_) fun k => ?_
  · exact congrArg x0 (funext fun n => Fin.ext (by fin_cases n <;> first | rfl | exact (Nat.zero_add _).symm))
  · exact congrArg x1 (funext fun n => Fin.ext (by fin_cases n <;> first | rfl | exact (Nat.zero_add _).symm))

theorem chan_eq (x0 : (⟨S8192x1024, .f32⟩ : BufTy).Contents (Elt Ideal)) (x1 : (⟨S1024x5152, .f32⟩ : BufTy).Contents (Elt Ideal)) :
    val_main_v15 (F := Ideal) x0 x1 = SsmSpec.chan x0 x1 := by
  refine mtx_ext fun r s => ?_
  unfold SsmSpec.chan nn
  show val_main_v2 (F := Ideal) x0 x1 (ix2 r s) = _
  rw [val_main_v2_apply, val_main_v0_apply]
  refine sum_mul_congr (fun k => ?_) fun k => ?_
  · exact congrArg x0 (funext fun n => Fin.ext (by fin_cases n <;> first | rfl | exact (Nat.zero_add _).symm))
  · exact congrArg x1 (funext fun n => Fin.ext (by fin_cases n <;> first | rfl | exact (Nat.zero_add _).symm))

theorem out_eq (x2 : (⟨S8192x2048, .f32⟩ : BufTy).Contents (Elt Ideal)) (x3 : (⟨S2048x1024, .f32⟩ : BufTy).Contents (Elt Ideal)) (x4 : (⟨S8192x1024, .f32⟩ : BufTy).Contents (Elt Ideal)) :
    val_main_v13 (F := Ideal) x2 x3 x4 = SsmSpec.out x2 x3 x4 := by
  refine mtx_ext fun r s => ?_
  unfold SsmSpec.out nn
  refine (val_main_v13_apply x2 x3 x4 (ix2 r s)).trans ((add_comm (G := EReal) _ _).trans (congrArg (· + (x4 (ix2 r s) : EReal)) ?_))
  rw [val_main_v12_apply]
  refine sum_mul_congr (fun k => ?_) fun k => ?_
  · exact congrArg x2 (funext fun n => Fin.ext (by fin_cases n <;> first | rfl | exact (Nat.zero_add _).symm))
  · exact congrArg x3 (funext fun n => Fin.ext (by fin_cases n <;> first | rfl | exact (Nat.zero_add _).symm))

theorem norm_eq (x2 : (⟨S8192x2048, .f32⟩ : BufTy).Contents (Elt Ideal)) (x3 : (⟨S2048x1024, .f32⟩ : BufTy).Contents (Elt Ideal)) (x4 : (⟨S8192x1024, .f32⟩ : BufTy).Contents (Elt Ideal)) (x5 : (⟨S1x1024, .f32⟩ : BufTy).Contents (Elt Ideal)) :
    val_main_v28 (F := Ideal) x2 x3 x4 x5 = SsmSpec.norm x2 x3 x4 x5 := by
  refine mtx_ext fun r s => ?_
  have hx : ∀ k : Fin 1024, (val_main_v13 (F := Ideal) x2 x3 x4 (ix2 r k) : EReal) = SsmSpec.out x2 x3 x4 (ix2 r k) :=
    fun k => congrFun (out_eq x2 x3 x4) (ix2 r k)
  have hsum : (val_main_v17 (F := Ideal) x2 x3 x4 (ix1 r) : EReal)
      = ∑ k : Fin 1024, SsmSpec.out x2 x3 x4 (ix2 r k) * SsmSpec.out x2 x3 x4 (ix2 r k) := by
    rw [val_main_v17_apply]
    refine (congrArg₂ (fun a b : EReal => a + b) bits_zero (Finset.sum_congr rfl fun k _ => ?_)).trans (zero_add _)
    have hi : idx_main_v17 (ix1 r) k = ix2 r k := funext fun n => by fin_cases n <;> rfl
    rw [hi]
    exact congrArg₂ (fun a b : EReal => a * b) (hx k) (hx k)
  have hr : (val_main_v24 (F := Ideal) x2 x3 x4 (ix2 r s) : EReal)
      = Ideal.rsqrt (Ideal.div (∑ k : Fin 1024, SsmSpec.out x2 x3 x4 (ix2 r k) * SsmSpec.out x2 x3 x4 (ix2 r k)) (Ideal.ofBits .f32 0x44800000#32)
        + Ideal.ofBits .f32 0x358637BD#32) := by
    rw [val_main_v24_apply]
    show Ideal.rsqrt (Ideal.div (val_main_v18 (F := Ideal) x2 x3 x4 (idx_main_v24 (ix2 r s))) (val_main_v19 (F := Ideal) (idx_main_v24 (ix2 r s)))
      + val_main_v21 (F := Ideal) (idx_main_v24 (ix2 r s))) = _
    have hi : idx_main_v18 (idx_main_v24 (ix2 r s)) = ix1 r := funext fun n => by fin_cases n; rfl
    rw [val_main_v18_apply, val_main_v19_apply, val_main_v21_apply, hi, hsum]
    rfl
  have hg : (val_main_v26 (F := Ideal) x5 (ix2 r s) : EReal) = at2 x5 0 s := by
    rw [val_main_v26_apply]
    exact congrArg x5 (funext fun n => by fin_cases n <;> rfl)
  show (val_main_v13 (F := Ideal) x2 x3 x4 (ix2 r s) : EReal) * val_main_v24 (F := Ideal) x2 x3 x4 (ix2 r s) * val_main_v26 (F := Ideal) x5 (ix2 r s) = _
  rw [hx s, hr, hg]
  rfl

theorem dy_eq (x3 : (⟨S2048x1024, .f32⟩ : BufTy).Contents (Elt Ideal)) (x6 : (⟨S8192x1024, .f32⟩ : BufTy).Contents (Elt Ideal)) :
    val_main_v29 (F := Ideal) x3 x6 = SsmSpec.dy x3 x6 := by
  refine mtx_ext fun r s => ?_
  unfold SsmSpec.dy nt
  rw [val_main_v29_apply]
  refine sum_mul_congr (fun k => ?_) fun k => ?_
  · exact congrArg x6 (funext fun n => Fin.ext (by fin_cases n <;> first | rfl | exact (Nat.zero_add _).symm))
  · exact congrArg x3 (funext fun n => Fin.ext (by fin_cases n <;> first | rfl | exact (Nat.zero_add _).symm))

theorem dh_eq (x1 : (⟨S1024x5152, .f32⟩ : BufTy).Contents (Elt Ideal)) (x7 : (⟨S8192x2048, .f32⟩ : BufTy).Contents (Elt Ideal)) (x8 : (⟨S8192x3072, .f32⟩ : BufTy).Contents (Elt Ideal)) :
    val_main_v11 (F := Ideal) x1 x7 x8 = SsmSpec.dh x1 x7 x8 := by
  refine mtx_ext fun r s => ?_
  unfold SsmSpec.dh nt
  refine (val_main_v11_apply x1 x7 x8 (ix2 r s)).trans (congrArg₂ (fun a b : EReal => a + b) ?_ ?_)
  · rw [val_main_v9_apply]
    refine sum_mul_congr (fun k => congrArg x8 (funext fun n => Fin.ext (by fin_cases n <;> first | rfl | exact (Nat.zero_add _).symm))) fun k => ?_
    rw [val_main_v5_apply]
    exact congrArg x1 (funext fun n => Fin.ext (by fin_cases n <;> first | rfl | exact (Nat.zero_add _).symm))
  · rw [val_main_v10_apply]
    refine sum_mul_congr (fun k => congrArg x7 (funext fun n => Fin.ext (by fin_cases n <;> first | rfl | exact (Nat.zero_add _).symm))) fun k => ?_
    rw [val_main_v4_apply]
    exact congrArg x1 (funext fun n => Fin.ext (by fin_cases n <;> first | rfl | exact (Nat.zero_add _).symm))

variable (m : (ℓ : Loc nD τ sig) → Buf (Elt Ideal) ℓ) (ρ : Dev nD → PrngReg)

abbrev a0 (c : Dev nD) : Mtx 8192 1024 := (m ((c.tc : Thread nD τ).loc main_arg0) : FVec Ideal S8192x1024 .f32)
abbrev a1 (c : Dev nD) : Mtx 1024 5152 := (m ((c.tc : Thread nD τ).loc main_arg1) : FVec Ideal S1024x5152 .f32)
abbrev a2 (c : Dev nD) : Mtx 8192 2048 := (m ((c.tc : Thread nD τ).loc main_arg2) : FVec Ideal S8192x2048 .f32)
abbrev a3 (c : Dev nD) : Mtx 2048 1024 := (m ((c.tc : Thread nD τ).loc main_arg3) : FVec Ideal S2048x1024 .f32)
abbrev a4 (c : Dev nD) : Mtx 8192 1024 := (m ((c.tc : Thread nD τ).loc main_arg4) : FVec Ideal S8192x1024 .f32)
abbrev a5 (c : Dev nD) : Mtx 1 1024 := (m ((c.tc : Thread nD τ).loc main_arg5) : FVec Ideal S1x1024 .f32)
abbrev a6 (c : Dev nD) : Mtx 8192 1024 := (m ((c.tc : Thread nD τ).loc main_arg6) : FVec Ideal S8192x1024 .f32)
abbrev a7 (c : Dev nD) : Mtx 8192 2048 := (m ((c.tc : Thread nD τ).loc main_arg7) : FVec Ideal S8192x2048 .f32)
abbrev a8 (c : Dev nD) : Mtx 8192 3072 := (m ((c.tc : Thread nD τ).loc main_arg8) : FVec Ideal S8192x3072 .f32)

/-- The reference's run. -/
theorem run_value : θ_run defs (onTc (τ := τ) (main (F := Ideal))) ⟨m, fun _ => 0, ρ⟩ fun r => ∀ c : Dev nD,
      r.2.mem ((c.tc : Thread nD τ).loc main_v14) = SsmSpec.gate (a0 m c) (a1 m c)
      ∧ r.2.mem ((c.tc : Thread nD τ).loc main_v15) = SsmSpec.chan (a0 m c) (a1 m c)
      ∧ r.2.mem ((c.tc : Thread nD τ).loc main_v13) = SsmSpec.out (a2 m c) (a3 m c) (a4 m c)
      ∧ r.2.mem ((c.tc : Thread nD τ).loc main_v28) = SsmSpec.norm (a2 m c) (a3 m c) (a4 m c) (a5 m c)
      ∧ r.2.mem ((c.tc : Thread nD τ).loc main_v29) = SsmSpec.dy (a3 m c) (a6 m c)
      ∧ r.2.mem ((c.tc : Thread nD τ).loc main_v11) = SsmSpec.dh (a1 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨r0, r1, r2, r3, r4, r5, ra⟩ := h c
    exact ⟨r0.trans ((val_main_v14_eq _ _).trans (gate_eq _ _)),
      r1.trans ((val_main_v15_eq _ _).trans (chan_eq _ _)),
      r2.trans ((val_main_v13_eq _ _ _).trans (out_eq _ _ _)),
      r3.trans ((val_main_v28_eq _ _ _ _).trans (norm_eq _ _ _ _)),
      r4.trans ((val_main_v29_eq _ _).trans (dy_eq _ _)),
      r5.trans ((val_main_v11_eq _ _ _).trans (dh_eq _ _ _)), ra⟩) (Cert.SsmRefIdeal.Value.run m ρ)

end Cert.SsmRefIdeal.Read

end
-- ==== Proof.FfnDwInVal.lean ====
/- The weight gradient `FfnDwIn`, of a half of the feed-forward's input weights: the sum over four blocks of rows is the product of the transpose of the
   activations and the cotangents. -/
module

public import Idealize.ShloMosaic.Lib.Pipeline.ValueKit
public import Idealize.ShloMosaic.Lib.Claim
public import Idealize.ShloMosaic.Lib.StableHlo.ReadAt
public import proofs.«01_k».proof.Proof.Gen.FfnDwInIdeal.Frame
public import proofs.«01_k».proof.Proof.Gen.FfnDwInRefIdeal.Read
public import proofs.«01_k».proof.Proof.Mat

@[expose] public section

set_option maxRecDepth 16384

noncomputable section

namespace Cert.FfnDwInIdeal.Value

open Idealize.ShloMosaic Idealize.ShloMosaic.TcCoe Idealize.SL.Sem
open Cert.FfnDwInIdeal Cert.FfnDwInIdeal.Gen Cert.Mat
open scoped BigOperators

variable (m : (ℓ : Loc nD τ sig) → Buf (Elt Ideal) ℓ) (ρ : Dev nD → PrngReg)

theorem idx : ∀ t : Fin cfg0.N,
    win0_0.index t = ![t.val % 4, t.val / 8] ∧ win0_1.index t = ![t.val % 4, t.val / 4 % 2]
      ∧ win0_2.index t = ![t.val / 8, t.val / 4 % 2] :=
  (by decide +kernel : ∀ t : Fin grid0.N, _)

/-- The arguments. -/
abbrev a0 (c : Dev nD) : Mtx 8192 1024 := (m ((c : Thread nD τ).loc main_arg0) : FVec Ideal S8192x1024 .f32)
abbrev a1 (c : Dev nD) : Mtx 8192 2816 := (m ((c : Thread nD τ).loc main_arg1) : FVec Ideal S8192x2816 .f32)

/-- The activations' and the cotangents' block at a point, after the host's casts. -/
abbrev xa (c : Dev nD) (t : Fin cfg0.N) (k : Fin 2048) (a : Fin 1024) : EReal := (iblk m c 0 t : FVec Ideal S2048x1024 .bf16) (ix2 k a)
abbrev xb (c : Dev nD) (t : Fin cfg0.N) (k : Fin 2048) (l : Fin 1408) : EReal := (iblk m c 1 t : FVec Ideal S2048x1408 .bf16) (ix2 k l)

/-- The first point of a tile puts its block's product there. -/
theorem outA (c : Dev nD) (t : Fin cfg0.N) (h0 : t.val % 4 = 0) (a : Fin 1024) (l : Fin 1408) :
    (outsAt0 m c t.val t.isLt : FVec Ideal S1024x1408 .f32) (ix2 a l) = 0 + tn (xa m c t) (xb m c t) a l := by
  rw [outsAt0_A m c t h0 (by omega)]
  frame_out
  pointwise [k0_pay1]
  rfl

/-- A later point adds its block's product. -/
theorem outB (c : Dev nD) (t : Fin cfg0.N) (h0 : ¬t.val % 4 = 0) (a : Fin 1024) (l : Fin 1408) :
    (outsAt0 m c t.val t.isLt : FVec Ideal S1024x1408 .f32) (ix2 a l)
      = (outsAt0 m c (t.val - 1) (Nat.lt_of_le_of_lt (Nat.sub_le _ _) t.isLt) : FVec Ideal S1024x1408 .f32) (ix2 a l)
        + tn (xa m c t) (xb m c t) a l := by
  rw [outsAt0_B m c t h0 (by omega)]
  frame_out
  pointwise [k0_pay2, k0_pay1]
  rfl

/-- The blocks' entries in the arguments. -/
theorem xa_at (c : Dev nD) (t : Fin cfg0.N) (k : Fin 2048) (a : Fin 1024) (K : Fin 8192) (A : Fin 1024)
    (hK : K.val = 2048 * (t.val % 4) + k.val) (hA : A.val = t.val / 8 * 1024 + a.val) : xa m c t k a = at2 (a0 m c) K A := by
  have e : (V m c main_v0 : FVec Ideal S8192x1024 .bf16) (ix2 K A) = at2 (a0 m c) K A := rfl
  refine Eq.trans ?_ e
  show (iblk m c 0 t : FVec Ideal S2048x1024 .bf16) (ix2 k a) = _
  blk_simp [iblk]
  blk_ext [idx t, hK, hA]

theorem xb_at (c : Dev nD) (t : Fin cfg0.N) (k : Fin 2048) (l : Fin 1408) (K : Fin 8192) (B : Fin 2816)
    (hK : K.val = 2048 * (t.val % 4) + k.val) (hB : B.val = t.val / 4 % 2 * 1408 + l.val) : xb m c t k l = at2 (a1 m c) K B := by
  have e : (V m c main_v1 : FVec Ideal S8192x2816 .bf16) (ix2 K B) = at2 (a1 m c) K B := rfl
  refine Eq.trans ?_ e
  show (iblk m c 1 t : FVec Ideal S2048x1408 .bf16) (ix2 k l) = _
  blk_simp [iblk]
  blk_ext [idx t, hK, hB]

/-- After a tile's last point it holds the whole product. -/
theorem sum_blocks (c : Dev nD) (t : Fin cfg0.N) (ht : t.val % 4 = 3) (a : Fin 1024) (l : Fin 1408) (A : Fin 1024) (B : Fin 2816)
    (hA : A.val = t.val / 8 * 1024 + a.val) (hB : B.val = t.val / 4 % 2 * 1408 + l.val) :
    (outsAt0 m c t.val t.isLt : FVec Ideal S1024x1408 .f32) (ix2 a l) = tn (at2 (a0 m c)) (at2 (a1 m c)) A B := by
  rw [Pipeline.eq_sum_fin_of_reset_step_of_flush (fun n hn => ((outsAt0 m c n hn : FVec Ideal S1024x1408 .f32) (ix2 a l) : EReal)) 4 0
    (fun t => tn (xa m c t) (xb m c t) a l) (fun t h => outA m c t h a l) (fun t h => outB m c t h a l) t ht, zero_add]
  unfold tn
  rw [sum_rows]
  refine Finset.sum_congr rfl fun i _ => sum_mul_congr (fun k => ?_) fun k => ?_
  · refine xa_at m c _ k a _ A ?_ ?_
    · show 2048 * i.val + k.val = 2048 * ((4 * (t.val / 4) + i.val) % 4) + k.val; omega
    · show A.val = (4 * (t.val / 4) + i.val) / 8 * 1024 + a.val; omega
  · refine xb_at m c _ k l _ B ?_ ?_
    · show 2048 * i.val + k.val = 2048 * ((4 * (t.val / 4) + i.val) % 4) + k.val; omega
    · show B.val = (4 * (t.val / 4) + i.val) / 4 % 2 * 1408 + l.val; omega

/-- The array of the gradient. -/
theorem arr2 (c : Dev nD) : (dats m 0 c).arrAt 2 cfg0.N = fun j : S1024x2816.Idx => tn (at2 (a0 m c)) (at2 (a1 m c)) (j 0) (j 1) := by
  refine (dats m 0 c).arrAt_eq_of_covers 2 _ (by decide +kernel) fun t hf y => ?_
  blk_simp
  rw [after0_2]
  obtain ⟨a, l, rfl⟩ : ∃ (a : Fin 1024) (l : Fin 1408), y = ix2 a l := ⟨y 0, y 1, (ix2_eta y).symm⟩
  refine sum_blocks m c t ((flush0_2 t).mp hf) a l _ _ ?_ ?_
  · blk_simp [idx t]
  · blk_simp [idx t]

/-- Every execution ends with the gradient in the result, and the arguments unchanged. -/
theorem run_value : θ_run defs (onTc (τ := τ) (main (F := Ideal))) ⟨m, fun _ => 0, ρ⟩ fun r => ∀ c : Dev nD,
      r.2.mem ((c.tc : Thread nD τ).loc main_v2) = (fun j : S1024x2816.Idx => tn (at2 (a0 m c)) (at2 (a1 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), h.2 c⟩) (θ_run_and (run_main m ρ) (unchanged m ρ))

end Cert.FfnDwInIdeal.Value

namespace Cert.FfnDwInRefIdeal.Read

open Idealize.ShloMosaic Idealize.ShloMosaic.TcCoe Idealize.SL.Sem
open Cert.FfnDwInRefIdeal Cert.FfnDwInRefIdeal.Gen Cert.Mat
open scoped BigOperators

/-- The reference's gradient is the same product. -/
theorem grad_eq (x0 : (⟨S8192x1024, .f32⟩ : BufTy).Contents (Elt Ideal)) (x1 : (⟨S8192x2816, .f32⟩ : BufTy).Contents (Elt Ideal)) :
    val_main_v3 (F := Ideal) x0 x1 = (fun j : S1024x2816.Idx => tn (at2 x0) (at2 x1) (j 0) (j 1)) := by
  refine mtx_ext fun r s => ?_
  rw [val_main_v3_apply, val_main_v2_apply]
  refine Finset.sum_congr rfl fun k _ => ?_
  rw [mul_comm]
  refine congrArg₂ (· * ·) (congrArg x0 (funext fun n => ?_)) (congrArg x1 (funext fun n => ?_)) <;> fin_cases n <;> rfl

variable (m : (ℓ : Loc nD τ sig) → Buf (Elt Ideal) ℓ) (ρ : Dev nD → PrngReg)

/-- The reference's run. -/
theorem run_value : θ_run defs (onTc (τ := τ) (main (F := Ideal))) ⟨m, fun _ => 0, ρ⟩ fun r => ∀ c : Dev nD,
      r.2.mem ((c.tc : Thread nD τ).loc main_v3) = (fun j : S1024x2816.Idx =>
          tn (at2 (m ((c.tc : Thread nD τ).loc main_arg0) : FVec Ideal S8192x1024 .f32)) (at2 (m ((c.tc : Thread nD τ).loc main_arg1) : FVec Ideal S8192x2816 .f32)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (grad_eq _ _)), (h c).2⟩)
    (Cert.FfnDwInRefIdeal.Value.run m ρ)

end Cert.FfnDwInRefIdeal.Read

end
-- ==== Proof.FfnDwOutVal.lean ====
/- The weight gradient `FfnDwOut`, of the feed-forward's output weights: the sum over four blocks of rows is the product of the transpose of the
   activations and the cotangents. -/
module

public import Idealize.ShloMosaic.Lib.Pipeline.ValueKit
public import Idealize.ShloMosaic.Lib.Claim
public import Idealize.ShloMosaic.Lib.StableHlo.ReadAt
public import proofs.«01_k».proof.Proof.Gen.FfnDwOutIdeal.Frame
public import proofs.«01_k».proof.Proof.Gen.FfnDwOutRefIdeal.Read
public import proofs.«01_k».proof.Proof.Mat

@[expose] public section

set_option maxRecDepth 16384

noncomputable section

namespace Cert.FfnDwOutIdeal.Value

open Idealize.ShloMosaic Idealize.ShloMosaic.TcCoe Idealize.SL.Sem
open Cert.FfnDwOutIdeal Cert.FfnDwOutIdeal.Gen Cert.Mat
open scoped BigOperators

variable (m : (ℓ : Loc nD τ sig) → Buf (Elt Ideal) ℓ) (ρ : Dev nD → PrngReg)

theorem idx : ∀ t : Fin cfg0.N,
    win0_0.index t = ![t.val % 4, t.val / 4] ∧ win0_1.index t = ![t.val % 4, t.val / 4 % 1]
      ∧ win0_2.index t = ![t.val / 4, t.val / 4 % 1] :=
  (by decide +kernel : ∀ t : Fin grid0.N, _)

/-- The arguments. -/
abbrev a0 (c : Dev nD) : Mtx 8192 2816 := (m ((c : Thread nD τ).loc main_arg0) : FVec Ideal S8192x2816 .f32)
abbrev a1 (c : Dev nD) : Mtx 8192 1024 := (m ((c : Thread nD τ).loc main_arg1) : FVec Ideal S8192x1024 .f32)

/-- The activations' and the cotangents' block at a point, after the host's casts. -/
abbrev xa (c : Dev nD) (t : Fin cfg0.N) (k : Fin 2048) (a : Fin 1408) : EReal := (iblk m c 0 t : FVec Ideal S2048x1408 .bf16) (ix2 k a)
abbrev xb (c : Dev nD) (t : Fin cfg0.N) (k : Fin 2048) (l : Fin 1024) : EReal := (iblk m c 1 t : FVec Ideal S2048x1024 .bf16) (ix2 k l)

/-- The first point of a tile puts its block's product there. -/
theorem outA (c : Dev nD) (t : Fin cfg0.N) (h0 : t.val % 4 = 0) (a : Fin 1408) (l : Fin 1024) :
    (outsAt0 m c t.val t.isLt : FVec Ideal S1408x1024 .f32) (ix2 a l) = 0 + tn (xa m c t) (xb m c t) a l := by
  rw [outsAt0_A m c t h0 (by omega)]
  frame_out
  pointwise [k0_pay1]
  rfl

/-- A later point adds its block's product. -/
theorem outB (c : Dev nD) (t : Fin cfg0.N) (h0 : ¬t.val % 4 = 0) (a : Fin 1408) (l : Fin 1024) :
    (outsAt0 m c t.val t.isLt : FVec Ideal S1408x1024 .f32) (ix2 a l)
      = (outsAt0 m c (t.val - 1) (Nat.lt_of_le_of_lt (Nat.sub_le _ _) t.isLt) : FVec Ideal S1408x1024 .f32) (ix2 a l)
        + tn (xa m c t) (xb m c t) a l := by
  rw [outsAt0_B m c t h0 (by omega)]
  frame_out
  pointwise [k0_pay2, k0_pay1]
  rfl

/-- The blocks' entries in the arguments. -/
theorem xa_at (c : Dev nD) (t : Fin cfg0.N) (k : Fin 2048) (a : Fin 1408) (K : Fin 8192) (A : Fin 2816)
    (hK : K.val = 2048 * (t.val % 4) + k.val) (hA : A.val = t.val / 4 * 1408 + a.val) : xa m c t k a = at2 (a0 m c) K A := by
  have e : (V m c main_v0 : FVec Ideal S8192x2816 .bf16) (ix2 K A) = at2 (a0 m c) K A := rfl
  refine Eq.trans ?_ e
  show (iblk m c 0 t : FVec Ideal S2048x1408 .bf16) (ix2 k a) = _
  blk_simp [iblk]
  blk_ext [idx t, hK, hA]

theorem xb_at (c : Dev nD) (t : Fin cfg0.N) (k : Fin 2048) (l : Fin 1024) (K : Fin 8192) (B : Fin 1024)
    (hK : K.val = 2048 * (t.val % 4) + k.val) (hB : B.val = t.val / 4 % 1 * 1024 + l.val) : xb m c t k l = at2 (a1 m c) K B := by
  have e : (V m c main_v1 : FVec Ideal S8192x1024 .bf16) (ix2 K B) = at2 (a1 m c) K B := rfl
  refine Eq.trans ?_ e
  show (iblk m c 1 t : FVec Ideal S2048x1024 .bf16) (ix2 k l) = _
  blk_simp [iblk]
  blk_ext [idx t, hK, hB]

/-- After a tile's last point it holds the whole product. -/
theorem sum_blocks (c : Dev nD) (t : Fin cfg0.N) (ht : t.val % 4 = 3) (a : Fin 1408) (l : Fin 1024) (A : Fin 2816) (B : Fin 1024)
    (hA : A.val = t.val / 4 * 1408 + a.val) (hB : B.val = t.val / 4 % 1 * 1024 + l.val) :
    (outsAt0 m c t.val t.isLt : FVec Ideal S1408x1024 .f32) (ix2 a l) = tn (at2 (a0 m c)) (at2 (a1 m c)) A B := by
  rw [Pipeline.eq_sum_fin_of_reset_step_of_flush (fun n hn => ((outsAt0 m c n hn : FVec Ideal S1408x1024 .f32) (ix2 a l) : EReal)) 4 0
    (fun t => tn (xa m c t) (xb m c t) a l) (fun t h => outA m c t h a l) (fun t h => outB m c t h a l) t ht, zero_add]
  unfold tn
  rw [sum_rows]
  refine Finset.sum_congr rfl fun i _ => sum_mul_congr (fun k => ?_) fun k => ?_
  · refine xa_at m c _ k a _ A ?_ ?_
    · show 2048 * i.val + k.val = 2048 * ((4 * (t.val / 4) + i.val) % 4) + k.val; omega
    · show A.val = (4 * (t.val / 4) + i.val) / 4 * 1408 + a.val; omega
  · refine xb_at m c _ k l _ B ?_ ?_
    · show 2048 * i.val + k.val = 2048 * ((4 * (t.val / 4) + i.val) % 4) + k.val; omega
    · show B.val = (4 * (t.val / 4) + i.val) / 4 % 1 * 1024 + l.val; omega

/-- The array of the gradient. -/
theorem arr2 (c : Dev nD) : (dats m 0 c).arrAt 2 cfg0.N = fun j : S2816x1024.Idx => tn (at2 (a0 m c)) (at2 (a1 m c)) (j 0) (j 1) := by
  refine (dats m 0 c).arrAt_eq_of_covers 2 _ (by decide +kernel) fun t hf y => ?_
  blk_simp
  rw [after0_2]
  obtain ⟨a, l, rfl⟩ : ∃ (a : Fin 1408) (l : Fin 1024), y = ix2 a l := ⟨y 0, y 1, (ix2_eta y).symm⟩
  refine sum_blocks m c t ((flush0_2 t).mp hf) a l _ _ ?_ ?_
  · blk_simp [idx t]
  · blk_simp [idx t]

/-- Every execution ends with the gradient in the result, and the arguments unchanged. -/
theorem run_value : θ_run defs (onTc (τ := τ) (main (F := Ideal))) ⟨m, fun _ => 0, ρ⟩ fun r => ∀ c : Dev nD,
      r.2.mem ((c.tc : Thread nD τ).loc main_v2) = (fun j : S2816x1024.Idx => tn (at2 (a0 m c)) (at2 (a1 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), h.2 c⟩) (θ_run_and (run_main m ρ) (unchanged m ρ))

end Cert.FfnDwOutIdeal.Value

namespace Cert.FfnDwOutRefIdeal.Read

open Idealize.ShloMosaic Idealize.ShloMosaic.TcCoe Idealize.SL.Sem
open Cert.FfnDwOutRefIdeal Cert.FfnDwOutRefIdeal.Gen Cert.Mat
open scoped BigOperators

/-- The reference's gradient is the same product. -/
theorem grad_eq (x0 : (⟨S8192x2816, .f32⟩ : BufTy).Contents (Elt Ideal)) (x1 : (⟨S8192x1024, .f32⟩ : BufTy).Contents (Elt Ideal)) :
    val_main_v3 (F := Ideal) x0 x1 = (fun j : S2816x1024.Idx => tn (at2 x0) (at2 x1) (j 0) (j 1)) := by
  refine mtx_ext fun r s => ?_
  rw [val_main_v3_apply, val_main_v2_apply]
  refine Finset.sum_congr rfl fun k _ => ?_
  rw [mul_comm]
  refine congrArg₂ (· * ·) (congrArg x0 (funext fun n => ?_)) (congrArg x1 (funext fun n => ?_)) <;> fin_cases n <;> rfl

variable (m : (ℓ : Loc nD τ sig) → Buf (Elt Ideal) ℓ) (ρ : Dev nD → PrngReg)

/-- The reference's run. -/
theorem run_value : θ_run defs (onTc (τ := τ) (main (F := Ideal))) ⟨m, fun _ => 0, ρ⟩ fun r => ∀ c : Dev nD,
      r.2.mem ((c.tc : Thread nD τ).loc main_v3) = (fun j : S2816x1024.Idx =>
          tn (at2 (m ((c.tc : Thread nD τ).loc main_arg0) : FVec Ideal S8192x2816 .f32)) (at2 (m ((c.tc : Thread nD τ).loc main_arg1) : FVec Ideal S8192x1024 .f32)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (grad_eq _ _)), (h c).2⟩)
    (Cert.FfnDwOutRefIdeal.Value.run m ρ)

end Cert.FfnDwOutRefIdeal.Read

end
-- ==== Proof.AttnDwInVal.lean ====
/- The weight gradient `AttnDwIn`, of the attention's input weights: the sum over four blocks of rows is the product of the transpose of the
   activations and the cotangents. -/
module

public import Idealize.ShloMosaic.Lib.Pipeline.ValueKit
public import Idealize.ShloMosaic.Lib.Claim
public import Idealize.ShloMosaic.Lib.StableHlo.ReadAt
public import proofs.«01_k».proof.Proof.Gen.AttnDwInIdeal.Frame
public import proofs.«01_k».proof.Proof.Gen.AttnDwInRefIdeal.Read
public import proofs.«01_k».proof.Proof.Mat

@[expose] public section

set_option maxRecDepth 16384

noncomputable section

namespace Cert.AttnDwInIdeal.Value

open Idealize.ShloMosaic Idealize.ShloMosaic.TcCoe Idealize.SL.Sem
open Cert.AttnDwInIdeal Cert.AttnDwInIdeal.Gen Cert.Mat
open scoped BigOperators

variable (m : (ℓ : Loc nD τ sig) → Buf (Elt Ideal) ℓ) (ρ : Dev nD → PrngReg)

theorem idx : ∀ t : Fin cfg0.N,
    win0_0.index t = ![t.val % 4, t.val / 8] ∧ win0_1.index t = ![t.val % 4, t.val / 4 % 2]
      ∧ win0_2.index t = ![t.val / 8, t.val / 4 % 2] :=
  (by decide +kernel : ∀ t : Fin grid0.N, _)

/-- The arguments. -/
abbrev a0 (c : Dev nD) : Mtx 8192 1024 := (m ((c : Thread nD τ).loc main_arg0) : FVec Ideal S8192x1024 .f32)
abbrev a1 (c : Dev nD) : Mtx 8192 2304 := (m ((c : Thread nD τ).loc main_arg1) : FVec Ideal S8192x2304 .f32)

/-- The activations' and the cotangents' block at a point, after the host's casts. -/
abbrev xa (c : Dev nD) (t : Fin cfg0.N) (k : Fin 2048) (a : Fin 1024) : EReal := (iblk m c 0 t : FVec Ideal S2048x1024 .bf16) (ix2 k a)
abbrev xb (c : Dev nD) (t : Fin cfg0.N) (k : Fin 2048) (l : Fin 1152) : EReal := (iblk m c 1 t : FVec Ideal S2048x1152 .bf16) (ix2 k l)

/-- The first point of a tile puts its block's product there. -/
theorem outA (c : Dev nD) (t : Fin cfg0.N) (h0 : t.val % 4 = 0) (a : Fin 1024) (l : Fin 1152) :
    (outsAt0 m c t.val t.isLt : FVec Ideal S1024x1152 .f32) (ix2 a l) = 0 + tn (xa m c t) (xb m c t) a l := by
  rw [outsAt0_A m c t h0 (by omega)]
  frame_out
  pointwise [k0_pay1]
  rfl

/-- A later point adds its block's product. -/
theorem outB (c : Dev nD) (t : Fin cfg0.N) (h0 : ¬t.val % 4 = 0) (a : Fin 1024) (l : Fin 1152) :
    (outsAt0 m c t.val t.isLt : FVec Ideal S1024x1152 .f32) (ix2 a l)
      = (outsAt0 m c (t.val - 1) (Nat.lt_of_le_of_lt (Nat.sub_le _ _) t.isLt) : FVec Ideal S1024x1152 .f32) (ix2 a l)
        + tn (xa m c t) (xb m c t) a l := by
  rw [outsAt0_B m c t h0 (by omega)]
  frame_out
  pointwise [k0_pay2, k0_pay1]
  rfl

/-- The blocks' entries in the arguments. -/
theorem xa_at (c : Dev nD) (t : Fin cfg0.N) (k : Fin 2048) (a : Fin 1024) (K : Fin 8192) (A : Fin 1024)
    (hK : K.val = 2048 * (t.val % 4) + k.val) (hA : A.val = t.val / 8 * 1024 + a.val) : xa m c t k a = at2 (a0 m c) K A := by
  have e : (V m c main_v0 : FVec Ideal S8192x1024 .bf16) (ix2 K A) = at2 (a0 m c) K A := rfl
  refine Eq.trans ?_ e
  show (iblk m c 0 t : FVec Ideal S2048x1024 .bf16) (ix2 k a) = _
  blk_simp [iblk]
  blk_ext [idx t, hK, hA]

theorem xb_at (c : Dev nD) (t : Fin cfg0.N) (k : Fin 2048) (l : Fin 1152) (K : Fin 8192) (B : Fin 2304)
    (hK : K.val = 2048 * (t.val % 4) + k.val) (hB : B.val = t.val / 4 % 2 * 1152 + l.val) : xb m c t k l = at2 (a1 m c) K B := by
  have e : (V m c main_v1 : FVec Ideal S8192x2304 .bf16) (ix2 K B) = at2 (a1 m c) K B := rfl
  refine Eq.trans ?_ e
  show (iblk m c 1 t : FVec Ideal S2048x1152 .bf16) (ix2 k l) = _
  blk_simp [iblk]
  blk_ext [idx t, hK, hB]

/-- After a tile's last point it holds the whole product. -/
theorem sum_blocks (c : Dev nD) (t : Fin cfg0.N) (ht : t.val % 4 = 3) (a : Fin 1024) (l : Fin 1152) (A : Fin 1024) (B : Fin 2304)
    (hA : A.val = t.val / 8 * 1024 + a.val) (hB : B.val = t.val / 4 % 2 * 1152 + l.val) :
    (outsAt0 m c t.val t.isLt : FVec Ideal S1024x1152 .f32) (ix2 a l) = tn (at2 (a0 m c)) (at2 (a1 m c)) A B := by
  rw [Pipeline.eq_sum_fin_of_reset_step_of_flush (fun n hn => ((outsAt0 m c n hn : FVec Ideal S1024x1152 .f32) (ix2 a l) : EReal)) 4 0
    (fun t => tn (xa m c t) (xb m c t) a l) (fun t h => outA m c t h a l) (fun t h => outB m c t h a l) t ht, zero_add]
  unfold tn
  rw [sum_rows]
  refine Finset.sum_congr rfl fun i _ => sum_mul_congr (fun k => ?_) fun k => ?_
  · refine xa_at m c _ k a _ A ?_ ?_
    · show 2048 * i.val + k.val = 2048 * ((4 * (t.val / 4) + i.val) % 4) + k.val; omega
    · show A.val = (4 * (t.val / 4) + i.val) / 8 * 1024 + a.val; omega
  · refine xb_at m c _ k l _ B ?_ ?_
    · show 2048 * i.val + k.val = 2048 * ((4 * (t.val / 4) + i.val) % 4) + k.val; omega
    · show B.val = (4 * (t.val / 4) + i.val) / 4 % 2 * 1152 + l.val; omega

/-- The array of the gradient. -/
theorem arr2 (c : Dev nD) : (dats m 0 c).arrAt 2 cfg0.N = fun j : S1024x2304.Idx => tn (at2 (a0 m c)) (at2 (a1 m c)) (j 0) (j 1) := by
  refine (dats m 0 c).arrAt_eq_of_covers 2 _ (by decide +kernel) fun t hf y => ?_
  blk_simp
  rw [after0_2]
  obtain ⟨a, l, rfl⟩ : ∃ (a : Fin 1024) (l : Fin 1152), y = ix2 a l := ⟨y 0, y 1, (ix2_eta y).symm⟩
  refine sum_blocks m c t ((flush0_2 t).mp hf) a l _ _ ?_ ?_
  · blk_simp [idx t]
  · blk_simp [idx t]

/-- Every execution ends with the gradient in the result, and the arguments unchanged. -/
theorem run_value : θ_run defs (onTc (τ := τ) (main (F := Ideal))) ⟨m, fun _ => 0, ρ⟩ fun r => ∀ c : Dev nD,
      r.2.mem ((c.tc : Thread nD τ).loc main_v2) = (fun j : S1024x2304.Idx => tn (at2 (a0 m c)) (at2 (a1 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), h.2 c⟩) (θ_run_and (run_main m ρ) (unchanged m ρ))

end Cert.AttnDwInIdeal.Value

namespace Cert.AttnDwInRefIdeal.Read

open Idealize.ShloMosaic Idealize.ShloMosaic.TcCoe Idealize.SL.Sem
open Cert.AttnDwInRefIdeal Cert.AttnDwInRefIdeal.Gen Cert.Mat
open scoped BigOperators

/-- The reference's gradient is the same product. -/
theorem grad_eq (x0 : (⟨S8192x1024, .f32⟩ : BufTy).Contents (Elt Ideal)) (x1 : (⟨S8192x2304, .f32⟩ : BufTy).Contents (Elt Ideal)) :
    val_main_v3 (F := Ideal) x0 x1 = (fun j : S1024x2304.Idx => tn (at2 x0) (at2 x1) (j 0) (j 1)) := by
  refine mtx_ext fun r s => ?_
  rw [val_main_v3_apply, val_main_v2_apply]
  refine Finset.sum_congr rfl fun k _ => ?_
  rw [mul_comm]
  refine congrArg₂ (· * ·) (congrArg x0 (funext fun n => ?_)) (congrArg x1 (funext fun n => ?_)) <;> fin_cases n <;> rfl

variable (m : (ℓ : Loc nD τ sig) → Buf (Elt Ideal) ℓ) (ρ : Dev nD → PrngReg)

/-- The reference's run. -/
theorem run_value : θ_run defs (onTc (τ := τ) (main (F := Ideal))) ⟨m, fun _ => 0, ρ⟩ fun r => ∀ c : Dev nD,
      r.2.mem ((c.tc : Thread nD τ).loc main_v3) = (fun j : S1024x2304.Idx =>
          tn (at2 (m ((c.tc : Thread nD τ).loc main_arg0) : FVec Ideal S8192x1024 .f32)) (at2 (m ((c.tc : Thread nD τ).loc main_arg1) : FVec Ideal S8192x2304 .f32)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (grad_eq _ _)), (h c).2⟩)
    (Cert.AttnDwInRefIdeal.Value.run m ρ)

end Cert.AttnDwInRefIdeal.Read

end
-- ==== Proof.AttnDwOutVal.lean ====
/- The weight gradient `AttnDwOut`, of a half of the attention's output weights: the sum over four blocks of rows is the product of the transpose of the
   activations and the cotangents. -/
module

public import Idealize.ShloMosaic.Lib.Pipeline.ValueKit
public import Idealize.ShloMosaic.Lib.Claim
public import Idealize.ShloMosaic.Lib.StableHlo.ReadAt
public import proofs.«01_k».proof.Proof.Gen.AttnDwOutIdeal.Frame
public import proofs.«01_k».proof.Proof.Gen.AttnDwOutRefIdeal.Read
public import proofs.«01_k».proof.Proof.Mat

@[expose] public section

set_option maxRecDepth 16384

noncomputable section

namespace Cert.AttnDwOutIdeal.Value

open Idealize.ShloMosaic Idealize.ShloMosaic.TcCoe Idealize.SL.Sem
open Cert.AttnDwOutIdeal Cert.AttnDwOutIdeal.Gen Cert.Mat
open scoped BigOperators

variable (m : (ℓ : Loc nD τ sig) → Buf (Elt Ideal) ℓ) (ρ : Dev nD → PrngReg)

theorem idx : ∀ t : Fin cfg0.N,
    win0_0.index t = ![t.val % 4, t.val / 4] ∧ win0_1.index t = ![t.val % 4, t.val / 4 % 1]
      ∧ win0_2.index t = ![t.val / 4, t.val / 4 % 1] :=
  (by decide +kernel : ∀ t : Fin grid0.N, _)

/-- The arguments. -/
abbrev a0 (c : Dev nD) : Mtx 8192 512 := (m ((c : Thread nD τ).loc main_arg0) : FVec Ideal S8192x512 .f32)
abbrev a1 (c : Dev nD) : Mtx 8192 1024 := (m ((c : Thread nD τ).loc main_arg1) : FVec Ideal S8192x1024 .f32)

/-- The activations' and the cotangents' block at a point, after the host's casts. -/
abbrev xa (c : Dev nD) (t : Fin cfg0.N) (k : Fin 2048) (a : Fin 512) : EReal := (iblk m c 0 t : FVec Ideal S2048x512 .bf16) (ix2 k a)
abbrev xb (c : Dev nD) (t : Fin cfg0.N) (k : Fin 2048) (l : Fin 1024) : EReal := (iblk m c 1 t : FVec Ideal S2048x1024 .bf16) (ix2 k l)

/-- The first point of a tile puts its block's product there. -/
theorem outA (c : Dev nD) (t : Fin cfg0.N) (h0 : t.val % 4 = 0) (a : Fin 512) (l : Fin 1024) :
    (outsAt0 m c t.val t.isLt : FVec Ideal S512x1024 .f32) (ix2 a l) = 0 + tn (xa m c t) (xb m c t) a l := by
  rw [outsAt0_A m c t h0 (by have h := lt_of_lt_of_eq t.isLt (show cfg0.N = 4 from N_0); omega)]
  frame_out
  pointwise [k0_pay1]
  rfl

/-- A later point adds its block's product. -/
theorem outB (c : Dev nD) (t : Fin cfg0.N) (h0 : ¬t.val % 4 = 0) (a : Fin 512) (l : Fin 1024) :
    (outsAt0 m c t.val t.isLt : FVec Ideal S512x1024 .f32) (ix2 a l)
      = (outsAt0 m c (t.val - 1) (Nat.lt_of_le_of_lt (Nat.sub_le _ _) t.isLt) : FVec Ideal S512x1024 .f32) (ix2 a l)
        + tn (xa m c t) (xb m c t) a l := by
  rw [outsAt0_B m c t h0 (by omega)]
  frame_out
  pointwise [k0_pay2, k0_pay1]
  rfl

/-- The blocks' entries in the arguments. -/
theorem xa_at (c : Dev nD) (t : Fin cfg0.N) (k : Fin 2048) (a : Fin 512) (K : Fin 8192) (A : Fin 512)
    (hK : K.val = 2048 * (t.val % 4) + k.val) (hA : A.val = t.val / 4 * 512 + a.val) : xa m c t k a = at2 (a0 m c) K A := by
  have e : (V m c main_v0 : FVec Ideal S8192x512 .bf16) (ix2 K A) = at2 (a0 m c) K A := rfl
  refine Eq.trans ?_ e
  show (iblk m c 0 t : FVec Ideal S2048x512 .bf16) (ix2 k a) = _
  blk_simp [iblk]
  blk_ext [idx t, hK, hA]

theorem xb_at (c : Dev nD) (t : Fin cfg0.N) (k : Fin 2048) (l : Fin 1024) (K : Fin 8192) (B : Fin 1024)
    (hK : K.val = 2048 * (t.val % 4) + k.val) (hB : B.val = t.val / 4 % 1 * 1024 + l.val) : xb m c t k l = at2 (a1 m c) K B := by
  have e : (V m c main_v1 : FVec Ideal S8192x1024 .bf16) (ix2 K B) = at2 (a1 m c) K B := rfl
  refine Eq.trans ?_ e
  show (iblk m c 1 t : FVec Ideal S2048x1024 .bf16) (ix2 k l) = _
  blk_simp [iblk]
  blk_ext [idx t, hK, hB]

/-- After a tile's last point it holds the whole product. -/
theorem sum_blocks (c : Dev nD) (t : Fin cfg0.N) (ht : t.val % 4 = 3) (a : Fin 512) (l : Fin 1024) (A : Fin 512) (B : Fin 1024)
    (hA : A.val = t.val / 4 * 512 + a.val) (hB : B.val = t.val / 4 % 1 * 1024 + l.val) :
    (outsAt0 m c t.val t.isLt : FVec Ideal S512x1024 .f32) (ix2 a l) = tn (at2 (a0 m c)) (at2 (a1 m c)) A B := by
  rw [Pipeline.eq_sum_fin_of_reset_step_of_flush (fun n hn => ((outsAt0 m c n hn : FVec Ideal S512x1024 .f32) (ix2 a l) : EReal)) 4 0
    (fun t => tn (xa m c t) (xb m c t) a l) (fun t h => outA m c t h a l) (fun t h => outB m c t h a l) t ht, zero_add]
  unfold tn
  rw [sum_rows]
  refine Finset.sum_congr rfl fun i _ => sum_mul_congr (fun k => ?_) fun k => ?_
  · refine xa_at m c _ k a _ A ?_ ?_
    · show 2048 * i.val + k.val = 2048 * ((4 * (t.val / 4) + i.val) % 4) + k.val; omega
    · show A.val = (4 * (t.val / 4) + i.val) / 4 * 512 + a.val; omega
  · refine xb_at m c _ k l _ B ?_ ?_
    · show 2048 * i.val + k.val = 2048 * ((4 * (t.val / 4) + i.val) % 4) + k.val; omega
    · show B.val = (4 * (t.val / 4) + i.val) / 4 % 1 * 1024 + l.val; omega

/-- The array of the gradient. -/
theorem arr2 (c : Dev nD) : (dats m 0 c).arrAt 2 cfg0.N = fun j : S512x1024.Idx => tn (at2 (a0 m c)) (at2 (a1 m c)) (j 0) (j 1) := by
  refine (dats m 0 c).arrAt_eq_of_covers 2 _ (by decide +kernel) fun t hf y => ?_
  blk_simp
  rw [after0_2]
  obtain ⟨a, l, rfl⟩ : ∃ (a : Fin 512) (l : Fin 1024), y = ix2 a l := ⟨y 0, y 1, (ix2_eta y).symm⟩
  refine sum_blocks m c t ((flush0_2 t).mp hf) a l _ _ ?_ ?_
  · blk_simp [idx t]
  · blk_simp [idx t]

/-- Every execution ends with the gradient in the result, and the arguments unchanged. -/
theorem run_value : θ_run defs (onTc (τ := τ) (main (F := Ideal))) ⟨m, fun _ => 0, ρ⟩ fun r => ∀ c : Dev nD,
      r.2.mem ((c.tc : Thread nD τ).loc main_v2) = (fun j : S512x1024.Idx => tn (at2 (a0 m c)) (at2 (a1 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), h.2 c⟩) (θ_run_and (run_main m ρ) (unchanged m ρ))

end Cert.AttnDwOutIdeal.Value

namespace Cert.AttnDwOutRefIdeal.Read

open Idealize.ShloMosaic Idealize.ShloMosaic.TcCoe Idealize.SL.Sem
open Cert.AttnDwOutRefIdeal Cert.AttnDwOutRefIdeal.Gen Cert.Mat
open scoped BigOperators

/-- The reference's gradient is the same product. -/
theorem grad_eq (x0 : (⟨S8192x512, .f32⟩ : BufTy).Contents (Elt Ideal)) (x1 : (⟨S8192x1024, .f32⟩ : BufTy).Contents (Elt Ideal)) :
    val_main_v3 (F := Ideal) x0 x1 = (fun j : S512x1024.Idx => tn (at2 x0) (at2 x1) (j 0) (j 1)) := by
  refine mtx_ext fun r s => ?_
  rw [val_main_v3_apply, val_main_v2_apply]
  refine Finset.sum_congr rfl fun k _ => ?_
  rw [mul_comm]
  refine congrArg₂ (· * ·) (congrArg x0 (funext fun n => ?_)) (congrArg x1 (funext fun n => ?_)) <;> fin_cases n <;> rfl

variable (m : (ℓ : Loc nD τ sig) → Buf (Elt Ideal) ℓ) (ρ : Dev nD → PrngReg)

/-- The reference's run. -/
theorem run_value : θ_run defs (onTc (τ := τ) (main (F := Ideal))) ⟨m, fun _ => 0, ρ⟩ fun r => ∀ c : Dev nD,
      r.2.mem ((c.tc : Thread nD τ).loc main_v3) = (fun j : S512x1024.Idx =>
          tn (at2 (m ((c.tc : Thread nD τ).loc main_arg0) : FVec Ideal S8192x512 .f32)) (at2 (m ((c.tc : Thread nD τ).loc main_arg1) : FVec Ideal S8192x1024 .f32)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (grad_eq _ _)), (h c).2⟩)
    (Cert.AttnDwOutRefIdeal.Value.run m ρ)

end Cert.AttnDwOutRefIdeal.Read

end
-- ==== Proof.SsmDwZVal.lean ====
/- The weight gradient `SsmDwZ`, of the state-space mixer's gate weights: the sum over four blocks of rows is the product of the transpose of the
   activations and the cotangents. -/
module

public import Idealize.ShloMosaic.Lib.Pipeline.ValueKit
public import Idealize.ShloMosaic.Lib.Claim
public import Idealize.ShloMosaic.Lib.StableHlo.ReadAt
public import proofs.«01_k».proof.Proof.Gen.SsmDwZIdeal.Frame
public import proofs.«01_k».proof.Proof.Gen.SsmDwZRefIdeal.Read
public import proofs.«01_k».proof.Proof.Mat

@[expose] public section

set_option maxRecDepth 16384

noncomputable section

namespace Cert.SsmDwZIdeal.Value

open Idealize.ShloMosaic Idealize.ShloMosaic.TcCoe Idealize.SL.Sem
open Cert.SsmDwZIdeal Cert.SsmDwZIdeal.Gen Cert.Mat
open scoped BigOperators

variable (m : (ℓ : Loc nD τ sig) → Buf (Elt Ideal) ℓ) (ρ : Dev nD → PrngReg)

theorem idx : ∀ t : Fin cfg0.N,
    win0_0.index t = ![t.val % 4, t.val / 8] ∧ win0_1.index t = ![t.val % 4, t.val / 4 % 2]
      ∧ win0_2.index t = ![t.val / 8, t.val / 4 % 2] :=
  (by decide +kernel : ∀ t : Fin grid0.N, _)

/-- The arguments. -/
abbrev a0 (c : Dev nD) : Mtx 8192 1024 := (m ((c : Thread nD τ).loc main_arg0) : FVec Ideal S8192x1024 .f32)
abbrev a1 (c : Dev nD) : Mtx 8192 2048 := (m ((c : Thread nD τ).loc main_arg1) : FVec Ideal S8192x2048 .f32)

/-- The activations' and the cotangents' block at a point, after the host's casts. -/
abbrev xa (c : Dev nD) (t : Fin cfg0.N) (k : Fin 2048) (a : Fin 1024) : EReal := (iblk m c 0 t : FVec Ideal S2048x1024 .bf16) (ix2 k a)
abbrev xb (c : Dev nD) (t : Fin cfg0.N) (k : Fin 2048) (l : Fin 1024) : EReal := (iblk m c 1 t : FVec Ideal S2048x1024 .bf16) (ix2 k l)

/-- The first point of a tile puts its block's product there. -/
theorem outA (c : Dev nD) (t : Fin cfg0.N) (h0 : t.val % 4 = 0) (a : Fin 1024) (l : Fin 1024) :
    (outsAt0 m c t.val t.isLt : FVec Ideal S1024x1024 .f32) (ix2 a l) = 0 + tn (xa m c t) (xb m c t) a l := by
  rw [outsAt0_A m c t h0 (by omega)]
  frame_out
  pointwise [k0_pay1]
  rfl

/-- A later point adds its block's product. -/
theorem outB (c : Dev nD) (t : Fin cfg0.N) (h0 : ¬t.val % 4 = 0) (a : Fin 1024) (l : Fin 1024) :
    (outsAt0 m c t.val t.isLt : FVec Ideal S1024x1024 .f32) (ix2 a l)
      = (outsAt0 m c (t.val - 1) (Nat.lt_of_le_of_lt (Nat.sub_le _ _) t.isLt) : FVec Ideal S1024x1024 .f32) (ix2 a l)
        + tn (xa m c t) (xb m c t) a l := by
  rw [outsAt0_B m c t h0 (by omega)]
  frame_out
  pointwise [k0_pay2, k0_pay1]
  rfl

/-- The blocks' entries in the arguments. -/
theorem xa_at (c : Dev nD) (t : Fin cfg0.N) (k : Fin 2048) (a : Fin 1024) (K : Fin 8192) (A : Fin 1024)
    (hK : K.val = 2048 * (t.val % 4) + k.val) (hA : A.val = t.val / 8 * 1024 + a.val) : xa m c t k a = at2 (a0 m c) K A := by
  have e : (V m c main_v0 : FVec Ideal S8192x1024 .bf16) (ix2 K A) = at2 (a0 m c) K A := rfl
  refine Eq.trans ?_ e
  show (iblk m c 0 t : FVec Ideal S2048x1024 .bf16) (ix2 k a) = _
  blk_simp [iblk]
  blk_ext [idx t, hK, hA]

theorem xb_at (c : Dev nD) (t : Fin cfg0.N) (k : Fin 2048) (l : Fin 1024) (K : Fin 8192) (B : Fin 2048)
    (hK : K.val = 2048 * (t.val % 4) + k.val) (hB : B.val = t.val / 4 % 2 * 1024 + l.val) : xb m c t k l = at2 (a1 m c) K B := by
  have e : (V m c main_v1 : FVec Ideal S8192x2048 .bf16) (ix2 K B) = at2 (a1 m c) K B := rfl
  refine Eq.trans ?_ e
  show (iblk m c 1 t : FVec Ideal S2048x1024 .bf16) (ix2 k l) = _
  blk_simp [iblk]
  blk_ext [idx t, hK, hB]

/-- After a tile's last point it holds the whole product. -/
theorem sum_blocks (c : Dev nD) (t : Fin cfg0.N) (ht : t.val % 4 = 3) (a : Fin 1024) (l : Fin 1024) (A : Fin 1024) (B : Fin 2048)
    (hA : A.val = t.val / 8 * 1024 + a.val) (hB : B.val = t.val / 4 % 2 * 1024 + l.val) :
    (outsAt0 m c t.val t.isLt : FVec Ideal S1024x1024 .f32) (ix2 a l) = tn (at2 (a0 m c)) (at2 (a1 m c)) A B := by
  rw [Pipeline.eq_sum_fin_of_reset_step_of_flush (fun n hn => ((outsAt0 m c n hn : FVec Ideal S1024x1024 .f32) (ix2 a l) : EReal)) 4 0
    (fun t => tn (xa m c t) (xb m c t) a l) (fun t h => outA m c t h a l) (fun t h => outB m c t h a l) t ht, zero_add]
  unfold tn
  rw [sum_rows]
  refine Finset.sum_congr rfl fun i _ => sum_mul_congr (fun k => ?_) fun k => ?_
  · refine xa_at m c _ k a _ A ?_ ?_
    · show 2048 * i.val + k.val = 2048 * ((4 * (t.val / 4) + i.val) % 4) + k.val; omega
    · show A.val = (4 * (t.val / 4) + i.val) / 8 * 1024 + a.val; omega
  · refine xb_at m c _ k l _ B ?_ ?_
    · show 2048 * i.val + k.val = 2048 * ((4 * (t.val / 4) + i.val) % 4) + k.val; omega
    · show B.val = (4 * (t.val / 4) + i.val) / 4 % 2 * 1024 + l.val; omega

/-- The array of the gradient. -/
theorem arr2 (c : Dev nD) : (dats m 0 c).arrAt 2 cfg0.N = fun j : S1024x2048.Idx => tn (at2 (a0 m c)) (at2 (a1 m c)) (j 0) (j 1) := by
  refine (dats m 0 c).arrAt_eq_of_covers 2 _ (by decide +kernel) fun t hf y => ?_
  blk_simp
  rw [after0_2]
  obtain ⟨a, l, rfl⟩ : ∃ (a : Fin 1024) (l : Fin 1024), y = ix2 a l := ⟨y 0, y 1, (ix2_eta y).symm⟩
  refine sum_blocks m c t ((flush0_2 t).mp hf) a l _ _ ?_ ?_
  · blk_simp [idx t]
  · blk_simp [idx t]

/-- Every execution ends with the gradient in the result, and the arguments unchanged. -/
theorem run_value : θ_run defs (onTc (τ := τ) (main (F := Ideal))) ⟨m, fun _ => 0, ρ⟩ fun r => ∀ c : Dev nD,
      r.2.mem ((c.tc : Thread nD τ).loc main_v2) = (fun j : S1024x2048.Idx => tn (at2 (a0 m c)) (at2 (a1 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), h.2 c⟩) (θ_run_and (run_main m ρ) (unchanged m ρ))

end Cert.SsmDwZIdeal.Value

namespace Cert.SsmDwZRefIdeal.Read

open Idealize.ShloMosaic Idealize.ShloMosaic.TcCoe Idealize.SL.Sem
open Cert.SsmDwZRefIdeal Cert.SsmDwZRefIdeal.Gen Cert.Mat
open scoped BigOperators

/-- The reference's gradient is the same product. -/
theorem grad_eq (x0 : (⟨S8192x1024, .f32⟩ : BufTy).Contents (Elt Ideal)) (x1 : (⟨S8192x2048, .f32⟩ : BufTy).Contents (Elt Ideal)) :
    val_main_v3 (F := Ideal) x0 x1 = (fun j : S1024x2048.Idx => tn (at2 x0) (at2 x1) (j 0) (j 1)) := by
  refine mtx_ext fun r s => ?_
  rw [val_main_v3_apply, val_main_v2_apply]
  refine Finset.sum_congr rfl fun k _ => ?_
  rw [mul_comm]
  refine congrArg₂ (· * ·) (congrArg x0 (funext fun n => ?_)) (congrArg x1 (funext fun n => ?_)) <;> fin_cases n <;> rfl

variable (m : (ℓ : Loc nD τ sig) → Buf (Elt Ideal) ℓ) (ρ : Dev nD → PrngReg)

/-- The reference's run. -/
theorem run_value : θ_run defs (onTc (τ := τ) (main (F := Ideal))) ⟨m, fun _ => 0, ρ⟩ fun r => ∀ c : Dev nD,
      r.2.mem ((c.tc : Thread nD τ).loc main_v3) = (fun j : S1024x2048.Idx =>
          tn (at2 (m ((c.tc : Thread nD τ).loc main_arg0) : FVec Ideal S8192x1024 .f32)) (at2 (m ((c.tc : Thread nD τ).loc main_arg1) : FVec Ideal S8192x2048 .f32)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (grad_eq _ _)), (h c).2⟩)
    (Cert.SsmDwZRefIdeal.Value.run m ρ)

end Cert.SsmDwZRefIdeal.Read

end
-- ==== Proof.SsmDwXVal.lean ====
/- The weight gradient `SsmDwX`, of the state-space mixer's channel weights: the sum over four blocks of rows is the product of the transpose of the
   activations and the cotangents. -/
module

public import Idealize.ShloMosaic.Lib.Pipeline.ValueKit
public import Idealize.ShloMosaic.Lib.Claim
public import Idealize.ShloMosaic.Lib.StableHlo.ReadAt
public import proofs.«01_k».proof.Proof.Gen.SsmDwXIdeal.Frame
public import proofs.«01_k».proof.Proof.Gen.SsmDwXRefIdeal.Read
public import proofs.«01_k».proof.Proof.Mat

@[expose] public section

set_option maxRecDepth 16384

noncomputable section

namespace Cert.SsmDwXIdeal.Value

open Idealize.ShloMosaic Idealize.ShloMosaic.TcCoe Idealize.SL.Sem
open Cert.SsmDwXIdeal Cert.SsmDwXIdeal.Gen Cert.Mat
open scoped BigOperators

variable (m : (ℓ : Loc nD τ sig) → Buf (Elt Ideal) ℓ) (ρ : Dev nD → PrngReg)

theorem idx : ∀ t : Fin cfg0.N,
    win0_0.index t = ![t.val % 4, t.val / 8] ∧ win0_1.index t = ![t.val % 4, t.val / 4 % 2]
      ∧ win0_2.index t = ![t.val / 8, t.val / 4 % 2] :=
  (by decide +kernel : ∀ t : Fin grid0.N, _)

/-- The arguments. -/
abbrev a0 (c : Dev nD) : Mtx 8192 1024 := (m ((c : Thread nD τ).loc main_arg0) : FVec Ideal S8192x1024 .f32)
abbrev a1 (c : Dev nD) : Mtx 8192 3072 := (m ((c : Thread nD τ).loc main_arg1) : FVec Ideal S8192x3072 .f32)

/-- The activations' and the cotangents' block at a point, after the host's casts. -/
abbrev xa (c : Dev nD) (t : Fin cfg0.N) (k : Fin 2048) (a : Fin 1024) : EReal := (iblk m c 0 t : FVec Ideal S2048x1024 .bf16) (ix2 k a)
abbrev xb (c : Dev nD) (t : Fin cfg0.N) (k : Fin 2048) (l : Fin 1536) : EReal := (iblk m c 1 t : FVec Ideal S2048x1536 .bf16) (ix2 k l)

/-- The first point of a tile puts its block's product there. -/
theorem outA (c : Dev nD) (t : Fin cfg0.N) (h0 : t.val % 4 = 0) (a : Fin 1024) (l : Fin 1536) :
    (outsAt0 m c t.val t.isLt : FVec Ideal S1024x1536 .f32) (ix2 a l) = 0 + tn (xa m c t) (xb m c t) a l := by
  rw [outsAt0_A m c t h0 (by omega)]
  frame_out
  pointwise [k0_pay1]
  rfl

/-- A later point adds its block's product. -/
theorem outB (c : Dev nD) (t : Fin cfg0.N) (h0 : ¬t.val % 4 = 0) (a : Fin 1024) (l : Fin 1536) :
    (outsAt0 m c t.val t.isLt : FVec Ideal S1024x1536 .f32) (ix2 a l)
      = (outsAt0 m c (t.val - 1) (Nat.lt_of_le_of_lt (Nat.sub_le _ _) t.isLt) : FVec Ideal S1024x1536 .f32) (ix2 a l)
        + tn (xa m c t) (xb m c t) a l := by
  rw [outsAt0_B m c t h0 (by omega)]
  frame_out
  pointwise [k0_pay2, k0_pay1]
  rfl

/-- The blocks' entries in the arguments. -/
theorem xa_at (c : Dev nD) (t : Fin cfg0.N) (k : Fin 2048) (a : Fin 1024) (K : Fin 8192) (A : Fin 1024)
    (hK : K.val = 2048 * (t.val % 4) + k.val) (hA : A.val = t.val / 8 * 1024 + a.val) : xa m c t k a = at2 (a0 m c) K A := by
  have e : (V m c main_v0 : FVec Ideal S8192x1024 .bf16) (ix2 K A) = at2 (a0 m c) K A := rfl
  refine Eq.trans ?_ e
  show (iblk m c 0 t : FVec Ideal S2048x1024 .bf16) (ix2 k a) = _
  blk_simp [iblk]
  blk_ext [idx t, hK, hA]

theorem xb_at (c : Dev nD) (t : Fin cfg0.N) (k : Fin 2048) (l : Fin 1536) (K : Fin 8192) (B : Fin 3072)
    (hK : K.val = 2048 * (t.val % 4) + k.val) (hB : B.val = t.val / 4 % 2 * 1536 + l.val) : xb m c t k l = at2 (a1 m c) K B := by
  have e : (V m c main_v1 : FVec Ideal S8192x3072 .bf16) (ix2 K B) = at2 (a1 m c) K B := rfl
  refine Eq.trans ?_ e
  show (iblk m c 1 t : FVec Ideal S2048x1536 .bf16) (ix2 k l) = _
  blk_simp [iblk]
  blk_ext [idx t, hK, hB]

/-- After a tile's last point it holds the whole product. -/
theorem sum_blocks (c : Dev nD) (t : Fin cfg0.N) (ht : t.val % 4 = 3) (a : Fin 1024) (l : Fin 1536) (A : Fin 1024) (B : Fin 3072)
    (hA : A.val = t.val / 8 * 1024 + a.val) (hB : B.val = t.val / 4 % 2 * 1536 + l.val) :
    (outsAt0 m c t.val t.isLt : FVec Ideal S1024x1536 .f32) (ix2 a l) = tn (at2 (a0 m c)) (at2 (a1 m c)) A B := by
  rw [Pipeline.eq_sum_fin_of_reset_step_of_flush (fun n hn => ((outsAt0 m c n hn : FVec Ideal S1024x1536 .f32) (ix2 a l) : EReal)) 4 0
    (fun t => tn (xa m c t) (xb m c t) a l) (fun t h => outA m c t h a l) (fun t h => outB m c t h a l) t ht, zero_add]
  unfold tn
  rw [sum_rows]
  refine Finset.sum_congr rfl fun i _ => sum_mul_congr (fun k => ?_) fun k => ?_
  · refine xa_at m c _ k a _ A ?_ ?_
    · show 2048 * i.val + k.val = 2048 * ((4 * (t.val / 4) + i.val) % 4) + k.val; omega
    · show A.val = (4 * (t.val / 4) + i.val) / 8 * 1024 + a.val; omega
  · refine xb_at m c _ k l _ B ?_ ?_
    · show 2048 * i.val + k.val = 2048 * ((4 * (t.val / 4) + i.val) % 4) + k.val; omega
    · show B.val = (4 * (t.val / 4) + i.val) / 4 % 2 * 1536 + l.val; omega

/-- The array of the gradient. -/
theorem arr2 (c : Dev nD) : (dats m 0 c).arrAt 2 cfg0.N = fun j : S1024x3072.Idx => tn (at2 (a0 m c)) (at2 (a1 m c)) (j 0) (j 1) := by
  refine (dats m 0 c).arrAt_eq_of_covers 2 _ (by decide +kernel) fun t hf y => ?_
  blk_simp
  rw [after0_2]
  obtain ⟨a, l, rfl⟩ : ∃ (a : Fin 1024) (l : Fin 1536), y = ix2 a l := ⟨y 0, y 1, (ix2_eta y).symm⟩
  refine sum_blocks m c t ((flush0_2 t).mp hf) a l _ _ ?_ ?_
  · blk_simp [idx t]
  · blk_simp [idx t]

/-- Every execution ends with the gradient in the result, and the arguments unchanged. -/
theorem run_value : θ_run defs (onTc (τ := τ) (main (F := Ideal))) ⟨m, fun _ => 0, ρ⟩ fun r => ∀ c : Dev nD,
      r.2.mem ((c.tc : Thread nD τ).loc main_v2) = (fun j : S1024x3072.Idx => tn (at2 (a0 m c)) (at2 (a1 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), h.2 c⟩) (θ_run_and (run_main m ρ) (unchanged m ρ))

end Cert.SsmDwXIdeal.Value

namespace Cert.SsmDwXRefIdeal.Read

open Idealize.ShloMosaic Idealize.ShloMosaic.TcCoe Idealize.SL.Sem
open Cert.SsmDwXRefIdeal Cert.SsmDwXRefIdeal.Gen Cert.Mat
open scoped BigOperators

/-- The reference's gradient is the same product. -/
theorem grad_eq (x0 : (⟨S8192x1024, .f32⟩ : BufTy).Contents (Elt Ideal)) (x1 : (⟨S8192x3072, .f32⟩ : BufTy).Contents (Elt Ideal)) :
    val_main_v3 (F := Ideal) x0 x1 = (fun j : S1024x3072.Idx => tn (at2 x0) (at2 x1) (j 0) (j 1)) := by
  refine mtx_ext fun r s => ?_
  rw [val_main_v3_apply, val_main_v2_apply]
  refine Finset.sum_congr rfl fun k _ => ?_
  rw [mul_comm]
  refine congrArg₂ (· * ·) (congrArg x0 (funext fun n => ?_)) (congrArg x1 (funext fun n => ?_)) <;> fin_cases n <;> rfl

variable (m : (ℓ : Loc nD τ sig) → Buf (Elt Ideal) ℓ) (ρ : Dev nD → PrngReg)

/-- The reference's run. -/
theorem run_value : θ_run defs (onTc (τ := τ) (main (F := Ideal))) ⟨m, fun _ => 0, ρ⟩ fun r => ∀ c : Dev nD,
      r.2.mem ((c.tc : Thread nD τ).loc main_v3) = (fun j : S1024x3072.Idx =>
          tn (at2 (m ((c.tc : Thread nD τ).loc main_arg0) : FVec Ideal S8192x1024 .f32)) (at2 (m ((c.tc : Thread nD τ).loc main_arg1) : FVec Ideal S8192x3072 .f32)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (grad_eq _ _)), (h c).2⟩)
    (Cert.SsmDwXRefIdeal.Value.run m ρ)

end Cert.SsmDwXRefIdeal.Read

end
-- ==== Proof.SsmDwOutVal.lean ====
/- The weight gradient `SsmDwOut`, of the state-space mixer's output weights: the sum over four blocks of rows is the product of the transpose of the
   activations and the cotangents. -/
module

public import Idealize.ShloMosaic.Lib.Pipeline.ValueKit
public import Idealize.ShloMosaic.Lib.Claim
public import Idealize.ShloMosaic.Lib.StableHlo.ReadAt
public import proofs.«01_k».proof.Proof.Gen.SsmDwOutIdeal.Frame
public import proofs.«01_k».proof.Proof.Gen.SsmDwOutRefIdeal.Read
public import proofs.«01_k».proof.Proof.Mat

@[expose] public section

set_option maxRecDepth 16384

noncomputable section

namespace Cert.SsmDwOutIdeal.Value

open Idealize.ShloMosaic Idealize.ShloMosaic.TcCoe Idealize.SL.Sem
open Cert.SsmDwOutIdeal Cert.SsmDwOutIdeal.Gen Cert.Mat
open scoped BigOperators

variable (m : (ℓ : Loc nD τ sig) → Buf (Elt Ideal) ℓ) (ρ : Dev nD → PrngReg)

theorem idx : ∀ t : Fin cfg0.N,
    win0_0.index t = ![t.val % 4, t.val / 4] ∧ win0_1.index t = ![t.val % 4, t.val / 4 % 1]
      ∧ win0_2.index t = ![t.val / 4, t.val / 4 % 1] :=
  (by decide +kernel : ∀ t : Fin grid0.N, _)

/-- The arguments. -/
abbrev a0 (c : Dev nD) : Mtx 8192 2048 := (m ((c : Thread nD τ).loc main_arg0) : FVec Ideal S8192x2048 .f32)
abbrev a1 (c : Dev nD) : Mtx 8192 1024 := (m ((c : Thread nD τ).loc main_arg1) : FVec Ideal S8192x1024 .f32)

/-- The activations' and the cotangents' block at a point, after the host's casts. -/
abbrev xa (c : Dev nD) (t : Fin cfg0.N) (k : Fin 2048) (a : Fin 1024) : EReal := (iblk m c 0 t : FVec Ideal S2048x1024 .bf16) (ix2 k a)
abbrev xb (c : Dev nD) (t : Fin cfg0.N) (k : Fin 2048) (l : Fin 1024) : EReal := (iblk m c 1 t : FVec Ideal S2048x1024 .bf16) (ix2 k l)

/-- The first point of a tile puts its block's product there. -/
theorem outA (c : Dev nD) (t : Fin cfg0.N) (h0 : t.val % 4 = 0) (a : Fin 1024) (l : Fin 1024) :
    (outsAt0 m c t.val t.isLt : FVec Ideal S1024x1024 .f32) (ix2 a l) = 0 + tn (xa m c t) (xb m c t) a l := by
  rw [outsAt0_A m c t h0 (by omega)]
  frame_out
  pointwise [k0_pay1]
  rfl

/-- A later point adds its block's product. -/
theorem outB (c : Dev nD) (t : Fin cfg0.N) (h0 : ¬t.val % 4 = 0) (a : Fin 1024) (l : Fin 1024) :
    (outsAt0 m c t.val t.isLt : FVec Ideal S1024x1024 .f32) (ix2 a l)
      = (outsAt0 m c (t.val - 1) (Nat.lt_of_le_of_lt (Nat.sub_le _ _) t.isLt) : FVec Ideal S1024x1024 .f32) (ix2 a l)
        + tn (xa m c t) (xb m c t) a l := by
  rw [outsAt0_B m c t h0 (by omega)]
  frame_out
  pointwise [k0_pay2, k0_pay1]
  rfl

/-- The blocks' entries in the arguments. -/
theorem xa_at (c : Dev nD) (t : Fin cfg0.N) (k : Fin 2048) (a : Fin 1024) (K : Fin 8192) (A : Fin 2048)
    (hK : K.val = 2048 * (t.val % 4) + k.val) (hA : A.val = t.val / 4 * 1024 + a.val) : xa m c t k a = at2 (a0 m c) K A := by
  have e : (V m c main_v0 : FVec Ideal S8192x2048 .bf16) (ix2 K A) = at2 (a0 m c) K A := rfl
  refine Eq.trans ?_ e
  show (iblk m c 0 t : FVec Ideal S2048x1024 .bf16) (ix2 k a) = _
  blk_simp [iblk]
  blk_ext [idx t, hK, hA]

theorem xb_at (c : Dev nD) (t : Fin cfg0.N) (k : Fin 2048) (l : Fin 1024) (K : Fin 8192) (B : Fin 1024)
    (hK : K.val = 2048 * (t.val % 4) + k.val) (hB : B.val = t.val / 4 % 1 * 1024 + l.val) : xb m c t k l = at2 (a1 m c) K B := by
  have e : (V m c main_v1 : FVec Ideal S8192x1024 .bf16) (ix2 K B) = at2 (a1 m c) K B := rfl
  refine Eq.trans ?_ e
  show (iblk m c 1 t : FVec Ideal S2048x1024 .bf16) (ix2 k l) = _
  blk_simp [iblk]
  blk_ext [idx t, hK, hB]

/-- After a tile's last point it holds the whole product. -/
theorem sum_blocks (c : Dev nD) (t : Fin cfg0.N) (ht : t.val % 4 = 3) (a : Fin 1024) (l : Fin 1024) (A : Fin 2048) (B : Fin 1024)
    (hA : A.val = t.val / 4 * 1024 + a.val) (hB : B.val = t.val / 4 % 1 * 1024 + l.val) :
    (outsAt0 m c t.val t.isLt : FVec Ideal S1024x1024 .f32) (ix2 a l) = tn (at2 (a0 m c)) (at2 (a1 m c)) A B := by
  rw [Pipeline.eq_sum_fin_of_reset_step_of_flush (fun n hn => ((outsAt0 m c n hn : FVec Ideal S1024x1024 .f32) (ix2 a l) : EReal)) 4 0
    (fun t => tn (xa m c t) (xb m c t) a l) (fun t h => outA m c t h a l) (fun t h => outB m c t h a l) t ht, zero_add]
  unfold tn
  rw [sum_rows]
  refine Finset.sum_congr rfl fun i _ => sum_mul_congr (fun k => ?_) fun k => ?_
  · refine xa_at m c _ k a _ A ?_ ?_
    · show 2048 * i.val + k.val = 2048 * ((4 * (t.val / 4) + i.val) % 4) + k.val; omega
    · show A.val = (4 * (t.val / 4) + i.val) / 4 * 1024 + a.val; omega
  · refine xb_at m c _ k l _ B ?_ ?_
    · show 2048 * i.val + k.val = 2048 * ((4 * (t.val / 4) + i.val) % 4) + k.val; omega
    · show B.val = (4 * (t.val / 4) + i.val) / 4 % 1 * 1024 + l.val; omega

/-- The array of the gradient. -/
theorem arr2 (c : Dev nD) : (dats m 0 c).arrAt 2 cfg0.N = fun j : S2048x1024.Idx => tn (at2 (a0 m c)) (at2 (a1 m c)) (j 0) (j 1) := by
  refine (dats m 0 c).arrAt_eq_of_covers 2 _ (by decide +kernel) fun t hf y => ?_
  blk_simp
  rw [after0_2]
  obtain ⟨a, l, rfl⟩ : ∃ (a : Fin 1024) (l : Fin 1024), y = ix2 a l := ⟨y 0, y 1, (ix2_eta y).symm⟩
  refine sum_blocks m c t ((flush0_2 t).mp hf) a l _ _ ?_ ?_
  · blk_simp [idx t]
  · blk_simp [idx t]

/-- Every execution ends with the gradient in the result, and the arguments unchanged. -/
theorem run_value : θ_run defs (onTc (τ := τ) (main (F := Ideal))) ⟨m, fun _ => 0, ρ⟩ fun r => ∀ c : Dev nD,
      r.2.mem ((c.tc : Thread nD τ).loc main_v2) = (fun j : S2048x1024.Idx => tn (at2 (a0 m c)) (at2 (a1 m c)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), h.2 c⟩) (θ_run_and (run_main m ρ) (unchanged m ρ))

end Cert.SsmDwOutIdeal.Value

namespace Cert.SsmDwOutRefIdeal.Read

open Idealize.ShloMosaic Idealize.ShloMosaic.TcCoe Idealize.SL.Sem
open Cert.SsmDwOutRefIdeal Cert.SsmDwOutRefIdeal.Gen Cert.Mat
open scoped BigOperators

/-- The reference's gradient is the same product. -/
theorem grad_eq (x0 : (⟨S8192x2048, .f32⟩ : BufTy).Contents (Elt Ideal)) (x1 : (⟨S8192x1024, .f32⟩ : BufTy).Contents (Elt Ideal)) :
    val_main_v3 (F := Ideal) x0 x1 = (fun j : S2048x1024.Idx => tn (at2 x0) (at2 x1) (j 0) (j 1)) := by
  refine mtx_ext fun r s => ?_
  rw [val_main_v3_apply, val_main_v2_apply]
  refine Finset.sum_congr rfl fun k _ => ?_
  rw [mul_comm]
  refine congrArg₂ (· * ·) (congrArg x0 (funext fun n => ?_)) (congrArg x1 (funext fun n => ?_)) <;> fin_cases n <;> rfl

variable (m : (ℓ : Loc nD τ sig) → Buf (Elt Ideal) ℓ) (ρ : Dev nD → PrngReg)

/-- The reference's run. -/
theorem run_value : θ_run defs (onTc (τ := τ) (main (F := Ideal))) ⟨m, fun _ => 0, ρ⟩ fun r => ∀ c : Dev nD,
      r.2.mem ((c.tc : Thread nD τ).loc main_v3) = (fun j : S2048x1024.Idx =>
          tn (at2 (m ((c.tc : Thread nD τ).loc main_arg0) : FVec Ideal S8192x2048 .f32)) (at2 (m ((c.tc : Thread nD τ).loc main_arg1) : FVec Ideal S8192x1024 .f32)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (grad_eq _ _)), (h c).2⟩)
    (Cert.SsmDwOutRefIdeal.Value.run m ρ)

end Cert.SsmDwOutRefIdeal.Read

end
-- ==== Proof.Rms.lean ====
/- The gradient of the norm of a row, over the extended reals. -/
module

public import proofs.«01_k».proof.Proof.Mat
public import Idealize.ShloMosaic.PureOps.Ideal

@[expose] public section

noncomputable section

namespace Cert.Rms

open Idealize.ShloMosaic Cert.Mat
open scoped BigOperators

/-- The mean of the squares of a row, and the small constant that keeps it off zero. -/
def ms (x : Fin 1024 → EReal) : EReal :=
  Ideal.div (∑ k, x k * x k) (Ideal.ofBits .f32 0x44800000#32) + Ideal.ofBits .f32 0x358637BD#32

/-- The literal 1024. -/
theorem bits_1024 : Ideal.ofBits .f32 0x44800000#32 = ((1024 : ℝ) : EReal) := by
  simp [Ideal.ofBits, Ideal.ieee, -EReal.coe_mul]
  norm_num

/-- The literal one half with a minus. -/
theorem bits_mhalf : Ideal.ofBits .f32 0xBF000000#32 = ((-(1 / 2) : ℝ) : EReal) := by
  simp [Ideal.ofBits, Ideal.ieee, -EReal.coe_mul, -EReal.coe_neg]
  norm_num

/-- The small constant of the norm is a positive number. -/
theorem bits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A product with a number that is not negative runs over a sum. -/
theorem coe_mul_add {r : ℝ} (hr : 0 ≤ r) (a b : EReal) : (r : EReal) * (a + b) = r * a + r * b :=
  EReal.left_distrib_of_nonneg_of_ne_top (EReal.coe_nonneg.mpr hr) (EReal.coe_ne_top r) a b

/-- A square is not negative. -/
theorem sq_nonneg' (a : EReal) : 0 ≤ a * a := by
  induction a using EReal.rec with
  | bot => simp
  | top => simp
  | coe a => rw [← EReal.coe_mul]; exact EReal.coe_nonneg.mpr (mul_self_nonneg a)

/-- The mean of the squares with the constant is a positive number or infinite. -/
theorem ms_cases (x : Fin 1024 → EReal) : ms x = ⊤ ∨ ∃ v : ℝ, 0 < v ∧ ms x = (v : EReal) := by
  obtain ⟨e, he, hb⟩ := bits_eps
  have hs : (0 : EReal) ≤ ∑ k, x k * x k := Finset.sum_nonneg fun k _ => sq_nonneg' (x k)
  unfold ms
  rw [hb, bits_1024]
  generalize (∑ k, x k * x k) = s at hs
  have hd : Ideal.div s ((1024 : ℝ) : EReal) = s * (((1024 : ℝ)⁻¹ : ℝ) : EReal) := by
    rw [Ideal.div, if_neg (by norm_num), EReal.coe_inv]
  rw [hd]
  induction s using EReal.rec with
  | bot => simp at hs
  | top =>
    left
    rw [EReal.top_mul_coe_of_pos (by norm_num), EReal.top_add_coe]
  | coe s =>
    right
    have hs' : 0 ≤ s := EReal.coe_nonneg.mp hs
    exact ⟨s * (1024 : ℝ)⁻¹ + e, by positivity, by push_cast; rfl⟩

/-- The gradient of a row's norm. `d` is the row's cotangent times the gains. The left is the kernel's way, with the
normed row; the right is the way of the chain rule, through the root and the mean of the squares. -/
theorem dx_eq (x d : Fin 1024 → EReal) (j : Fin 1024) :
    Ideal.rsqrt (ms x) * (d j - x j * Ideal.rsqrt (ms x) *
      Ideal.div (∑ k, d k * (x k * Ideal.rsqrt (ms x))) (Ideal.ofBits .f32 0x44800000#32)) =
    d j * Ideal.rsqrt (ms x) +
      (Ideal.div ((∑ k, d k * x k) * (Ideal.ofBits .f32 0xBF000000#32 * Ideal.div (Ideal.rsqrt (ms x)) (ms x)))
        (Ideal.ofBits .f32 0x44800000#32) * x j +
       Ideal.div ((∑ k, d k * x k) * (Ideal.ofBits .f32 0xBF000000#32 * Ideal.div (Ideal.rsqrt (ms x)) (ms x)))
        (Ideal.ofBits .f32 0x44800000#32) * x j) := by
  have hd : ∀ s : EReal, Ideal.div s (Ideal.ofBits .f32 0x44800000#32) = s * (((1024 : ℝ)⁻¹ : ℝ) : EReal) := by
    intro s
    rw [bits_1024, Ideal.div, if_neg (by norm_num), EReal.coe_inv]
  simp only [hd]
  rcases ms_cases x with hv | ⟨v, hv, hm⟩
  · have hr : Ideal.rsqrt (ms x) = 0 := by rw [hv]; rfl
    have h0 : Ideal.div (0 : EReal) (ms x) = 0 := by rw [hv, Ideal.div, if_neg EReal.top_ne_zero, zero_mul]
    simp only [hr, h0, mul_zero, zero_mul, add_zero]
  · obtain ⟨r, hr0, hr, hrr⟩ : ∃ r : ℝ, 0 ≤ r ∧ Ideal.rsqrt (ms x) = (r : EReal) ∧ r * r * r = r * v⁻¹ := by
      refine ⟨(Real.sqrt v)⁻¹, by positivity, ?_, ?_⟩
      · rw [hm]
        show (if v < 0 then ⊥ else if v = 0 then ⊤ else (((Real.sqrt v)⁻¹ : ℝ) : EReal)) = _
        rw [if_neg (not_lt.mpr hv.le), if_neg hv.ne']
      · have h : Real.sqrt v * Real.sqrt v = v := Real.mul_self_sqrt hv.le
        have : (Real.sqrt v)⁻¹ * (Real.sqrt v)⁻¹ = v⁻¹ := by rw [← mul_inv, h]
        rw [this, mul_comm]
    have hq : Ideal.div (r : EReal) (ms x) = ((r * v⁻¹ : ℝ) : EReal) := by
      rw [hm, Ideal.div, if_neg (by exact_mod_cast hv.ne'), ← EReal.coe_inv, ← EReal.coe_mul]
    have hsum : (∑ k, d k * (x k * (r : EReal))) = (r : EReal) * ∑ k, d k * x k := by
      have hmul : ∀ s : Finset (Fin 1024), (r : EReal) * ∑ k ∈ s, d k * x k = ∑ k ∈ s, d k * (x k * (r : EReal)) := by
        intro s
        induction s using Finset.induction_on with
        | empty => simp
        | insert a s ha ih =>
          rw [Finset.sum_insert ha, Finset.sum_insert ha, coe_mul_add hr0, ih]
          congr 1
          ac_rfl
      exact (hmul _).symm
    rw [hr, hq, hsum, bits_mhalf]
    generalize (∑ k, d k * x k) = S
    have two : ∀ z : EReal, z + z = ((2 : ℝ) : EReal) * z := by
      intro z
      have : ((2 : ℝ) : EReal) = 1 + 1 := by
        rw [← EReal.coe_one, ← EReal.coe_add]; norm_num
      rw [this, EReal.right_distrib_of_nonneg zero_le_one zero_le_one, one_mul]
    rw [two, sub_eq_add_neg, coe_mul_add hr0, mul_comm (r : EReal) (d j)]
    congr 1
    have h1 : (r : EReal) * -(x j * (r : EReal) * ((r : EReal) * S * (((1024 : ℝ)⁻¹ : ℝ) : EReal))) =
        ((-(r * r * r) : ℝ) : EReal) * (S * (((1024 : ℝ)⁻¹ : ℝ) : EReal) * x j) := by
      rw [mul_neg, EReal.coe_neg, neg_mul, EReal.coe_mul, EReal.coe_mul]
      congr 1
      ac_rfl
    have h2 : ((2 : ℝ) : EReal) * (S * (((-(1 / 2) : ℝ) : EReal) * ((r * v⁻¹ : ℝ) : EReal)) * (((1024 : ℝ)⁻¹ : ℝ) : EReal) * x j) =
        ((2 * (-(1 / 2) * (r * v⁻¹)) : ℝ) : EReal) * (S * (((1024 : ℝ)⁻¹ : ℝ) : EReal) * x j) := by
      rw [EReal.coe_mul 2, EReal.coe_mul (-(1 / 2))]
      ac_rfl
    rw [h1, h2, hrr]
    congr 2
    ring

/-- The gradient of a row through its norm: `d` is the cotangent of the normed row, `g` the gains, and `res` is added. -/
def dxr (d x g res : Fin 1024 → EReal) (j : Fin 1024) : EReal :=
  res j + Ideal.rsqrt (ms x) * (d j * g j - x j * Ideal.rsqrt (ms x) *
    Ideal.div (∑ k, d k * g k * (x k * Ideal.rsqrt (ms x))) (Ideal.ofBits .f32 0x44800000#32))

/-- A row's part of the gradient of the gains. -/
def dgr (d x : Fin 1024 → EReal) (j : Fin 1024) : EReal := d j * (x j * Ideal.rsqrt (ms x))

/-- Both for every row of an array. -/
def dxs {M : ℕ} (d : Fin M → Fin 1024 → EReal) (x : Mtx M 1024) (g : Mtx 1 1024) (res : Mtx M 1024) : Mtx M 1024 :=
  fun j => dxr (d (j 0)) (at2 x (j 0)) (at2 g 0) (at2 res (j 0)) (j 1)

def dgs {M : ℕ} (d : Fin M → Fin 1024 → EReal) (x : Mtx M 1024) : Mtx 1 1024 :=
  fun j => ∑ r : Fin M, dgr (d r) (at2 x r) (j 1)

/-- The cotangent of the normed rows behind one product, and behind two of which one is given. -/
def cot {M K N : ℕ} (x0 : Mtx M K) (x1 : Mtx N K) (r : Fin M) (k : Fin N) : EReal := nt (at2 x0) (at2 x1) r k

def cotp {M K N : ℕ} (x0 : Mtx M K) (x1 : Mtx N K) (x2 : Mtx M N) (r : Fin M) (k : Fin N) : EReal := nt (at2 x0) (at2 x1) r k + at2 x2 r k

/-- The gradients of the rows and of the gains, as functions of the arguments. -/
def dx1 {M K : ℕ} (x0 : Mtx M K) (x1 : Mtx 1024 K) (x2 : Mtx M 1024) (x3 : Mtx 1 1024) (x4 : Mtx M 1024) : Mtx M 1024 := dxs (cot x0 x1) x2 x3 x4

def dg1 {M K : ℕ} (x0 : Mtx M K) (x1 : Mtx 1024 K) (x2 : Mtx M 1024) : Mtx 1 1024 := dgs (cot x0 x1) x2

def dx2 {M K : ℕ} (x0 : Mtx M K) (x1 : Mtx 1024 K) (x2 x3 : Mtx M 1024) (x4 : Mtx 1 1024) (x5 : Mtx M 1024) : Mtx M 1024 := dxs (cotp x0 x1 x2) x3 x4 x5

def dg2 {M K : ℕ} (x0 : Mtx M K) (x1 : Mtx 1024 K) (x2 x3 : Mtx M 1024) : Mtx 1 1024 := dgs (cotp x0 x1 x2) x3

/-- A sum over 8192 rows, block by block of 512. -/
theorem sum_rows16 (f : Fin 8192 → EReal) :
    (∑ k, f k) = ∑ i : Fin 16, ∑ x : Fin 512, f ⟨512 * i.val + x.val, by omega⟩ := by
  rw [← Fintype.sum_prod_type' (f := fun (i : Fin 16) (x : Fin 512) => f ⟨512 * i.val + x.val, by omega⟩)]
  refine (Equiv.sum_comp (finProdFinEquiv (m := 16) (n := 512)) f).symm.trans (Finset.sum_congr rfl fun p _ => ?_)
  exact congrArg f (Fin.ext (by show p.2.val + 512 * p.1.val = 512 * p.1.val + p.2.val; omega))

end Cert.Rms

end
-- ==== Proof.FfnDhVal.lean ====
/- The gradient through the norm in front of up and gate, `FfnDh`: the kernel's arrays. -/
module

public import Idealize.ShloMosaic.Lib.Pipeline.ValueKit
public import Idealize.ShloMosaic.Lib.Claim
public import Idealize.ShloMosaic.Lib.StableHlo.ReadAt
public import proofs.«01_k».proof.Proof.Gen.FfnDhIdeal.Frame
public import proofs.«01_k».proof.Proof.Rms

@[expose] public section

set_option maxRecDepth 16384

noncomputable section

namespace Cert.FfnDhIdeal.Value

open Idealize.ShloMosaic Idealize.ShloMosaic.TcCoe Idealize.SL.Sem
open Cert.FfnDhIdeal Cert.FfnDhIdeal.Gen Cert.Mat Cert.Rms
open scoped BigOperators

variable (m : (ℓ : Loc nD τ sig) → Buf (Elt Ideal) ℓ) (ρ : Dev nD → PrngReg)

theorem idx : ∀ t : Fin cfg0.N,
    win0_0.index t = ![t.val, 0]
      ∧ win0_1.index t = ![0, 0]
      ∧ win0_2.index t = ![t.val, 0]
      ∧ win0_3.index t = ![t.val, 0]
      ∧ win0_4.index t = ![0, 0]
      ∧ win0_5.index t = ![t.val, 0]
      ∧ win0_6.index t = ![t.val, 0]
      ∧ win0_7.index t = ![t.val, 0]
      ∧ win0_8.index t = ![0, 0] :=
  (by decide +kernel : ∀ t : Fin grid0.N, _)

/-- The arguments. -/
abbrev a0 (c : Dev nD) : Mtx 8192 2816 := (m ((c : Thread nD τ).loc main_arg0) : FVec Ideal S8192x2816 .f32)
abbrev a1 (c : Dev nD) : Mtx 1024 2816 := (m ((c : Thread nD τ).loc main_arg1) : FVec Ideal S1024x2816 .f32)
abbrev a2 (c : Dev nD) : Mtx 8192 1024 := (m ((c : Thread nD τ).loc main_arg2) : FVec Ideal S8192x1024 .f32)
abbrev a3 (c : Dev nD) : Mtx 8192 1024 := (m ((c : Thread nD τ).loc main_arg3) : FVec Ideal S8192x1024 .f32)
abbrev a4 (c : Dev nD) : Mtx 1 1024 := (m ((c : Thread nD τ).loc main_arg4) : FVec Ideal S1x1024 .f32)
abbrev a5 (c : Dev nD) : Mtx 8192 1024 := (m ((c : Thread nD τ).loc main_arg5) : FVec Ideal S8192x1024 .f32)

/-- The cotangent of the normed rows. -/
abbrev D (c : Dev nD) : Fin 8192 → Fin 1024 → EReal := cotp (a0 m c) (a1 m c) (a2 m c)

/-- The blocks at a point. -/
abbrev xa (c : Dev nD) (t : Fin cfg0.N) (a : Fin 512) (k : Fin 2816) : EReal := (iblk m c 0 t : FVec Ideal S512x2816 .bf16) (ix2 a k)
abbrev xw (c : Dev nD) (t : Fin cfg0.N) (a : Fin 1024) (k : Fin 2816) : EReal := (iblk m c 1 t : FVec Ideal S1024x2816 .bf16) (ix2 a k)
abbrev xp (c : Dev nD) (t : Fin cfg0.N) (a : Fin 512) (k : Fin 1024) : EReal := (iblk m c 2 t : FVec Ideal S512x1024 .f32) (ix2 a k)
abbrev xx (c : Dev nD) (t : Fin cfg0.N) (a : Fin 512) (k : Fin 1024) : EReal := (iblk m c 3 t : FVec Ideal S512x1024 .f32) (ix2 a k)
abbrev xg (c : Dev nD) (t : Fin cfg0.N) (k : Fin 1024) : EReal := (iblk m c 4 t : FVec Ideal S1x1024 .f32) (ix2 0 k)
abbrev xr (c : Dev nD) (t : Fin cfg0.N) (a : Fin 512) (k : Fin 1024) : EReal := (iblk m c 5 t : FVec Ideal S512x1024 .f32) (ix2 a k)

/-- The block's cotangent of the normed rows. -/
def xd (c : Dev nD) (t : Fin cfg0.N) (a : Fin 512) (k : Fin 1024) : EReal := nt (xa m c t) (xw m c t) a k + xp m c t a k

/-- The blocks' entries in the arguments. -/
theorem xa_at (c : Dev nD) (t : Fin cfg0.N) (a : Fin 512) (k : Fin 2816) (R : Fin 8192) (hR : R.val = 512 * t.val + a.val) :
    xa m c t a k = at2 (a0 m c) R k := by
  have e : (V m c main_v0 : FVec Ideal S8192x2816 .bf16) (ix2 R k) = at2 (a0 m c) R k := rfl
  refine Eq.trans ?_ e
  show (iblk m c 0 t : FVec Ideal S512x2816 .bf16) (ix2 a k) = _
  blk_simp [iblk]
  blk_ext [idx t, hR]

theorem xw_at (c : Dev nD) (t : Fin cfg0.N) (a : Fin 1024) (k : Fin 2816) (R : Fin 1024) (hR : R.val = a.val) :
    xw m c t a k = at2 (a1 m c) R k := by
  have e : (V m c main_v1 : FVec Ideal S1024x2816 .bf16) (ix2 R k) = at2 (a1 m c) R k := rfl
  refine Eq.trans ?_ e
  show (iblk m c 1 t : FVec Ideal S1024x2816 .bf16) (ix2 a k) = _
  blk_simp [iblk]
  blk_ext [idx t, hR]

theorem xp_at (c : Dev nD) (t : Fin cfg0.N) (a : Fin 512) (k : Fin 1024) (R : Fin 8192) (hR : R.val = 512 * t.val + a.val) :
    xp m c t a k = at2 (a2 m c) R k := by
  show (iblk m c 2 t : FVec Ideal S512x1024 .f32) (ix2 a k) = _
  blk_simp [iblk]
  blk_ext [idx t, hR]

theorem xx_at (c : Dev nD) (t : Fin cfg0.N) (a : Fin 512) (k : Fin 1024) (R : Fin 8192) (hR : R.val = 512 * t.val + a.val) :
    xx m c t a k = at2 (a3 m c) R k := by
  show (iblk m c 3 t : FVec Ideal S512x1024 .f32) (ix2 a k) = _
  blk_simp [iblk]
  blk_ext [idx t, hR]

theorem xr_at (c : Dev nD) (t : Fin cfg0.N) (a : Fin 512) (k : Fin 1024) (R : Fin 8192) (hR : R.val = 512 * t.val + a.val) :
    xr m c t a k = at2 (a5 m c) R k := by
  show (iblk m c 5 t : FVec Ideal S512x1024 .f32) (ix2 a k) = _
  blk_simp [iblk]
  blk_ext [idx t, hR]

theorem xg_at (c : Dev nD) (t : Fin cfg0.N) (k : Fin 1024) : xg m c t k = at2 (a4 m c) 0 k := by
  show (iblk m c 4 t : FVec Ideal S1x1024 .f32) (ix2 0 k) = _
  blk_simp [iblk]
  blk_ext [idx t]

theorem xd_at (c : Dev nD) (t : Fin cfg0.N) (a : Fin 512) (k : Fin 1024) (R : Fin 8192) (hR : R.val = 512 * t.val + a.val) :
    xd m c t a k = D m c R k := by
  unfold xd D cotp nt
  exact congrArg₂ (fun u v : EReal => u + v) (sum_mul_congr (fun q => xa_at m c t a q R hR) fun q => xw_at m c t k q k rfl) (xp_at m c t a k R hR)

/-- A point's rows of the gradient. -/
theorem out_dx (c : Dev nD) (t : Fin cfg0.N) (a : Fin 512) (l : Fin 1024) :
    ((outsAt0 m c t.val t.isLt).1 : FVec Ideal S512x1024 .f32) (ix2 a l) = dxr (xd m c t a) (xx m c t a) (xg m c t) (xr m c t a) l := by
  by_cases h0 : t.val % 16 = 0
  · rw [outsAt0_A m c t h0 (by have h := lt_of_lt_of_eq t.isLt (show cfg0.N = 16 from N_0); omega)]
    frame_out
    pointwise [k0_pay6, k0_pay5, k0_pay4, k0_pay3]
    rfl
  · rw [outsAt0_B m c t h0 (by omega)]
    frame_out
    pointwise [k0_pay6, k0_pay5, k0_pay4, k0_pay3]
    rfl

theorem out_dxb (c : Dev nD) (t : Fin cfg0.N) (a : Fin 512) (l : Fin 1024) :
    ((outsAt0 m c t.val t.isLt).2.1 : FVec Ideal S512x1024 .bf16) (ix2 a l) = dxr (xd m c t a) (xx m c t a) (xg m c t) (xr m c t a) l := by
  by_cases h0 : t.val % 16 = 0
  · rw [outsAt0_A m c t h0 (by have h := lt_of_lt_of_eq t.isLt (show cfg0.N = 16 from N_0); omega)]
    frame_out
    pointwise [k0_pay7, k0_pay6, k0_pay5, k0_pay4, k0_pay3]
    rfl
  · rw [outsAt0_B m c t h0 (by omega)]
    frame_out
    pointwise [k0_pay7, k0_pay6, k0_pay5, k0_pay4, k0_pay3]
    rfl

/-- The first point puts its rows' sum into the gradient of the gains. -/
theorem out_dgA (c : Dev nD) (t : Fin cfg0.N) (h0 : t.val % 16 = 0) (l : Fin 1024) :
    ((outsAt0 m c t.val t.isLt).2.2 : FVec Ideal S1x1024 .f32) (ix2 0 l) = 0 + ∑ a : Fin 512, dgr (xd m c t a) (xx m c t a) l := by
  rw [outsAt0_A m c t h0 (by have h := lt_of_lt_of_eq t.isLt (show cfg0.N = 16 from N_0); omega)]
  frame_out
  pointwise [k0_pay1, k0_pay5, k0_pay4, k0_pay3]
  rfl

/-- A later point adds its own. -/
theorem out_dgB (c : Dev nD) (t : Fin cfg0.N) (h0 : ¬t.val % 16 = 0) (l : Fin 1024) :
    ((outsAt0 m c t.val t.isLt).2.2 : FVec Ideal S1x1024 .f32) (ix2 0 l)
      = ((outsAt0 m c (t.val - 1) (Nat.lt_of_le_of_lt (Nat.sub_le _ _) t.isLt)).2.2 : FVec Ideal S1x1024 .f32) (ix2 0 l)
        + ∑ a : Fin 512, dgr (xd m c t a) (xx m c t a) l := by
  rw [outsAt0_B m c t h0 (by omega)]
  frame_out
  pointwise [k0_pay2, k0_pay1, k0_pay5, k0_pay4, k0_pay3]
  rfl

/-- A block's row is the array's. -/
theorem row_dx (c : Dev nD) (t : Fin cfg0.N) (a : Fin 512) (l : Fin 1024) (R : Fin 8192) (L : Fin 1024) (hR : R.val = 512 * t.val + a.val) (hL : L = l) :
    dxr (xd m c t a) (xx m c t a) (xg m c t) (xr m c t a) l = dxs (D m c) (a3 m c) (a4 m c) (a5 m c) (ix2 R L) := by
  subst hL
  have e1 : xd m c t a = D m c R := funext fun k => xd_at m c t a k R hR
  have e2 : xx m c t a = at2 (a3 m c) R := funext fun k => xx_at m c t a k R hR
  have e3 : xg m c t = at2 (a4 m c) 0 := funext fun k => xg_at m c t k
  have e4 : xr m c t a = at2 (a5 m c) R := funext fun k => xr_at m c t a k R hR
  rw [e1, e2, e3, e4]
  rfl

/-- The array of the rows' gradient. -/
theorem arr_dx (c : Dev nD) : (dats m 0 c).arrAt 6 cfg0.N = dxs (D m c) (a3 m c) (a4 m c) (a5 m c) := by
  refine (dats m 0 c).arrAt_eq_of_covers 6 _ (by decide +kernel) fun t hf y => ?_
  blk_simp
  rw [after0_6]
  obtain ⟨a, l, rfl⟩ : ∃ (a : Fin 512) (l : Fin 1024), y = ix2 a l := ⟨y 0, y 1, (ix2_eta y).symm⟩
  have e0 : ((win0_6.blk t).view.emb (ix2 a l) 0).val = 512 * t.val + a.val := by blk_simp [idx t]; omega
  have e1 : ((win0_6.blk t).view.emb (ix2 a l) 1 : Fin 1024) = l := Fin.ext (by blk_simp [idx t])
  refine (out_dx m c t a l).trans ((row_dx m c t a l _ _ e0 e1).trans ?_)
  rw [ix2_eta]

/-- The array of the same rounded. -/
theorem arr_dxb (c : Dev nD) : (dats m 0 c).arrAt 7 cfg0.N = dxs (D m c) (a3 m c) (a4 m c) (a5 m c) := by
  refine (dats m 0 c).arrAt_eq_of_covers 7 _ (by decide +kernel) fun t hf y => ?_
  blk_simp
  rw [after0_7]
  obtain ⟨a, l, rfl⟩ : ∃ (a : Fin 512) (l : Fin 1024), y = ix2 a l := ⟨y 0, y 1, (ix2_eta y).symm⟩
  have e0 : ((win0_7.blk t).view.emb (ix2 a l) 0).val = 512 * t.val + a.val := by blk_simp [idx t]; omega
  have e1 : ((win0_7.blk t).view.emb (ix2 a l) 1 : Fin 1024) = l := Fin.ext (by blk_simp [idx t])
  refine (out_dxb m c t a l).trans ((row_dx m c t a l _ _ e0 e1).trans ?_)
  rw [ix2_eta]

/-- After the last point the gradient of the gains holds the sum over all rows. -/
theorem sum_dg (c : Dev nD) (t : Fin cfg0.N) (ht : t.val % 16 = 15) (l : Fin 1024) :
    ((outsAt0 m c t.val t.isLt).2.2 : FVec Ideal S1x1024 .f32) (ix2 0 l) = dgs (D m c) (a3 m c) (ix2 0 l) := by
  rw [Pipeline.eq_sum_fin_of_reset_step_of_flush (fun n hn => (((outsAt0 m c n hn).2.2 : FVec Ideal S1x1024 .f32) (ix2 0 l) : EReal)) 16 0
    (fun t => ∑ a : Fin 512, dgr (xd m c t a) (xx m c t a) l) (fun t h => out_dgA m c t h l) (fun t h => out_dgB m c t h l) t ht, zero_add]
  refine Eq.trans ?_ (sum_rows16 fun r => dgr (D m c r) (at2 (a3 m c) r) l).symm
  have hN := lt_of_lt_of_eq t.isLt (show cfg0.N = 16 from N_0)
  refine Finset.sum_congr rfl fun i _ => Finset.sum_congr rfl fun a _ => ?_
  unfold dgr
  have hR : 512 * i.val + a.val = 512 * (16 * (t.val / 16) + i.val) + a.val := by omega
  rw [show xx m c _ a = at2 (a3 m c) ⟨512 * i.val + a.val, by omega⟩ from funext fun k => xx_at m c _ a k _ hR,
    xd_at m c _ a l ⟨512 * i.val + a.val, by omega⟩ hR]

/-- The array of the gradient of the gains. -/
theorem arr_dg (c : Dev nD) : (dats m 0 c).arrAt 8 cfg0.N = dgs (D m c) (a3 m c) := by
  refine (dats m 0 c).arrAt_eq_of_covers 8 _ (by decide +kernel) fun t hf y => ?_
  blk_simp
  rw [after0_8]
  obtain ⟨a, l, rfl⟩ : ∃ (a : Fin 1) (l : Fin 1024), y = ix2 a l := ⟨y 0, y 1, (ix2_eta y).symm⟩
  obtain rfl : a = 0 := Subsingleton.elim _ _
  have e1 : ((win0_8.blk t).view.emb (ix2 0 l) 1 : Fin 1024) = l := Fin.ext (by blk_simp [idx t])
  refine (sum_dg m c t ((flush0_8 t).mp hf) l).trans ?_
  show dgs _ _ _ = dgs _ _ _
  unfold dgs
  exact congrArg (fun j : Fin 1024 => ∑ r : Fin 8192, dgr (D m c r) (at2 (a3 m c) r) j) e1.symm

/-- Every execution ends with the three gradients in the results, and the arguments unchanged. -/
theorem run_value : θ_run defs (onTc (τ := τ) (main (F := Ideal))) ⟨m, fun _ => 0, ρ⟩ fun r => ∀ c : Dev nD,
      r.2.mem ((c.tc : Thread nD τ).loc main_v2_0) = dx2 (a0 m c) (a1 m c) (a2 m c) (a3 m c) (a4 m c) (a5 m c)
      ∧ r.2.mem ((c.tc : Thread nD τ).loc main_v2_1) = dx2 (a0 m c) (a1 m c) (a2 m c) (a3 m c) (a4 m c) (a5 m c)
      ∧ r.2.mem ((c.tc : Thread nD τ).loc main_v2_2) = dg2 (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (arr_dx m c), ((h.1 c).1 7).trans (arr_dxb m c), ((h.1 c).1 8).trans (arr_dg m c), h.2 c⟩) (θ_run_and (run_main m ρ) (unchanged m ρ))

end Cert.FfnDhIdeal.Value

end
-- ==== Proof.FfnDhRef.lean ====
/- The gradient through the norm, `FfnDh`: the reference. -/
module

public import Idealize.ShloMosaic.Lib.Pipeline.ValueKit
public import Idealize.ShloMosaic.Lib.KernelVsHost
public import proofs.«01_k».proof.Proof.Gen.FfnDhRefIdeal.Read
public import proofs.«01_k».proof.Proof.Rms

@[expose] public section

set_option maxRecDepth 16384

noncomputable section

namespace Cert.FfnDhRefIdeal.Read

open Idealize.ShloMosaic Idealize.ShloMosaic.TcCoe Idealize.SL.Sem
open Cert.FfnDhRefIdeal Cert.FfnDhRefIdeal.Gen Cert.Mat Cert.Rms
open scoped BigOperators

variable (x0 : (⟨S8192x2816, .f32⟩ : BufTy).Contents (Elt Ideal)) (x1 : (⟨S1024x2816, .f32⟩ : BufTy).Contents (Elt Ideal)) (x2 : (⟨S8192x1024, .f32⟩ : BufTy).Contents (Elt Ideal)) (x3 : (⟨S8192x1024, .f32⟩ : BufTy).Contents (Elt Ideal)) (x4 : (⟨S1x1024, .f32⟩ : BufTy).Contents (Elt Ideal)) (x5 : (⟨S8192x1024, .f32⟩ : BufTy).Contents (Elt Ideal))

/-- The cotangent of the normed rows. -/
theorem cot_eq (r : Fin 8192) (k : Fin 1024) : (val_main_v17 (F := Ideal) x0 x1 x2 (ix2 r k) : EReal) = cotp x0 x1 x2 r k := by
  have e : (val_main_v16 (F := Ideal) x0 x1 (ix2 r k) : EReal) = nt (at2 x0) (at2 x1) r k := by
    rw [val_main_v16_apply]
    unfold nt
    refine sum_mul_congr (fun q => ?_) fun q => ?_
    · exact congrArg x0 (funext fun n => Fin.ext (by fin_cases n <;> first | rfl | exact (Nat.zero_add _).symm))
    · exact congrArg x1 (funext fun n => Fin.ext (by fin_cases n <;> first | rfl | exact (Nat.zero_add _).symm))
  exact (congrArg (fun v : EReal => (x2 (ix2 r k) : EReal) + v) e).trans (add_comm _ _)

/-- The mean of a row's squares, with the small constant. -/
theorem ms_eq (i : S8192x1.Idx) (r : Fin 8192) (hi : i 0 = r) : (val_main_v6 (F := Ideal) x3 i : EReal) = ms (at2 x3 r) := by
  have hsum : (val_main_v1 (F := Ideal) x3 (ix1 r) : EReal) = ∑ k : Fin 1024, at2 x3 r k * at2 x3 r k := by
    rw [val_main_v1_apply]
    refine (congrArg₂ (fun a b : EReal => a + b) bits_zero (Finset.sum_congr rfl fun k _ => ?_)).trans (zero_add _)
    have hk : idx_main_v1 (ix1 r) k = ix2 r k := funext fun n => by fin_cases n <;> rfl
    rw [hk]
    rfl
  show Ideal.div (val_main_v2 (F := Ideal) x3 i) (val_main_v3 (F := Ideal) i) + val_main_v5 (F := Ideal) i = _
  have h2 : idx_main_v2 i = ix1 r := by subst hi; exact funext fun n => by fin_cases n; rfl
  rw [val_main_v2_apply, val_main_v3_apply, val_main_v5_apply, h2, hsum]
  rfl

theorem rs_eq (i : S8192x1.Idx) (r : Fin 8192) (hi : i 0 = r) : (val_main_v7 (F := Ideal) x3 i : EReal) = Ideal.rsqrt (ms (at2 x3 r)) :=
  congrArg Ideal.rsqrt (ms_eq (x3 := x3) i r hi)

/-- The factor of the gradient of the mean of the squares. -/
theorem fac_eq (i : S8192x1.Idx) (r : Fin 8192) (hi : i 0 = r) :
    (val_main_v10 (F := Ideal) x3 i : EReal) = Ideal.ofBits .f32 0xBF000000#32 * Ideal.div (Ideal.rsqrt (ms (at2 x3 r))) (ms (at2 x3 r)) := by
  show val_main_v9 (F := Ideal) i * Ideal.div (val_main_v7 (F := Ideal) x3 i) (val_main_v6 (F := Ideal) x3 i) = _
  rw [val_main_v9_apply, rs_eq (x3 := x3) i r hi, ms_eq (x3 := x3) i r hi]
  rfl

/-- A normed entry before the gain. -/
theorem hat_eq (r : Fin 8192) (k : Fin 1024) : (val_main_v12 (F := Ideal) x3 (ix2 r k) : EReal) = at2 x3 r k * Ideal.rsqrt (ms (at2 x3 r)) := by
  show (x3 (ix2 r k) : EReal) * val_main_v11 (F := Ideal) x3 (ix2 r k) = _
  rw [val_main_v11_apply, rs_eq (x3 := x3) _ r rfl]

/-- The cotangent times the gain. -/
theorem dg_eq (r : Fin 8192) (k : Fin 1024) : (val_main_v22 (F := Ideal) x0 x1 x2 x4 (ix2 r k) : EReal) = cotp x0 x1 x2 r k * at2 x4 0 k := by
  have e : (val_main_v21 (F := Ideal) x4 (ix2 r k) : EReal) = at2 x4 0 k := by
    rw [val_main_v21_apply]
    exact congrArg x4 (funext fun n => by fin_cases n <;> rfl)
  exact congrArg₂ (fun a b : EReal => a * b) (cot_eq (x0 := x0) (x1 := x1) (x2 := x2) r k) e

/-- The gradient of the mean of the squares, as it comes to every entry of a row. -/
theorem mean_eq (r : Fin 8192) (k : Fin 1024) : (val_main_v32 (F := Ideal) x0 x1 x2 x3 x4 (ix2 r k) : EReal)
    = Ideal.div ((∑ k, cotp x0 x1 x2 r k * at2 x4 0 k * at2 x3 r k) * (Ideal.ofBits .f32 0xBF000000#32 * Ideal.div (Ideal.rsqrt (ms (at2 x3 r))) (ms (at2 x3 r))))
        (Ideal.ofBits .f32 0x44800000#32) := by
  have hsum : (val_main_v24 (F := Ideal) x0 x1 x2 x3 x4 (ix1 r) : EReal) = ∑ k, cotp x0 x1 x2 r k * at2 x4 0 k * at2 x3 r k := by
    rw [val_main_v24_apply]
    refine (congrArg₂ (fun a b : EReal => a + b) bits_zero (Finset.sum_congr rfl fun k _ => ?_)).trans (zero_add _)
    have hk : idx_main_v24 (ix1 r) k = ix2 r k := funext fun n => by fin_cases n <;> rfl
    rw [hk]
    exact (congrArg (fun v : EReal => (x3 (ix2 r k) : EReal) * v) (dg_eq (x0 := x0) (x1 := x1) (x2 := x2) (x4 := x4) r k)).trans (mul_comm _ _)
  have h31 : idx_main_v32 (ix2 r k) = ix1 r := funext fun n => by fin_cases n; rfl
  rw [val_main_v32_apply, h31, val_main_v31_apply]
  refine (congrArg₂ (fun a b : EReal => a + b) bits_zero (Fintype.sum_unique _)).trans ((zero_add _).trans ?_)
  have hk : idx_main_v31 (ix1 r) default = ix2 r 0 := funext fun n => by fin_cases n <;> rfl
  rw [hk]
  show Ideal.div (val_main_v25 (F := Ideal) x0 x1 x2 x3 x4 (ix2 r 0) * val_main_v10 (F := Ideal) x3 (ix2 r 0)) (val_main_v29 (F := Ideal) (ix2 r 0)) = _
  have h24 : idx_main_v25 (ix2 r 0) = ix1 r := funext fun n => Fin.ext (by fin_cases n; show r.val * 1 + 0 = r.val; omega)
  rw [val_main_v25_apply, h24, hsum, fac_eq (x3 := x3) _ r rfl, val_main_v29_apply]
  rfl

/-- The gradient of the rows. -/
theorem dx_eq : (val_main_v37 (F := Ideal) x0 x1 x2 x3 x4 x5 : Mtx 8192 1024) = dx2 x0 x1 x2 x3 x4 x5 := by
  refine mtx_ext fun r s => ?_
  have h26 : (val_main_v27 (F := Ideal) x0 x1 x2 x3 x4 (ix2 r s) : EReal) = cotp x0 x1 x2 r s * at2 x4 0 s * Ideal.rsqrt (ms (at2 x3 r)) := by
    show (val_main_v22 (F := Ideal) x0 x1 x2 x4 (ix2 r s) : EReal) * val_main_v26 (F := Ideal) x3 (ix2 r s) = _
    rw [dg_eq (x0 := x0) (x1 := x1) (x2 := x2) (x4 := x4) r s, val_main_v26_apply, rs_eq (x3 := x3) _ r rfl]
  show (x5 (ix2 r s) : EReal) + (val_main_v27 (F := Ideal) x0 x1 x2 x3 x4 (ix2 r s) + (x3 (ix2 r s) : EReal) * val_main_v32 (F := Ideal) x0 x1 x2 x3 x4 (ix2 r s)
    + val_main_v32 (F := Ideal) x0 x1 x2 x3 x4 (ix2 r s) * (x3 (ix2 r s) : EReal)) = _
  rw [h26, mean_eq (x0 := x0) (x1 := x1) (x2 := x2) (x3 := x3) (x4 := x4) r s, mul_comm (x3 (ix2 r s) : EReal), add_assoc]
  show _ = dxr (cotp x0 x1 x2 r) (at2 x3 r) (at2 x4 0) (at2 x5 r) s
  unfold dxr
  rw [Rms.dx_eq (at2 x3 r) (fun k => cotp x0 x1 x2 r k * at2 x4 0 k) s]

/-- The gradient of the gains. -/
theorem gain_eq : (val_main_v20 (F := Ideal) x0 x1 x2 x3 : Mtx 1 1024) = dg2 x0 x1 x2 x3 := by
  refine mtx_ext fun r s => ?_
  obtain rfl : r = 0 := Subsingleton.elim _ _
  have h19 : idx_main_v20 (ix2 0 s) = ix1 s := funext fun n => Fin.ext (by fin_cases n; show 0 * 1024 + s.val = s.val; omega)
  rw [val_main_v20_apply, h19, val_main_v19_apply]
  show _ = ∑ k, cotp x0 x1 x2 k s * (at2 x3 k s * Ideal.rsqrt (ms (at2 x3 k)))
  refine (congrArg₂ (fun a b : EReal => a + b) bits_zero (Finset.sum_congr rfl fun k _ => ?_)).trans (zero_add _)
  have hk : idx_main_v19 (ix1 s) k = ix2 k s := funext fun n => by fin_cases n <;> rfl
  rw [hk]
  exact (congrArg₂ (fun a b : EReal => a * b) (hat_eq (x3 := x3) k s) (cot_eq (x0 := x0) (x1 := x1) (x2 := x2) k s)).trans (mul_comm _ _)

variable (m : (ℓ : Loc nD τ sig) → Buf (Elt Ideal) ℓ) (ρ : Dev nD → PrngReg)

abbrev a0 (c : Dev nD) : Mtx 8192 2816 := (m ((c.tc : Thread nD τ).loc main_arg0) : FVec Ideal S8192x2816 .f32)
abbrev a1 (c : Dev nD) : Mtx 1024 2816 := (m ((c.tc : Thread nD τ).loc main_arg1) : FVec Ideal S1024x2816 .f32)
abbrev a2 (c : Dev nD) : Mtx 8192 1024 := (m ((c.tc : Thread nD τ).loc main_arg2) : FVec Ideal S8192x1024 .f32)
abbrev a3 (c : Dev nD) : Mtx 8192 1024 := (m ((c.tc : Thread nD τ).loc main_arg3) : FVec Ideal S8192x1024 .f32)
abbrev a4 (c : Dev nD) : Mtx 1 1024 := (m ((c.tc : Thread nD τ).loc main_arg4) : FVec Ideal S1x1024 .f32)
abbrev a5 (c : Dev nD) : Mtx 8192 1024 := (m ((c.tc : Thread nD τ).loc main_arg5) : FVec Ideal S8192x1024 .f32)

/-- The reference's run. -/
theorem run_value : θ_run defs (onTc (τ := τ) (main (F := Ideal))) ⟨m, fun _ => 0, ρ⟩ fun r => ∀ c : Dev nD,
      r.2.mem ((c.tc : Thread nD τ).loc main_v37) = dx2 (a0 m c) (a1 m c) (a2 m c) (a3 m c) (a4 m c) (a5 m c)
      ∧ r.2.mem ((c.tc : Thread nD τ).loc main_v39) = dx2 (a0 m c) (a1 m c) (a2 m c) (a3 m c) (a4 m c) (a5 m c)
      ∧ r.2.mem ((c.tc : Thread nD τ).loc main_v20) = dg2 (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨r0, r1, r2, ra⟩ := h c
    exact ⟨r0.trans ((val_main_v37_eq m c).trans (dx_eq _ _ _ _ _ _)),
      r1.trans ((val_main_v39_eq m c).trans (dx_eq _ _ _ _ _ _)),
      r2.trans ((val_main_v20_eq _ _ _ _).trans (gain_eq _ _ _ _)), ra⟩) (Cert.FfnDhRefIdeal.Value.run m ρ)

end Cert.FfnDhRefIdeal.Read

end
-- ==== Proof.AttnDhVal.lean ====
/- The gradient through the norm in front of qkv, `AttnDh`: the kernel's arrays. -/
module

public import Idealize.ShloMosaic.Lib.Pipeline.ValueKit
public import Idealize.ShloMosaic.Lib.Claim
public import Idealize.ShloMosaic.Lib.StableHlo.ReadAt
public import proofs.«01_k».proof.Proof.Gen.AttnDhIdeal.Frame
public import proofs.«01_k».proof.Proof.Rms

@[expose] public section

set_option maxRecDepth 16384

noncomputable section

namespace Cert.AttnDhIdeal.Value

open Idealize.ShloMosaic Idealize.ShloMosaic.TcCoe Idealize.SL.Sem
open Cert.AttnDhIdeal Cert.AttnDhIdeal.Gen Cert.Mat Cert.Rms
open scoped BigOperators

variable (m : (ℓ : Loc nD τ sig) → Buf (Elt Ideal) ℓ) (ρ : Dev nD → PrngReg)

theorem idx : ∀ t : Fin cfg0.N,
    win0_0.index t = ![t.val, 0]
      ∧ win0_1.index t = ![0, 0]
      ∧ win0_2.index t = ![t.val, 0]
      ∧ win0_3.index t = ![0, 0]
      ∧ win0_4.index t = ![t.val, 0]
      ∧ win0_5.index t = ![t.val, 0]
      ∧ win0_6.index t = ![t.val, 0]
      ∧ win0_7.index t = ![0, 0] :=
  (by decide +kernel : ∀ t : Fin grid0.N, _)

/-- The arguments. -/
abbrev a0 (c : Dev nD) : Mtx 8192 2304 := (m ((c : Thread nD τ).loc main_arg0) : FVec Ideal S8192x2304 .f32)
abbrev a1 (c : Dev nD) : Mtx 1024 2304 := (m ((c : Thread nD τ).loc main_arg1) : FVec Ideal S1024x2304 .f32)
abbrev a2 (c : Dev nD) : Mtx 8192 1024 := (m ((c : Thread nD τ).loc main_arg2) : FVec Ideal S8192x1024 .f32)
abbrev a3 (c : Dev nD) : Mtx 1 1024 := (m ((c : Thread nD τ).loc main_arg3) : FVec Ideal S1x1024 .f32)
abbrev a4 (c : Dev nD) : Mtx 8192 1024 := (m ((c : Thread nD τ).loc main_arg4) : FVec Ideal S8192x1024 .f32)

/-- The cotangent of the normed rows. -/
abbrev D (c : Dev nD) : Fin 8192 → Fin 1024 → EReal := cot (a0 m c) (a1 m c)

/-- The blocks at a point. -/
abbrev xa (c : Dev nD) (t : Fin cfg0.N) (a : Fin 512) (k : Fin 2304) : EReal := (iblk m c 0 t : FVec Ideal S512x2304 .bf16) (ix2 a k)
abbrev xw (c : Dev nD) (t : Fin cfg0.N) (a : Fin 1024) (k : Fin 2304) : EReal := (iblk m c 1 t : FVec Ideal S1024x2304 .bf16) (ix2 a k)
abbrev xx (c : Dev nD) (t : Fin cfg0.N) (a : Fin 512) (k : Fin 1024) : EReal := (iblk m c 2 t : FVec Ideal S512x1024 .f32) (ix2 a k)
abbrev xg (c : Dev nD) (t : Fin cfg0.N) (k : Fin 1024) : EReal := (iblk m c 3 t : FVec Ideal S1x1024 .f32) (ix2 0 k)
abbrev xr (c : Dev nD) (t : Fin cfg0.N) (a : Fin 512) (k : Fin 1024) : EReal := (iblk m c 4 t : FVec Ideal S512x1024 .f32) (ix2 a k)

/-- The block's cotangent of the normed rows. -/
def xd (c : Dev nD) (t : Fin cfg0.N) (a : Fin 512) (k : Fin 1024) : EReal := nt (xa m c t) (xw m c t) a k

/-- The blocks' entries in the arguments. -/
theorem xa_at (c : Dev nD) (t : Fin cfg0.N) (a : Fin 512) (k : Fin 2304) (R : Fin 8192) (hR : R.val = 512 * t.val + a.val) :
    xa m c t a k = at2 (a0 m c) R k := by
  have e : (V m c main_v0 : FVec Ideal S8192x2304 .bf16) (ix2 R k) = at2 (a0 m c) R k := rfl
  refine Eq.trans ?_ e
  show (iblk m c 0 t : FVec Ideal S512x2304 .bf16) (ix2 a k) = _
  blk_simp [iblk]
  blk_ext [idx t, hR]

theorem xw_at (c : Dev nD) (t : Fin cfg0.N) (a : Fin 1024) (k : Fin 2304) (R : Fin 1024) (hR : R.val = a.val) :
    xw m c t a k = at2 (a1 m c) R k := by
  have e : (V m c main_v1 : FVec Ideal S1024x2304 .bf16) (ix2 R k) = at2 (a1 m c) R k := rfl
  refine Eq.trans ?_ e
  show (iblk m c 1 t : FVec Ideal S1024x2304 .bf16) (ix2 a k) = _
  blk_simp [iblk]
  blk_ext [idx t, hR]

theorem xx_at (c : Dev nD) (t : Fin cfg0.N) (a : Fin 512) (k : Fin 1024) (R : Fin 8192) (hR : R.val = 512 * t.val + a.val) :
    xx m c t a k = at2 (a2 m c) R k := by
  show (iblk m c 2 t : FVec Ideal S512x1024 .f32) (ix2 a k) = _
  blk_simp [iblk]
  blk_ext [idx t, hR]

theorem xr_at (c : Dev nD) (t : Fin cfg0.N) (a : Fin 512) (k : Fin 1024) (R : Fin 8192) (hR : R.val = 512 * t.val + a.val) :
    xr m c t a k = at2 (a4 m c) R k := by
  show (iblk m c 4 t : FVec Ideal S512x1024 .f32) (ix2 a k) = _
  blk_simp [iblk]
  blk_ext [idx t, hR]

theorem xg_at (c : Dev nD) (t : Fin cfg0.N) (k : Fin 1024) : xg m c t k = at2 (a3 m c) 0 k := by
  show (iblk m c 3 t : FVec Ideal S1x1024 .f32) (ix2 0 k) = _
  blk_simp [iblk]
  blk_ext [idx t]

theorem xd_at (c : Dev nD) (t : Fin cfg0.N) (a : Fin 512) (k : Fin 1024) (R : Fin 8192) (hR : R.val = 512 * t.val + a.val) :
    xd m c t a k = D m c R k := by
  unfold xd D cot nt
  exact sum_mul_congr (fun q => xa_at m c t a q R hR) fun q => xw_at m c t k q k rfl

/-- A point's rows of the gradient. -/
theorem out_dx (c : Dev nD) (t : Fin cfg0.N) (a : Fin 512) (l : Fin 1024) :
    ((outsAt0 m c t.val t.isLt).1 : FVec Ideal S512x1024 .f32) (ix2 a l) = dxr (xd m c t a) (xx m c t a) (xg m c t) (xr m c t a) l := by
  by_cases h0 : t.val % 16 = 0
  · rw [outsAt0_A m c t h0 (by have h := lt_of_lt_of_eq t.isLt (show cfg0.N = 16 from N_0); omega)]
    frame_out
    pointwise [k0_pay6, k0_pay5, k0_pay4, k0_pay3]
    rfl
  · rw [outsAt0_B m c t h0 (by omega)]
    frame_out
    pointwise [k0_pay6, k0_pay5, k0_pay4, k0_pay3]
    rfl

theorem out_dxb (c : Dev nD) (t : Fin cfg0.N) (a : Fin 512) (l : Fin 1024) :
    ((outsAt0 m c t.val t.isLt).2.1 : FVec Ideal S512x1024 .bf16) (ix2 a l) = dxr (xd m c t a) (xx m c t a) (xg m c t) (xr m c t a) l := by
  by_cases h0 : t.val % 16 = 0
  · rw [outsAt0_A m c t h0 (by have h := lt_of_lt_of_eq t.isLt (show cfg0.N = 16 from N_0); omega)]
    frame_out
    pointwise [k0_pay7, k0_pay6, k0_pay5, k0_pay4, k0_pay3]
    rfl
  · rw [outsAt0_B m c t h0 (by omega)]
    frame_out
    pointwise [k0_pay7, k0_pay6, k0_pay5, k0_pay4, k0_pay3]
    rfl

/-- The first point puts its rows' sum into the gradient of the gains. -/
theorem out_dgA (c : Dev nD) (t : Fin cfg0.N) (h0 : t.val % 16 = 0) (l : Fin 1024) :
    ((outsAt0 m c t.val t.isLt).2.2 : FVec Ideal S1x1024 .f32) (ix2 0 l) = 0 + ∑ a : Fin 512, dgr (xd m c t a) (xx m c t a) l := by
  rw [outsAt0_A m c t h0 (by have h := lt_of_lt_of_eq t.isLt (show cfg0.N = 16 from N_0); omega)]
  frame_out
  pointwise [k0_pay8, k0_pay1, k0_pay5, k0_pay4, k0_pay3]
  rfl

/-- A later point adds its own. -/
theorem out_dgB (c : Dev nD) (t : Fin cfg0.N) (h0 : ¬t.val % 16 = 0) (l : Fin 1024) :
    ((outsAt0 m c t.val t.isLt).2.2 : FVec Ideal S1x1024 .f32) (ix2 0 l)
      = ((outsAt0 m c (t.val - 1) (Nat.lt_of_le_of_lt (Nat.sub_le _ _) t.isLt)).2.2 : FVec Ideal S1x1024 .f32) (ix2 0 l)
        + ∑ a : Fin 512, dgr (xd m c t a) (xx m c t a) l := by
  rw [outsAt0_B m c t h0 (by omega)]
  frame_out
  pointwise [k0_pay2, k0_pay8, k0_pay1, k0_pay5, k0_pay4, k0_pay3]
  rfl

/-- A block's row is the array's. -/
theorem row_dx (c : Dev nD) (t : Fin cfg0.N) (a : Fin 512) (l : Fin 1024) (R : Fin 8192) (L : Fin 1024) (hR : R.val = 512 * t.val + a.val) (hL : L = l) :
    dxr (xd m c t a) (xx m c t a) (xg m c t) (xr m c t a) l = dxs (D m c) (a2 m c) (a3 m c) (a4 m c) (ix2 R L) := by
  subst hL
  have e1 : xd m c t a = D m c R := funext fun k => xd_at m c t a k R hR
  have e2 : xx m c t a = at2 (a2 m c) R := funext fun k => xx_at m c t a k R hR
  have e3 : xg m c t = at2 (a3 m c) 0 := funext fun k => xg_at m c t k
  have e4 : xr m c t a = at2 (a4 m c) R := funext fun k => xr_at m c t a k R hR
  rw [e1, e2, e3, e4]
  rfl

/-- The array of the rows' gradient. -/
theorem arr_dx (c : Dev nD) : (dats m 0 c).arrAt 5 cfg0.N = dxs (D m c) (a2 m c) (a3 m c) (a4 m c) := by
  refine (dats m 0 c).arrAt_eq_of_covers 5 _ (by decide +kernel) fun t hf y => ?_
  blk_simp
  rw [after0_5]
  obtain ⟨a, l, rfl⟩ : ∃ (a : Fin 512) (l : Fin 1024), y = ix2 a l := ⟨y 0, y 1, (ix2_eta y).symm⟩
  have e0 : ((win0_5.blk t).view.emb (ix2 a l) 0).val = 512 * t.val + a.val := by blk_simp [idx t]; omega
  have e1 : ((win0_5.blk t).view.emb (ix2 a l) 1 : Fin 1024) = l := Fin.ext (by blk_simp [idx t])
  refine (out_dx m c t a l).trans ((row_dx m c t a l _ _ e0 e1).trans ?_)
  rw [ix2_eta]

/-- The array of the same rounded. -/
theorem arr_dxb (c : Dev nD) : (dats m 0 c).arrAt 6 cfg0.N = dxs (D m c) (a2 m c) (a3 m c) (a4 m c) := by
  refine (dats m 0 c).arrAt_eq_of_covers 6 _ (by decide +kernel) fun t hf y => ?_
  blk_simp
  rw [after0_6]
  obtain ⟨a, l, rfl⟩ : ∃ (a : Fin 512) (l : Fin 1024), y = ix2 a l := ⟨y 0, y 1, (ix2_eta y).symm⟩
  have e0 : ((win0_6.blk t).view.emb (ix2 a l) 0).val = 512 * t.val + a.val := by blk_simp [idx t]; omega
  have e1 : ((win0_6.blk t).view.emb (ix2 a l) 1 : Fin 1024) = l := Fin.ext (by blk_simp [idx t])
  refine (out_dxb m c t a l).trans ((row_dx m c t a l _ _ e0 e1).trans ?_)
  rw [ix2_eta]

/-- After the last point the gradient of the gains holds the sum over all rows. -/
theorem sum_dg (c : Dev nD) (t : Fin cfg0.N) (ht : t.val % 16 = 15) (l : Fin 1024) :
    ((outsAt0 m c t.val t.isLt).2.2 : FVec Ideal S1x1024 .f32) (ix2 0 l) = dgs (D m c) (a2 m c) (ix2 0 l) := by
  rw [Pipeline.eq_sum_fin_of_reset_step_of_flush (fun n hn => (((outsAt0 m c n hn).2.2 : FVec Ideal S1x1024 .f32) (ix2 0 l) : EReal)) 16 0
    (fun t => ∑ a : Fin 512, dgr (xd m c t a) (xx m c t a) l) (fun t h => out_dgA m c t h l) (fun t h => out_dgB m c t h l) t ht, zero_add]
  refine Eq.trans ?_ (sum_rows16 fun r => dgr (D m c r) (at2 (a2 m c) r) l).symm
  have hN := lt_of_lt_of_eq t.isLt (show cfg0.N = 16 from N_0)
  refine Finset.sum_congr rfl fun i _ => Finset.sum_congr rfl fun a _ => ?_
  unfold dgr
  have hR : 512 * i.val + a.val = 512 * (16 * (t.val / 16) + i.val) + a.val := by omega
  rw [show xx m c _ a = at2 (a2 m c) ⟨512 * i.val + a.val, by omega⟩ from funext fun k => xx_at m c _ a k _ hR,
    xd_at m c _ a l ⟨512 * i.val + a.val, by omega⟩ hR]

/-- The array of the gradient of the gains. -/
theorem arr_dg (c : Dev nD) : (dats m 0 c).arrAt 7 cfg0.N = dgs (D m c) (a2 m c) := by
  refine (dats m 0 c).arrAt_eq_of_covers 7 _ (by decide +kernel) fun t hf y => ?_
  blk_simp
  rw [after0_7]
  obtain ⟨a, l, rfl⟩ : ∃ (a : Fin 1) (l : Fin 1024), y = ix2 a l := ⟨y 0, y 1, (ix2_eta y).symm⟩
  obtain rfl : a = 0 := Subsingleton.elim _ _
  have e1 : ((win0_7.blk t).view.emb (ix2 0 l) 1 : Fin 1024) = l := Fin.ext (by blk_simp [idx t])
  refine (sum_dg m c t ((flush0_7 t).mp hf) l).trans ?_
  show dgs _ _ _ = dgs _ _ _
  unfold dgs
  exact congrArg (fun j : Fin 1024 => ∑ r : Fin 8192, dgr (D m c r) (at2 (a2 m c) r) j) e1.symm

/-- Every execution ends with the three gradients in the results, and the arguments unchanged. -/
theorem run_value : θ_run defs (onTc (τ := τ) (main (F := Ideal))) ⟨m, fun _ => 0, ρ⟩ fun r => ∀ c : Dev nD,
      r.2.mem ((c.tc : Thread nD τ).loc main_v2_0) = dx1 (a0 m c) (a1 m c) (a2 m c) (a3 m c) (a4 m c)
      ∧ r.2.mem ((c.tc : Thread nD τ).loc main_v2_1) = dx1 (a0 m c) (a1 m c) (a2 m c) (a3 m c) (a4 m c)
      ∧ r.2.mem ((c.tc : Thread nD τ).loc main_v2_2) = dg1 (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (arr_dx m c), ((h.1 c).1 6).trans (arr_dxb m c), ((h.1 c).1 7).trans (arr_dg m c), h.2 c⟩) (θ_run_and (run_main m ρ) (unchanged m ρ))

end Cert.AttnDhIdeal.Value

end
-- ==== Proof.AttnDhRef.lean ====
/- The gradient through the norm, `AttnDh`: the reference. -/
module

public import Idealize.ShloMosaic.Lib.Pipeline.ValueKit
public import Idealize.ShloMosaic.Lib.KernelVsHost
public import proofs.«01_k».proof.Proof.Gen.AttnDhRefIdeal.Read
public import proofs.«01_k».proof.Proof.Rms

@[expose] public section

set_option maxRecDepth 16384

noncomputable section

namespace Cert.AttnDhRefIdeal.Read

open Idealize.ShloMosaic Idealize.ShloMosaic.TcCoe Idealize.SL.Sem
open Cert.AttnDhRefIdeal Cert.AttnDhRefIdeal.Gen Cert.Mat Cert.Rms
open scoped BigOperators

variable (x0 : (⟨S8192x2304, .f32⟩ : BufTy).Contents (Elt Ideal)) (x1 : (⟨S1024x2304, .f32⟩ : BufTy).Contents (Elt Ideal)) (x2 : (⟨S8192x1024, .f32⟩ : BufTy).Contents (Elt Ideal)) (x3 : (⟨S1x1024, .f32⟩ : BufTy).Contents (Elt Ideal)) (x4 : (⟨S8192x1024, .f32⟩ : BufTy).Contents (Elt Ideal))

/-- The cotangent of the normed rows. -/
theorem cot_eq (r : Fin 8192) (k : Fin 1024) : (val_main_v16 (F := Ideal) x0 x1 (ix2 r k) : EReal) = cot x0 x1 r k := by
  have e : (val_main_v16 (F := Ideal) x0 x1 (ix2 r k) : EReal) = nt (at2 x0) (at2 x1) r k := by
    rw [val_main_v16_apply]
    unfold nt
    refine sum_mul_congr (fun q => ?_) fun q => ?_
    · exact congrArg x0 (funext fun n => Fin.ext (by fin_cases n <;> first | rfl | exact (Nat.zero_add _).symm))
    · exact congrArg x1 (funext fun n => Fin.ext (by fin_cases n <;> first | rfl | exact (Nat.zero_add _).symm))
  exact e

/-- The mean of a row's squares, with the small constant. -/
theorem ms_eq (i : S8192x1.Idx) (r : Fin 8192) (hi : i 0 = r) : (val_main_v6 (F := Ideal) x2 i : EReal) = ms (at2 x2 r) := by
  have hsum : (val_main_v1 (F := Ideal) x2 (ix1 r) : EReal) = ∑ k : Fin 1024, at2 x2 r k * at2 x2 r k := by
    rw [val_main_v1_apply]
    refine (congrArg₂ (fun a b : EReal => a + b) bits_zero (Finset.sum_congr rfl fun k _ => ?_)).trans (zero_add _)
    have hk : idx_main_v1 (ix1 r) k = ix2 r k := funext fun n => by fin_cases n <;> rfl
    rw [hk]
    rfl
  show Ideal.div (val_main_v2 (F := Ideal) x2 i) (val_main_v3 (F := Ideal) i) + val_main_v5 (F := Ideal) i = _
  have h2 : idx_main_v2 i = ix1 r := by subst hi; exact funext fun n => by fin_cases n; rfl
  rw [val_main_v2_apply, val_main_v3_apply, val_main_v5_apply, h2, hsum]
  rfl

theorem rs_eq (i : S8192x1.Idx) (r : Fin 8192) (hi : i 0 = r) : (val_main_v7 (F := Ideal) x2 i : EReal) = Ideal.rsqrt (ms (at2 x2 r)) :=
  congrArg Ideal.rsqrt (ms_eq (x2 := x2) i r hi)

/-- The factor of the gradient of the mean of the squares. -/
theorem fac_eq (i : S8192x1.Idx) (r : Fin 8192) (hi : i 0 = r) :
    (val_main_v10 (F := Ideal) x2 i : EReal) = Ideal.ofBits .f32 0xBF000000#32 * Ideal.div (Ideal.rsqrt (ms (at2 x2 r))) (ms (at2 x2 r)) := by
  show val_main_v9 (F := Ideal) i * Ideal.div (val_main_v7 (F := Ideal) x2 i) (val_main_v6 (F := Ideal) x2 i) = _
  rw [val_main_v9_apply, rs_eq (x2 := x2) i r hi, ms_eq (x2 := x2) i r hi]
  rfl

/-- A normed entry before the gain. -/
theorem hat_eq (r : Fin 8192) (k : Fin 1024) : (val_main_v12 (F := Ideal) x2 (ix2 r k) : EReal) = at2 x2 r k * Ideal.rsqrt (ms (at2 x2 r)) := by
  show (x2 (ix2 r k) : EReal) * val_main_v11 (F := Ideal) x2 (ix2 r k) = _
  rw [val_main_v11_apply, rs_eq (x2 := x2) _ r rfl]

/-- The cotangent times the gain. -/
theorem dg_eq (r : Fin 8192) (k : Fin 1024) : (val_main_v21 (F := Ideal) x0 x1 x3 (ix2 r k) : EReal) = cot x0 x1 r k * at2 x3 0 k := by
  have e : (val_main_v20 (F := Ideal) x3 (ix2 r k) : EReal) = at2 x3 0 k := by
    rw [val_main_v20_apply]
    exact congrArg x3 (funext fun n => by fin_cases n <;> rfl)
  exact congrArg₂ (fun a b : EReal => a * b) (cot_eq (x0 := x0) (x1 := x1) r k) e

/-- The gradient of the mean of the squares, as it comes to every entry of a row. -/
theorem mean_eq (r : Fin 8192) (k : Fin 1024) : (val_main_v31 (F := Ideal) x0 x1 x2 x3 (ix2 r k) : EReal)
    = Ideal.div ((∑ k, cot x0 x1 r k * at2 x3 0 k * at2 x2 r k) * (Ideal.ofBits .f32 0xBF000000#32 * Ideal.div (Ideal.rsqrt (ms (at2 x2 r))) (ms (at2 x2 r))))
        (Ideal.ofBits .f32 0x44800000#32) := by
  have hsum : (val_main_v23 (F := Ideal) x0 x1 x2 x3 (ix1 r) : EReal) = ∑ k, cot x0 x1 r k * at2 x3 0 k * at2 x2 r k := by
    rw [val_main_v23_apply]
    refine (congrArg₂ (fun a b : EReal => a + b) bits_zero (Finset.sum_congr rfl fun k _ => ?_)).trans (zero_add _)
    have hk : idx_main_v23 (ix1 r) k = ix2 r k := funext fun n => by fin_cases n <;> rfl
    rw [hk]
    exact (congrArg (fun v : EReal => (x2 (ix2 r k) : EReal) * v) (dg_eq (x0 := x0) (x1 := x1) (x3 := x3) r k)).trans (mul_comm _ _)
  have h31 : idx_main_v31 (ix2 r k) = ix1 r := funext fun n => by fin_cases n; rfl
  rw [val_main_v31_apply, h31, val_main_v30_apply]
  refine (congrArg₂ (fun a b : EReal => a + b) bits_zero (Fintype.sum_unique _)).trans ((zero_add _).trans ?_)
  have hk : idx_main_v30 (ix1 r) default = ix2 r 0 := funext fun n => by fin_cases n <;> rfl
  rw [hk]
  show Ideal.div (val_main_v24 (F := Ideal) x0 x1 x2 x3 (ix2 r 0) * val_main_v10 (F := Ideal) x2 (ix2 r 0)) (val_main_v28 (F := Ideal) (ix2 r 0)) = _
  have h24 : idx_main_v24 (ix2 r 0) = ix1 r := funext fun n => Fin.ext (by fin_cases n; show r.val * 1 + 0 = r.val; omega)
  rw [val_main_v24_apply, h24, hsum, fac_eq (x2 := x2) _ r rfl, val_main_v28_apply]
  rfl

/-- The gradient of the rows. -/
theorem dx_eq : (val_main_v36 (F := Ideal) x0 x1 x2 x3 x4 : Mtx 8192 1024) = dx1 x0 x1 x2 x3 x4 := by
  refine mtx_ext fun r s => ?_
  have h26 : (val_main_v26 (F := Ideal) x0 x1 x2 x3 (ix2 r s) : EReal) = cot x0 x1 r s * at2 x3 0 s * Ideal.rsqrt (ms (at2 x2 r)) := by
    show (val_main_v21 (F := Ideal) x0 x1 x3 (ix2 r s) : EReal) * val_main_v25 (F := Ideal) x2 (ix2 r s) = _
    rw [dg_eq (x0 := x0) (x1 := x1) (x3 := x3) r s, val_main_v25_apply, rs_eq (x2 := x2) _ r rfl]
  show (x4 (ix2 r s) : EReal) + (val_main_v26 (F := Ideal) x0 x1 x2 x3 (ix2 r s) + (x2 (ix2 r s) : EReal) * val_main_v31 (F := Ideal) x0 x1 x2 x3 (ix2 r s)
    + val_main_v31 (F := Ideal) x0 x1 x2 x3 (ix2 r s) * (x2 (ix2 r s) : EReal)) = _
  rw [h26, mean_eq (x0 := x0) (x1 := x1) (x2 := x2) (x3 := x3) r s, mul_comm (x2 (ix2 r s) : EReal), add_assoc]
  show _ = dxr (cot x0 x1 r) (at2 x2 r) (at2 x3 0) (at2 x4 r) s
  unfold dxr
  rw [Rms.dx_eq (at2 x2 r) (fun k => cot x0 x1 r k * at2 x3 0 k) s]

/-- The gradient of the gains. -/
theorem gain_eq : (val_main_v19 (F := Ideal) x0 x1 x2 : Mtx 1 1024) = dg1 x0 x1 x2 := by
  refine mtx_ext fun r s => ?_
  obtain rfl : r = 0 := Subsingleton.elim _ _
  have h19 : idx_main_v19 (ix2 0 s) = ix1 s := funext fun n => Fin.ext (by fin_cases n; show 0 * 1024 + s.val = s.val; omega)
  rw [val_main_v19_apply, h19, val_main_v18_apply]
  show _ = ∑ k, cot x0 x1 k s * (at2 x2 k s * Ideal.rsqrt (ms (at2 x2 k)))
  refine (congrArg₂ (fun a b : EReal => a + b) bits_zero (Finset.sum_congr rfl fun k _ => ?_)).trans (zero_add _)
  have hk : idx_main_v18 (ix1 s) k = ix2 k s := funext fun n => by fin_cases n <;> rfl
  rw [hk]
  exact (congrArg₂ (fun a b : EReal => a * b) (hat_eq (x2 := x2) k s) (cot_eq (x0 := x0) (x1 := x1) k s)).trans (mul_comm _ _)

variable (m : (ℓ : Loc nD τ sig) → Buf (Elt Ideal) ℓ) (ρ : Dev nD → PrngReg)

abbrev a0 (c : Dev nD) : Mtx 8192 2304 := (m ((c.tc : Thread nD τ).loc main_arg0) : FVec Ideal S8192x2304 .f32)
abbrev a1 (c : Dev nD) : Mtx 1024 2304 := (m ((c.tc : Thread nD τ).loc main_arg1) : FVec Ideal S1024x2304 .f32)
abbrev a2 (c : Dev nD) : Mtx 8192 1024 := (m ((c.tc : Thread nD τ).loc main_arg2) : FVec Ideal S8192x1024 .f32)
abbrev a3 (c : Dev nD) : Mtx 1 1024 := (m ((c.tc : Thread nD τ).loc main_arg3) : FVec Ideal S1x1024 .f32)
abbrev a4 (c : Dev nD) : Mtx 8192 1024 := (m ((c.tc : Thread nD τ).loc main_arg4) : FVec Ideal S8192x1024 .f32)

/-- The reference's run. -/
theorem run_value : θ_run defs (onTc (τ := τ) (main (F := Ideal))) ⟨m, fun _ => 0, ρ⟩ fun r => ∀ c : Dev nD,
      r.2.mem ((c.tc : Thread nD τ).loc main_v36) = dx1 (a0 m c) (a1 m c) (a2 m c) (a3 m c) (a4 m c)
      ∧ r.2.mem ((c.tc : Thread nD τ).loc main_v38) = dx1 (a0 m c) (a1 m c) (a2 m c) (a3 m c) (a4 m c)
      ∧ r.2.mem ((c.tc : Thread nD τ).loc main_v19) = dg1 (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨r0, r1, r2, ra⟩ := h c
    exact ⟨r0.trans ((val_main_v36_eq m c).trans (dx_eq _ _ _ _ _)),
      r1.trans ((val_main_v38_eq m c).trans (dx_eq _ _ _ _ _)),
      r2.trans ((val_main_v19_eq _ _ _).trans (gain_eq _ _ _)), ra⟩) (Cert.AttnDhRefIdeal.Value.run m ρ)

end Cert.AttnDhRefIdeal.Read

end
-- ==== Proof.Loss.lean ====
/- The loss and its gradient at the block's result, over the extended reals. -/
module

public import proofs.«01_k».proof.Proof.Rms

@[expose] public section

noncomputable section

namespace Cert.Loss

open Idealize.ShloMosaic Cert.Mat
open scoped BigOperators

/-- The literals: 1/1024, 1/2048, one half, one and two. -/
theorem bits_k : Ideal.ofBits .f32 0x3A800000#32 = ((1 / 1024 : ℝ) : EReal) := by
  simp [Ideal.ofBits, Ideal.ieee, -EReal.coe_mul]
  norm_num

theorem bits_hk : Ideal.ofBits .f32 0x3A000000#32 = ((1 / 2048 : ℝ) : EReal) := by
  simp [Ideal.ofBits, Ideal.ieee, -EReal.coe_mul]
  norm_num

theorem bits_half : Ideal.ofBits .f32 0x3F000000#32 = ((1 / 2 : ℝ) : EReal) := by
  simp [Ideal.ofBits, Ideal.ieee, -EReal.coe_mul]
  norm_num

theorem bits_one : Ideal.ofBits .f32 0x3F800000#32 = ((1 : ℝ) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

/-- A number that is not negative goes out of a sum. -/
theorem sum_coe_mul {ι : Type} (s : Finset ι) {r : ℝ} (hr : 0 ≤ r) (f : ι → EReal) :
    ∑ i ∈ s, ((r : ℝ) : EReal) * f i = ((r : ℝ) : EReal) * ∑ i ∈ s, f i := by
  classical
  induction s using Finset.induction_on with
  | empty => simp
  | insert a s ha ih => rw [Finset.sum_insert ha, Finset.sum_insert ha, ih, Rms.coe_mul_add hr]

/-- Division by 1024. -/
theorem div_1024 (x : EReal) : Ideal.div x (Ideal.ofBits .f32 0x44800000#32) = ((1 / 1024 : ℝ) : EReal) * x := by
  rw [Rms.bits_1024]
  unfold Ideal.div
  rw [if_neg (by norm_num), mul_comm]
  congr 1
  rw [← EReal.coe_inv]
  norm_num

/-- How far the block's result is from the target. -/
def err (x0 : Mtx 8192 2816) (x1 : Mtx 2816 1024) (x2 x3 : Mtx 8192 1024) (r : Fin 8192) (k : Fin 1024) : EReal :=
  nn (at2 x0) (at2 x1) r k + at2 x2 r k - at2 x3 r k

/-- The loss's gradient there. -/
def grad (x0 : Mtx 8192 2816) (x1 : Mtx 2816 1024) (x2 x3 : Mtx 8192 1024) : Mtx 8192 1024 :=
  fun j => err x0 x1 x2 x3 (j 0) (j 1) * Ideal.ofBits .f32 0x3A800000#32

/-- The loss. -/
def loss (x0 : Mtx 8192 2816) (x1 : Mtx 2816 1024) (x2 x3 : Mtx 8192 1024) : (⟨0, ![]⟩ : Shape).Idx → EReal :=
  fun _ => ((1 / 2048 : ℝ) : EReal) * ∑ r : Fin 8192, ∑ k : Fin 1024, err x0 x1 x2 x3 r k * err x0 x1 x2 x3 r k

/-- The reference's factors make the same gradient. -/
theorem grad_factor (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  rw [div_1024, bits_half, bits_one, bits_two, bits_k, ← mul_assoc, mul_comm e]
  congr 1
  rw [← EReal.coe_mul, ← EReal.coe_mul, ← EReal.coe_mul]
  norm_num

/-- The reference's mean over a row, sum over the rows and half make the same loss. -/
theorem loss_factor (f : Fin 8192 → EReal) :
    Ideal.ofBits .f32 0x3F000000#32 * ∑ r, Ideal.div (f r) (Ideal.ofBits .f32 0x44800000#32) = ((1 / 2048 : ℝ) : EReal) * ∑ r, f r := by
  simp only [div_1024]
  rw [sum_coe_mul _ (by norm_num), bits_half, ← mul_assoc, ← EReal.coe_mul]
  norm_num

/-- The kernel's factor within each block makes the same loss. -/
theorem loss_blocks (f : Fin 8192 → EReal) :
    ∑ i : Fin 16, (∑ a : Fin 512, f ⟨512 * i.val + a.val, by omega⟩) * Ideal.ofBits .f32 0x3A000000#32 = ((1 / 2048 : ℝ) : EReal) * ∑ r, f r := by
  rw [Rms.sum_rows16 f, bits_hk, ← sum_coe_mul _ (by norm_num)]
  exact Finset.sum_congr rfl fun i _ => mul_comm _ _

end Cert.Loss

end
-- ==== Proof.FfnLossVal.lean ====
/- The block's last product with the loss, `FfnLoss`: the kernel's arrays. -/
module

public import Idealize.ShloMosaic.Lib.Pipeline.ValueKit
public import Idealize.ShloMosaic.Lib.Claim
public import Idealize.ShloMosaic.Lib.StableHlo.ReadAt
public import proofs.«01_k».proof.Proof.Gen.FfnLossIdeal.Frame
public import proofs.«01_k».proof.Proof.Loss

@[expose] public section

set_option maxRecDepth 16384

noncomputable section

namespace Cert.FfnLossIdeal.Value

open Idealize.ShloMosaic Idealize.ShloMosaic.TcCoe Idealize.SL.Sem
open Cert.FfnLossIdeal Cert.FfnLossIdeal.Gen Cert.Mat Cert.Loss
open scoped BigOperators

variable (m : (ℓ : Loc nD τ sig) → Buf (Elt Ideal) ℓ) (ρ : Dev nD → PrngReg)

theorem idx : ∀ t : Fin cfg0.N,
    win0_0.index t = ![t.val, 0]
      ∧ win0_1.index t = ![0, 0]
      ∧ win0_2.index t = ![t.val, 0]
      ∧ win0_3.index t = ![t.val, 0]
      ∧ win0_4.index t = ![t.val, 0]
      ∧ win0_5.index t = ![t.val, 0]
      ∧ win0_6.index t = ![0, 0] :=
  (by decide +kernel : ∀ t : Fin grid0.N, _)

/-- The arguments. -/
abbrev a0 (c : Dev nD) : Mtx 8192 2816 := (m ((c : Thread nD τ).loc main_arg0) : FVec Ideal S8192x2816 .f32)
abbrev a1 (c : Dev nD) : Mtx 2816 1024 := (m ((c : Thread nD τ).loc main_arg1) : FVec Ideal S2816x1024 .f32)
abbrev a2 (c : Dev nD) : Mtx 8192 1024 := (m ((c : Thread nD τ).loc main_arg2) : FVec Ideal S8192x1024 .f32)
abbrev a3 (c : Dev nD) : Mtx 8192 1024 := (m ((c : Thread nD τ).loc main_arg3) : FVec Ideal S8192x1024 .f32)

/-- How far the result is from the target, in the arguments. -/
abbrev E (c : Dev nD) : Fin 8192 → Fin 1024 → EReal := err (a0 m c) (a1 m c) (a2 m c) (a3 m c)

/-- The blocks at a point. -/
abbrev xa (c : Dev nD) (t : Fin cfg0.N) (a : Fin 512) (k : Fin 2816) : EReal := (iblk m c 0 t : FVec Ideal S512x2816 .bf16) (ix2 a k)
abbrev xw (c : Dev nD) (t : Fin cfg0.N) (a : Fin 2816) (k : Fin 1024) : EReal := (iblk m c 1 t : FVec Ideal S2816x1024 .bf16) (ix2 a k)
abbrev xx (c : Dev nD) (t : Fin cfg0.N) (a : Fin 512) (k : Fin 1024) : EReal := (iblk m c 2 t : FVec Ideal S512x1024 .f32) (ix2 a k)
abbrev xt (c : Dev nD) (t : Fin cfg0.N) (a : Fin 512) (k : Fin 1024) : EReal := (iblk m c 3 t : FVec Ideal S512x1024 .f32) (ix2 a k)

/-- How far the result is from the target, in a point's blocks. -/
def xe (c : Dev nD) (t : Fin cfg0.N) (a : Fin 512) (k : Fin 1024) : EReal := nn (xa m c t) (xw m c t) a k + xx m c t a k - xt m c t a k

/-- The blocks' entries in the arguments. -/
theorem xa_at (c : Dev nD) (t : Fin cfg0.N) (a : Fin 512) (k : Fin 2816) (R : Fin 8192) (hR : R.val = 512 * t.val + a.val) :
    xa m c t a k = at2 (a0 m c) R k := by
  have e : (V m c main_v0 : FVec Ideal S8192x2816 .bf16) (ix2 R k) = at2 (a0 m c) R k := rfl
  refine Eq.trans ?_ e
  show (iblk m c 0 t : FVec Ideal S512x2816 .bf16) (ix2 a k) = _
  blk_simp [iblk]
  blk_ext [idx t, hR]

theorem xw_at (c : Dev nD) (t : Fin cfg0.N) (a : Fin 2816) (k : Fin 1024) : xw m c t a k = at2 (a1 m c) a k := by
  have e : (V m c main_v1 : FVec Ideal S2816x1024 .bf16) (ix2 a k) = at2 (a1 m c) a k := rfl
  refine Eq.trans ?_ e
  show (iblk m c 1 t : FVec Ideal S2816x1024 .bf16) (ix2 a k) = _
  blk_simp [iblk]
  blk_ext [idx t]

theorem xx_at (c : Dev nD) (t : Fin cfg0.N) (a : Fin 512) (k : Fin 1024) (R : Fin 8192) (hR : R.val = 512 * t.val + a.val) :
    xx m c t a k = at2 (a2 m c) R k := by
  show (iblk m c 2 t : FVec Ideal S512x1024 .f32) (ix2 a k) = _
  blk_simp [iblk]
  blk_ext [idx t, hR]

theorem xt_at (c : Dev nD) (t : Fin cfg0.N) (a : Fin 512) (k : Fin 1024) (R : Fin 8192) (hR : R.val = 512 * t.val + a.val) :
    xt m c t a k = at2 (a3 m c) R k := by
  show (iblk m c 3 t : FVec Ideal S512x1024 .f32) (ix2 a k) = _
  blk_simp [iblk]
  blk_ext [idx t, hR]

theorem xe_at (c : Dev nD) (t : Fin cfg0.N) (a : Fin 512) (k : Fin 1024) (R : Fin 8192) (hR : R.val = 512 * t.val + a.val) :
    xe m c t a k = E m c R k := by
  unfold xe E err nn
  exact congrArg₂ (fun u v : EReal => u - v) (congrArg₂ (fun u v : EReal => u + v)
    (sum_mul_congr (fun q => xa_at m c t a q R hR) fun q => xw_at m c t q k) (xx_at m c t a k R hR)) (xt_at m c t a k R hR)

/-- A point's rows of the gradient. -/
theorem out_dy (c : Dev nD) (t : Fin cfg0.N) (a : Fin 512) (l : Fin 1024) :
    ((outsAt0 m c t.val t.isLt).1 : FVec Ideal S512x1024 .f32) (ix2 a l) = xe m c t a l * Ideal.ofBits .f32 0x3A800000#32 := by
  by_cases h0 : t.val % 16 = 0
  · rw [outsAt0_A m c t h0]
    frame_out
    pointwise [k0_pay2, k0_pay1]
    rfl
  · rw [outsAt0_B m c t h0]
    frame_out
    pointwise [k0_pay2, k0_pay1]
    rfl

/-- The same rounded. -/
theorem out_dyb (c : Dev nD) (t : Fin cfg0.N) (a : Fin 512) (l : Fin 1024) :
    ((outsAt0 m c t.val t.isLt).2.1 : FVec Ideal S512x1024 .bf16) (ix2 a l) = xe m c t a l * Ideal.ofBits .f32 0x3A800000#32 := by
  by_cases h0 : t.val % 16 = 0
  · rw [outsAt0_A m c t h0]
    frame_out
    pointwise [k0_pay3, k0_pay1]
    rfl
  · rw [outsAt0_B m c t h0]
    frame_out
    pointwise [k0_pay3, k0_pay1]
    rfl

/-- A point's part of the loss. -/
def part (c : Dev nD) (t : Fin cfg0.N) : EReal := (∑ a : Fin 512, ∑ k : Fin 1024, xe m c t a k * xe m c t a k) * Ideal.ofBits .f32 0x3A000000#32

/-- The first point puts its part into the loss. -/
theorem out_lossA (c : Dev nD) (t : Fin cfg0.N) (h0 : t.val % 16 = 0) (l : Fin 128) :
    ((outsAt0 m c t.val t.isLt).2.2 : FVec Ideal S1x128 .f32) (ix2 0 l) = 0 + part m c t := by
  rw [outsAt0_A m c t h0]
  frame_out
  pointwise [k0_pay5, k0_pay4, k0_pay1]
  rfl

/-- A later point adds its own. -/
theorem out_lossB (c : Dev nD) (t : Fin cfg0.N) (h0 : ¬t.val % 16 = 0) (l : Fin 128) :
    ((outsAt0 m c t.val t.isLt).2.2 : FVec Ideal S1x128 .f32) (ix2 0 l)
      = ((outsAt0 m c (t.val - 1) (Nat.lt_of_le_of_lt (Nat.sub_le _ _) t.isLt)).2.2 : FVec Ideal S1x128 .f32) (ix2 0 l) + part m c t := by
  rw [outsAt0_B m c t h0]
  frame_out
  pointwise [k0_pay5, k0_pay1]
  rfl

/-- The array of the gradient. -/
theorem arr_dy (c : Dev nD) : (dats m 0 c).arrAt 4 cfg0.N = grad (a0 m c) (a1 m c) (a2 m c) (a3 m c) := by
  refine (dats m 0 c).arrAt_eq_of_covers 4 _ (by decide +kernel) fun t hf y => ?_
  blk_simp
  rw [after0_4]
  obtain ⟨a, l, rfl⟩ : ∃ (a : Fin 512) (l : Fin 1024), y = ix2 a l := ⟨y 0, y 1, (ix2_eta y).symm⟩
  have e0 : ((win0_4.blk t).view.emb (ix2 a l) 0).val = 512 * t.val + a.val := by blk_simp [idx t]; omega
  have e1 : ((win0_4.blk t).view.emb (ix2 a l) 1 : Fin 1024) = l := Fin.ext (by blk_simp [idx t])
  refine (out_dy m c t a l).trans ?_
  rw [xe_at m c t a l _ e0]
  show _ = E m c ((win0_4.blk t).view.emb (ix2 a l) 0) ((win0_4.blk t).view.emb (ix2 a l) 1) * _
  exact congrArg (fun j : Fin 1024 => E m c ((win0_4.blk t).view.emb (ix2 a l) 0) j * Ideal.ofBits .f32 0x3A800000#32) e1.symm

/-- The array of the same rounded. -/
theorem arr_dyb (c : Dev nD) : (dats m 0 c).arrAt 5 cfg0.N = grad (a0 m c) (a1 m c) (a2 m c) (a3 m c) := by
  refine (dats m 0 c).arrAt_eq_of_covers 5 _ (by decide +kernel) fun t hf y => ?_
  blk_simp
  rw [after0_5]
  obtain ⟨a, l, rfl⟩ : ∃ (a : Fin 512) (l : Fin 1024), y = ix2 a l := ⟨y 0, y 1, (ix2_eta y).symm⟩
  have e0 : ((win0_5.blk t).view.emb (ix2 a l) 0).val = 512 * t.val + a.val := by blk_simp [idx t]; omega
  have e1 : ((win0_5.blk t).view.emb (ix2 a l) 1 : Fin 1024) = l := Fin.ext (by blk_simp [idx t])
  refine (out_dyb m c t a l).trans ?_
  rw [xe_at m c t a l _ e0]
  show _ = E m c ((win0_5.blk t).view.emb (ix2 a l) 0) ((win0_5.blk t).view.emb (ix2 a l) 1) * _
  exact congrArg (fun j : Fin 1024 => E m c ((win0_5.blk t).view.emb (ix2 a l) 0) j * Ideal.ofBits .f32 0x3A800000#32) e1.symm

/-- The loss as a number. -/
abbrev L (c : Dev nD) : EReal := loss (a0 m c) (a1 m c) (a2 m c) (a3 m c) (fun i => i.elim0)

/-- After the last point the array holds the sum over all rows. -/
theorem sum_loss (c : Dev nD) (t : Fin cfg0.N) (ht : t.val % 16 = 15) (l : Fin 128) :
    ((outsAt0 m c t.val t.isLt).2.2 : FVec Ideal S1x128 .f32) (ix2 0 l) = L m c := by
  rw [Pipeline.eq_sum_fin_of_reset_step_of_flush (fun n hn => (((outsAt0 m c n hn).2.2 : FVec Ideal S1x128 .f32) (ix2 0 l) : EReal)) 16 0
    (fun t => part m c t) (fun t h => out_lossA m c t h l) (fun t h => out_lossB m c t h l) t ht, zero_add]
  refine Eq.trans ?_ (loss_blocks fun r => ∑ k : Fin 1024, E m c r k * E m c r k)
  have hN := lt_of_lt_of_eq t.isLt (show cfg0.N = 16 from N_0)
  refine Finset.sum_congr rfl fun i _ => congrArg (fun v : EReal => v * Ideal.ofBits .f32 0x3A000000#32) (Finset.sum_congr rfl fun a _ => Finset.sum_congr rfl fun k _ => ?_)
  have hR : 512 * i.val + a.val = 512 * (16 * (t.val / 16) + i.val) + a.val := by omega
  exact congrArg (fun v : EReal => v * v) (xe_at m c _ a k ⟨512 * i.val + a.val, by omega⟩ hR)

/-- The loss's array. -/
theorem arr_loss (c : Dev nD) : (dats m 0 c).arrAt 6 cfg0.N = (fun _ => L m c : FVec Ideal S1x128 .f32) := by
  refine (dats m 0 c).arrAt_eq_of_covers 6 _ (by decide +kernel) fun t hf y => ?_
  blk_simp
  rw [after0_6]
  obtain ⟨a, l, rfl⟩ : ∃ (a : Fin 1) (l : Fin 128), y = ix2 a l := ⟨y 0, y 1, (ix2_eta y).symm⟩
  obtain rfl : a = 0 := Subsingleton.elim _ _
  exact sum_loss m c t ((flush0_6 t).mp hf) l

/-- What the host takes out of it. -/
theorem tail (c : Dev nD) : Pipeline.afterTail₀ cfgs (dats m) 0 (V0 m) [hostOps1] c main_v4 = loss (a0 m c) (a1 m c) (a2 m c) (a3 m c) := by
  funext i
  have e : ∀ j : S1x128.Idx, (Pipeline.withArrays cfg0.spec c (V0 m c) (fun w => (dats m 0 c).arrAt w cfg0.N) (Proc.devRef .tc main_v2_2) : FVec Ideal S1x128 .f32) j = L m c :=
    fun j => congrFun ((Pipeline.withArrays_arr cfg0.spec (by decide +kernel) c (V0 m c) (fun w => (dats m 0 c).arrAt w cfg0.N) 6).trans (arr_loss m c)) j
  show (StableHlo.after hostOps1 (Pipeline.withArrays cfg0.spec c (V0 m c) fun w => (dats m 0 c).arrAt w cfg0.N) (Proc.devRef .tc main_v4) : FVec Ideal S_ .f32) i = _
  after_reads_at
  exact e _

/-- Every execution ends with the gradient, the same rounded and the loss in the results, and the arguments unchanged. -/
theorem run_value : θ_run defs (onTc (τ := τ) (main (F := Ideal))) ⟨m, fun _ => 0, ρ⟩ fun r => ∀ c : Dev nD,
      r.2.mem ((c.tc : Thread nD τ).loc main_v2_0) = grad (a0 m c) (a1 m c) (a2 m c) (a3 m c)
      ∧ r.2.mem ((c.tc : Thread nD τ).loc main_v2_1) = grad (a0 m c) (a1 m c) (a2 m c) (a3 m c)
      ∧ r.2.mem ((c.tc : Thread nD τ).loc main_v4) = loss (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (arr_dy m c), ((h.1 c).1 5).trans (arr_dyb m c),
    ((h.1 c).2 main_v4 (by decide +kernel)).trans (tail m c), h.2 c⟩) (θ_run_and (run_main m ρ) (unchanged m ρ))

end Cert.FfnLossIdeal.Value

end
-- ==== Proof.FfnLossRef.lean ====
/- The block's last product with the loss, `FfnLoss`: the reference. -/
module

public import Idealize.ShloMosaic.Lib.Pipeline.ValueKit
public import Idealize.ShloMosaic.Lib.KernelVsHost
public import proofs.«01_k».proof.Proof.Gen.FfnLossRefIdeal.Read
public import proofs.«01_k».proof.Proof.Loss

@[expose] public section

set_option maxRecDepth 16384

noncomputable section

namespace Cert.FfnLossRefIdeal.Read

open Idealize.ShloMosaic Idealize.ShloMosaic.TcCoe Idealize.SL.Sem
open Cert.FfnLossRefIdeal Cert.FfnLossRefIdeal.Gen Cert.Mat Cert.Loss
open scoped BigOperators

variable (x0 : (⟨S8192x2816, .f32⟩ : BufTy).Contents (Elt Ideal)) (x1 : (⟨S2816x1024, .f32⟩ : BufTy).Contents (Elt Ideal)) (x2 : (⟨S8192x1024, .f32⟩ : BufTy).Contents (Elt Ideal)) (x3 : (⟨S8192x1024, .f32⟩ : BufTy).Contents (Elt Ideal))

/-- How far the result is from the target. -/
theorem err_eq (r : Fin 8192) (k : Fin 1024) : (val_main_v2 (F := Ideal) x0 x1 x2 x3 (ix2 r k) : EReal) = err x0 x1 x2 x3 r k := by
  have e : (val_main_v0 (F := Ideal) x0 x1 (ix2 r k) : EReal) = nn (at2 x0) (at2 x1) r k := by
    rw [val_main_v0_apply]
    unfold nn
    refine sum_mul_congr (fun q => ?_) fun q => ?_
    · exact congrArg x0 (funext fun n => Fin.ext (by fin_cases n <;> first | rfl | exact (Nat.zero_add _).symm))
    · exact congrArg x1 (funext fun n => Fin.ext (by fin_cases n <;> first | rfl | exact (Nat.zero_add _).symm))
  exact congrArg (fun v : EReal => v - (x3 (ix2 r k) : EReal)) ((congrArg (fun v : EReal => (x2 (ix2 r k) : EReal) + v) e).trans (add_comm _ _))

/-- The gradient. -/
theorem grad_eq : (val_main_v16 (F := Ideal) x0 x1 x2 x3 : Mtx 8192 1024) = grad x0 x1 x2 x3 := by
  refine mtx_ext fun r s => ?_
  show (val_main_v15 (F := Ideal) (ix2 r s) : EReal) * (val_main_v4 (F := Ideal) (ix2 r s) * val_main_v2 (F := Ideal) x0 x1 x2 x3 (ix2 r s)) = _
  rw [err_eq x0 x1 x2 x3 r s, val_main_v15_apply, val_main_v4_apply]
  exact grad_factor _

/-- The loss. -/
theorem loss_eq : val_main_v10 (F := Ideal) x0 x1 x2 x3 = loss x0 x1 x2 x3 := by
  funext i
  have hrow : ∀ r : Fin 8192, (val_main_v8 (F := Ideal) x0 x1 x2 x3 (ix1 r) : EReal)
      = Ideal.div (∑ k : Fin 1024, err x0 x1 x2 x3 r k * err x0 x1 x2 x3 r k) (Ideal.ofBits .f32 0x44800000#32) := fun r => by
    show Ideal.div (val_main_v6 (F := Ideal) x0 x1 x2 x3 (ix1 r)) (val_main_v7 (F := Ideal) (ix1 r)) = _
    rw [val_main_v6_apply, val_main_v7_apply]
    refine congrArg (fun v : EReal => Ideal.div v (Ideal.ofBits .f32 0x44800000#32)) ?_
    refine (congrArg₂ (fun a b : EReal => a + b) bits_zero (Finset.sum_congr rfl fun k _ => ?_)).trans (zero_add _)
    have hk : idx_main_v6 (ix1 r) k = ix2 r k := funext fun n => by fin_cases n <;> rfl
    rw [hk]
    exact congrArg (fun v : EReal => v * v) (err_eq x0 x1 x2 x3 r k)
  refine Eq.trans ?_ (loss_factor fun r => ∑ k : Fin 1024, err x0 x1 x2 x3 r k * err x0 x1 x2 x3 r k)
  show Ideal.ofBits .f32 0x3F000000#32 * (val_main_v9 (F := Ideal) x0 x1 x2 x3 i : EReal) = _
  refine congrArg (fun v : EReal => Ideal.ofBits .f32 0x3F000000#32 * v) ?_
  rw [val_main_v9_apply]
  refine (congrArg₂ (fun a b : EReal => a + b) bits_zero ?_).trans (zero_add _)
  refine (Fintype.sum_equiv (⟨fun j => j 0, fun r => ix1 r, fun j => funext fun n => by fin_cases n; rfl, fun r => rfl⟩ : S8192.Idx ≃ Fin 8192) _ _ fun j => ?_)
  rw [← hrow]
  exact congrArg (fun j => (val_main_v8 (F := Ideal) x0 x1 x2 x3 j : EReal)) (funext fun n => by fin_cases n; rfl)

variable (m : (ℓ : Loc nD τ sig) → Buf (Elt Ideal) ℓ) (ρ : Dev nD → PrngReg)

abbrev a0 (c : Dev nD) : Mtx 8192 2816 := (m ((c.tc : Thread nD τ).loc main_arg0) : FVec Ideal S8192x2816 .f32)
abbrev a1 (c : Dev nD) : Mtx 2816 1024 := (m ((c.tc : Thread nD τ).loc main_arg1) : FVec Ideal S2816x1024 .f32)
abbrev a2 (c : Dev nD) : Mtx 8192 1024 := (m ((c.tc : Thread nD τ).loc main_arg2) : FVec Ideal S8192x1024 .f32)
abbrev a3 (c : Dev nD) : Mtx 8192 1024 := (m ((c.tc : Thread nD τ).loc main_arg3) : FVec Ideal S8192x1024 .f32)

/-- The reference's run. -/
theorem run_value : θ_run defs (onTc (τ := τ) (main (F := Ideal))) ⟨m, fun _ => 0, ρ⟩ fun r => ∀ c : Dev nD,
      r.2.mem ((c.tc : Thread nD τ).loc main_v16) = grad (a0 m c) (a1 m c) (a2 m c) (a3 m c)
      ∧ r.2.mem ((c.tc : Thread nD τ).loc main_v17) = grad (a0 m c) (a1 m c) (a2 m c) (a3 m c)
      ∧ r.2.mem ((c.tc : Thread nD τ).loc main_v10) = loss (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨r0, r1, r2, ra⟩ := h c
    exact ⟨r0.trans ((val_main_v16_eq _ _ _ _).trans (grad_eq _ _ _ _)),
      r1.trans ((val_main_v17_eq _ _ _ _).trans (grad_eq _ _ _ _)),
      r2.trans ((val_main_v10_eq _ _ _ _).trans (loss_eq _ _ _ _)), ra⟩) (Cert.FfnLossRefIdeal.Value.run m ρ)

end Cert.FfnLossRefIdeal.Read

end
-- ==== Proof.Products.lean ====
/- The value claims of the products: each kernel's results are its reference's, over the extended reals. -/
module

public import proofs.«01_k».proof.Defs
public import proofs.«01_k».proof.Proof.FfnRun
public import proofs.«01_k».proof.Proof.FfnRef
public import proofs.«01_k».proof.Proof.MixRun
public import proofs.«01_k».proof.Proof.MixRef
public import proofs.«01_k».proof.Proof.SsmRun
public import proofs.«01_k».proof.Proof.SsmRef
public import proofs.«01_k».proof.Proof.FfnDwInVal
public import proofs.«01_k».proof.Proof.FfnDwOutVal
public import proofs.«01_k».proof.Proof.AttnDwInVal
public import proofs.«01_k».proof.Proof.AttnDwOutVal
public import proofs.«01_k».proof.Proof.SsmDwZVal
public import proofs.«01_k».proof.Proof.SsmDwXVal
public import proofs.«01_k».proof.Proof.SsmDwOutVal
public import proofs.«01_k».proof.Proof.FfnDhVal
public import proofs.«01_k».proof.Proof.FfnDhRef
public import proofs.«01_k».proof.Proof.AttnDhVal
public import proofs.«01_k».proof.Proof.AttnDhRef
public import proofs.«01_k».proof.Proof.FfnLossVal
public import proofs.«01_k».proof.Proof.FfnLossRef

@[expose] public section

noncomputable section

namespace Cert.Products

open Idealize.ShloMosaic Idealize.SL.Sem Cert.Mat

/-- A function of two equal arguments. -/
theorem eq2 {A B T : Type} {a a' : A} {b b' : B} (ha : a = a') (hb : b = b') (f : A → B → T) :
    f a b = f a' b' := by
  rw [ha, hb]

/-- A function of three equal arguments. -/
theorem eq3 {A B C T : Type} {a a' : A} {b b' : B} {c c' : C} (ha : a = a') (hb : b = b') (hc : c = c') (f : A → B → C → T) :
    f a b c = f a' b' c' := by
  rw [ha, hb, hc]

/-- A function of four equal arguments. -/
theorem eq4 {A B C D T : Type} {a a' : A} {b b' : B} {c c' : C} {d d' : D} (ha : a = a') (hb : b = b') (hc : c = c') (hd : d = d') (f : A → B → C → D → T) :
    f a b c d = f a' b' c' d' := by
  rw [ha, hb, hc, hd]

/-- A function of five equal arguments. -/
theorem eq5 {A B C D E T : Type} {a a' : A} {b b' : B} {c c' : C} {d d' : D} {e e' : E} (ha : a = a') (hb : b = b') (hc : c = c') (hd : d = d') (he : e = e') (f : A → B → C → D → E → T) :
    f a b c d e = f a' b' c' d' e' := by
  rw [ha, hb, hc, hd, he]

/-- A function of six equal arguments. -/
theorem eq6 {A B C D E G T : Type} {a a' : A} {b b' : B} {c c' : C} {d d' : D} {e e' : E} {g g' : G} (ha : a = a') (hb : b = b') (hc : c = c') (hd : d = d') (he : e = e') (hg : g = g') (f : A → B → C → D → E → G → T) :
    f a b c d e g = f a' b' c' d' e' g' := by
  rw [ha, hb, hc, hd, he, hg]

/-- The feed-forward block's products. -/
theorem value_Ffn : Cert.algebraic_FfnIdeal_FfnRefIdeal := by
  intro m g m' g' _ h
  refine ⟨fun c => Cert.FfnSpec.gate (Cert.FfnIdeal.Value.a0 m c) (Cert.FfnIdeal.Value.a1 m c),
    fun c => Cert.FfnSpec.up (Cert.FfnIdeal.Value.a0 m c) (Cert.FfnIdeal.Value.a1 m c),
    fun c => Cert.FfnSpec.out (Cert.FfnIdeal.Value.a2 m c) (Cert.FfnIdeal.Value.a3 m c) (Cert.FfnIdeal.Value.a4 m c),
    fun c => Cert.FfnSpec.norm (Cert.FfnIdeal.Value.a2 m c) (Cert.FfnIdeal.Value.a3 m c) (Cert.FfnIdeal.Value.a4 m c) (Cert.FfnIdeal.Value.a5 m c),
    fun c => Cert.FfnSpec.dact (Cert.FfnIdeal.Value.a3 m c) (Cert.FfnIdeal.Value.a6 m c),
    fun c => Cert.FfnSpec.dh (Cert.FfnIdeal.Value.a1 m c) (Cert.FfnIdeal.Value.a7 m c),
    Cert.FfnIdeal.Value.run_value m g,
    (θ_run Cert.FfnRefIdeal.defs _ _).mono (fun r hr c => ?_) (Cert.FfnRefIdeal.Read.run_value m' g')⟩
  obtain ⟨h0, h1, h2, h3, h4, h5, h6, h7⟩ := h c
  obtain ⟨r0, r1, r2, r3, r4, r5, ra⟩ := hr c
  exact ⟨r0.trans (eq2 (A := Mtx 8192 1024) (B := Mtx 1024 5632) h0 h1 Cert.FfnSpec.gate),
    r1.trans (eq2 (A := Mtx 8192 1024) (B := Mtx 1024 5632) h0 h1 Cert.FfnSpec.up),
    r2.trans (eq3 (A := Mtx 8192 2816) (B := Mtx 2816 1024) (C := Mtx 8192 1024) h2 h3 h4 Cert.FfnSpec.out),
    r3.trans (eq4 (A := Mtx 8192 2816) (B := Mtx 2816 1024) (C := Mtx 8192 1024) (D := Mtx 1 1024) h2 h3 h4 h5 Cert.FfnSpec.norm),
    r4.trans (eq2 (A := Mtx 2816 1024) (B := Mtx 8192 1024) h3 h6 Cert.FfnSpec.dact),
    r5.trans (eq2 (A := Mtx 1024 5632) (B := Mtx 8192 2816) h1 h7 Cert.FfnSpec.dh), ra⟩

/-- The products of the attention's projections. -/
theorem value_Mix : Cert.algebraic_MixIdeal_MixRefIdeal := by
  intro m g m' g' _ h
  refine ⟨fun c => Cert.MixSpec.qkv (Cert.MixIdeal.Value.a0 m c) (Cert.MixIdeal.Value.a1 m c),
    fun c => Cert.MixSpec.out (Cert.MixIdeal.Value.a2 m c) (Cert.MixIdeal.Value.a3 m c) (Cert.MixIdeal.Value.a4 m c) (Cert.MixIdeal.Value.a5 m c),
    fun c => Cert.MixSpec.norm (Cert.MixIdeal.Value.a2 m c) (Cert.MixIdeal.Value.a3 m c) (Cert.MixIdeal.Value.a4 m c) (Cert.MixIdeal.Value.a5 m c) (Cert.MixIdeal.Value.a6 m c),
    fun c => Cert.MixSpec.doa (Cert.MixIdeal.Value.a4 m c) (Cert.MixIdeal.Value.a7 m c),
    fun c => Cert.MixSpec.dob (Cert.MixIdeal.Value.a4 m c) (Cert.MixIdeal.Value.a7 m c),
    Cert.MixIdeal.Value.run_value m g,
    (θ_run Cert.MixRefIdeal.defs _ _).mono (fun r hr c => ?_) (Cert.MixRefIdeal.Read.run_value m' g')⟩
  obtain ⟨h0, h1, h2, h3, h4, h5, h6, h7⟩ := h c
  obtain ⟨r0, r1, r2, r3, r4, ra⟩ := hr c
  exact ⟨r0.trans (eq2 (A := Mtx 8192 1024) (B := Mtx 1024 2304) h0 h1 Cert.MixSpec.qkv),
    r1.trans (eq4 (A := Mtx 8192 512) (B := Mtx 8192 512) (C := Mtx 1024 1024) (D := Mtx 8192 1024) h2 h3 h4 h5 Cert.MixSpec.out),
    r2.trans (eq5 (A := Mtx 8192 512) (B := Mtx 8192 512) (C := Mtx 1024 1024) (D := Mtx 8192 1024) (E := Mtx 1 1024) h2 h3 h4 h5 h6 Cert.MixSpec.norm),
    r3.trans (eq2 (A := Mtx 1024 1024) (B := Mtx 8192 1024) h4 h7 Cert.MixSpec.doa),
    r4.trans (eq2 (A := Mtx 1024 1024) (B := Mtx 8192 1024) h4 h7 Cert.MixSpec.dob), ra⟩

/-- The products of the state-space mixer's projections. -/
theorem value_Ssm : Cert.algebraic_SsmIdeal_SsmRefIdeal := by
  intro m g m' g' _ h
  refine ⟨fun c => Cert.SsmSpec.gate (Cert.SsmIdeal.Value.a0 m c) (Cert.SsmIdeal.Value.a1 m c),
    fun c => Cert.SsmSpec.chan (Cert.SsmIdeal.Value.a0 m c) (Cert.SsmIdeal.Value.a1 m c),
    fun c => Cert.SsmSpec.out (Cert.SsmIdeal.Value.a2 m c) (Cert.SsmIdeal.Value.a3 m c) (Cert.SsmIdeal.Value.a4 m c),
    fun c => Cert.SsmSpec.norm (Cert.SsmIdeal.Value.a2 m c) (Cert.SsmIdeal.Value.a3 m c) (Cert.SsmIdeal.Value.a4 m c) (Cert.SsmIdeal.Value.a5 m c),
    fun c => Cert.SsmSpec.dy (Cert.SsmIdeal.Value.a3 m c) (Cert.SsmIdeal.Value.a6 m c),
    fun c => Cert.SsmSpec.dh (Cert.SsmIdeal.Value.a1 m c) (Cert.SsmIdeal.Value.a7 m c) (Cert.SsmIdeal.Value.a8 m c),
    Cert.SsmIdeal.Value.run_value m g,
    (θ_run Cert.SsmRefIdeal.defs _ _).mono (fun r hr c => ?_) (Cert.SsmRefIdeal.Read.run_value m' g')⟩
  obtain ⟨h0, h1, h2, h3, h4, h5, h6, h7, h8⟩ := h c
  obtain ⟨r0, r1, r2, r3, r4, r5, ra⟩ := hr c
  exact ⟨r0.trans (eq2 (A := Mtx 8192 1024) (B := Mtx 1024 5152) h0 h1 Cert.SsmSpec.gate),
    r1.trans (eq2 (A := Mtx 8192 1024) (B := Mtx 1024 5152) h0 h1 Cert.SsmSpec.chan),
    r2.trans (eq3 (A := Mtx 8192 2048) (B := Mtx 2048 1024) (C := Mtx 8192 1024) h2 h3 h4 Cert.SsmSpec.out),
    r3.trans (eq4 (A := Mtx 8192 2048) (B := Mtx 2048 1024) (C := Mtx 8192 1024) (D := Mtx 1 1024) h2 h3 h4 h5 Cert.SsmSpec.norm),
    r4.trans (eq2 (A := Mtx 2048 1024) (B := Mtx 8192 1024) h3 h6 Cert.SsmSpec.dy),
    r5.trans (eq3 (A := Mtx 1024 5152) (B := Mtx 8192 2048) (C := Mtx 8192 3072) h1 h7 h8 Cert.SsmSpec.dh), ra⟩

/-- The gradient of a half of the feed-forward's input weights. -/
theorem value_FfnDwIn : Cert.algebraic_FfnDwInIdeal_FfnDwInRefIdeal := by
  intro m g m' g' _ h
  refine ⟨fun c => (fun j : (⟨2, ![1024, 2816]⟩ : Shape).Idx => tn (at2 (Cert.FfnDwInIdeal.Value.a0 m c)) (at2 (Cert.FfnDwInIdeal.Value.a1 m c)) (j 0) (j 1)),
    Cert.FfnDwInIdeal.Value.run_value m g,
    (θ_run Cert.FfnDwInRefIdeal.defs _ _).mono (fun r hr c => ?_) (Cert.FfnDwInRefIdeal.Read.run_value m' g')⟩
  obtain ⟨h0, h1⟩ := h c
  obtain ⟨r0, ra⟩ := hr c
  exact ⟨r0.trans (eq2 (A := Mtx 8192 1024) (B := Mtx 8192 2816) h0 h1
    fun (x : Mtx 8192 1024) (y : Mtx 8192 2816) => fun j : (⟨2, ![1024, 2816]⟩ : Shape).Idx => tn (at2 x) (at2 y) (j 0) (j 1)), ra⟩

/-- The gradient of the feed-forward's output weights. -/
theorem value_FfnDwOut : Cert.algebraic_FfnDwOutIdeal_FfnDwOutRefIdeal := by
  intro m g m' g' _ h
  refine ⟨fun c => (fun j : (⟨2, ![2816, 1024]⟩ : Shape).Idx => tn (at2 (Cert.FfnDwOutIdeal.Value.a0 m c)) (at2 (Cert.FfnDwOutIdeal.Value.a1 m c)) (j 0) (j 1)),
    Cert.FfnDwOutIdeal.Value.run_value m g,
    (θ_run Cert.FfnDwOutRefIdeal.defs _ _).mono (fun r hr c => ?_) (Cert.FfnDwOutRefIdeal.Read.run_value m' g')⟩
  obtain ⟨h0, h1⟩ := h c
  obtain ⟨r0, ra⟩ := hr c
  exact ⟨r0.trans (eq2 (A := Mtx 8192 2816) (B := Mtx 8192 1024) h0 h1
    fun (x : Mtx 8192 2816) (y : Mtx 8192 1024) => fun j : (⟨2, ![2816, 1024]⟩ : Shape).Idx => tn (at2 x) (at2 y) (j 0) (j 1)), ra⟩

/-- The gradient of the attention's input weights. -/
theorem value_AttnDwIn : Cert.algebraic_AttnDwInIdeal_AttnDwInRefIdeal := by
  intro m g m' g' _ h
  refine ⟨fun c => (fun j : (⟨2, ![1024, 2304]⟩ : Shape).Idx => tn (at2 (Cert.AttnDwInIdeal.Value.a0 m c)) (at2 (Cert.AttnDwInIdeal.Value.a1 m c)) (j 0) (j 1)),
    Cert.AttnDwInIdeal.Value.run_value m g,
    (θ_run Cert.AttnDwInRefIdeal.defs _ _).mono (fun r hr c => ?_) (Cert.AttnDwInRefIdeal.Read.run_value m' g')⟩
  obtain ⟨h0, h1⟩ := h c
  obtain ⟨r0, ra⟩ := hr c
  exact ⟨r0.trans (eq2 (A := Mtx 8192 1024) (B := Mtx 8192 2304) h0 h1
    fun (x : Mtx 8192 1024) (y : Mtx 8192 2304) => fun j : (⟨2, ![1024, 2304]⟩ : Shape).Idx => tn (at2 x) (at2 y) (j 0) (j 1)), ra⟩

/-- The gradient of a half of the attention's output weights. -/
theorem value_AttnDwOut : Cert.algebraic_AttnDwOutIdeal_AttnDwOutRefIdeal := by
  intro m g m' g' _ h
  refine ⟨fun c => (fun j : (⟨2, ![512, 1024]⟩ : Shape).Idx => tn (at2 (Cert.AttnDwOutIdeal.Value.a0 m c)) (at2 (Cert.AttnDwOutIdeal.Value.a1 m c)) (j 0) (j 1)),
    Cert.AttnDwOutIdeal.Value.run_value m g,
    (θ_run Cert.AttnDwOutRefIdeal.defs _ _).mono (fun r hr c => ?_) (Cert.AttnDwOutRefIdeal.Read.run_value m' g')⟩
  obtain ⟨h0, h1⟩ := h c
  obtain ⟨r0, ra⟩ := hr c
  exact ⟨r0.trans (eq2 (A := Mtx 8192 512) (B := Mtx 8192 1024) h0 h1
    fun (x : Mtx 8192 512) (y : Mtx 8192 1024) => fun j : (⟨2, ![512, 1024]⟩ : Shape).Idx => tn (at2 x) (at2 y) (j 0) (j 1)), ra⟩

/-- The gradient of the state-space mixer's gate weights. -/
theorem value_SsmDwZ : Cert.algebraic_SsmDwZIdeal_SsmDwZRefIdeal := by
  intro m g m' g' _ h
  refine ⟨fun c => (fun j : (⟨2, ![1024, 2048]⟩ : Shape).Idx => tn (at2 (Cert.SsmDwZIdeal.Value.a0 m c)) (at2 (Cert.SsmDwZIdeal.Value.a1 m c)) (j 0) (j 1)),
    Cert.SsmDwZIdeal.Value.run_value m g,
    (θ_run Cert.SsmDwZRefIdeal.defs _ _).mono (fun r hr c => ?_) (Cert.SsmDwZRefIdeal.Read.run_value m' g')⟩
  obtain ⟨h0, h1⟩ := h c
  obtain ⟨r0, ra⟩ := hr c
  exact ⟨r0.trans (eq2 (A := Mtx 8192 1024) (B := Mtx 8192 2048) h0 h1
    fun (x : Mtx 8192 1024) (y : Mtx 8192 2048) => fun j : (⟨2, ![1024, 2048]⟩ : Shape).Idx => tn (at2 x) (at2 y) (j 0) (j 1)), ra⟩

/-- The gradient of the state-space mixer's channel weights. -/
theorem value_SsmDwX : Cert.algebraic_SsmDwXIdeal_SsmDwXRefIdeal := by
  intro m g m' g' _ h
  refine ⟨fun c => (fun j : (⟨2, ![1024, 3072]⟩ : Shape).Idx => tn (at2 (Cert.SsmDwXIdeal.Value.a0 m c)) (at2 (Cert.SsmDwXIdeal.Value.a1 m c)) (j 0) (j 1)),
    Cert.SsmDwXIdeal.Value.run_value m g,
    (θ_run Cert.SsmDwXRefIdeal.defs _ _).mono (fun r hr c => ?_) (Cert.SsmDwXRefIdeal.Read.run_value m' g')⟩
  obtain ⟨h0, h1⟩ := h c
  obtain ⟨r0, ra⟩ := hr c
  exact ⟨r0.trans (eq2 (A := Mtx 8192 1024) (B := Mtx 8192 3072) h0 h1
    fun (x : Mtx 8192 1024) (y : Mtx 8192 3072) => fun j : (⟨2, ![1024, 3072]⟩ : Shape).Idx => tn (at2 x) (at2 y) (j 0) (j 1)), ra⟩

/-- The gradient of the state-space mixer's output weights. -/
theorem value_SsmDwOut : Cert.algebraic_SsmDwOutIdeal_SsmDwOutRefIdeal := by
  intro m g m' g' _ h
  refine ⟨fun c => (fun j : (⟨2, ![2048, 1024]⟩ : Shape).Idx => tn (at2 (Cert.SsmDwOutIdeal.Value.a0 m c)) (at2 (Cert.SsmDwOutIdeal.Value.a1 m c)) (j 0) (j 1)),
    Cert.SsmDwOutIdeal.Value.run_value m g,
    (θ_run Cert.SsmDwOutRefIdeal.defs _ _).mono (fun r hr c => ?_) (Cert.SsmDwOutRefIdeal.Read.run_value m' g')⟩
  obtain ⟨h0, h1⟩ := h c
  obtain ⟨r0, ra⟩ := hr c
  exact ⟨r0.trans (eq2 (A := Mtx 8192 2048) (B := Mtx 8192 1024) h0 h1
    fun (x : Mtx 8192 2048) (y : Mtx 8192 1024) => fun j : (⟨2, ![2048, 1024]⟩ : Shape).Idx => tn (at2 x) (at2 y) (j 0) (j 1)), ra⟩

/-- The gradient through the norm in front of up and gate. -/
theorem value_FfnDh : Cert.algebraic_FfnDhIdeal_FfnDhRefIdeal := by
  intro m g m' g' _ h
  refine ⟨fun c => Cert.Rms.dx2 (Cert.FfnDhIdeal.Value.a0 m c) (Cert.FfnDhIdeal.Value.a1 m c) (Cert.FfnDhIdeal.Value.a2 m c) (Cert.FfnDhIdeal.Value.a3 m c) (Cert.FfnDhIdeal.Value.a4 m c) (Cert.FfnDhIdeal.Value.a5 m c),
    fun c => Cert.Rms.dx2 (Cert.FfnDhIdeal.Value.a0 m c) (Cert.FfnDhIdeal.Value.a1 m c) (Cert.FfnDhIdeal.Value.a2 m c) (Cert.FfnDhIdeal.Value.a3 m c) (Cert.FfnDhIdeal.Value.a4 m c) (Cert.FfnDhIdeal.Value.a5 m c),
    fun c => Cert.Rms.dg2 (Cert.FfnDhIdeal.Value.a0 m c) (Cert.FfnDhIdeal.Value.a1 m c) (Cert.FfnDhIdeal.Value.a2 m c) (Cert.FfnDhIdeal.Value.a3 m c),
    Cert.FfnDhIdeal.Value.run_value m g,
    (θ_run Cert.FfnDhRefIdeal.defs _ _).mono (fun r hr c => ?_) (Cert.FfnDhRefIdeal.Read.run_value m' g')⟩
  obtain ⟨h0, h1, h2, h3, h4, h5⟩ := h c
  obtain ⟨r0, r1, r2, ra⟩ := hr c
  exact ⟨r0.trans (eq6 (A := Mtx 8192 2816) (B := Mtx 1024 2816) (C := Mtx 8192 1024) (D := Mtx 8192 1024) (E := Mtx 1 1024) (G := Mtx 8192 1024) h0 h1 h2 h3 h4 h5 Cert.Rms.dx2),
    r1.trans (eq6 (A := Mtx 8192 2816) (B := Mtx 1024 2816) (C := Mtx 8192 1024) (D := Mtx 8192 1024) (E := Mtx 1 1024) (G := Mtx 8192 1024) h0 h1 h2 h3 h4 h5 Cert.Rms.dx2),
    r2.trans (eq4 (A := Mtx 8192 2816) (B := Mtx 1024 2816) (C := Mtx 8192 1024) (D := Mtx 8192 1024) h0 h1 h2 h3 Cert.Rms.dg2), ra⟩

/-- The gradient through the norm in front of qkv. -/
theorem value_AttnDh : Cert.algebraic_AttnDhIdeal_AttnDhRefIdeal := by
  intro m g m' g' _ h
  refine ⟨fun c => Cert.Rms.dx1 (Cert.AttnDhIdeal.Value.a0 m c) (Cert.AttnDhIdeal.Value.a1 m c) (Cert.AttnDhIdeal.Value.a2 m c) (Cert.AttnDhIdeal.Value.a3 m c) (Cert.AttnDhIdeal.Value.a4 m c),
    fun c => Cert.Rms.dx1 (Cert.AttnDhIdeal.Value.a0 m c) (Cert.AttnDhIdeal.Value.a1 m c) (Cert.AttnDhIdeal.Value.a2 m c) (Cert.AttnDhIdeal.Value.a3 m c) (Cert.AttnDhIdeal.Value.a4 m c),
    fun c => Cert.Rms.dg1 (Cert.AttnDhIdeal.Value.a0 m c) (Cert.AttnDhIdeal.Value.a1 m c) (Cert.AttnDhIdeal.Value.a2 m c),
    Cert.AttnDhIdeal.Value.run_value m g,
    (θ_run Cert.AttnDhRefIdeal.defs _ _).mono (fun r hr c => ?_) (Cert.AttnDhRefIdeal.Read.run_value m' g')⟩
  obtain ⟨h0, h1, h2, h3, h4⟩ := h c
  obtain ⟨r0, r1, r2, ra⟩ := hr c
  exact ⟨r0.trans (eq5 (A := Mtx 8192 2304) (B := Mtx 1024 2304) (C := Mtx 8192 1024) (D := Mtx 1 1024) (E := Mtx 8192 1024) h0 h1 h2 h3 h4 Cert.Rms.dx1),
    r1.trans (eq5 (A := Mtx 8192 2304) (B := Mtx 1024 2304) (C := Mtx 8192 1024) (D := Mtx 1 1024) (E := Mtx 8192 1024) h0 h1 h2 h3 h4 Cert.Rms.dx1),
    r2.trans (eq3 (A := Mtx 8192 2304) (B := Mtx 1024 2304) (C := Mtx 8192 1024) h0 h1 h2 Cert.Rms.dg1), ra⟩

/-- The last product with the loss. -/
theorem value_FfnLoss : Cert.algebraic_FfnLossIdeal_FfnLossRefIdeal := by
  intro m g m' g' _ h
  refine ⟨fun c => Cert.Loss.grad (Cert.FfnLossIdeal.Value.a0 m c) (Cert.FfnLossIdeal.Value.a1 m c) (Cert.FfnLossIdeal.Value.a2 m c) (Cert.FfnLossIdeal.Value.a3 m c),
    fun c => Cert.Loss.grad (Cert.FfnLossIdeal.Value.a0 m c) (Cert.FfnLossIdeal.Value.a1 m c) (Cert.FfnLossIdeal.Value.a2 m c) (Cert.FfnLossIdeal.Value.a3 m c),
    fun c => Cert.Loss.loss (Cert.FfnLossIdeal.Value.a0 m c) (Cert.FfnLossIdeal.Value.a1 m c) (Cert.FfnLossIdeal.Value.a2 m c) (Cert.FfnLossIdeal.Value.a3 m c),
    Cert.FfnLossIdeal.Value.run_value m g,
    (θ_run Cert.FfnLossRefIdeal.defs _ _).mono (fun r hr c => ?_) (Cert.FfnLossRefIdeal.Read.run_value m' g')⟩
  obtain ⟨h0, h1, h2, h3⟩ := h c
  obtain ⟨r0, r1, r2, ra⟩ := hr c
  exact ⟨r0.trans (eq4 (A := Mtx 8192 2816) (B := Mtx 2816 1024) (C := Mtx 8192 1024) (D := Mtx 8192 1024) h0 h1 h2 h3 Cert.Loss.grad),
    r1.trans (eq4 (A := Mtx 8192 2816) (B := Mtx 2816 1024) (C := Mtx 8192 1024) (D := Mtx 8192 1024) h0 h1 h2 h3 Cert.Loss.grad),
    r2.trans (eq4 (A := Mtx 8192 2816) (B := Mtx 2816 1024) (C := Mtx 8192 1024) (D := Mtx 8192 1024) h0 h1 h2 h3 Cert.Loss.loss), ra⟩

end Cert.Products

end
-- ==== Proof.Row.lean ====
/- The gradient of one softmax row, over the extended reals: the form the kernel computes, the form the
   reference's differentiation gives, and that a row widened with `⊥` scores has the same gradient. -/
module

public import Idealize.ShloMosaic.PureOps.Ideal
public import Idealize.ShloMosaic.Lib.FinSumWindow

@[expose] public section

noncomputable section

namespace Cert.Attn

open Idealize.ShloMosaic
open scoped BigOperators

variable {n : ℕ}

/-- The largest score of a row. -/
def rowMax (s : Fin n → EReal) : EReal := Finset.univ.fold max ⊥ s

/-- The exponential of a score less the row's largest. -/
def ex (s : Fin n → EReal) (j : Fin n) : EReal := Ideal.exp (s j - rowMax s)

/-- The sum of a row's exponentials. -/
def den (s : Fin n → EReal) : EReal := ∑ t, ex s t

/-- The softmax of a row. -/
def prob (s : Fin n → EReal) (j : Fin n) : EReal := Ideal.div (ex s j) (den s)

/-- The cotangent of a row's scores, `dp` being the cotangent of its probabilities. -/
def dscore (s dp : Fin n → EReal) (j : Fin n) : EReal := prob s j * (dp j - ∑ t, prob s t * dp t)

/-- No score of the row is `⊤`, and one of them is a real number. -/
structure Proper (s : Fin n → EReal) : Prop where
  ne_top : ∀ t, s t ≠ ⊤
  some_real : ∃ t, s t ≠ ⊥

theorem le_rowMax (s : Fin n → EReal) (t : Fin n) : s t ≤ rowMax s :=
  Finset.le_sup (f := s) (Finset.mem_univ t)

theorem rowMax_le (s : Fin n → EReal) (x : EReal) (h : ∀ t, s t ≤ x) : rowMax s ≤ x :=
  Finset.sup_le (f := s) fun t _ => h t

/-- The largest score of a proper row is a real number. -/
theorem Proper.max_real {s : Fin n → EReal} (h : Proper s) : ∃ m : ℝ, rowMax s = m := by
  obtain ⟨t, ht⟩ := h.some_real
  obtain ⟨u, _, hu⟩ := Finset.exists_mem_eq_sup Finset.univ ⟨t, Finset.mem_univ t⟩ s
  have hmax : rowMax s = s u := hu
  have hbot : rowMax s ≠ ⊥ := fun hb => ht (le_bot_iff.1 (hb ▸ le_rowMax s t))
  exact ⟨(rowMax s).toReal, (EReal.coe_toReal (hmax ▸ h.ne_top u) hbot).symm⟩

/-- Every exponential of a proper row is a nonnegative real number, and their sum is a positive one. -/
theorem Proper.real {s : Fin n → EReal} (h : Proper s) :
    ∃ (e : Fin n → ℝ) (d : ℝ), (∀ t, 0 ≤ e t) ∧ 0 < d ∧ (∀ t, ex s t = e t) ∧ den s = d ∧ ∀ t, s t = ⊥ → e t = 0 := by
  obtain ⟨m, hm⟩ := h.max_real
  have key : ∀ t, ∃ x : ℝ, 0 ≤ x ∧ ex s t = x ∧ (s t = ⊥ → x = 0) ∧ (s t ≠ ⊥ → 0 < x) := by
    intro t
    have ht := h.ne_top t
    unfold ex
    rw [hm]
    induction hs : s t with
    | bot => exact ⟨0, le_refl _, by rw [EReal.bot_sub]; simp, fun _ => rfl, fun hb => absurd rfl hb⟩
    | top => exact absurd hs ht
    | coe r =>
      refine ⟨Real.exp (r - m), (Real.exp_pos _).le, ?_, fun hb => absurd hb (EReal.coe_ne_bot r),
        fun _ => Real.exp_pos _⟩
      rw [← EReal.coe_sub]
      rfl
  choose e he0 hex hbot hpos using key
  obtain ⟨t, ht⟩ := h.some_real
  refine ⟨e, ∑ u, e u, he0, ?_, hex, ?_, hbot⟩
  · exact Finset.sum_pos' (fun u _ => he0 u) ⟨t, Finset.mem_univ t, hpos t ht⟩
  · unfold den
    rw [Finset.sum_congr rfl fun u _ => hex u]
    exact (map_sum (⟨⟨(fun r : ℝ => (r : EReal)), rfl⟩, EReal.coe_add⟩ : ℝ →+ EReal) e _).symm

/-- A nonnegative real factor goes into a finite sum of extended reals. -/
theorem coe_mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (by exact_mod_cast hc) (EReal.coe_ne_top c)]

/-- … and from the right. -/
theorem sum_mul_coe {ι : Type*} (c : ℝ) (hc : 0 ≤ c) (S : Finset ι) (f : ι → EReal) :
    (∑ i ∈ S, f i) * (c : EReal) = ∑ i ∈ S, f i * (c : EReal) := by
  rw [mul_comm, coe_mul_sum c hc]
  exact Finset.sum_congr rfl fun i _ => mul_comm _ _

/-- What differentiating the quotient of exponentials gives on a proper row is `dscore`. -/
theorem Proper.dscore_eq {s : Fin n → EReal} (h : Proper s) (dp : Fin n → EReal) (j : Fin n) :
    (Ideal.div (dp j) (den s) + -(∑ t, dp t * Ideal.div 1 (den s * den s) * ex s t)) * ex s j = dscore s dp j := by
  obtain ⟨e, d, he0, hd, hex, hden, -⟩ := h.real
  have hp : ∀ t, prob s t = ((e t * (1 / d) : ℝ) : EReal) := by
    intro t
    rw [prob, hex, hden, Ideal.div_coe hd.ne', ← EReal.coe_mul]
  have hr : 0 ≤ 1 / d := by positivity
  have hsum : ∑ t, dp t * Ideal.div 1 (den s * den s) * ex s t = ((1 / d : ℝ) : EReal) * ∑ t, prob s t * dp t := by
    rw [coe_mul_sum _ hr]
    refine Finset.sum_congr rfl fun t _ => ?_
    rw [hden, ← EReal.coe_mul, Ideal.div_coe (mul_pos hd hd).ne', hex, hp, one_mul, mul_assoc, ← EReal.coe_mul,
      mul_comm (dp t), ← mul_assoc, ← EReal.coe_mul]
    congr 2
    field_simp
  rw [hsum, hden, Ideal.div_coe hd.ne', hex, dscore, hp, ← mul_neg, mul_comm (dp j),
    ← EReal.left_distrib_of_nonneg_of_ne_top (by exact_mod_cast hr) (EReal.coe_ne_top _), EReal.coe_mul, sub_eq_add_neg,
    mul_comm _ (e j : EReal), mul_assoc]

/-! ## A row inside a wider one -/

/-- Place `o + b` of a row of `N`. -/
theorem wide_lt {N o : ℕ} (ho : o + n ≤ N) (b : Fin n) : o + b.val < N := by omega

section Wide
variable {N : ℕ} (o : ℕ) (ho : o + n ≤ N) {S : Fin N → EReal} {s : Fin n → EReal}
  (hin : ∀ b : Fin n, S ⟨o + b.val, wide_lt ho b⟩ = s b) (hout : ∀ w : Fin N, ¬(o ≤ w.val ∧ w.val < o + n) → S w = ⊥)
include hin hout

/-- The largest score of the wide row is the narrow row's. -/
theorem rowMax_wide : rowMax S = rowMax s := by
  refine le_antisymm (rowMax_le _ _ fun w => ?_) (rowMax_le _ _ fun b => hin b ▸ le_rowMax S _)
  by_cases hw : o ≤ w.val ∧ w.val < o + n
  · have hb := hin ⟨w.val - o, by omega⟩
    have hw' : (⟨o + (w.val - o), by omega⟩ : Fin N) = w := Fin.ext (by show o + (w.val - o) = w.val; omega)
    simp only [hw'] at hb
    exact hb ▸ le_rowMax s _
  · rw [hout w hw]; exact bot_le

theorem ex_wide (b : Fin n) : ex S ⟨o + b.val, wide_lt ho b⟩ = ex s b := by
  rw [ex, ex, hin, rowMax_wide o ho hin hout]

theorem ex_out (h : Proper s) (w : Fin N) (hw : ¬(o ≤ w.val ∧ w.val < o + n)) : ex S w = 0 := by
  obtain ⟨m, hm⟩ := h.max_real
  rw [ex, hout w hw, rowMax_wide o ho hin hout, hm, EReal.bot_sub]
  rfl

theorem den_wide (h : Proper s) : den S = den s := by
  unfold den
  rw [FinSumWindow.sum_window o ho _ fun w hw => ex_out o ho hin hout h w hw]
  exact Finset.sum_congr rfl fun b _ => ex_wide o ho hin hout b

/-- The wide row's softmax at the narrow row's keys. -/
theorem prob_wide (h : Proper s) (b : Fin n) : prob S ⟨o + b.val, wide_lt ho b⟩ = prob s b := by
  rw [prob, prob, ex_wide o ho hin hout, den_wide o ho hin hout h]

/-- The wide row's softmax is zero at the other keys. -/
theorem prob_out (h : Proper s) (w : Fin N) (hw : ¬(o ≤ w.val ∧ w.val < o + n)) : prob S w = 0 := by
  obtain ⟨_, d, _, hd, _, hden, -⟩ := h.real
  rw [prob, ex_out o ho hin hout h w hw, den_wide o ho hin hout h, hden, Ideal.div_coe hd.ne', zero_mul]

/-- The wide row's score cotangent at the narrow row's keys. -/
theorem dscore_wide (h : Proper s) {DP : Fin N → EReal} {dp : Fin n → EReal}
    (hdp : ∀ b : Fin n, DP ⟨o + b.val, wide_lt ho b⟩ = dp b) (b : Fin n) :
    dscore S DP ⟨o + b.val, wide_lt ho b⟩ = dscore s dp b := by
  rw [dscore, dscore, prob_wide o ho hin hout h, hdp]
  congr 2
  rw [FinSumWindow.sum_window o ho _ fun w hw => by rw [prob_out o ho hin hout h w hw, zero_mul]]
  exact Finset.sum_congr rfl fun b _ => by rw [prob_wide o ho hin hout h, hdp]

/-- The wide row's score cotangent is zero at the other keys. -/
theorem dscore_out (h : Proper s) (DP : Fin N → EReal) (w : Fin N) (hw : ¬(o ≤ w.val ∧ w.val < o + n)) :
    dscore S DP w = 0 := by
  rw [dscore, prob_out o ho hin hout h w hw, zero_mul]

end Wide

/-- Where a proper row's score is `⊥` its softmax is zero, and its cotangent too. -/
theorem Proper.prob_bot {s : Fin n → EReal} (h : Proper s) (t : Fin n) (ht : s t = ⊥) : prob s t = 0 := by
  obtain ⟨e, d, _, hd, hex, hden, hbot⟩ := h.real
  rw [prob, hex, hden, hbot t ht, Ideal.div_coe hd.ne', EReal.coe_zero, zero_mul]

theorem Proper.dscore_bot {s : Fin n → EReal} (h : Proper s) (dp : Fin n → EReal) (t : Fin n) (ht : s t = ⊥) :
    dscore s dp t = 0 := by
  rw [dscore, h.prob_bot t ht, zero_mul]

end Cert.Attn

end
-- ==== Proof.Spec.lean ====
/- The gradient of the chunked attention as plain sums over the extended reals. -/
module

public import proofs.«01_k».proof.Proof.Row

@[expose] public section

noncomputable section

namespace Cert.Attn

open Idealize.ShloMosaic
open scoped BigOperators

/-- The scale of the scores, one over the root of the head's width. -/
abbrev sc : EReal := ((1 / 8 : ℝ) : EReal)

/-- Query row `a` of chunk `c`. -/
def qrow (c : Fin 128) (a : Fin 64) : Fin 8192 := ⟨64 * c.val + a.val, by omega⟩

/-- Row `b` of the window of chunk `c`, among the padded keys. -/
def krow (c : Fin 128) (b : Fin 576) : Fin 8704 := ⟨64 * c.val + b.val, by omega⟩

/-- Lane `d` of head `h`. -/
def lane (h : Fin 8) (d : Fin 64) : Fin 512 := ⟨64 * h.val + d.val, by omega⟩

section
variable (q : Fin 8192 → Fin 512 → EReal) (k v : Fin 8704 → Fin 512 → EReal) (g : Fin 8192 → Fin 512 → EReal)
  (bias : Fin 8 → Fin 64 → Fin 576 → EReal)

/-- The score of query `a` of chunk `c` at key `b` of its window, `⊥` at the padding's keys. -/
def score (c : Fin 128) (h : Fin 8) (a : Fin 64) (b : Fin 576) : EReal :=
  if 512 ≤ 64 * c.val + b.val then (∑ d, q (qrow c a) (lane h d) * k (krow c b) (lane h d)) * sc + bias h a b else ⊥

/-- The cotangent of a probability. -/
def dprob (c : Fin 128) (h : Fin 8) (a : Fin 64) (b : Fin 576) : EReal :=
  ∑ d, g (qrow c a) (lane h d) * v (krow c b) (lane h d)

/-- The probabilities. -/
def P (c : Fin 128) (h : Fin 8) (a : Fin 64) (b : Fin 576) : EReal := prob (score q k bias c h a) b

/-- The cotangent of the scores. -/
def DS (c : Fin 128) (h : Fin 8) (a : Fin 64) (b : Fin 576) : EReal :=
  dscore (score q k bias c h a) (dprob v g c h a) b

/-- The cotangent of the queries. -/
def dQ (c : Fin 128) (a : Fin 64) (h : Fin 8) (d : Fin 64) : EReal :=
  (∑ b, DS q k v g bias c h a b * k (krow c b) (lane h d)) * sc

/-- The cotangent of the keys: row `R` is in the windows of the chunks `c` with `64 c ≤ R < 64 c + 576`. -/
def dK (R : Fin 8704) (h : Fin 8) (d : Fin 64) : EReal :=
  ∑ c : Fin 128, if hb : 64 * c.val ≤ R.val ∧ R.val < 64 * c.val + 576 then
    (∑ a, DS q k v g bias c h a ⟨R.val - 64 * c.val, by omega⟩ * q (qrow c a) (lane h d)) * sc else 0

/-- The cotangent of the values. -/
def dV (R : Fin 8704) (h : Fin 8) (d : Fin 64) : EReal :=
  ∑ c : Fin 128, if hb : 64 * c.val ≤ R.val ∧ R.val < 64 * c.val + 576 then
    ∑ a, P q k bias c h a ⟨R.val - 64 * c.val, by omega⟩ * g (qrow c a) (lane h d) else 0

/-- The cotangent of the bias. -/
def dB (h : Fin 8) (a : Fin 64) (b : Fin 576) : EReal := ∑ c, DS q k v g bias c h a b

/-- The same by row and lane of the arrays. -/
def dQa (R : Fin 8192) (l : Fin 512) : EReal :=
  dQ q k v g bias ⟨R.val / 64, by omega⟩ ⟨R.val % 64, by omega⟩ ⟨l.val / 64, by omega⟩ ⟨l.val % 64, by omega⟩

def dKa (R : Fin 8704) (l : Fin 512) : EReal :=
  dK q k v g bias R ⟨l.val / 64, by omega⟩ ⟨l.val % 64, by omega⟩

def dVa (R : Fin 8704) (l : Fin 512) : EReal :=
  dV q k g bias R ⟨l.val / 64, by omega⟩ ⟨l.val % 64, by omega⟩

/-- Queries, keys and bias are real numbers. -/
structure Finite : Prop where
  q : ∀ r l, ∃ x : ℝ, q r l = x
  k : ∀ r l, ∃ x : ℝ, k r l = x
  bias : ∀ h a b, ∃ x : ℝ, bias h a b = x

variable {q k bias}

/-- Then a valid key's score is a real number … -/
theorem Finite.score_real (F : Finite q k bias) (c : Fin 128) (h : Fin 8) (a : Fin 64) (b : Fin 576)
    (hb : 512 ≤ 64 * c.val + b.val) : ∃ x : ℝ, score q k bias c h a b = x := by
  choose Q hQ using F.q
  choose K hK using F.k
  choose B hB using F.bias
  refine ⟨(∑ d, Q (qrow c a) (lane h d) * K (krow c b) (lane h d)) * (1 / 8) + B h a b, ?_⟩
  have hs : ∑ d, q (qrow c a) (lane h d) * k (krow c b) (lane h d)
      = ((∑ d, Q (qrow c a) (lane h d) * K (krow c b) (lane h d) : ℝ) : EReal) := by
    rw [Finset.sum_congr rfl fun d _ => by rw [hQ, hK, ← EReal.coe_mul]]
    exact (map_sum (⟨⟨(fun r : ℝ => (r : EReal)), rfl⟩, EReal.coe_add⟩ : ℝ →+ EReal) _ _).symm
  rw [score, if_pos hb, hs, hB, ← EReal.coe_mul, ← EReal.coe_add]

/-- … and every row of scores is proper: its last chunk is the query's own, of no padding. -/
theorem Finite.proper (F : Finite q k bias) (c : Fin 128) (h : Fin 8) (a : Fin 64) :
    Proper (score q k bias c h a) where
  ne_top b := by
    by_cases hb : 512 ≤ 64 * c.val + b.val
    · obtain ⟨x, hx⟩ := F.score_real c h a b hb
      rw [hx]; exact EReal.coe_ne_top x
    · rw [score, if_neg hb]; exact bot_ne_top
  some_real := by
    refine ⟨⟨512, by omega⟩, ?_⟩
    obtain ⟨x, hx⟩ := F.score_real c h a ⟨512, by omega⟩ (Nat.le_add_left _ _)
    rw [hx]; exact EReal.coe_ne_bot x

end

/-! ## One tile of 256 queries against 768 keys -/

section
variable (i : ℕ) (Q : Fin 256 → Fin 128 → EReal) (K V : Fin 768 → Fin 128 → EReal) (G : Fin 256 → Fin 128 → EReal)
  (W : Fin 2 → Fin 256 → Fin 768 → EReal)

/-- Lane `d` of the tile's head `r`. -/
def half (r : Fin 2) (d : Fin 64) : Fin 128 := ⟨64 * r.val + d.val, by omega⟩

def tscore (r : Fin 2) (a : Fin 256) (w : Fin 768) : EReal :=
  if 512 ≤ w.val + 256 * i then (∑ d, Q a (half r d) * K w (half r d)) * sc + W r a w else ⊥

def tdprob (r : Fin 2) (a : Fin 256) (w : Fin 768) : EReal := ∑ d, G a (half r d) * V w (half r d)

def tP (r : Fin 2) (a : Fin 256) (w : Fin 768) : EReal := prob (tscore i Q K W r a) w

def tDS (r : Fin 2) (a : Fin 256) (w : Fin 768) : EReal := dscore (tscore i Q K W r a) (tdprob V G r a) w

def tdQ (r : Fin 2) (a : Fin 256) (d : Fin 64) : EReal := (∑ w, tDS i Q K V G W r a w * K w (half r d)) * sc

def tdK (r : Fin 2) (w : Fin 768) (d : Fin 64) : EReal := (∑ a, tDS i Q K V G W r a w * Q a (half r d)) * sc

def tdV (r : Fin 2) (w : Fin 768) (d : Fin 64) : EReal := ∑ a, tP i Q K W r a w * G a (half r d)

end

end Cert.Attn

end
-- ==== Proof.Pre.lean ====
/- The precondition says that the queries, the keys and the bias are real numbers. -/
module

public import proofs.«01_k».proof.Pre_finite
public import Idealize.ShloMosaic.Lib.ReduceAll
public import Idealize.ShloMosaic.PureOps.Ideal.Laws
public import Idealize.ShloMosaic.Lib.Pointwise.Index
public import proofs.«01_k».proof.Proof.Spec

@[expose] public section

noncomputable section

namespace Cert.Pre_finite

open Idealize.ShloMosaic

/-- The shapes fit together. -/
theorem facts : Facts where
  bcast_S_S8192x512 := by decide
  reducesTo_S8192x512_S_d0_1 := by decide
  h_S_ := by decide
  bcast_S_S8704x512 := by decide
  reducesTo_S8704x512_S_d0_1 := by decide
  bcast_S_S8x64x576 := by decide
  reducesTo_S8x64x576_S_d0_1_2 := by decide

/-- An extended real whose absolute value is below `⊤` is a real number. -/
theorem real_of_lt (x : EReal)
    (h : FloatOps.cmpf (F := Ideal) (φ := .f32) .olt (FloatOps.hostAbsf (F := Ideal) (φ := .f32) x) (FloatOps.ofBits .f32 0x7F800000#32) = 1#1) :
    ∃ r : ℝ, x = r := by
  have ht : (FloatOps.ofBits FTy.f32 0x7F800000#32 : Ideal .f32) = (⊤ : EReal) := by
    show Ideal.ofBits .f32 0x7F800000#32 = ⊤
    simp [Ideal.ofBits, Ideal.ieee]
  rw [ht] at h
  have h' : max x (-x) < ⊤ := by
    by_contra hn
    have : FloatOps.cmpf (F := Ideal) (φ := .f32) .olt (FloatOps.hostAbsf (F := Ideal) (φ := .f32) x) (⊤ : EReal) = BitVec.ofBool (decide (max x (-x) < ⊤)) := rfl
    rw [this, decide_eq_false hn] at h
    exact absurd h (by decide)
  induction x with
  | bot => exact absurd h' (by simp)
  | top => exact absurd h' (by simp)
  | coe r => exact ⟨r, rfl⟩

theorem finite_of [Facts] (x0 : FVec Ideal S8192x512 .f32) (x1 x2 : FVec Ideal S8704x512 .f32) (x3 : FVec Ideal S8192x512 .f32)
    (x4 : FVec Ideal S8x64x576 .f32) (h : fn (F := Ideal) x0 x1 x2 x3 x4 = fun _ => 1#1) :
    Cert.Attn.Finite (fun r l => x0 (ix2 r l)) (fun r l => x1 (ix2 r l)) (fun h a b => x4 (ix3 h a b)) := by
  have h := congrFun h (fun a => a.elim0)
  dsimp only [fn] at h
  obtain ⟨h1, h4⟩ := IntOp.andi_eq_one.1 h
  obtain ⟨h0, h1⟩ := IntOp.andi_eq_one.1 h1
  have : Subsingleton S_.Idx := ⟨fun a b => funext fun i => i.elim0⟩
  exact ⟨fun r l => real_of_lt _ (Host.reduce_andi_all _ _ _ _ _ h0 (ix2 r l)),
    fun r l => real_of_lt _ (Host.reduce_andi_all _ _ _ _ _ h1 (ix2 r l)),
    fun h a b => real_of_lt _ (Host.reduce_andi_all _ _ _ _ _ h4 (ix3 h a b))⟩

end Cert.Pre_finite

end
-- ==== Proof.FwdPre.lean ====
/- The precondition of the attention's forward says that the queries, the keys and the bias are real numbers. -/
module

public import proofs.«01_k».proof.Pre_finite_fwd
public import Idealize.ShloMosaic.Lib.ReduceAll
public import Idealize.ShloMosaic.PureOps.Ideal.Laws
public import Idealize.ShloMosaic.Lib.Pointwise.Index
public import proofs.«01_k».proof.Proof.Pre

@[expose] public section

noncomputable section

namespace Cert.Pre_finite_fwd

open Idealize.ShloMosaic

/-- The shapes fit together. -/
theorem facts : Facts where
  bcast_S_S8192x512 := by decide
  reducesTo_S8192x512_S_d0_1 := by decide
  h_S_ := by decide
  bcast_S_S8704x512 := by decide
  reducesTo_S8704x512_S_d0_1 := by decide
  bcast_S_S8x64x576 := by decide
  reducesTo_S8x64x576_S_d0_1_2 := by decide

/-- Where the precondition holds, the arguments are real numbers. -/
theorem finite_of [Facts] (x0 : FVec Ideal S8192x512 .f32) (x1 x2 : FVec Ideal S8704x512 .f32)
    (x3 : FVec Ideal S8x64x576 .f32) (h : fn (F := Ideal) x0 x1 x2 x3 = fun _ => 1#1) :
    Cert.Attn.Finite (fun r l => x0 (ix2 r l)) (fun r l => x1 (ix2 r l)) (fun h a b => x3 (ix3 h a b)) := by
  have h := congrFun h (fun a => a.elim0)
  dsimp only [fn] at h
  obtain ⟨h1, h4⟩ := IntOp.andi_eq_one.1 h
  obtain ⟨h0, h1⟩ := IntOp.andi_eq_one.1 h1
  have : Subsingleton S_.Idx := ⟨fun a b => funext fun i => i.elim0⟩
  exact ⟨fun r l => Cert.Pre_finite.real_of_lt _ (Host.reduce_andi_all _ _ _ _ _ h0 (ix2 r l)),
    fun r l => Cert.Pre_finite.real_of_lt _ (Host.reduce_andi_all _ _ _ _ _ h1 (ix2 r l)),
    fun h a b => Cert.Pre_finite.real_of_lt _ (Host.reduce_andi_all _ _ _ _ _ h4 (ix3 h a b))⟩

end Cert.Pre_finite_fwd

end
-- ==== Proof.Pay.lean ====
/- What the kernel's body computes on one tile, value by value: the payloads of the generated skeleton, read at an
   index, are the tile's scores, probabilities and gradients (`Cert.Attn.tP`, `tDS`, `tdQ`, `tdK`, `tdV`). -/
module

public import Idealize.ShloMosaic.Lib.Pointwise
public import Idealize.ShloMosaic.Lib.WordCmp
public import proofs.«01_k».proof.Proof.Gen.KernelIdeal.Skeleton
public import proofs.«01_k».proof.Proof.Spec

@[expose] public section

set_option maxRecDepth 16384

noncomputable section

namespace Cert.KernelIdeal.Tile

open Idealize.ShloMosaic Idealize.ShloMosaic.TcCoe Idealize.SL.Sem
open Cert.KernelIdeal Cert.KernelIdeal.Gen Cert.Attn Idealize.ShloMosaic.WordCmp
open scoped BigOperators

/-- The literal of the scale is an eighth. -/
theorem bits_eighth : Ideal.ofBits .f32 0x3E000000#32 = sc := by
  simp [Ideal.ofBits, Ideal.ieee, -EReal.coe_mul]; norm_num

/-- The literal of minus infinity. -/
theorem bits_neg_inf : Ideal.ofBits .f32 0xFF800000#32 = ⊥ := by
  simp [Ideal.ofBits, Ideal.ieee]

/-- Row `a` of head `r` among the stacked rows of the two heads. -/
def srow (r : Fin 2) (a : Fin 256) : Fin 512 := ⟨256 * r.val + a.val, by omega⟩

theorem srow_zero (a : Fin 256) (h : a.val < 512) : (⟨a.val, h⟩ : Fin 512) = srow 0 a := Fin.ext (by simp [srow])
theorem srow_one (a : Fin 256) (h : 256 + a.val < 512) : (⟨256 + a.val, h⟩ : Fin 512) = srow 1 a := Fin.ext (by simp [srow])

/-- The mask of the first head's lanes. -/
theorem pay7_apply (l : Fin 128) : k0_pay7 (ix2 0 l) = if l.val < 64 then 1#1 else 0#1 := by
  pointwise [k0_pay7]
  by_cases h : l.val < 64
  · rw [if_pos h]; word_cmp
  · rw [if_neg h]; word_cmp

/-- The mask of the keys that are no padding. -/
theorem pay8_apply (i : grid0.Coords) (w : Fin 768) :
    k0_pay8 i (ix2 0 w) = if 512 ≤ w.val + 256 * (i 1).val then 1#1 else 0#1 := by
  have hi : (i 1).val < 32 := (i 1).isLt
  pointwise [k0_pay8]
  generalize (i 1).val = n at hi ⊢
  show IntOp.cmpi .sge (IntOp.addi (BitVec.ofNat 32 w.val) (IntOp.muli (BitVec.ofNat 32 n) (BitVec.ofNat 32 256)))
    (BitVec.ofNat 32 512) = _
  rw [muli_ofNat, addi_ofNat, cmpi_sge_ofNat (by omega) (by omega), ofBool_decide_eq_ite, mul_comm n]

/-- The queries, one copy per head, the other head's lanes zero. -/
theorem pay11_apply (Q : FVec Ideal S256x128 .bf16) (r : Fin 2) (a : Fin 256) (l : Fin 128) :
    k0_pay11 Q (ix2 (srow r a) l) = if l.val / 64 = r.val then Q (ix2 a l) else 0 := by
  have hl := l.isLt
  fin_cases r <;> pointwise [k0_pay11, pay7_apply, srow] <;> by_cases h : l.val < 64
  · rw [if_pos h, if_pos (by omega)]; rfl
  · rw [if_neg h, if_neg (by omega)]; rfl
  · rw [if_pos h, if_neg (by omega)]; rfl
  · rw [if_neg h, if_pos (by omega)]; rfl

/-- The cotangents of the output likewise. -/
theorem pay14_apply (G : FVec Ideal S256x128 .bf16) (r : Fin 2) (a : Fin 256) (l : Fin 128) :
    k0_pay14 k0_pay7 (k0_pay12 G) (0 : EReal) k0_pay13 (ix2 (srow r a) l)
      = if l.val / 64 = r.val then G (ix2 a l) else 0 := by
  have hl := l.isLt
  fin_cases r <;> pointwise [k0_pay14, k0_pay12, k0_pay13, pay7_apply, srow] <;> by_cases h : l.val < 64
  · rw [if_pos h, if_pos (by omega)]; rfl
  · rw [if_neg h, if_neg (by omega)]; rfl
  · rw [if_pos h, if_neg (by omega)]; rfl
  · rw [if_neg h, if_pos (by omega)]; rfl

/-- A sum over all lanes of one head's copy is a sum over that head's lanes. -/
theorem sum_lanes (r : Fin 2) (f g : Fin 128 → EReal) :
    ∑ l : Fin 128, (if l.val / 64 = r.val then f l else 0) * g l = ∑ d, f (half r d) * g (half r d) := by
  rw [FinSumWindow.sum_window (64 * r.val) (W := 64) (by omega) _ fun l hl => by
    rw [if_neg (by omega), zero_mul]]
  refine Finset.sum_congr rfl fun d _ => ?_
  rw [if_pos (by show (64 * r.val + d.val) / 64 = r.val; omega)]
  rfl

section
variable (i : grid0.Coords) (Q G : FVec Ideal S256x128 .bf16) (K V : FVec Ideal S768x128 .bf16)
  (b0 b1 : FVec Ideal S1x256x768 .f32)

/-- The two heads' rows of products of queries and keys. -/
abbrev QK : FVec Ideal S512x768 .f32 := k0_pay15 (k0_pay9 K) (k0_pay11 Q)

/-- The two heads' rows of products of cotangents and values. -/
abbrev GV : FVec Ideal S512x768 .f32 :=
  k0_pay16 k0_pay7 (k0_pay10 V) (k0_pay12 G) (0 : EReal) k0_pay13

/-- The two heads' biases, as one block. -/
def Wb (r : Fin 2) (a : Fin 256) (w : Fin 768) : EReal := if r = 0 then b0 (ix3 0 a w) else b1 (ix3 0 a w)

theorem QK_apply (r : Fin 2) (a : Fin 256) (w : Fin 768) :
    QK Q K (ix2 (srow r a) w) = ∑ d, Q (ix2 a (half r d)) * K (ix2 w (half r d)) := by
  pointwise [QK, k0_pay15, k0_pay9]
  simp only [pay11_apply]
  exact sum_lanes r (fun l => Q (ix2 a l)) (fun l => K (ix2 w l))

theorem GV_apply (r : Fin 2) (a : Fin 256) (w : Fin 768) :
    GV G V (ix2 (srow r a) w) = tdprob (fun w l => V (ix2 w l)) (fun a l => G (ix2 a l)) r a w := by
  pointwise [GV, k0_pay16, k0_pay10]
  simp only [pay14_apply]
  exact sum_lanes r (fun l => G (ix2 a l)) (fun l => V (ix2 w l))

/-- The scores. -/
theorem score_apply (r : Fin 2) (a : Fin 256) (w : Fin 768) (b : EReal) (hb : b = Wb b0 b1 r a w) :
    Scalar.select (k0_pay8 i (ix2 0 w)) (QK Q K (ix2 (srow r a) w) * Ideal.ofBits .f32 0x3E000000#32 + b)
      (Ideal.ofBits .f32 0xFF800000#32) = tscore (i 1).val (fun a l => Q (ix2 a l)) (fun w l => K (ix2 w l)) (Wb b0 b1) r a w := by
  rw [pay8_apply, QK_apply, bits_eighth, bits_neg_inf, hb, tscore]
  by_cases h : 512 ≤ w.val + 256 * (i 1).val
  · rw [if_pos h, if_pos h]; rfl
  · rw [if_neg h, if_neg h]; rfl

/-- The first head's probabilities. -/
theorem prob0 (a : Fin 256) (w : Fin 768) :
    k0_pay17 (F := Ideal) (k0_pay8 i) (k0_pay9 K) (k0_pay11 Q) b0 (ix2 a w) = tP (i 1).val (fun a l => Q (ix2 a l)) (fun w l => K (ix2 w l)) (Wb b0 b1) 0 a w := by
  pointwise [k0_pay17]
  simp only [srow_zero]
  rw [tP, prob, ex, den, rowMax]
  have e := fun x => score_apply i Q K b0 b1 0 a x (b0 (ix3 0 a x)) rfl
  simp only [ex, rowMax, e]
  rw [bits_neg_inf]

/-- The second head's probabilities. -/
theorem prob1 (a : Fin 256) (w : Fin 768) :
    k0_pay21 (F := Ideal) (k0_pay8 i) (QK Q K) b1 (ix2 a w) = tP (i 1).val (fun a l => Q (ix2 a l)) (fun w l => K (ix2 w l)) (Wb b0 b1) 1 a w := by
  pointwise [k0_pay21]
  simp only [srow_one]
  rw [tP, prob, ex, den, rowMax]
  have e := fun x => score_apply i Q K b0 b1 1 a x (b1 (ix3 0 a x)) rfl
  simp only [ex, rowMax, e]
  rw [bits_neg_inf]

/-- The first head's cotangents of the scores. -/
abbrev D0 : FVec Ideal S256x768 .f32 :=
  k0_pay18 k0_pay7 (k0_pay8 i) (k0_pay9 K) (k0_pay10 V) (k0_pay11 Q) (k0_pay12 G) (0 : EReal) k0_pay13 b0

/-- The second head's. -/
abbrev D1 : FVec Ideal S256x768 .f32 := k0_pay22 (k0_pay8 i) (QK Q K) (GV G V) b1

theorem ds0 (a : Fin 256) (w : Fin 768) : D0 i Q G K V b0 (ix2 a w) = tDS (i 1).val (fun a l => Q (ix2 a l)) (fun w l => K (ix2 w l)) (fun w l => V (ix2 w l)) (fun a l => G (ix2 a l)) (Wb b0 b1) 0 a w := by
  pointwise [D0, k0_pay18]
  simp only [srow_zero, prob0 i Q K b0 b1, GV_apply G V]
  rfl

theorem ds1 (a : Fin 256) (w : Fin 768) : D1 i Q G K V b1 (ix2 a w) = tDS (i 1).val (fun a l => Q (ix2 a l)) (fun w l => K (ix2 w l)) (fun w l => V (ix2 w l)) (fun a l => G (ix2 a l)) (Wb b0 b1) 1 a w := by
  pointwise [D1, k0_pay22]
  simp only [srow_one, prob1 i Q K b0 b1, GV_apply G V]
  rfl

/-- The cotangents of the scores of both heads, one under the other. -/
abbrev D2 : FVec Ideal S512x768 .bf16 := k0_pay25 (k0_pay8 i) (QK Q K) (GV G V) (D0 i Q G K V b0) b1

theorem ds2 (r : Fin 2) (a : Fin 256) (w : Fin 768) :
    D2 i Q G K V b0 b1 (ix2 (srow r a) w) = tDS (i 1).val (fun a l => Q (ix2 a l)) (fun w l => K (ix2 w l)) (fun w l => V (ix2 w l)) (fun a l => G (ix2 a l)) (Wb b0 b1) r a w := by
  fin_cases r
  · pointwise [D2, k0_pay25, srow]
    exact ds0 i Q G K V b0 b1 a w
  · pointwise [D2, k0_pay25, srow]
    exact ds1 i Q G K V b0 b1 a w

/-- Both heads' probabilities, one under the other: what the values' gradient reads. -/
theorem sum_srow (f : Fin 512 → EReal) : ∑ x, f x = ∑ a, f (srow 0 a) + ∑ a, f (srow 1 a) := by
  rw [Fin.sum_univ_two_halves 256 256 rfl f]
  simp only [srow_zero, srow_one]

/-- A sum over the stacked rows, read at a lane of head `r`, is a sum over that head's rows. -/
theorem sum_rows (r : Fin 2) (d : Fin 64) (D : Fin 2 → Fin 256 → EReal) (q : Fin 256 → Fin 128 → EReal) :
    (∑ a, D 0 a * (if (half r d).val / 64 = (0 : Fin 2).val then q a (half r d) else 0))
      + ∑ a, D 1 a * (if (half r d).val / 64 = (1 : Fin 2).val then q a (half r d) else 0)
      = ∑ a, D r a * q a (half r d) := by
  have h : (half r d).val / 64 = r.val := by show (64 * r.val + d.val) / 64 = r.val; omega
  rw [h]
  fin_cases r <;> simp

/-- The rows the body stores of the queries' gradient. -/
theorem dq_apply (r : Fin 2) (a : Fin 256) (d : Fin 64) :
    k0_pay1 (F := Ideal) (k0_pay27 (k0_pay8 i) (k0_pay9 K) (QK Q K) (GV G V) (D0 i Q G K V b0) b1)
        (k0_pay28 (k0_pay8 i) (k0_pay9 K) (QK Q K) (GV G V) (D0 i Q G K V b0) b1) (k0_pay29 k0_pay7) (ix2 a (half r d))
      = tdQ (i 1).val (fun a l => Q (ix2 a l)) (fun w l => K (ix2 w l)) (fun w l => V (ix2 w l)) (fun a l => G (ix2 a l)) (Wb b0 b1) r a d := by
  pointwise [k0_pay1, k0_pay27, k0_pay28, k0_pay29, k0_pay26, k0_pay9, pay7_apply]
  simp only [srow_zero, srow_one]
  simp only [ds2 i Q G K V b0 b1, bits_eighth]
  have hr : (half r d).val = 64 * r.val + d.val := rfl
  by_cases h : (half r d).val < 64
  · obtain rfl : r = 0 := Fin.ext (by show r.val = 0; omega)
    rw [if_pos h]; rfl
  · obtain rfl : r = 1 := Fin.ext (by show r.val = 1; omega)
    rw [if_neg h]; rfl

/-- The rows the body adds to the keys' gradient. -/
theorem dk_apply (X : FVec Ideal S768x128 .f32) (r : Fin 2) (w : Fin 768) (d : Fin 64) :
    k0_pay2 (F := Ideal) (k0_pay11 Q) (D2 i Q G K V b0 b1) X (ix2 w (half r d))
      = X (ix2 w (half r d)) + tdK (i 1).val (fun a l => Q (ix2 a l)) (fun w l => K (ix2 w l)) (fun w l => V (ix2 w l)) (fun a l => G (ix2 a l)) (Wb b0 b1) r w d := by
  pointwise [k0_pay2]
  rw [bits_eighth, sum_srow]
  simp only [ds2, pay11_apply]
  rw [sum_rows r d (fun s a => tDS (i 1).val (fun a l => Q (ix2 a l)) (fun w l => K (ix2 w l)) (fun w l => V (ix2 w l)) (fun a l => G (ix2 a l)) (Wb b0 b1) s a w) (fun a l => Q (ix2 a l))]
  rfl

/-- The rows the body adds to the values' gradient. -/
theorem dv_apply (X : FVec Ideal S768x128 .f32) (r : Fin 2) (w : Fin 768) (d : Fin 64) :
    k0_pay3 (F := Ideal) (k0_pay14 k0_pay7 (k0_pay12 G) (0 : EReal) k0_pay13)
        (k0_pay20 (k0_pay17 (k0_pay8 i) (k0_pay9 K) (k0_pay11 Q) b0)) (k0_pay24 (k0_pay8 i) (QK Q K) b1) X (ix2 w (half r d))
      = X (ix2 w (half r d)) + tdV (i 1).val (fun a l => Q (ix2 a l)) (fun w l => K (ix2 w l)) (fun a l => G (ix2 a l)) (Wb b0 b1) r w d := by
  pointwise [k0_pay3, k0_pay20, k0_pay24]
  simp only [srow_zero, srow_one, prob0 i Q K b0 b1, prob1 i Q K b0 b1, pay14_apply]
  rw [sum_rows r d (fun s a => tP (i 1).val (fun a l => Q (ix2 a l)) (fun w l => K (ix2 w l)) (Wb b0 b1) s a w) (fun a l => G (ix2 a l))]
  rfl

/-- What the body adds to the bias' gradient. -/
theorem db0_apply (X : FVec Ideal S1x256x768 .f32) (a : Fin 256) (w : Fin 768) :
    k0_pay19 (F := Ideal) k0_pay7 (k0_pay8 i) (k0_pay9 K) (k0_pay10 V) (k0_pay11 Q) (k0_pay12 G) (0 : EReal) k0_pay13
        b0 X (ix3 0 a w) = X (ix3 0 a w) + tDS (i 1).val (fun a l => Q (ix2 a l)) (fun w l => K (ix2 w l)) (fun w l => V (ix2 w l)) (fun a l => G (ix2 a l)) (Wb b0 b1) 0 a w := by
  rw [← ds0 i Q G K V b0 b1]
  pointwise [k0_pay19]

theorem db1_apply (X : FVec Ideal S1x256x768 .f32) (a : Fin 256) (w : Fin 768) :
    k0_pay23 (F := Ideal) (k0_pay8 i) (QK Q K) (GV G V) b1 X (ix3 0 a w)
      = X (ix3 0 a w) + tDS (i 1).val (fun a l => Q (ix2 a l)) (fun w l => K (ix2 w l)) (fun w l => V (ix2 w l)) (fun a l => G (ix2 a l)) (Wb b0 b1) 1 a w := by
  rw [← ds1 i Q G K V b0 b1]
  pointwise [k0_pay23]

end

end Cert.KernelIdeal.Tile

end
-- ==== Proof.Tile.lean ====
/- A tile of 256 queries computes the four chunks it holds: each of its rows is a chunk's row, widened with `⊥` scores
   to the keys of the whole tile. -/
module

public import proofs.«01_k».proof.Proof.Spec

@[expose] public section

noncomputable section

namespace Cert.Attn

open Idealize.ShloMosaic
open scoped BigOperators

/-- Chunk `j` of the tile `i`. -/
def chunkOf (i : Fin 32) (j : Fin 4) : Fin 128 := ⟨4 * i.val + j.val, by omega⟩

/-- Head `r` of the pair `p`. -/
def headOf (p : Fin 4) (r : Fin 2) : Fin 8 := ⟨2 * p.val + r.val, by omega⟩

/-- Row `a` of chunk `j`, among the tile's rows. -/
def trow (j : Fin 4) (a : Fin 64) : Fin 256 := ⟨64 * j.val + a.val, by omega⟩

/-- Key `b` of the window of chunk `j`, among the tile's keys. -/
def tkey (j : Fin 4) (b : Fin 576) : Fin 768 := ⟨64 * j.val + b.val, by omega⟩

/-- The tile's queries (or cotangents), for a pair of heads. -/
def Qt (q : Fin 8192 → Fin 512 → EReal) (i : Fin 32) (p : Fin 4) (a : Fin 256) (l : Fin 128) : EReal :=
  q ⟨256 * i.val + a.val, by omega⟩ ⟨128 * p.val + l.val, by omega⟩

/-- The tile's keys (or values), for a pair of heads. -/
def Kt (k : Fin 8704 → Fin 512 → EReal) (i : Fin 32) (p : Fin 4) (w : Fin 768) (l : Fin 128) : EReal :=
  k ⟨256 * i.val + w.val, by omega⟩ ⟨128 * p.val + l.val, by omega⟩

/-- The bias widened to a tile: row `a` holds its chunk's bias from column `64 (a / 64)` on and `⊥` elsewhere. -/
def wideB (bias : Fin 8 → Fin 64 → Fin 576 → EReal) (h : Fin 8) (a : Fin 256) (w : Fin 768) : EReal :=
  if hb : 64 * (a.val / 64) ≤ w.val ∧ w.val < 64 * (a.val / 64) + 576 then
    bias h ⟨a.val % 64, by omega⟩ ⟨w.val - 64 * (a.val / 64), by omega⟩ else ⊥

/-- … for a pair of heads. -/
def Wt (bias : Fin 8 → Fin 64 → Fin 576 → EReal) (p : Fin 4) (r : Fin 2) (a : Fin 256) (w : Fin 768) : EReal :=
  wideB bias (headOf p r) a w

theorem wideB_pos (bias : Fin 8 → Fin 64 → Fin 576 → EReal) (h : Fin 8) (a : Fin 256) (w : Fin 768)
    (hb : 64 * (a.val / 64) ≤ w.val ∧ w.val < 64 * (a.val / 64) + 576) :
    wideB bias h a w = bias h ⟨a.val % 64, by omega⟩ ⟨w.val - 64 * (a.val / 64), by omega⟩ := dif_pos hb

theorem wideB_neg (bias : Fin 8 → Fin 64 → Fin 576 → EReal) (h : Fin 8) (a : Fin 256) (w : Fin 768)
    (hb : ¬(64 * (a.val / 64) ≤ w.val ∧ w.val < 64 * (a.val / 64) + 576)) : wideB bias h a w = ⊥ := dif_neg hb

theorem wideB_in (bias : Fin 8 → Fin 64 → Fin 576 → EReal) (h : Fin 8) (j : Fin 4) (a : Fin 64) (b : Fin 576) :
    wideB bias h (trow j a) (tkey j b) = bias h a b := by
  have hj : (trow j a).val / 64 = j.val := by show (64 * j.val + a.val) / 64 = _; omega
  have ha : (trow j a).val % 64 = a.val := by show (64 * j.val + a.val) % 64 = _; omega
  have hk : (tkey j b).val = 64 * j.val + b.val := rfl
  unfold wideB
  rw [dif_pos (by rw [hj, hk]; omega)]
  congr 1
  · exact Fin.ext ha
  · exact Fin.ext (by show (tkey j b).val - 64 * ((trow j a).val / 64) = b.val; rw [hj, hk]; omega)

theorem wideB_out (bias : Fin 8 → Fin 64 → Fin 576 → EReal) (h : Fin 8) (j : Fin 4) (a : Fin 64) (w : Fin 768)
    (hw : ¬(64 * j.val ≤ w.val ∧ w.val < 64 * j.val + 576)) : wideB bias h (trow j a) w = ⊥ := by
  have hj : (trow j a).val / 64 = j.val := by show (64 * j.val + a.val) / 64 = _; omega
  unfold wideB
  rw [dif_neg (by rw [hj]; exact hw)]

section
variable {q : Fin 8192 → Fin 512 → EReal} {k : Fin 8704 → Fin 512 → EReal} {bias : Fin 8 → Fin 64 → Fin 576 → EReal}
  (v : Fin 8704 → Fin 512 → EReal) (g : Fin 8192 → Fin 512 → EReal)
  (i : Fin 32) (p : Fin 4) (r : Fin 2) (j : Fin 4) (a : Fin 64)

theorem Qt_row (x : Fin 8192 → Fin 512 → EReal) (d : Fin 64) :
    Qt x i p (trow j a) (half r d) = x (qrow (chunkOf i j) a) (lane (headOf p r) d) := by
  unfold Qt qrow lane chunkOf headOf trow half
  congr 1 <;> apply Fin.ext <;> simp only <;> omega

theorem Kt_key (x : Fin 8704 → Fin 512 → EReal) (b : Fin 576) (d : Fin 64) :
    Kt x i p (tkey j b) (half r d) = x (krow (chunkOf i j) b) (lane (headOf p r) d) := by
  unfold Kt krow lane chunkOf headOf tkey half
  congr 1 <;> apply Fin.ext <;> simp only <;> omega

/-- The tile's scores at the keys of the row's own chunk. -/
theorem tscore_in (b : Fin 576) :
    tscore i.val (Qt q i p) (Kt k i p) (Wt bias p) r (trow j a) (tkey j b)
      = score q k bias (chunkOf i j) (headOf p r) a b := by
  have hc : 512 ≤ (tkey j b).val + 256 * i.val ↔ 512 ≤ 64 * (chunkOf i j).val + b.val := by
    show 512 ≤ 64 * j.val + b.val + 256 * i.val ↔ 512 ≤ 64 * (4 * i.val + j.val) + b.val
    omega
  unfold tscore score Wt
  simp only [hc, wideB_in, Qt_row, Kt_key]

/-- The other keys' scores are `⊥`. -/
theorem tscore_out (w : Fin 768) (hw : ¬(64 * j.val ≤ w.val ∧ w.val < 64 * j.val + 576)) :
    tscore i.val (Qt q i p) (Kt k i p) (Wt bias p) r (trow j a) w = ⊥ := by
  unfold tscore Wt
  rw [wideB_out bias _ j a w hw, EReal.add_bot, ite_self]

theorem tdprob_in (b : Fin 576) :
    tdprob (Kt v i p) (Qt g i p) r (trow j a) (tkey j b) = dprob v g (chunkOf i j) (headOf p r) a b := by
  unfold tdprob dprob
  simp only [Qt_row, Kt_key]

variable (F : Finite q k bias)
include F

/-- The tile's probabilities are the chunk's, and zero at the other keys. -/
theorem tP_in (b : Fin 576) :
    tP i.val (Qt q i p) (Kt k i p) (Wt bias p) r (trow j a) (tkey j b) = P q k bias (chunkOf i j) (headOf p r) a b :=
  prob_wide (64 * j.val) (by omega) (fun b => tscore_in i p r j a b) (fun w hw => tscore_out i p r j a w hw)
    (F.proper (chunkOf i j) (headOf p r) a) b

theorem tP_out (w : Fin 768) (hw : ¬(64 * j.val ≤ w.val ∧ w.val < 64 * j.val + 576)) :
    tP i.val (Qt q i p) (Kt k i p) (Wt bias p) r (trow j a) w = 0 :=
  prob_out (64 * j.val) (by omega) (fun b => tscore_in i p r j a b) (fun w hw => tscore_out i p r j a w hw)
    (F.proper (chunkOf i j) (headOf p r) a) w hw

/-- The cotangents of the tile's scores are the chunk's, and zero at the other keys. -/
theorem tDS_in (b : Fin 576) :
    tDS i.val (Qt q i p) (Kt k i p) (Kt v i p) (Qt g i p) (Wt bias p) r (trow j a) (tkey j b)
      = DS q k v g bias (chunkOf i j) (headOf p r) a b :=
  dscore_wide (64 * j.val) (by omega) (fun b => tscore_in i p r j a b) (fun w hw => tscore_out i p r j a w hw)
    (F.proper (chunkOf i j) (headOf p r) a) (fun b => tdprob_in v g i p r j a b) b

theorem tDS_out (w : Fin 768) (hw : ¬(64 * j.val ≤ w.val ∧ w.val < 64 * j.val + 576)) :
    tDS i.val (Qt q i p) (Kt k i p) (Kt v i p) (Qt g i p) (Wt bias p) r (trow j a) w = 0 :=
  dscore_out (64 * j.val) (by omega) (fun b => tscore_in i p r j a b) (fun w hw => tscore_out i p r j a w hw)
    (F.proper (chunkOf i j) (headOf p r) a) _ w hw

/-- The tile's cotangent of the queries. -/
theorem tdQ_eq (d : Fin 64) :
    tdQ i.val (Qt q i p) (Kt k i p) (Kt v i p) (Qt g i p) (Wt bias p) r (trow j a) d
      = dQ q k v g bias (chunkOf i j) a (headOf p r) d := by
  unfold tdQ dQ
  rw [FinSumWindow.sum_window (64 * j.val) (W := 576) (by omega) _ fun w hw => by
    rw [tDS_out v g i p r j a F w hw, zero_mul]]
  congr 1
  refine Finset.sum_congr rfl fun b _ => ?_
  show tDS i.val (Qt q i p) (Kt k i p) (Kt v i p) (Qt g i p) (Wt bias p) r (trow j a) (tkey j b) * Kt k i p (tkey j b) (half r d) = _
  rw [tDS_in v g i p r j a F, Kt_key]

end

section
variable (q : Fin 8192 → Fin 512 → EReal) (k v : Fin 8704 → Fin 512 → EReal) (g : Fin 8192 → Fin 512 → EReal)
  (bias : Fin 8 → Fin 64 → Fin 576 → EReal) (i : Fin 32) (p : Fin 4) (r : Fin 2) (j : Fin 4) (a : Fin 64) (d : Fin 64)

/-- The queries' cotangent at the tile's row and lane. -/
theorem dQa_tile (R : Fin 8192) (l : Fin 512) (hR : R.val = 256 * i.val + (trow j a).val) (hl : l.val = 128 * p.val + (half r d).val) :
    dQa q k v g bias R l = dQ q k v g bias (chunkOf i j) a (headOf p r) d := by
  have h1 : (trow j a).val = 64 * j.val + a.val := rfl
  have h2 : (half r d).val = 64 * r.val + d.val := rfl
  unfold dQa chunkOf headOf
  congr 1 <;> apply Fin.ext <;> simp only <;> omega

theorem dKa_tile (R' R : Fin 8704) (l : Fin 512) (hR : R'.val = R.val) (hl : l.val = 128 * p.val + (half r d).val) :
    dKa q k v g bias R' l = dK q k v g bias R (headOf p r) d := by
  have h2 : (half r d).val = 64 * r.val + d.val := rfl
  obtain rfl := Fin.ext hR
  unfold dKa headOf
  congr 1 <;> apply Fin.ext <;> simp only <;> omega

theorem dVa_tile (R' R : Fin 8704) (l : Fin 512) (hR : R'.val = R.val) (hl : l.val = 128 * p.val + (half r d).val) :
    dVa q k g bias R' l = dV q k g bias R (headOf p r) d := by
  have h2 : (half r d).val = 64 * r.val + d.val := rfl
  obtain rfl := Fin.ext hR
  unfold dVa headOf
  congr 1 <;> apply Fin.ext <;> simp only <;> omega

end

/-- Every lane of the tile is one of a head's. -/
theorem exists_half (l : Fin 128) : ∃ r d, l = half r d :=
  ⟨⟨l.val / 64, by omega⟩, ⟨l.val % 64, by omega⟩, Fin.ext (by show l.val = 64 * (l.val / 64) + l.val % 64; omega)⟩

/-- Every row of the tile is one of a chunk's. -/
theorem exists_trow (x : Fin 256) : ∃ j a, x = trow j a :=
  ⟨⟨x.val / 64, by omega⟩, ⟨x.val % 64, by omega⟩, Fin.ext (by show x.val = 64 * (x.val / 64) + x.val % 64; omega)⟩

/-- A sum over a tile's rows is one over its chunks and their rows. -/
theorem sum_tile (f : Fin 256 → EReal) : ∑ x, f x = ∑ j : Fin 4, ∑ a : Fin 64, f (trow j a) := by
  refine Eq.trans ?_ (Fintype.sum_prod_type fun x : Fin 4 × Fin 64 => f (trow x.1 x.2))
  symm
  refine Fintype.sum_equiv (finProdFinEquiv (m := 4) (n := 64)) _ _ fun x => congrArg f ?_
  exact Fin.ext (by show 64 * x.1.val + x.2.val = x.2.val + 64 * x.1.val; omega)

/-- A sum over all chunks is one over the tiles and their chunks. -/
theorem sum_chunks (f : Fin 128 → EReal) : ∑ c, f c = ∑ i : Fin 32, ∑ j : Fin 4, f (chunkOf i j) := by
  refine Eq.trans ?_ (Fintype.sum_prod_type fun x : Fin 32 × Fin 4 => f (chunkOf x.1 x.2))
  symm
  refine Fintype.sum_equiv (finProdFinEquiv (m := 32) (n := 4)) _ _ fun x => congrArg f ?_
  exact Fin.ext (by show 4 * x.1.val + x.2.val = x.2.val + 4 * x.1.val; omega)

section
variable {q : Fin 8192 → Fin 512 → EReal} {k : Fin 8704 → Fin 512 → EReal} {bias : Fin 8 → Fin 64 → Fin 576 → EReal}
  (v : Fin 8704 → Fin 512 → EReal) (g : Fin 8192 → Fin 512 → EReal) (p : Fin 4) (r : Fin 2)
  (F : Finite q k bias)
include F

/-- What the tiles add to one row of the keys' cotangent. -/
theorem sum_tdK (R : Fin 8704) (d : Fin 64) :
    (∑ i : Fin 32, if hb : 256 * i.val ≤ R.val ∧ R.val < 256 * i.val + 768 then
        tdK i.val (Qt q i p) (Kt k i p) (Kt v i p) (Qt g i p) (Wt bias p) r ⟨R.val - 256 * i.val, by omega⟩ d else 0)
      = dK q k v g bias R (headOf p r) d := by
  unfold dK
  rw [sum_chunks]
  refine Finset.sum_congr rfl fun i _ => ?_
  by_cases hb : 256 * i.val ≤ R.val ∧ R.val < 256 * i.val + 768
  · rw [dif_pos hb, tdK, sum_tile, sum_mul_coe _ (by norm_num)]
    refine Finset.sum_congr rfl fun j _ => ?_
    by_cases hj : 64 * (chunkOf i j).val ≤ R.val ∧ R.val < 64 * (chunkOf i j).val + 576
    · rw [dif_pos hj]
      congr 1
      refine Finset.sum_congr rfl fun a _ => ?_
      have hc : (chunkOf i j).val = 4 * i.val + j.val := rfl
      have hw : (⟨R.val - 256 * i.val, by omega⟩ : Fin 768) = tkey j ⟨R.val - 64 * (chunkOf i j).val, by omega⟩ :=
        Fin.ext (by show R.val - 256 * i.val = 64 * j.val + (R.val - 64 * (4 * i.val + j.val)); omega)
      rw [hw, tDS_in v g i p r j a F, Qt_row]
    · rw [dif_neg hj, Finset.sum_eq_zero, zero_mul]
      intro a _
      have hc : (chunkOf i j).val = 4 * i.val + j.val := rfl
      rw [tDS_out v g i p r j a F _ (by simp only; omega), zero_mul]
  · rw [dif_neg hb]
    refine (Finset.sum_eq_zero fun j _ => ?_).symm
    have hc : (chunkOf i j).val = 4 * i.val + j.val := rfl
    rw [dif_neg (by omega)]

/-- What the tiles add to one row of the values' cotangent. -/
theorem sum_tdV (R : Fin 8704) (d : Fin 64) :
    (∑ i : Fin 32, if hb : 256 * i.val ≤ R.val ∧ R.val < 256 * i.val + 768 then
        tdV i.val (Qt q i p) (Kt k i p) (Qt g i p) (Wt bias p) r ⟨R.val - 256 * i.val, by omega⟩ d else 0)
      = dV q k g bias R (headOf p r) d := by
  unfold dV
  rw [sum_chunks]
  refine Finset.sum_congr rfl fun i _ => ?_
  by_cases hb : 256 * i.val ≤ R.val ∧ R.val < 256 * i.val + 768
  · rw [dif_pos hb, tdV, sum_tile]
    refine Finset.sum_congr rfl fun j _ => ?_
    have hc : (chunkOf i j).val = 4 * i.val + j.val := rfl
    by_cases hj : 64 * (chunkOf i j).val ≤ R.val ∧ R.val < 64 * (chunkOf i j).val + 576
    · rw [dif_pos hj]
      refine Finset.sum_congr rfl fun a _ => ?_
      have hw : (⟨R.val - 256 * i.val, by omega⟩ : Fin 768) = tkey j ⟨R.val - 64 * (chunkOf i j).val, by omega⟩ :=
        Fin.ext (by show R.val - 256 * i.val = 64 * j.val + (R.val - 64 * (4 * i.val + j.val)); omega)
      rw [hw, tP_in i p r j a F, Qt_row]
    · rw [dif_neg hj, Finset.sum_eq_zero]
      intro a _
      rw [tP_out i p r j a F _ (by simp only; omega), zero_mul]
  · rw [dif_neg hb]
    refine (Finset.sum_eq_zero fun j _ => ?_).symm
    have hc : (chunkOf i j).val = 4 * i.val + j.val := rfl
    rw [dif_neg (by omega)]

/-- The tiles' sums of score cotangents, folded over the four chunks of a tile, are the bias's cotangent. -/
theorem fold_tDS (a : Fin 64) (b : Fin 576) :
    (∑ j : Fin 4, ∑ i : Fin 32,
        tDS i.val (Qt q i p) (Kt k i p) (Kt v i p) (Qt g i p) (Wt bias p) r (trow j a) (tkey j b))
      = dB q k v g bias (headOf p r) a b := by
  unfold dB
  rw [Finset.sum_comm, sum_chunks]
  exact Finset.sum_congr rfl fun i _ => Finset.sum_congr rfl fun j _ => tDS_in v g i p r j a F b

end

end Cert.Attn

end
-- ==== Proof.Blk.lean ====
module

public import Idealize.ShloMosaic.Lib.Pipeline.ValueKit
public import Idealize.ShloMosaic.Lib.Claim
public import Idealize.ShloMosaic.Lib.StableHlo.ReadAt
public import proofs.«01_k».proof.Proof.Gen.KernelIdeal.Frame
public import proofs.«01_k».proof.Proof.Pay
public import proofs.«01_k».proof.Proof.Tile

@[expose] public section

set_option maxRecDepth 16384

noncomputable section

namespace Cert.KernelIdeal.Tile

open Idealize.ShloMosaic Idealize.ShloMosaic.TcCoe Idealize.SL.Sem
open Cert.KernelIdeal Cert.KernelIdeal.Gen Cert.Attn Idealize.ShloMosaic.WordCmp
open scoped BigOperators

variable (m : (ℓ : Loc nD τ sig) → Buf (Elt Ideal) ℓ)

theorem idx : ∀ t : Fin cfg0.N,
    win0_0.index t = ![t.val % 32, t.val / 32] ∧ win0_1.index t = ![0, t.val / 32] ∧ win0_2.index t = ![0, t.val / 32]
      ∧ win0_3.index t = ![t.val % 32, t.val / 32] ∧ win0_4.index t = ![t.val / 32, 0, 0]
      ∧ win0_5.index t = ![t.val % 32, t.val / 32] ∧ win0_6.index t = ![0, t.val / 32] ∧ win0_7.index t = ![0, t.val / 32]
      ∧ win0_8.index t = ![t.val / 32, 0, 0] :=
  (by decide +kernel : ∀ t : Fin grid0.N, _)

theorem coords_one : ∀ t : Fin cfg0.N, (grid0.coords t 1).val = t.val % 32 := (by decide +kernel : ∀ t : Fin grid0.N, _)

theorem off1 : ∀ t : Fin cfg0.N, k0_off1 (grid0.coords t) = ![256 * (t.val % 32), 0] :=
  (by decide +kernel : ∀ t : Fin grid0.N, _)

/-- The tile of a grid point. -/
def ti (t : Fin cfg0.N) : Fin 32 := ⟨t.val % 32, by omega⟩

/-- The pair of heads of a grid point. -/
def tp (t : Fin cfg0.N) : Fin 4 := ⟨t.val / 32, by have h : t.val < 128 := lt_of_lt_of_eq t.isLt N_0; omega⟩

/-- The arguments, by row and column. -/
abbrev aq (c : Dev nD) (r : Fin 8192) (l : Fin 512) : EReal := (m ((c.tc : Thread nD τ).loc main_arg0) : FVec Ideal S8192x512 .f32) (ix2 r l)
abbrev ak (c : Dev nD) (r : Fin 8704) (l : Fin 512) : EReal := (m ((c.tc : Thread nD τ).loc main_arg1) : FVec Ideal S8704x512 .f32) (ix2 r l)
abbrev av (c : Dev nD) (r : Fin 8704) (l : Fin 512) : EReal := (m ((c.tc : Thread nD τ).loc main_arg2) : FVec Ideal S8704x512 .f32) (ix2 r l)
abbrev ag (c : Dev nD) (r : Fin 8192) (l : Fin 512) : EReal := (m ((c.tc : Thread nD τ).loc main_arg3) : FVec Ideal S8192x512 .f32) (ix2 r l)
abbrev ab (c : Dev nD) (h : Fin 8) (a : Fin 64) (b : Fin 576) : EReal := (m ((c.tc : Thread nD τ).loc main_arg4) : FVec Ideal S8x64x576 .f32) (ix3 h a b)

/-- The casts of the queries, keys, values and cotangents. -/
theorem V5_apply (c : Dev nD) (j : S8192x512.Idx) : (V m c main_v5 : FVec Ideal S8192x512 .bf16) j = (m ((c.tc : Thread nD τ).loc main_arg0) : FVec Ideal S8192x512 .f32) j := rfl
theorem V6_apply (c : Dev nD) (j : S8704x512.Idx) : (V m c main_v6 : FVec Ideal S8704x512 .bf16) j = (m ((c.tc : Thread nD τ).loc main_arg1) : FVec Ideal S8704x512 .f32) j := rfl
theorem V7_apply (c : Dev nD) (j : S8704x512.Idx) : (V m c main_v7 : FVec Ideal S8704x512 .bf16) j = (m ((c.tc : Thread nD τ).loc main_arg2) : FVec Ideal S8704x512 .f32) j := rfl
theorem V8_apply (c : Dev nD) (j : S8192x512.Idx) : (V m c main_v8 : FVec Ideal S8192x512 .bf16) j = (m ((c.tc : Thread nD τ).loc main_arg3) : FVec Ideal S8192x512 .f32) j := rfl

/-- Four pads with `⊥` at four offsets, stacked, are the widened bias. -/
theorem wideB_pads (x : S8x64x576.Idx → EReal) (z : S_.Idx → EReal) (hz : ∀ y, z y = ⊥) (h : Fin 8) (a : Fin 256) (w : Fin 768) :
    concatenate S8x256x768 1
        [⟨S8x64x768, pad S8x64x768 ![0, 0, 0] ![0, 0, 192] ![0, 0, 0] x z pads_S8x64x576_S8x64x768_000_000_01920 h_S_⟩,
         ⟨S8x64x768, pad S8x64x768 ![0, 0, 64] ![0, 0, 128] ![0, 0, 0] x z pads_S8x64x576_S8x64x768_000_000_641280 h_S_⟩,
         ⟨S8x64x768, pad S8x64x768 ![0, 0, 128] ![0, 0, 64] ![0, 0, 0] x z pads_S8x64x576_S8x64x768_000_000_128640 h_S_⟩,
         ⟨S8x64x768, pad S8x64x768 ![0, 0, 192] ![0, 0, 0] ![0, 0, 0] x z pads_S8x64x576_S8x64x768_000_000_19200 h_S_⟩]
        concatenates_S8x64x768_S8x64x768_S8x64x768_S8x64x768_S8x256x768_d1 (ix3 h a w) = wideB (fun h a b => x (ix3 h a b)) h a w := by
  pointwise
  simp only [hz]
  have ha := a.isLt
  have key : ∀ (y : EReal) (_ : ∀ (hb : 64 * (a.val / 64) ≤ w.val ∧ w.val < 64 * (a.val / 64) + 576) (u : Fin 64) (b : Fin 576),
        u.val = a.val % 64 → b.val = w.val - 64 * (a.val / 64) → x (ix3 h u b) = y)
      (_ : ¬(64 * (a.val / 64) ≤ w.val ∧ w.val < 64 * (a.val / 64) + 576) → y = ⊥), wideB (fun h a b => x (ix3 h a b)) h a w = y := by
    intro y h1 h2
    by_cases hb : 64 * (a.val / 64) ≤ w.val ∧ w.val < 64 * (a.val / 64) + 576
    · exact (wideB_pos _ h a w hb).trans (h1 hb _ _ rfl rfl)
    · exact (wideB_neg _ h a w hb).trans (h2 hb).symm
  refine (key _ (fun hb u b hu hv => ?_) fun hb => ?_).symm
  · have hx : ∀ (u' : Fin 64) (b' : Fin 576), u'.val = u.val → b'.val = b.val → x (ix3 h u b) = x (ix3 h u' b') := by
      intro u' b' e1 e2
      rw [Fin.ext e1, Fin.ext e2]
    by_cases c0 : a.val < 64
    · refine Eq.trans ?_ (dif_pos c0).symm
      refine Eq.trans ?_ (dif_pos (by omega)).symm
      exact hx _ _ (by simp only; omega) (by simp only; omega)
    refine Eq.trans ?_ (dif_neg c0).symm
    by_cases c1 : a.val - 64 < 64
    · refine Eq.trans ?_ (dif_pos c1).symm
      refine Eq.trans ?_ (dif_pos (by omega)).symm
      exact hx _ _ (by simp only; omega) (by simp only; omega)
    refine Eq.trans ?_ (dif_neg c1).symm
    by_cases c2 : a.val - 64 - 64 < 64
    · refine Eq.trans ?_ (dif_pos c2).symm
      refine Eq.trans ?_ (dif_pos (by omega)).symm
      exact hx _ _ (by simp only; omega) (by simp only; omega)
    refine Eq.trans ?_ (dif_neg c2).symm
    refine Eq.trans ?_ (dif_pos (by omega)).symm
    exact hx _ _ (by simp only; omega) (by simp only; omega)
  · by_cases c0 : a.val < 64
    · exact (dif_pos c0).trans (dif_neg (by omega))
    refine (dif_neg c0).trans ?_
    by_cases c1 : a.val - 64 < 64
    · exact (dif_pos c1).trans (dif_neg (by omega))
    refine (dif_neg c1).trans ?_
    by_cases c2 : a.val - 64 - 64 < 64
    · exact (dif_pos c2).trans (dif_neg (by omega))
    exact (dif_neg c2).trans (dif_neg (by omega))

/-- The bias, padded at four offsets and stacked, is the widened bias. -/
theorem V4_apply (c : Dev nD) (h : Fin 8) (a : Fin 256) (w : Fin 768) :
    (V m c main_v4 : FVec Ideal S8x256x768 .f32) (ix3 h a w) = wideB (ab m c) h a w := by
  entry_read
  simp only [List.flatten_cons, List.flatten_nil, List.append_nil]
  after_reads_simp
  simp only [Matrix.cons_val_zero, Matrix.cons_val_one, Matrix.cons_val]
  after_reads_simp
  simp -implicitDefEqProofs only [StableHlo.TRef.toBuf, StableHlo.TRef.ofBuf, cast_cast, cast_eq]
  exact wideB_pads _ _ (fun _ => bits_neg_inf) h a w

/-- The block of the queries at a point. -/
theorem blkQ (c : Dev nD) (t : Fin cfg0.N) (a : Fin 256) (l : Fin 128) :
    (iblk m c 0 t : FVec Ideal S256x128 .bf16) (ix2 a l) = Qt (aq m c) (ti t) (tp t) a l := by
  blk_simp [iblk]
  refine (V5_apply m c _).trans ?_
  unfold Qt ti tp
  blk_ext [idx t]

/-- The block of the cotangent. -/
theorem blkG (c : Dev nD) (t : Fin cfg0.N) (a : Fin 256) (l : Fin 128) :
    (iblk m c 3 t : FVec Ideal S256x128 .bf16) (ix2 a l) = Qt (ag m c) (ti t) (tp t) a l := by
  blk_simp [iblk]
  refine (V8_apply m c _).trans ?_
  unfold Qt ti tp
  blk_ext [idx t]

/-- The rows that the body loads of the keys' block. -/
theorem blkK (c : Dev nD) (t : Fin cfg0.N) (R : Fin 8704) (l : Fin 128) :
    (iblk m c 1 t : FVec Ideal S8704x128 .bf16) (ix2 R l) = ak m c R ⟨128 * (tp t).val + l.val, by omega⟩ := by
  blk_simp [iblk]
  refine (V6_apply m c _).trans ?_
  unfold tp
  blk_ext [idx t]

theorem blkV (c : Dev nD) (t : Fin cfg0.N) (R : Fin 8704) (l : Fin 128) :
    (iblk m c 2 t : FVec Ideal S8704x128 .bf16) (ix2 R l) = av m c R ⟨128 * (tp t).val + l.val, by omega⟩ := by
  blk_simp [iblk]
  refine (V7_apply m c _).trans ?_
  unfold tp
  blk_ext [idx t]

/-- The block of the widened bias. -/
theorem blkW (c : Dev nD) (t : Fin cfg0.N) (r : Fin 2) (a : Fin 256) (w : Fin 768) :
    (iblk m c 4 t : FVec Ideal S2x256x768 .f32) (ix3 r a w) = Wt (ab m c) (tp t) r a w := by
  unfold Wt
  rw [← V4_apply m c]
  unfold tp headOf
  blk_simp [iblk]
  blk_ext [idx t]

end Cert.KernelIdeal.Tile

end
-- ==== Proof.FwdSpec.lean ====
/- The forward of the chunked attention as plain sums over the extended reals: by chunk, and by a tile of 256 queries. -/
module

public import proofs.«01_k».proof.Proof.Tile

@[expose] public section

noncomputable section

namespace Cert.Attn

open Idealize.ShloMosaic
open scoped BigOperators

section
variable (q : Fin 8192 → Fin 512 → EReal) (k v : Fin 8704 → Fin 512 → EReal) (bias : Fin 8 → Fin 64 → Fin 576 → EReal)

/-- The output of query `a` of chunk `c`. -/
def O (c : Fin 128) (a : Fin 64) (h : Fin 8) (d : Fin 64) : EReal :=
  ∑ b, P q k bias c h a b * v (krow c b) (lane h d)

/-- The same by row and lane of the array. -/
def Oa (R : Fin 8192) (l : Fin 512) : EReal :=
  O q k v bias ⟨R.val / 64, by omega⟩ ⟨R.val % 64, by omega⟩ ⟨l.val / 64, by omega⟩ ⟨l.val % 64, by omega⟩

/-- The output at a tile's row and lane. -/
theorem Oa_tile (i : Fin 32) (p : Fin 4) (r : Fin 2) (j : Fin 4) (a : Fin 64) (d : Fin 64) (R : Fin 8192) (l : Fin 512)
    (hR : R.val = 256 * i.val + (trow j a).val) (hl : l.val = 128 * p.val + (half r d).val) :
    Oa q k v bias R l = O q k v bias (chunkOf i j) a (headOf p r) d := by
  have h1 : (trow j a).val = 64 * j.val + a.val := rfl
  have h2 : (half r d).val = 64 * r.val + d.val := rfl
  unfold Oa chunkOf headOf
  congr 1 <;> apply Fin.ext <;> simp only <;> omega

end

/-- The tile's output. -/
def tO (i : ℕ) (Q : Fin 256 → Fin 128 → EReal) (K V : Fin 768 → Fin 128 → EReal) (W : Fin 2 → Fin 256 → Fin 768 → EReal)
    (r : Fin 2) (a : Fin 256) (d : Fin 64) : EReal := ∑ w, tP i Q K W r a w * V w (half r d)

/-- The tile's output is the chunk's: the probabilities outside the chunk's window are zero. -/
theorem tO_eq {q : Fin 8192 → Fin 512 → EReal} {k : Fin 8704 → Fin 512 → EReal} {bias : Fin 8 → Fin 64 → Fin 576 → EReal}
    (v : Fin 8704 → Fin 512 → EReal) (i : Fin 32) (p : Fin 4) (r : Fin 2) (j : Fin 4) (a : Fin 64)
    (F : Finite q k bias) (d : Fin 64) :
    tO i.val (Qt q i p) (Kt k i p) (Kt v i p) (Wt bias p) r (trow j a) d = O q k v bias (chunkOf i j) a (headOf p r) d := by
  unfold tO O
  rw [FinSumWindow.sum_window (64 * j.val) (W := 576) (by omega) _ fun w hw => by
    rw [tP_out i p r j a F w hw, zero_mul]]
  refine Finset.sum_congr rfl fun b _ => ?_
  show tP i.val (Qt q i p) (Kt k i p) (Wt bias p) r (trow j a) (tkey j b) * Kt v i p (tkey j b) (half r d) = _
  rw [tP_in i p r j a F, Kt_key]

end Cert.Attn

end
-- ==== Proof.FwdPay.lean ====
/- What the forward's body computes on one tile: its payloads, read at an index, are the tile's scores, probabilities and
   output (`Cert.Attn.tscore`, `tP`, `tO`). -/
module

public import Idealize.ShloMosaic.Lib.Pointwise
public import Idealize.ShloMosaic.Lib.WordCmp
public import proofs.«01_k».proof.Proof.Gen.AttnOutIdeal.Skeleton
public import proofs.«01_k».proof.Proof.Pay
public import proofs.«01_k».proof.Proof.FwdSpec

@[expose] public section

set_option maxRecDepth 16384

noncomputable section

namespace Cert.AttnOutIdeal.Tile

open Idealize.ShloMosaic Idealize.ShloMosaic.TcCoe Idealize.SL.Sem
open Cert.AttnOutIdeal Cert.AttnOutIdeal.Gen Cert.Attn Idealize.ShloMosaic.WordCmp
open Cert.KernelIdeal.Tile (srow srow_zero srow_one sum_lanes bits_eighth bits_neg_inf)
open scoped BigOperators

/-- The mask of the first head's lanes. -/
theorem pay2_apply (l : Fin 128) : k0_pay2 (ix2 0 l) = if l.val < 64 then 1#1 else 0#1 := by
  pointwise [k0_pay2]
  by_cases h : l.val < 64
  · rw [if_pos h]; word_cmp
  · rw [if_neg h]; word_cmp

/-- The mask of the keys that are no padding. -/
theorem pay3_apply (i : grid0.Coords) (w : Fin 768) :
    k0_pay3 i (ix2 0 w) = if 512 ≤ w.val + 256 * (i 1).val then 1#1 else 0#1 := by
  have hi : (i 1).val < 32 := (i 1).isLt
  pointwise [k0_pay3]
  generalize (i 1).val = n at hi ⊢
  show IntOp.cmpi .sge (IntOp.addi (BitVec.ofNat 32 w.val) (IntOp.muli (BitVec.ofNat 32 n) (BitVec.ofNat 32 256)))
    (BitVec.ofNat 32 512) = _
  rw [muli_ofNat, addi_ofNat, cmpi_sge_ofNat (by omega) (by omega), ofBool_decide_eq_ite, mul_comm n]

/-- The body's softmax of the masked scores, along the keys. -/
def soft (v40 : IVec S1x768 1) (v39 : FVec Ideal S256x768 .f32) (cst_10 : Ideal .f32) : FVec Ideal S256x768 .bf16 :=
  have v41 : IVec S256x768 1 := broadcastTo S256x768 v40 broadcasts_S1x768_S256x768
  have v42 : FVec Ideal S256x768 .f32 := broadcast S256x768 cst_10
  have v43 : FVec Ideal S256x768 .f32 := select v41 v39 v42
  have v44 : FVec Ideal S256 .f32 := multiReduction .maximumf [1] S256 v43 0xFF800000#32 reduces_S256x768_S256 (.inl rfl) rfl
  have v45 : FVec Ideal S256x1 .f32 := shapeCast S256x1 v44 shapeCasts_S256_S256x1
  have v46 : FVec Ideal S256x768 .f32 := broadcastTo S256x768 v45 broadcasts_S256x1_S256x768
  have v47 : FVec Ideal S256x768 .f32 := subf v43 v46
  have v48 : FVec Ideal S256x768 .f32 := exp v47
  have v49 : FVec Ideal S256 .f32 := multiReduction .add [1] S256 v48 0x00000000#32 reduces_S256x768_S256 (.inl rfl) rfl
  have v50 : FVec Ideal S256x1 .f32 := shapeCast S256x1 v49 shapeCasts_S256_S256x1
  have v51 : FVec Ideal S256x768 .f32 := broadcastTo S256x768 v50 broadcasts_S256x1_S256x768
  have v52 : FVec Ideal S256x768 .f32 := divf v48 v51
  have v53 : FVec Ideal S256x768 .bf16 := truncf .bf16 v52 bitsLt_bf16_f32
  v53

/-- The second head's scaled and biased products. -/
def second (v33 : FVec Ideal S512x768 .f32) (v55 : FVec Ideal S1x256x768 .f32) : FVec Ideal S256x768 .f32 :=
  have v54 : FVec Ideal S256x768 .f32 := extractStridedSlice S256x768 ![256, 0] v33 slices_S512x768_o256_0_S256x768
  have v56 : FVec Ideal S256x768 .f32 := shapeCast S256x768 v55 shapeCasts_S1x256x768_S256x768
  have cst_15 : Ideal .f32 := Scalar.ofBits .f32 0x3E000000#32
  have v57 : FVec Ideal S256x768 .f32 := broadcast S256x768 cst_15
  have v58 : FVec Ideal S256x768 .f32 := mulf v54 v57
  have v59 : FVec Ideal S256x768 .f32 := addf v58 v56
  v59

/-- Both heads' probabilities against the values, each head's lanes from its own rows. -/
def outOf (v4 : IVec S1x128 1) (v19 : FVec Ideal S768x128 .bf16) (v53 v73 : FVec Ideal S256x768 .bf16) : FVec Ideal S256x128 .bf16 :=
  have v74 : FVec Ideal S512x768 .bf16 := concatenate S512x768 0 [⟨S256x768, v53⟩, ⟨S256x768, v73⟩] concatenates_S256x768_S256x768_S512x768_d0
  have cst_19 : FVec Ideal S512x128 .f32 := constant S512x128 .f32 0x00000000#32
  have v75 : FVec Ideal S512x128 .f32 := matmul dot_S512x768_S768x128_S512x128_1_0_0_1_n_n none v74 v19 cst_19
  have v76 : FVec Ideal S256x128 .f32 := extractStridedSlice S256x128 ![0, 0] v75 slices_S512x128_o0_0_S256x128
  have v77 : FVec Ideal S256x128 .f32 := extractStridedSlice S256x128 ![256, 0] v75 slices_S512x128_o256_0_S256x128
  have v78 : IVec S1x128 1 := shapeCast S1x128 v4 shapeCasts_S1x128_S1x128
  have v79 : IVec S256x128 1 := broadcastTo S256x128 v78 broadcasts_S1x128_S256x128
  have v80 : FVec Ideal S256x128 .f32 := select v79 v76 v77
  have v81 : FVec Ideal S256x128 .bf16 := truncf .bf16 v80 bitsLt_bf16_f32
  v81

/-- The stored block, in these three steps. -/
theorem pay1_eq (v4 : IVec S1x128 1) (v9 : IVec S1x768 1) (v19 : FVec Ideal S768x128 .bf16) (v33 : FVec Ideal S512x768 .f32)
    (v39 : FVec Ideal S256x768 .f32) (z : Ideal .f32) (v40 : IVec S1x768 1) (v55 : FVec Ideal S1x256x768 .f32) :
    k0_pay1 (F := Ideal) v4 v9 v19 v33 v39 z v40 v55
      = outOf v4 v19 (soft v40 v39 z) (soft (shapeCast S1x768 v9 shapeCasts_S1x768_S1x768) (second v33 v55)
          (Scalar.ofBits .f32 0xFF800000#32)) := rfl

/-- The block at a lane of head `r` is that head's sum over the keys. -/
theorem outOf_apply (V : FVec Ideal S768x128 .bf16) (p0 p1 : FVec Ideal S256x768 .bf16) (r : Fin 2) (a : Fin 256) (d : Fin 64) :
    outOf k0_pay2 (k0_pay4 V) p0 p1 (ix2 a (half r d))
      = ∑ w, (if r = 0 then p0 (ix2 a w) else p1 (ix2 a w)) * V (ix2 w (half r d)) := by
  pointwise [outOf, k0_pay4, pay2_apply]
  have hr : (half r d).val = 64 * r.val + d.val := rfl
  by_cases h : (half r d).val < 64
  · obtain rfl : r = 0 := Fin.ext (by show r.val = 0; omega)
    rw [if_pos h]; rfl
  · obtain rfl : r = 1 := Fin.ext (by show r.val = 1; omega)
    rw [if_neg h]; rfl

/-- The softmax at a place, of scores known row by row. -/
theorem soft_apply (M : IVec S1x768 1) (s : FVec Ideal S256x768 .f32) (a : Fin 256) (f : Fin 768 → EReal)
    (e : ∀ w, Scalar.select (M (ix2 0 w)) (s (ix2 a w)) (Ideal.ofBits .f32 0xFF800000#32) = f w) (w : Fin 768) :
    soft M s (Scalar.ofBits .f32 0xFF800000#32) (ix2 a w) = prob f w := by
  pointwise [soft]
  simp only [e]
  rw [bits_neg_inf]
  rfl

section
variable (i : grid0.Coords) (Q : FVec Ideal S256x128 .bf16) (K V : FVec Ideal S768x128 .bf16)
  (b0 b1 : FVec Ideal S1x256x768 .f32)

/-- The two heads' biases, as one block. -/
def Wb (r : Fin 2) (a : Fin 256) (w : Fin 768) : EReal := if r = 0 then b0 (ix3 0 a w) else b1 (ix3 0 a w)

/-- The queries, one copy per head, the other head's lanes zero. -/
def stk (v20 : FVec Ideal S256x128 .bf16) : FVec Ideal S512x128 .bf16 :=
  have v21 : FVec Ideal S256x128 .bf16 := shapeCast S256x128 v20 shapeCasts_S256x128_S256x128
  have v22 : FVec Ideal S256x128 .f32 := extf .f32 v21 bitsLt_bf16_f32
  have cst : Ideal .f32 := Scalar.ofBits .f32 0x00000000#32
  have v23 : IVec S1x128 1 := shapeCast S1x128 k0_pay2 shapeCasts_S1x128_S1x128
  have v24 : IVec S256x128 1 := broadcastTo S256x128 v23 broadcasts_S1x128_S256x128
  have v25 : FVec Ideal S256x128 .f32 := broadcast S256x128 cst
  have v26 : FVec Ideal S256x128 .f32 := select v24 v22 v25
  have cst_4 : Ideal .f32 := Scalar.ofBits .f32 0x00000000#32
  have v27 : IVec S1x128 1 := shapeCast S1x128 k0_pay2 shapeCasts_S1x128_S1x128
  have v28 : IVec S256x128 1 := broadcastTo S256x128 v27 broadcasts_S1x128_S256x128
  have v29 : FVec Ideal S256x128 .f32 := broadcast S256x128 cst_4
  have v30 : FVec Ideal S256x128 .f32 := select v28 v29 v22
  have v31 : FVec Ideal S512x128 .f32 := concatenate S512x128 0 [⟨S256x128, v26⟩, ⟨S256x128, v30⟩] concatenates_S256x128_S256x128_S512x128_d0
  have v32 : FVec Ideal S512x128 .bf16 := truncf .bf16 v31 bitsLt_bf16_f32
  v32

theorem stk_apply (r : Fin 2) (a : Fin 256) (l : Fin 128) :
    stk Q (ix2 (srow r a) l) = if l.val / 64 = r.val then Q (ix2 a l) else 0 := by
  have hl := l.isLt
  fin_cases r <;> pointwise [stk, pay2_apply, srow] <;> by_cases h : l.val < 64
  · rw [if_pos h, if_pos (by omega)]; rfl
  · rw [if_neg h, if_neg (by omega)]; rfl
  · rw [if_pos h, if_neg (by omega)]; rfl
  · rw [if_neg h, if_pos (by omega)]; rfl

/-- Their products with the keys. -/
theorem pay5_eq : k0_pay5 (F := Ideal) K Q
    = matmul dot_S512x128_S768x128_S512x768_1_1_0_0_n_n none (stk Q) (shapeCast S768x128 K shapeCasts_S768x128_S768x128)
        (constant S512x768 .f32 0x00000000#32) := rfl

/-- The two heads' rows of products of queries and keys. -/
theorem QK_apply (r : Fin 2) (a : Fin 256) (w : Fin 768) :
    (k0_pay5 K Q : FVec Ideal S512x768 .f32) (ix2 (srow r a) w) = ∑ d, Q (ix2 a (half r d)) * K (ix2 w (half r d)) := by
  rw [pay5_eq]
  pointwise
  simp only [stk_apply]
  exact sum_lanes r (fun l => Q (ix2 a l)) (fun l => K (ix2 w l))

/-- The scores. -/
theorem score_apply (r : Fin 2) (a : Fin 256) (w : Fin 768) (b : EReal) (hb : b = Wb b0 b1 r a w) :
    Scalar.select (k0_pay3 i (ix2 0 w)) ((k0_pay5 K Q : FVec Ideal S512x768 .f32) (ix2 (srow r a) w) * Ideal.ofBits .f32 0x3E000000#32 + b)
      (Ideal.ofBits .f32 0xFF800000#32) = tscore (i 1).val (fun a l => Q (ix2 a l)) (fun w l => K (ix2 w l)) (Wb b0 b1) r a w := by
  rw [pay3_apply, QK_apply, bits_eighth, bits_neg_inf, hb, tscore]
  by_cases h : 512 ≤ w.val + 256 * (i 1).val
  · rw [if_pos h, if_pos h]; rfl
  · rw [if_neg h, if_neg h]; rfl

/-- The block the body stores: the tile's output. -/
theorem o_apply (r : Fin 2) (a : Fin 256) (d : Fin 64) :
    k0_pay1 (F := Ideal) k0_pay2 (k0_pay3 i) (k0_pay4 V) (k0_pay5 K Q) (k0_pay6 K Q b0) (Scalar.ofBits .f32 0xFF800000#32)
        (k0_pay7 i) b1 (ix2 a (half r d))
      = tO (i 1).val (fun a l => Q (ix2 a l)) (fun w l => K (ix2 w l)) (fun w l => V (ix2 w l)) (Wb b0 b1) r a d := by
  rw [pay1_eq, outOf_apply, tO]
  refine Finset.sum_congr rfl fun w _ => congrArg (· * _) ?_
  rw [tP]
  fin_cases r
  · refine (if_pos rfl).trans (soft_apply _ _ a _ (fun x => ?_) w)
    refine Eq.trans ?_ (score_apply i Q K b0 b1 0 a x (b0 (ix3 0 a x)) rfl)
    pointwise [k0_pay6, k0_pay7]
    simp only [srow_zero]
  · refine (if_neg (by decide)).trans (soft_apply _ _ a _ (fun x => ?_) w)
    refine Eq.trans ?_ (score_apply i Q K b0 b1 1 a x (b1 (ix3 0 a x)) rfl)
    pointwise [second]
    simp only [srow_one]

end

end Cert.AttnOutIdeal.Tile

end
-- ==== Proof.FwdBlk.lean ====
/- What the blocks of the attention's forward hold at a point of the grid. -/
module

public import Idealize.ShloMosaic.Lib.Pipeline.ValueKit
public import Idealize.ShloMosaic.Lib.Claim
public import Idealize.ShloMosaic.Lib.StableHlo.ReadAt
public import proofs.«01_k».proof.Proof.Gen.AttnOutIdeal.Frame
public import proofs.«01_k».proof.Proof.Blk
public import proofs.«01_k».proof.Proof.FwdPay

@[expose] public section

set_option maxRecDepth 16384

noncomputable section

namespace Cert.AttnOutIdeal.Tile

open Idealize.ShloMosaic Idealize.ShloMosaic.TcCoe Idealize.SL.Sem
open Cert.AttnOutIdeal Cert.AttnOutIdeal.Gen Cert.Attn Idealize.ShloMosaic.WordCmp
open scoped BigOperators

variable (m : (ℓ : Loc nD τ sig) → Buf (Elt Ideal) ℓ)

theorem idx : ∀ t : Fin cfg0.N,
    win0_0.index t = ![t.val % 32, t.val / 32] ∧ win0_1.index t = ![0, t.val / 32] ∧ win0_2.index t = ![0, t.val / 32]
      ∧ win0_3.index t = ![t.val / 32, 0, 0] ∧ win0_4.index t = ![t.val % 32, t.val / 32] :=
  (by decide +kernel : ∀ t : Fin grid0.N, _)

theorem coords_one : ∀ t : Fin cfg0.N, (grid0.coords t 1).val = t.val % 32 := (by decide +kernel : ∀ t : Fin grid0.N, _)

theorem off1 : ∀ t : Fin cfg0.N, k0_off1 (grid0.coords t) = ![256 * (t.val % 32), 0] :=
  (by decide +kernel : ∀ t : Fin grid0.N, _)

/-- The tile of a grid point. -/
def ti (t : Fin cfg0.N) : Fin 32 := ⟨t.val % 32, by omega⟩

/-- The pair of heads of a grid point. -/
def tp (t : Fin cfg0.N) : Fin 4 := ⟨t.val / 32, by have h : t.val < 128 := lt_of_lt_of_eq t.isLt N_0; omega⟩

/-- The arguments. -/
abbrev a0 (c : Dev nD) : S8192x512.Idx → EReal := (m ((c.tc : Thread nD τ).loc main_arg0) : FVec Ideal S8192x512 .f32)
abbrev a1 (c : Dev nD) : S8704x512.Idx → EReal := (m ((c.tc : Thread nD τ).loc main_arg1) : FVec Ideal S8704x512 .f32)
abbrev a2 (c : Dev nD) : S8704x512.Idx → EReal := (m ((c.tc : Thread nD τ).loc main_arg2) : FVec Ideal S8704x512 .f32)
abbrev a3 (c : Dev nD) : S8x64x576.Idx → EReal := (m ((c.tc : Thread nD τ).loc main_arg3) : FVec Ideal S8x64x576 .f32)

/-- The arguments, by row and column. -/
abbrev aq (c : Dev nD) (r : Fin 8192) (l : Fin 512) : EReal := a0 m c (ix2 r l)
abbrev ak (c : Dev nD) (r : Fin 8704) (l : Fin 512) : EReal := a1 m c (ix2 r l)
abbrev av (c : Dev nD) (r : Fin 8704) (l : Fin 512) : EReal := a2 m c (ix2 r l)
abbrev ab (c : Dev nD) (h : Fin 8) (a : Fin 64) (b : Fin 576) : EReal := a3 m c (ix3 h a b)

/-- The casts of the queries, keys and values. -/
theorem Vq_apply (c : Dev nD) (j : S8192x512.Idx) : (V m c main_v0 : FVec Ideal S8192x512 .bf16) j = a0 m c j := rfl
theorem Vk_apply (c : Dev nD) (j : S8704x512.Idx) : (V m c main_v1 : FVec Ideal S8704x512 .bf16) j = a1 m c j := rfl
theorem Vv_apply (c : Dev nD) (j : S8704x512.Idx) : (V m c main_v2 : FVec Ideal S8704x512 .bf16) j = a2 m c j := rfl

/-- The bias, padded at four offsets and stacked, is the widened bias. -/
theorem Vb_apply (c : Dev nD) (h : Fin 8) (a : Fin 256) (w : Fin 768) :
    (V m c main_v7 : FVec Ideal S8x256x768 .f32) (ix3 h a w) = wideB (ab m c) h a w := by
  entry_read
  simp only [List.flatten_cons, List.flatten_nil, List.append_nil]
  after_reads_simp
  simp only [Matrix.cons_val_zero, Matrix.cons_val_one, Matrix.cons_val]
  after_reads_simp
  simp -implicitDefEqProofs only [StableHlo.TRef.toBuf, StableHlo.TRef.ofBuf, cast_cast, cast_eq]
  exact Cert.KernelIdeal.Tile.wideB_pads _ _ (fun _ => Cert.KernelIdeal.Tile.bits_neg_inf) h a w

/-- The block of the queries at a point. -/
theorem blkQ (c : Dev nD) (t : Fin cfg0.N) (a : Fin 256) (l : Fin 128) :
    (iblk m c 0 t : FVec Ideal S256x128 .bf16) (ix2 a l) = Qt (aq m c) (ti t) (tp t) a l := by
  blk_simp [iblk]
  refine (Vq_apply m c _).trans ?_
  unfold Qt ti tp
  blk_ext [idx t]

/-- The block of the keys. -/
theorem blkK (c : Dev nD) (t : Fin cfg0.N) (R : Fin 8704) (l : Fin 128) :
    (iblk m c 1 t : FVec Ideal S8704x128 .bf16) (ix2 R l) = ak m c R ⟨128 * (tp t).val + l.val, by omega⟩ := by
  blk_simp [iblk]
  refine (Vk_apply m c _).trans ?_
  unfold tp
  blk_ext [idx t]

/-- The block of the values. -/
theorem blkV (c : Dev nD) (t : Fin cfg0.N) (R : Fin 8704) (l : Fin 128) :
    (iblk m c 2 t : FVec Ideal S8704x128 .bf16) (ix2 R l) = av m c R ⟨128 * (tp t).val + l.val, by omega⟩ := by
  blk_simp [iblk]
  refine (Vv_apply m c _).trans ?_
  unfold tp
  blk_ext [idx t]

/-- The block of the widened bias. -/
theorem blkW (c : Dev nD) (t : Fin cfg0.N) (r : Fin 2) (a : Fin 256) (w : Fin 768) :
    (iblk m c 3 t : FVec Ideal S2x256x768 .f32) (ix3 r a w) = Wt (ab m c) (tp t) r a w := by
  unfold Wt
  rw [← Vb_apply m c]
  unfold tp headOf
  blk_simp [iblk]
  blk_ext [idx t]

/-- Rows `256 i` to `256 i + 768` of an array of 8704 rows, as the body loads them. -/
theorem ld_rows {α : EltTy → Type} {e : EltTy} (X : S8704x128.Idx → α e) (t : Fin cfg0.N) (inb) (w : Fin 768) (l : Fin 128) :
    View.ld (S := S8704x128) X (Rect.unit (k0_off1 (grid0.coords t)) ![768, 128] inb) (ix2 w l)
      = X (ix2 ⟨256 * (ti t).val + w.val, by omega⟩ l) := by
  have h := off1 t
  generalize k0_off1 (grid0.coords t) = o at h inb ⊢
  subst h
  pointwise
  rfl

theorem tileQ (c : Dev nD) (t : Fin cfg0.N) :
    (fun a l => (iblk m c 0 t : FVec Ideal S256x128 .bf16) (ix2 a l)) = Qt (aq m c) (ti t) (tp t) :=
  funext₂ fun a l => blkQ m c t a l

theorem tileK (c : Dev nD) (t : Fin cfg0.N) (inb) :
    (fun w l => View.ld (S := S8704x128) (iblk m c 1 t : FVec Ideal S8704x128 .bf16)
        (Rect.unit (k0_off1 (grid0.coords t)) ![768, 128] inb) (ix2 w l)) = Kt (ak m c) (ti t) (tp t) :=
  funext₂ fun w l => (ld_rows _ t inb w l).trans (blkK m c t _ l)

theorem tileV (c : Dev nD) (t : Fin cfg0.N) (inb) :
    (fun w l => View.ld (S := S8704x128) (iblk m c 2 t : FVec Ideal S8704x128 .bf16)
        (Rect.unit (k0_off1 (grid0.coords t)) ![768, 128] inb) (ix2 w l)) = Kt (av m c) (ti t) (tp t) :=
  funext₂ fun w l => (ld_rows _ t inb w l).trans (blkV m c t _ l)

theorem tileW (c : Dev nD) (t : Fin cfg0.N) (inb0) (inb1) :
    Wb (View.ld (S := S2x256x768) (iblk m c 3 t : FVec Ideal S2x256x768 .f32) (Rect.unit ![0, 0, 0] ![1, 256, 768] inb0))
       (View.ld (S := S2x256x768) (iblk m c 3 t : FVec Ideal S2x256x768 .f32) (Rect.unit ![1, 0, 0] ![1, 256, 768] inb1))
      = Wt (ab m c) (tp t) := by
  funext r a w
  rw [← blkW]
  unfold Wb
  fin_cases r
  · show View.ld (Val := Elt Ideal) (S := S2x256x768) (e' := .f32) (iblk m c 3 t) (Rect.unit ![0, 0, 0] ![1, 256, 768] inb0) (ix3 (0 : Fin 1) a w) = (iblk m c 3 t : FVec Ideal S2x256x768 .f32) (ix3 0 a w)
    pointwise
  · show View.ld (Val := Elt Ideal) (S := S2x256x768) (e' := .f32) (iblk m c 3 t) (Rect.unit ![1, 0, 0] ![1, 256, 768] inb1) (ix3 (0 : Fin 1) a w) = (iblk m c 3 t : FVec Ideal S2x256x768 .f32) (ix3 1 a w)
    pointwise

end Cert.AttnOutIdeal.Tile

end
-- ==== Proof.FwdVal.lean ====
/- What the forward's program leaves in its result: the output of the band attention. -/
module

public import Idealize.ShloMosaic.Lib.WritesUnit
public import Idealize.ShloMosaic.Lib.Pipeline.ReadBack
public import proofs.«01_k».proof.Proof.FwdBlk

@[expose] public section

set_option maxRecDepth 16384

noncomputable section

namespace Cert.AttnOutIdeal.Tile

open Idealize.ShloMosaic Idealize.ShloMosaic.TcCoe Idealize.SL.Sem
open Cert.AttnOutIdeal Cert.AttnOutIdeal.Gen Cert.Attn Idealize.ShloMosaic.WordCmp
open scoped BigOperators

variable (m : (ℓ : Loc nD τ sig) → Buf (Elt Ideal) ℓ) (ρ : Dev nD → PrngReg)

/-- The block of the output at a point. -/
theorem out4 (c : Dev nD) (t : Fin cfg0.N) (r : Fin 2) (a : Fin 256) (d : Fin 64) :
    (outsAt0 m c t) (ix2 a (half r d))
      = tO (ti t).val (Qt (aq m c) (ti t) (tp t)) (Kt (ak m c) (ti t) (tp t)) (Kt (av m c) (ti t) (tp t)) (Wt (ab m c) (tp t)) r a d := by
  unfold outsAt0
  frame_out
  rw [o_apply, tileQ, tileK, tileV, tileW, coords_one]
  rfl

/-- The array of the output. -/
theorem arr4 (c : Dev nD) (F : Finite (aq m c) (ak m c) (ab m c)) :
    (dats m 0 c).arrAt 4 cfg0.N = fun j : S8192x512.Idx => Oa (aq m c) (ak m c) (av m c) (ab m c) (j 0) (j 1) := by
  refine (dats m 0 c).arrAt_eq_of_covers 4 _ (by decide +kernel) fun t hf y => ?_
  blk_simp
  rw [after0_4]
  obtain ⟨x, l, rfl⟩ : ∃ (x : Fin 256) (l : Fin 128), y = ix2 x l := ⟨y 0, y 1, (ix2_eta y).symm⟩
  obtain ⟨j, a, rfl⟩ := exists_trow x
  obtain ⟨r, d, rfl⟩ := exists_half l
  have e0 : ((win0_4.blk t).view.emb (ix2 (trow j a) (half r d)) 0).val = 256 * (ti t).val + (trow j a).val := by
    blk_simp [idx t]
    exact congrArg (· + _) (Nat.mul_comm _ _)
  have e1 : ((win0_4.blk t).view.emb (ix2 (trow j a) (half r d)) 1).val = 128 * (tp t).val + (half r d).val := by
    blk_simp [idx t]
    exact congrArg (· + _) (Nat.mul_comm _ _)
  refine Eq.trans ?_ (Oa_tile _ _ _ _ (ti t) (tp t) r j a d _ _ e0 e1).symm
  exact (out4 m c t r (trow j a) d).trans (tO_eq _ (ti t) (tp t) r j a F d)

/-- The run of the forward's program: the output, and the arguments as they were. -/
theorem run_value (F : ∀ c, Finite (aq m c) (ak m c) (ab m c)) :
    θ_run defs (onTc (τ := τ) (main (F := Ideal))) ⟨m, fun _ => 0, ρ⟩ fun r => ∀ c : Dev nD,
      r.2.mem ((c : Thread nD τ).loc main_v8) = (fun j : S8192x512.Idx => Oa (aq m c) (ak m c) (av m c) (ab m c) (j 0) (j 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (arr4 m c (F c)), h.2 c⟩)
    (θ_run_and (run_main m ρ) (unchanged m ρ))

end Cert.AttnOutIdeal.Tile

end
-- ==== Proof.FwdRef.lean ====
/- What the forward's reference holds: scores, probabilities, and the output. -/
module

public import Idealize.ShloMosaic.Lib.Pipeline.ValueKit
public import Idealize.ShloMosaic.Lib.KernelVsHost
public import Idealize.ShloMosaic.Lib.WordCmp
public import proofs.«01_k».proof.Proof.Gen.AttnOutRefIdeal.Read
public import proofs.«01_k».proof.Proof.FwdSpec

@[expose] public section

set_option maxRecDepth 16384

noncomputable section

namespace Cert.AttnOutRefIdeal.Read

open Idealize.ShloMosaic Idealize.ShloMosaic.TcCoe
open Cert.AttnOutRefIdeal Cert.AttnOutRefIdeal.Gen Cert.Attn Idealize.ShloMosaic.WordCmp
open scoped BigOperators

variable (x0 : (⟨S8192x512, .f32⟩ : BufTy).Contents (Elt Ideal)) (x1 x2 : (⟨S8704x512, .f32⟩ : BufTy).Contents (Elt Ideal))
  (x3 : (⟨S8x64x576, .f32⟩ : BufTy).Contents (Elt Ideal))

/-- The arguments by coordinates. -/
abbrev rows (x : (⟨S8192x512, .f32⟩ : BufTy).Contents (Elt Ideal)) (r : Fin 8192) (l : Fin 512) : EReal := x (ix2 r l)
abbrev keys (x : (⟨S8704x512, .f32⟩ : BufTy).Contents (Elt Ideal)) (r : Fin 8704) (l : Fin 512) : EReal := x (ix2 r l)
abbrev slab (x : (⟨S8x64x576, .f32⟩ : BufTy).Contents (Elt Ideal)) (h : Fin 8) (a : Fin 64) (b : Fin 576) : EReal := x (ix3 h a b)

/-- The queries by chunk, row, head and lane. -/
theorem v0_at (c : Fin 128) (a : Fin 64) (h : Fin 8) (d : Fin 64) :
    val_main_v0 (F := Ideal) x0 (ix4 c a h d) = rows x0 (qrow c a) (lane h d) := by
  rw [val_main_v0_apply]
  refine congrArg x0 (funext fun n => Fin.ext ?_)
  fin_cases n
  · show (((c.val * 64 + a.val) * 8 + h.val) * 64 + d.val) / 512 = 64 * c.val + a.val; omega
  · show (((c.val * 64 + a.val) * 8 + h.val) * 64 + d.val) % 512 = 64 * h.val + d.val; omega

theorem v1_at (c : Fin 136) (a : Fin 64) (h : Fin 8) (d : Fin 64) (r : Fin 8704) (l : Fin 512)
    (hr : r.val = 64 * c.val + a.val) (hl : l.val = 64 * h.val + d.val) :
    val_main_v1 (F := Ideal) x1 (ix4 c a h d) = keys x1 r l := by
  rw [val_main_v1_apply]
  refine congrArg x1 (funext fun n => Fin.ext ?_)
  fin_cases n
  · show (((c.val * 64 + a.val) * 8 + h.val) * 64 + d.val) / 512 = r.val; omega
  · show (((c.val * 64 + a.val) * 8 + h.val) * 64 + d.val) % 512 = l.val; omega

/-- Piece `n` of the keys' windows: the chunks moved by `n`. -/
def piece (n : Fin 9) : S128x64x8x64.Idx → EReal :=
  fun j => keys x1 ⟨64 * ((j 0).val + n.val) + (j 1).val, by
    have h0 : (j 0).val < 128 := (j 0).isLt
    have h1 : (j 1).val < 64 := (j 1).isLt
    omega⟩ (lane (j 2) (j 3))

theorem slice_piece (o : Fin 4 → ℕ) (hs : S136x64x8x64.Slices o S128x64x8x64) (n : Fin 9) (h0 : o 0 = n.val) (h1 : o 1 = 0)
    (h2 : o 2 = 0) (h3 : o 3 = 0) :
    extractStridedSlice S128x64x8x64 o (val_main_v1 (F := Ideal) x1) hs = piece x1 n := by
  funext j
  obtain ⟨c, a, h, d, rfl⟩ : ∃ (c : Fin 128) (a : Fin 64) (h : Fin 8) (d : Fin 64), j = ix4 c a h d := ⟨j 0, j 1, j 2, j 3, eq_ix4 j⟩
  rw [extractStridedSlice_apply o _ hs (ix4 c a h d) (ix4 (⟨c.val + n.val, by omega⟩ : Fin 136) a h d) (fun b => by
    fin_cases b
    · show c.val + n.val = o 0 + c.val; omega
    · show a.val = o 1 + a.val; omega
    · show h.val = o 2 + h.val; omega
    · show d.val = o 3 + d.val; omega)]
  exact v1_at x1 _ a h d _ _ rfl rfl

/-- The windows of the keys. -/
theorem v11_at (c : Fin 128) (b : Fin 576) (h : Fin 8) (d : Fin 64) :
    val_main_v11 (F := Ideal) x1 (ix4 c b h d) = keys x1 (krow c b) (lane h d) := by
  unfold val_main_v11 val_main_v2 val_main_v3 val_main_v4 val_main_v5 val_main_v6 val_main_v7 val_main_v8 val_main_v9 val_main_v10
  rw [slice_piece x1 _ _ 0 rfl rfl rfl rfl, slice_piece x1 _ _ 1 rfl rfl rfl rfl, slice_piece x1 _ _ 2 rfl rfl rfl rfl,
    slice_piece x1 _ _ 3 rfl rfl rfl rfl, slice_piece x1 _ _ 4 rfl rfl rfl rfl, slice_piece x1 _ _ 5 rfl rfl rfl rfl,
    slice_piece x1 _ _ 6 rfl rfl rfl rfl, slice_piece x1 _ _ 7 rfl rfl rfl rfl, slice_piece x1 _ _ 8 rfl rfl rfl rfl]
  refine (concatenate_ofFn_apply (t := S128x576x8x64) (s₁ := S128x64x8x64) 1 (piece x1) _ rfl 64 rfl (ix4 c b h d)
    ⟨b.val / 64, by omega⟩ rfl (ix4 c (⟨b.val % 64, by omega⟩ : Fin 64) h d) rfl (fun n hn => ?_)).trans ?_
  · fin_cases n
    · rfl
    · exact absurd rfl hn
    · rfl
    · rfl
  · refine congrArg (fun r => keys x1 r (lane h d)) (Fin.ext ?_)
    show 64 * (c.val + b.val / 64) + b.val % 64 = 64 * c.val + b.val
    omega

/-- The windows of the values. -/
theorem v22_at (c : Fin 128) (b : Fin 576) (h : Fin 8) (d : Fin 64) :
    val_main_v22 (F := Ideal) x2 (ix4 c b h d) = keys x2 (krow c b) (lane h d) := v11_at x2 c b h d

/-- A key of a window is valid past the padding. -/
theorem valid_at (c : Fin 128) (h : Fin 8) (a : Fin 64) (b : Fin 576) :
    val_main_call0_v1 (F := Ideal) (ix4 c h a b) = BitVec.ofBool (decide (512 ≤ 64 * c.val + b.val)) := by
  show IntOp.cmpi .sge (IntOp.addi (IntOp.muli (BitVec.ofNat 32 c.val) 64#32) (IntOp.subi (BitVec.ofNat 32 b.val) 512#32)) 0#32 = _
  rw [cmpi_sge_zero]
  have hc := c.isLt
  have hb := b.isLt
  have e : (IntOp.addi (IntOp.muli (BitVec.ofNat 32 c.val) 64#32) (IntOp.subi (BitVec.ofNat 32 b.val) 512#32)).toNat
      = (c.val * 64 + (b.val + 2 ^ 32 - 512) % 2 ^ 32) % 2 ^ 32 := by
    simp [IntOp.addi, IntOp.muli, IntOp.subi, BitVec.toNat_add, BitVec.toNat_sub, BitVec.toNat_mul]
    omega
  rw [e]
  refine congrArg BitVec.ofBool (decide_eq_decide.mpr ?_)
  omega

theorem bits_eighth : (FloatOps.ofBits FTy.f32 0x3E000000#32 : Ideal .f32) = (sc : EReal) := by
  show Ideal.ofBits .f32 0x3E000000#32 = sc
  simp [Ideal.ofBits, Ideal.ieee, -EReal.coe_mul]; norm_num

theorem bits_neg_inf : (FloatOps.ofBits FTy.f32 0xFF800000#32 : Ideal .f32) = (⊥ : EReal) := by
  show Ideal.ofBits .f32 0xFF800000#32 = ⊥
  simp [Ideal.ofBits, Ideal.ieee]

theorem bits_zero : (FloatOps.ofBits FTy.f32 0x00000000#32 : Ideal .f32) = (0 : EReal) := by
  show Ideal.ofBits .f32 0x00000000#32 = 0
  simp [Ideal.ofBits, Ideal.ieee]

theorem bits_one : (FloatOps.ofBits FTy.f32 0x3F800000#32 : Ideal .f32) = (1 : EReal) := by
  show Ideal.ofBits .f32 0x3F800000#32 = 1
  simp [Ideal.ofBits, Ideal.ieee, -EReal.coe_mul]; norm_num

/-- The product of the queries and the keys. -/
theorem v29_at (c : Fin 128) (h : Fin 8) (a : Fin 64) (b : Fin 576) :
    val_main_v29 (F := Ideal) x0 x1 (ix4 c h a b) = ∑ d, rows x0 (qrow c a) (lane h d) * keys x1 (krow c b) (lane h d) := by
  rw [val_main_v29_apply]
  refine Finset.sum_congr rfl fun d _ => ?_
  have e0 : lidx_main_v29 (ix4 c h a b) d = ix4 c a h d := eq_ix4 _
  have e1 : ridx_main_v29 (ix4 c h a b) d = ix4 c b h d := eq_ix4 _
  rw [e0, e1, v0_at, v11_at]

/-- The scores. -/
theorem score_at (c : Fin 128) (h : Fin 8) (a : Fin 64) (b : Fin 576) :
    val_main_v43 (F := Ideal) x0 x1 x3 (ix4 c h a b) = score (rows x0) (keys x1) (slab x3) c h a b := by
  rw [val_main_v43_apply, valid_at, val_main_v34_apply, val_main_v31_apply, v29_at, val_main_v33_apply, val_main_v32_apply]
  have e : idx_main_v32 (idx_main_v33 (ix4 c h a b)) = ix3 h a b := eq_ix3 _
  rw [e, val_main_v30_apply, val_main_cst_apply, val_main_call0_v2_apply, val_main_call0_v0_apply, val_main_cst_2_apply, bits_eighth, bits_neg_inf]
  unfold score
  by_cases hb : 512 ≤ 64 * c.val + b.val
  · rw [if_pos hb, decide_eq_true hb]; rfl
  · rw [if_neg hb, decide_eq_false hb]; rfl

/-- The row maximum. -/
theorem max_at (c : Fin 128) (h : Fin 8) (a : Fin 64) :
    val_main_v46 (F := Ideal) x0 x1 x3 (ix3 c h a) = rowMax (score (rows x0) (keys x1) (slab x3) c h a) := by
  have e : val_main_v44 (F := Ideal) x0 x1 x3 (ix3 c h a) = rowMax (score (rows x0) (keys x1) (slab x3) c h a) := by
    unfold val_main_v44
    rw [Host.reduce_eq_fold_single (FloatOps.maximumf : Ideal .f32 → Ideal .f32 → Ideal .f32) _ _ _ (by decide) h_S_, val_main_cst_3_apply, bits_neg_inf]
    unfold rowMax
    refine Finset.fold_congr fun b _ => ?_
    refine Eq.trans (congrArg (val_main_v43 (F := Ideal) x0 x1 x3) ?_) (score_at x0 x1 x3 c h a b)
    funext n
    fin_cases n <;> rfl
  rw [val_main_v46_apply, e, val_main_v45_apply, val_main_cst_4_apply, bits_neg_inf]
  exact max_eq_right bot_le

/-- The exponentials. -/
theorem ex_at (c : Fin 128) (h : Fin 8) (a : Fin 64) (b : Fin 576) :
    val_main_v50 (F := Ideal) x0 x1 x3 (ix4 c h a b) = ex (score (rows x0) (keys x1) (slab x3) c h a) b := by
  rw [val_main_v50_apply, val_main_v49_apply, score_at, val_main_v48_apply, val_main_v47_apply]
  have e : idx_main_v47 (idx_main_v48 (ix4 c h a b)) = ix3 c h a := eq_ix3 _
  rw [e, max_at]
  rfl

/-- Their sums. -/
theorem den_at (c : Fin 128) (h : Fin 8) (a : Fin 64) :
    val_main_v51 (F := Ideal) x0 x1 x3 (ix3 c h a) = den (score (rows x0) (keys x1) (slab x3) c h a) := by
  rw [val_main_v51_apply, val_main_cst_5_apply, bits_zero, zero_add]
  refine Finset.sum_congr rfl fun b _ => ?_
  have e : idx_main_v51 (ix3 c h a) b = ix4 c h a b := eq_ix4 _
  rw [e, ex_at]

theorem v52_at (c : Fin 128) (h : Fin 8) (a : Fin 64) :
    val_main_v52 (F := Ideal) x0 x1 x3 (ix4 c h a (0 : Fin 1)) = den (score (rows x0) (keys x1) (slab x3) c h a) := by
  rw [val_main_v52_apply]
  have e : idx_main_v52 (ix4 c h a (0 : Fin 1)) = ix3 c h a := eq_ix3 _
  rw [e, den_at]

/-- The probabilities. -/
theorem prob_at (c : Fin 128) (h : Fin 8) (a : Fin 64) (b : Fin 576) :
    val_main_v54 (F := Ideal) x0 x1 x3 (ix4 c h a b) = P (rows x0) (keys x1) (slab x3) c h a b := by
  rw [val_main_v54_apply, ex_at, val_main_v53_apply]
  have e : idx_main_v53 (ix4 c h a b) = ix4 c h a (0 : Fin 1) := eq_ix4 _
  rw [e, v52_at]
  rfl

/-- The output by chunk, row, head and lane. -/
theorem out_at (c : Fin 128) (a : Fin 64) (h : Fin 8) (d : Fin 64) :
    val_main_v56 (F := Ideal) x0 x1 x2 x3 (ix4 c a h d) = O (rows x0) (keys x1) (keys x2) (slab x3) c a h d := by
  rw [val_main_v56_apply]
  have e : idx_main_v56 (ix4 c a h d) = ix4 c h d a := eq_ix4 _
  rw [e, val_main_v55_apply]
  unfold O
  refine Finset.sum_congr rfl fun b _ => ?_
  have e0 : lidx_main_v55 (ix4 c h d a) b = ix4 c b h d := eq_ix4 _
  have e1 : ridx_main_v55 (ix4 c h d a) b = ix4 c h a b := eq_ix4 _
  rw [e0, e1, v22_at, prob_at, mul_comm]

/-- The reference's result, by row and lane. -/
theorem ref_value :
    val_main_v58 (F := Ideal) x0 x1 x2 x3 = fun j => Oa (rows x0) (keys x1) (keys x2) (slab x3) (j 0) (j 1) := by
  funext j
  show val_main_v57 (F := Ideal) x0 x1 x2 x3 j = _
  rw [val_main_v57_apply]
  have h0 : (j 0).val < 8192 := (j 0).isLt
  have h1 : (j 1).val < 512 := (j 1).isLt
  have e : idx_main_v57 j = ix4 (⟨(j 0).val / 64, by omega⟩ : Fin 128) (⟨(j 0).val % 64, by omega⟩ : Fin 64)
      (⟨(j 1).val / 64, by omega⟩ : Fin 8) (⟨(j 1).val % 64, by omega⟩ : Fin 64) := by
    funext n
    apply Fin.ext
    fin_cases n
    · show ((j 0).val * 512 + (j 1).val) / 32768 = (j 0).val / 64; omega
    · show ((j 0).val * 512 + (j 1).val) / 512 % 64 = (j 0).val % 64; omega
    · show ((j 0).val * 512 + (j 1).val) / 64 % 8 = (j 1).val / 64; omega
    · show ((j 0).val * 512 + (j 1).val) % 64 = (j 1).val % 64; omega
  rw [e, out_at]
  rfl

end Cert.AttnOutRefIdeal.Read

end
-- ==== Proof.Out.lean ====
module

public import Idealize.ShloMosaic.Lib.Pipeline.ValueKit
public import Idealize.ShloMosaic.Lib.WritesUnit
public import Idealize.ShloMosaic.Lib.Pipeline.ReadBack
public import proofs.«01_k».proof.Proof.Blk

@[expose] public section

set_option maxRecDepth 16384

noncomputable section

namespace Cert.KernelIdeal.Tile

open Idealize.ShloMosaic Idealize.ShloMosaic.TcCoe Idealize.SL.Sem
open Cert.KernelIdeal Cert.KernelIdeal.Gen Cert.Attn Idealize.ShloMosaic.WordCmp
open scoped BigOperators

variable (m : (ℓ : Loc nD τ sig) → Buf (Elt Ideal) ℓ)

theorem bits_zero : Ideal.ofBits .f32 0#32 = 0 := by
  simp [Ideal.ofBits, Ideal.ieee]

/-- Rows `256 i` to `256 i + 768` of an array of 8704 rows, as the body loads them. -/
theorem ld_rows {α : EltTy → Type} {e : EltTy} (X : S8704x128.Idx → α e) (t : Fin cfg0.N) (inb) (w : Fin 768) (l : Fin 128) :
    View.ld (S := S8704x128) X (Rect.unit (k0_off1 (grid0.coords t)) ![768, 128] inb) (ix2 w l)
      = X (ix2 ⟨256 * (ti t).val + w.val, by omega⟩ l) := by
  have h := off1 t
  generalize k0_off1 (grid0.coords t) = o at h inb ⊢
  subst h
  pointwise
  rfl

theorem tileQ (c : Dev nD) (t : Fin cfg0.N) :
    (fun a l => (iblk m c 0 t : FVec Ideal S256x128 .bf16) (ix2 a l)) = Qt (aq m c) (ti t) (tp t) :=
  funext₂ fun a l => blkQ m c t a l

theorem tileG (c : Dev nD) (t : Fin cfg0.N) :
    (fun a l => (iblk m c 3 t : FVec Ideal S256x128 .bf16) (ix2 a l)) = Qt (ag m c) (ti t) (tp t) :=
  funext₂ fun a l => blkG m c t a l

theorem tileK (c : Dev nD) (t : Fin cfg0.N) (inb) :
    (fun w l => View.ld (S := S8704x128) (iblk m c 1 t : FVec Ideal S8704x128 .bf16)
        (Rect.unit (k0_off1 (grid0.coords t)) ![768, 128] inb) (ix2 w l)) = Kt (ak m c) (ti t) (tp t) :=
  funext₂ fun w l => (ld_rows _ t inb w l).trans (blkK m c t _ l)

theorem tileV (c : Dev nD) (t : Fin cfg0.N) (inb) :
    (fun w l => View.ld (S := S8704x128) (iblk m c 2 t : FVec Ideal S8704x128 .bf16)
        (Rect.unit (k0_off1 (grid0.coords t)) ![768, 128] inb) (ix2 w l)) = Kt (av m c) (ti t) (tp t) :=
  funext₂ fun w l => (ld_rows _ t inb w l).trans (blkV m c t _ l)

theorem tileW (c : Dev nD) (t : Fin cfg0.N) (inb0) (inb1) :
    Wb (View.ld (S := S2x256x768) (iblk m c 4 t : FVec Ideal S2x256x768 .f32) (Rect.unit ![0, 0, 0] ![1, 256, 768] inb0))
       (View.ld (S := S2x256x768) (iblk m c 4 t : FVec Ideal S2x256x768 .f32) (Rect.unit ![1, 0, 0] ![1, 256, 768] inb1))
      = Wt (ab m c) (tp t) := by
  funext r a w
  rw [← blkW]
  unfold Wb
  fin_cases r
  · show View.ld (Val := Elt Ideal) (S := S2x256x768) (e' := .f32) (iblk m c 4 t) (Rect.unit ![0, 0, 0] ![1, 256, 768] inb0) (ix3 (0 : Fin 1) a w) = (iblk m c 4 t : FVec Ideal S2x256x768 .f32) (ix3 0 a w)
    pointwise
  · show View.ld (Val := Elt Ideal) (S := S2x256x768) (e' := .f32) (iblk m c 4 t) (Rect.unit ![1, 0, 0] ![1, 256, 768] inb1) (ix3 (0 : Fin 1) a w) = (iblk m c 4 t : FVec Ideal S2x256x768 .f32) (ix3 1 a w)
    pointwise

/-- The same rows, by their place in the array. -/
theorem ld_rows_at {α : EltTy → Type} {e : EltTy} (X : S8704x128.Idx → α e) (t : Fin cfg0.N) (inb) (R : Fin 8704)
    (h1 : 256 * (ti t).val ≤ R.val) (h2 : R.val - 256 * (ti t).val < 768) (l : Fin 128) :
    View.ld (S := S8704x128) X (Rect.unit (k0_off1 (grid0.coords t)) ![768, 128] inb) (ix2 ⟨R.val - 256 * (ti t).val, h2⟩ l)
      = X (ix2 R l) := by
  rw [ld_rows]
  congr 2
  exact Fin.ext (by show 256 * (ti t).val + (R.val - 256 * (ti t).val) = R.val; omega)

/-- Row 0 and row 1 of an array of two rows, as the body loads them. -/
theorem ld_row0 (X : FVec Ideal S2x256x768 .f32) (inb) (a : Fin 256) (w : Fin 768) :
    View.ld (Val := Elt Ideal) (S := S2x256x768) (e' := .f32) X (Rect.unit ![0, 0, 0] ![1, 256, 768] inb) (ix3 0 a w) = X (ix3 0 a w) := by
  pointwise

theorem ld_row1 (X : FVec Ideal S2x256x768 .f32) (inb) (a : Fin 256) (w : Fin 768) :
    View.ld (Val := Elt Ideal) (S := S2x256x768) (e' := .f32) X (Rect.unit ![1, 0, 0] ![1, 256, 768] inb) (ix3 0 a w) = X (ix3 1 a w) := by
  pointwise

/-- The tile's cotangents, by the tile, the pair of heads, the head of the pair, and the place. -/
def gQ (c : Dev nD) (i : Fin 32) (p : Fin 4) (r : Fin 2) (a : Fin 256) (d : Fin 64) : EReal :=
  tdQ i.val (Qt (aq m c) i p) (Kt (ak m c) i p) (Kt (av m c) i p) (Qt (ag m c) i p) (Wt (ab m c) p) r a d

def gK (c : Dev nD) (i : Fin 32) (p : Fin 4) (r : Fin 2) (R : Fin 8704) (d : Fin 64) : EReal :=
  if hb : 256 * i.val ≤ R.val ∧ R.val < 256 * i.val + 768 then
    tdK i.val (Qt (aq m c) i p) (Kt (ak m c) i p) (Kt (av m c) i p) (Qt (ag m c) i p) (Wt (ab m c) p) r ⟨R.val - 256 * i.val, by omega⟩ d else 0

def gV (c : Dev nD) (i : Fin 32) (p : Fin 4) (r : Fin 2) (R : Fin 8704) (d : Fin 64) : EReal :=
  if hb : 256 * i.val ≤ R.val ∧ R.val < 256 * i.val + 768 then
    tdV i.val (Qt (aq m c) i p) (Kt (ak m c) i p) (Qt (ag m c) i p) (Wt (ab m c) p) r ⟨R.val - 256 * i.val, by omega⟩ d else 0

def gS (c : Dev nD) (i : Fin 32) (p : Fin 4) (r : Fin 2) (a : Fin 256) (w : Fin 768) : EReal :=
  tDS i.val (Qt (aq m c) i p) (Kt (ak m c) i p) (Kt (av m c) i p) (Qt (ag m c) i p) (Wt (ab m c) p) r a w

/-- The queries' cotangent at a point. -/
theorem out5 (c : Dev nD) (t : Fin cfg0.N) (r : Fin 2) (a : Fin 256) (d : Fin 64) :
   (outsAt0 m c t.val t.isLt).1 (ix2 a (half r d)) = gQ m c (ti t) (tp t) r a d := by
  by_cases h0 : t.val % 32 = 0
  · rw [outsAt0_A m c t h0]
    frame_out
    rw [show (FloatOps.ofBits FTy.f32 0#32 : Ideal .f32) = (0 : EReal) from bits_zero, dq_apply, tileQ, tileG, tileK, tileV, tileW, coords_one]
    rfl
  · rw [outsAt0_B m c t h0]
    frame_out
    rw [show (FloatOps.ofBits FTy.f32 0#32 : Ideal .f32) = (0 : EReal) from bits_zero, dq_apply, tileQ, tileG, tileK, tileV, tileW, coords_one]
    rfl

/-- A later point adds its tile's part to the keys' cotangent. -/
theorem out6B (c : Dev nD) (t : Fin cfg0.N) (h0 : ¬t.val % 32 = 0) (r : Fin 2) (R : Fin 8704) (d : Fin 64) :
    (outsAt0 m c t.val t.isLt).2.1 (ix2 R (half r d))
      = (outsAt0 m c (t.val - 1) (Nat.lt_of_le_of_lt (Nat.sub_le _ _) t.isLt)).2.1 (ix2 R (half r d))
        + gK m c (ti t) (tp t) r R d := by
  unfold gK
  rw [outsAt0_B m c t h0]
  frame_out
  rw [show (FloatOps.ofBits FTy.f32 0#32 : Ideal .f32) = (0 : EReal) from bits_zero]
  by_cases hb : 256 * (ti t).val ≤ R.val ∧ R.val < 256 * (ti t).val + 768
  · rw [dif_pos hb]
    refine (View.read_writes_cons_rows_of_mem _ _ _ _ _ (ix2 R (half r d)) (ix2 ⟨R.val - 256 * (ti t).val, by omega⟩ (half r d)) (off1 t) ?_ ?_).trans ?_
    · show R.val = 256 * (ti t).val + (R.val - 256 * (ti t).val)
      omega
    · rfl
    rw [dk_apply, tileQ, tileG, tileK, tileV, tileW, coords_one, ld_rows_at _ t _ R hb.1]
    rfl
  · rw [dif_neg hb, add_zero]
    refine (View.read_writes_cons_rows_of_not_mem _ _ _ _ _ (ix2 R (half r d)) (off1 t) rfl ?_).trans ?_
    · show R.val < 256 * (ti t).val ∨ 256 * (ti t).val + 768 ≤ R.val
      omega
    rw [View.writes_nil, Memref.IsWhole.read_unread]

/-- The first point of a pair of heads adds it to zero. -/
theorem out6A (c : Dev nD) (t : Fin cfg0.N) (h0 : t.val % 32 = 0) (r : Fin 2) (R : Fin 8704) (d : Fin 64) :
    (outsAt0 m c t.val t.isLt).2.1 (ix2 R (half r d)) = 0 + gK m c (ti t) (tp t) r R d := by
  have hz : (k0_pay4 : FVec Ideal S8704x128 .f32) (ix2 R (half r d)) = (0 : EReal) := by
    pointwise [k0_pay4]
  unfold gK
  rw [outsAt0_A m c t h0]
  frame_out
  rw [show (FloatOps.ofBits FTy.f32 0#32 : Ideal .f32) = (0 : EReal) from bits_zero,
    ← View.read_writes_junk_eq_canon (ms0_6 t).view]
  by_cases hb : 256 * (ti t).val ≤ R.val ∧ R.val < 256 * (ti t).val + 768
  · rw [dif_pos hb]
    refine (View.read_writes_cons_rows_of_mem _ _ _ _ _ (ix2 R (half r d)) (ix2 ⟨R.val - 256 * (ti t).val, by omega⟩ (half r d)) (off1 t) ?_ ?_).trans ?_
    · show R.val = 256 * (ti t).val + (R.val - 256 * (ti t).val)
      omega
    · rfl
    rw [dk_apply, tileQ, tileG, tileK, tileV, tileW, coords_one, ld_rows_at _ t _ R hb.1, hz]
    rfl
  · rw [dif_neg hb, add_zero]
    refine (View.read_writes_cons_rows_of_not_mem _ _ _ _ _ (ix2 R (half r d)) (off1 t) rfl ?_).trans ?_
    · show R.val < 256 * (ti t).val ∨ 256 * (ti t).val + 768 ≤ R.val
      omega
    refine (View.read_writes_cons_rows_of_mem _ _ _ _ _ (ix2 R (half r d)) (ix2 R (half r d)) (o := 0) rfl ?_ ?_).trans hz
    · exact (Nat.zero_add _).symm
    · rfl

/-- A later point adds its tile's part to the values' cotangent. -/
theorem out7B (c : Dev nD) (t : Fin cfg0.N) (h0 : ¬t.val % 32 = 0) (r : Fin 2) (R : Fin 8704) (d : Fin 64) :
    (outsAt0 m c t.val t.isLt).2.2.1 (ix2 R (half r d))
      = (outsAt0 m c (t.val - 1) (Nat.lt_of_le_of_lt (Nat.sub_le _ _) t.isLt)).2.2.1 (ix2 R (half r d))
        + gV m c (ti t) (tp t) r R d := by
  unfold gV
  rw [outsAt0_B m c t h0]
  frame_out
  rw [show (FloatOps.ofBits FTy.f32 0#32 : Ideal .f32) = (0 : EReal) from bits_zero]
  by_cases hb : 256 * (ti t).val ≤ R.val ∧ R.val < 256 * (ti t).val + 768
  · rw [dif_pos hb]
    refine (View.read_writes_cons_rows_of_mem _ _ _ _ _ (ix2 R (half r d)) (ix2 ⟨R.val - 256 * (ti t).val, by omega⟩ (half r d)) (off1 t) ?_ ?_).trans ?_
    · show R.val = 256 * (ti t).val + (R.val - 256 * (ti t).val)
      omega
    · rfl
    rw [dv_apply, tileQ, tileG, tileK, tileW, coords_one, ld_rows_at _ t _ R hb.1]
    rfl
  · rw [dif_neg hb, add_zero]
    refine (View.read_writes_cons_rows_of_not_mem _ _ _ _ _ (ix2 R (half r d)) (off1 t) rfl ?_).trans ?_
    · show R.val < 256 * (ti t).val ∨ 256 * (ti t).val + 768 ≤ R.val
      omega
    rw [View.writes_nil, Memref.IsWhole.read_unread]

/-- The first point of a pair of heads adds it to zero. -/
theorem out7A (c : Dev nD) (t : Fin cfg0.N) (h0 : t.val % 32 = 0) (r : Fin 2) (R : Fin 8704) (d : Fin 64) :
    (outsAt0 m c t.val t.isLt).2.2.1 (ix2 R (half r d)) = 0 + gV m c (ti t) (tp t) r R d := by
  have hz : (k0_pay5 : FVec Ideal S8704x128 .f32) (ix2 R (half r d)) = (0 : EReal) := by
    pointwise [k0_pay5]
  unfold gV
  rw [outsAt0_A m c t h0]
  frame_out
  rw [show (FloatOps.ofBits FTy.f32 0#32 : Ideal .f32) = (0 : EReal) from bits_zero,
    ← View.read_writes_junk_eq_canon (ms0_7 t).view]
  by_cases hb : 256 * (ti t).val ≤ R.val ∧ R.val < 256 * (ti t).val + 768
  · rw [dif_pos hb]
    refine (View.read_writes_cons_rows_of_mem _ _ _ _ _ (ix2 R (half r d)) (ix2 ⟨R.val - 256 * (ti t).val, by omega⟩ (half r d)) (off1 t) ?_ ?_).trans ?_
    · show R.val = 256 * (ti t).val + (R.val - 256 * (ti t).val)
      omega
    · rfl
    rw [dv_apply, tileQ, tileG, tileK, tileW, coords_one, ld_rows_at _ t _ R hb.1, hz]
    rfl
  · rw [dif_neg hb, add_zero]
    refine (View.read_writes_cons_rows_of_not_mem _ _ _ _ _ (ix2 R (half r d)) (off1 t) rfl ?_).trans ?_
    · show R.val < 256 * (ti t).val ∨ 256 * (ti t).val + 768 ≤ R.val
      omega
    refine (View.read_writes_cons_rows_of_mem _ _ _ _ _ (ix2 R (half r d)) (ix2 R (half r d)) (o := 0) rfl ?_ ?_).trans hz
    · exact (Nat.zero_add _).symm
    · rfl

/-- A later point adds its tile's score cotangents to the widened bias's. -/
theorem out8B (c : Dev nD) (t : Fin cfg0.N) (h0 : ¬t.val % 32 = 0) (r : Fin 2) (a : Fin 256) (w : Fin 768) :
    (outsAt0 m c t.val t.isLt).2.2.2 (ix3 r a w)
      = (outsAt0 m c (t.val - 1) (Nat.lt_of_le_of_lt (Nat.sub_le _ _) t.isLt)).2.2.2 (ix3 r a w)
        + gS m c (ti t) (tp t) r a w := by
  unfold gS
  rw [outsAt0_B m c t h0]
  frame_out
  rw [show (FloatOps.ofBits FTy.f32 0#32 : Ideal .f32) = (0 : EReal) from bits_zero,
    ← View.read_writes_junk_eq_canon (ms0_8 t).view]
  have hr : r = 0 ∨ r = 1 := by omega
  rcases hr with rfl | rfl
  · refine (View.read_writes_cons_unit_of_not_mem _ _ _ _ _ (ix3 0 a w) rfl (0 : Fin 3) (Or.inl (by show (0 : ℕ) < 1; decide))).trans ?_
    refine (View.read_writes_cons_unit_of_mem _ _ _ _ _ (ix3 0 a w) (ix3 0 a w) rfl ?_).trans ?_
    · intro x
      fin_cases x <;> exact (Nat.zero_add _).symm
    rw [db0_apply (b1 := View.ld (S := S2x256x768) (iblk m c 4 t) (Rect.unit ![1, 0, 0] ![1, 256, 768] inb_S2x256x768_S1x256x768_1_0_0)), tileQ, tileG, tileK, tileV, tileW, coords_one, ld_row0]
    rfl
  · refine (View.read_writes_cons_unit_of_mem _ _ _ _ _ (ix3 1 a w) (ix3 0 a w) rfl ?_).trans ?_
    · intro x
      fin_cases x
      · rfl
      · exact (Nat.zero_add _).symm
      · exact (Nat.zero_add _).symm
    rw [db1_apply (b0 := View.ld (S := S2x256x768) (iblk m c 4 t) (Rect.unit ![0, 0, 0] ![1, 256, 768] inb_S2x256x768_S1x256x768_0_0_0)), tileQ, tileG, tileK, tileV, tileW, coords_one, ld_row1]
    rfl

/-- The first point of a pair of heads adds them to zero. -/
theorem out8A (c : Dev nD) (t : Fin cfg0.N) (h0 : t.val % 32 = 0) (r : Fin 2) (a : Fin 256) (w : Fin 768) :
    (outsAt0 m c t.val t.isLt).2.2.2 (ix3 r a w) = 0 + gS m c (ti t) (tp t) r a w := by
  have hz : ∀ s : Fin 2, (k0_pay6 : FVec Ideal S2x256x768 .f32) (ix3 s a w) = (0 : EReal) := by
    intro s
    pointwise [k0_pay6]
  unfold gS
  rw [outsAt0_A m c t h0]
  frame_open
  simp (disch := decide) only [↓ View.readCov_skip, ↓ View.readCov_cons_toLoadRect, ↓ View.readCov_fill]
  frame_out
  rw [show (FloatOps.ofBits FTy.f32 0#32 : Ideal .f32) = (0 : EReal) from bits_zero,
    ← View.read_writes_junk_eq_canon (ms0_8 t).view]
  have hr : r = 0 ∨ r = 1 := by omega
  rcases hr with rfl | rfl
  · refine (View.read_writes_cons_unit_of_not_mem _ _ _ _ _ (ix3 0 a w) rfl (0 : Fin 3) (Or.inl (by show (0 : ℕ) < 1; decide))).trans ?_
    refine (View.read_writes_cons_unit_of_mem _ _ _ _ _ (ix3 0 a w) (ix3 0 a w) rfl ?_).trans ?_
    · intro x
      fin_cases x <;> exact (Nat.zero_add _).symm
    rw [db0_apply (b1 := View.ld (S := S2x256x768) (iblk m c 4 t) (Rect.unit ![1, 0, 0] ![1, 256, 768] inb_S2x256x768_S1x256x768_1_0_0)), tileQ, tileG, tileK, tileV, tileW, coords_one, ld_row0, hz]
    rfl
  · refine (View.read_writes_cons_unit_of_mem _ _ _ _ _ (ix3 1 a w) (ix3 0 a w) rfl ?_).trans ?_
    · intro x
      fin_cases x
      · rfl
      · exact (Nat.zero_add _).symm
      · exact (Nat.zero_add _).symm
    rw [db1_apply (b0 := View.ld (S := S2x256x768) (iblk m c 4 t) (Rect.unit ![0, 0, 0] ![1, 256, 768] inb_S2x256x768_S1x256x768_0_0_0)), tileQ, tileG, tileK, tileV, tileW, coords_one, ld_row1, hz]
    rfl

end Cert.KernelIdeal.Tile

end
-- ==== Proof.Arr.lean ====
/- What the kernel's four arrays hold after the run. -/
module

public import proofs.«01_k».proof.Proof.Out

@[expose] public section

set_option maxRecDepth 16384

noncomputable section

namespace Cert.KernelIdeal.Tile

open Idealize.ShloMosaic Idealize.ShloMosaic.TcCoe Idealize.SL.Sem
open Cert.KernelIdeal Cert.KernelIdeal.Gen Cert.Attn Idealize.ShloMosaic.WordCmp
open scoped BigOperators

variable (m : (ℓ : Loc nD τ sig) → Buf (Elt Ideal) ℓ)

/-- After the last tile of a pair of heads the block holds the sum over the tiles. -/
theorem sum6 (c : Dev nD) (t : Fin cfg0.N) (ht : t.val % 32 = 31) (r : Fin 2) (R : Fin 8704) (d : Fin 64) :
    (outsAt0 m c t.val t.isLt).2.1 (ix2 R (half r d)) = ∑ i : Fin 32, gK m c i (tp t) r R d := by
  rw [Pipeline.eq_sum_fin_of_reset_step_of_flush (fun n hn => ((outsAt0 m c n hn).2.1 (ix2 R (half r d)) : EReal)) 32 0
    (fun t => gK m c (ti t) (tp t) r R d) (fun t h => out6A m c t h r R d) (fun t h => out6B m c t h r R d) t ht, zero_add]
  refine Finset.sum_congr rfl fun i _ => ?_
  have h1 : ti ⟨32 * (t.val / 32) + i.val, Pipeline.run_point_lt_of_flush t ht i⟩ = i :=
    Fin.ext (by show (32 * (t.val / 32) + i.val) % 32 = i.val; omega)
  have h2 : tp ⟨32 * (t.val / 32) + i.val, Pipeline.run_point_lt_of_flush t ht i⟩ = tp t :=
    Fin.ext (by show (32 * (t.val / 32) + i.val) / 32 = t.val / 32; omega)
  rw [h1, h2]

theorem sum7 (c : Dev nD) (t : Fin cfg0.N) (ht : t.val % 32 = 31) (r : Fin 2) (R : Fin 8704) (d : Fin 64) :
    (outsAt0 m c t.val t.isLt).2.2.1 (ix2 R (half r d)) = ∑ i : Fin 32, gV m c i (tp t) r R d := by
  rw [Pipeline.eq_sum_fin_of_reset_step_of_flush (fun n hn => ((outsAt0 m c n hn).2.2.1 (ix2 R (half r d)) : EReal)) 32 0
    (fun t => gV m c (ti t) (tp t) r R d) (fun t h => out7A m c t h r R d) (fun t h => out7B m c t h r R d) t ht, zero_add]
  refine Finset.sum_congr rfl fun i _ => ?_
  have h1 : ti ⟨32 * (t.val / 32) + i.val, Pipeline.run_point_lt_of_flush t ht i⟩ = i :=
    Fin.ext (by show (32 * (t.val / 32) + i.val) % 32 = i.val; omega)
  have h2 : tp ⟨32 * (t.val / 32) + i.val, Pipeline.run_point_lt_of_flush t ht i⟩ = tp t :=
    Fin.ext (by show (32 * (t.val / 32) + i.val) / 32 = t.val / 32; omega)
  rw [h1, h2]

theorem sum8 (c : Dev nD) (t : Fin cfg0.N) (ht : t.val % 32 = 31) (r : Fin 2) (a : Fin 256) (w : Fin 768) :
    (outsAt0 m c t.val t.isLt).2.2.2 (ix3 r a w) = ∑ i : Fin 32, gS m c i (tp t) r a w := by
  rw [Pipeline.eq_sum_fin_of_reset_step_of_flush (fun n hn => ((outsAt0 m c n hn).2.2.2 (ix3 r a w) : EReal)) 32 0
    (fun t => gS m c (ti t) (tp t) r a w) (fun t h => out8A m c t h r a w) (fun t h => out8B m c t h r a w) t ht, zero_add]
  refine Finset.sum_congr rfl fun i _ => ?_
  have h1 : ti ⟨32 * (t.val / 32) + i.val, Pipeline.run_point_lt_of_flush t ht i⟩ = i :=
    Fin.ext (by show (32 * (t.val / 32) + i.val) % 32 = i.val; omega)
  have h2 : tp ⟨32 * (t.val / 32) + i.val, Pipeline.run_point_lt_of_flush t ht i⟩ = tp t :=
    Fin.ext (by show (32 * (t.val / 32) + i.val) / 32 = t.val / 32; omega)
  rw [h1, h2]

/-- The array of the queries' cotangent. -/
theorem arr5 (c : Dev nD) (F : Finite (aq m c) (ak m c) (ab m c)) :
    (dats m 0 c).arrAt 5 cfg0.N = fun j : S8192x512.Idx => dQa (aq m c) (ak m c) (av m c) (ag m c) (ab m c) (j 0) (j 1) := by
  refine (dats m 0 c).arrAt_eq_of_covers 5 _ (by decide +kernel) fun t hf y => ?_
  blk_simp
  rw [after0_5]
  obtain ⟨x, l, rfl⟩ : ∃ (x : Fin 256) (l : Fin 128), y = ix2 x l := ⟨y 0, y 1, (ix2_eta y).symm⟩
  obtain ⟨j, a, rfl⟩ := exists_trow x
  obtain ⟨r, d, rfl⟩ := exists_half l
  have e0 : ((win0_5.blk t).view.emb (ix2 (trow j a) (half r d)) 0).val = 256 * (ti t).val + (trow j a).val := by
    blk_simp [idx t]
    exact congrArg (· + _) (Nat.mul_comm _ _)
  have e1 : ((win0_5.blk t).view.emb (ix2 (trow j a) (half r d)) 1).val = 128 * (tp t).val + (half r d).val := by
    blk_simp [idx t]
    exact congrArg (· + _) (Nat.mul_comm _ _)
  refine Eq.trans ?_ (dQa_tile _ _ _ _ _ (ti t) (tp t) r j a d _ _ e0 e1).symm
  exact (out5 m c t r (trow j a) d).trans (tdQ_eq _ _ (ti t) (tp t) r j a F d)

/-- The array of the keys' cotangent. -/
theorem arr6 (c : Dev nD) (F : Finite (aq m c) (ak m c) (ab m c)) :
    (dats m 0 c).arrAt 6 cfg0.N = fun j : S8704x512.Idx => dKa (aq m c) (ak m c) (av m c) (ag m c) (ab m c) (j 0) (j 1) := by
  refine (dats m 0 c).arrAt_eq_of_covers 6 _ (by decide +kernel) fun t hf y => ?_
  blk_simp
  rw [after0_6]
  obtain ⟨R, l, rfl⟩ : ∃ (x : Fin 8704) (l : Fin 128), y = ix2 x l := ⟨y 0, y 1, (ix2_eta y).symm⟩
  obtain ⟨r, d, rfl⟩ := exists_half l
  have e0 : ((win0_6.blk t).view.emb (ix2 R (half r d)) 0).val = R.val := by
    blk_simp [idx t]
  have e1 : ((win0_6.blk t).view.emb (ix2 R (half r d)) 1).val = 128 * (tp t).val + (half r d).val := by
    blk_simp [idx t]
    exact congrArg (· + _) (Nat.mul_comm _ _)
  refine Eq.trans ?_ (dKa_tile _ _ _ _ _ (tp t) r d _ R _ e0 e1).symm
  exact (sum6 m c t ((flush0_6 t).mp hf) r R d).trans (sum_tdK (av m c) (ag m c) (tp t) r F R d)

/-- The array of the values' cotangent. -/
theorem arr7 (c : Dev nD) (F : Finite (aq m c) (ak m c) (ab m c)) :
    (dats m 0 c).arrAt 7 cfg0.N = fun j : S8704x512.Idx => dVa (aq m c) (ak m c) (ag m c) (ab m c) (j 0) (j 1) := by
  refine (dats m 0 c).arrAt_eq_of_covers 7 _ (by decide +kernel) fun t hf y => ?_
  blk_simp
  rw [after0_7]
  obtain ⟨R, l, rfl⟩ : ∃ (x : Fin 8704) (l : Fin 128), y = ix2 x l := ⟨y 0, y 1, (ix2_eta y).symm⟩
  obtain ⟨r, d, rfl⟩ := exists_half l
  have e0 : ((win0_7.blk t).view.emb (ix2 R (half r d)) 0).val = R.val := by
    blk_simp [idx t]
  have e1 : ((win0_7.blk t).view.emb (ix2 R (half r d)) 1).val = 128 * (tp t).val + (half r d).val := by
    blk_simp [idx t]
    exact congrArg (· + _) (Nat.mul_comm _ _)
  refine Eq.trans ?_ (dVa_tile _ _ _ _ (tp t) r d _ R _ e0 e1).symm
  exact (sum7 m c t ((flush0_7 t).mp hf) r R d).trans (sum_tdV (ag m c) (tp t) r F R d)

/-- The pair a head belongs to. -/
def pairOf (h : Fin 8) : Fin 4 := ⟨h.val / 2, by omega⟩

/-- Which of its pair's two heads a head is. -/
def sideOf (h : Fin 8) : Fin 2 := ⟨h.val % 2, by omega⟩

/-- The widened bias's cotangent of head `h`: the blocks' scores' cotangents, summed. -/
def wideSum (c : Dev nD) (h : Fin 8) (a : Fin 256) (w : Fin 768) : EReal :=
  ∑ i : Fin 32, gS m c i (pairOf h) (sideOf h) a w

theorem wideSum_at (c : Dev nD) (p : Fin 4) (r : Fin 2) (h : Fin 8) (a a' : Fin 256) (w w' : Fin 768)
    (f0 : h.val = 2 * p.val + r.val) (f1 : a.val = a'.val) (f2 : w.val = w'.val) :
    wideSum m c h a w = ∑ i : Fin 32, gS m c i p r a' w' := by
  obtain rfl := Fin.ext f1
  obtain rfl := Fin.ext f2
  have g1 : pairOf h = p := Fin.ext (by show h.val / 2 = p.val; omega)
  have g2 : sideOf h = r := Fin.ext (by show h.val % 2 = r.val; omega)
  unfold wideSum
  rw [g1, g2]

/-- The array of the widened bias's cotangent. -/
theorem arr8 (c : Dev nD) :
    (dats m 0 c).arrAt 8 cfg0.N = fun j : S8x256x768.Idx => wideSum m c (j 0) (j 1) (j 2) := by
  refine (dats m 0 c).arrAt_eq_of_covers 8 _ (by decide +kernel) fun t hf y => ?_
  blk_simp
  rw [after0_8]
  obtain ⟨r, a, w, rfl⟩ : ∃ (r : Fin 2) (a : Fin 256) (w : Fin 768), y = ix3 r a w := ⟨y 0, y 1, y 2, (ix3_eta y).symm⟩
  have e0 : ((win0_8.blk t).view.emb (ix3 r a w) 0).val = 2 * (tp t).val + r.val := by
    blk_simp [idx t]
    exact congrArg (· + _) (Nat.mul_comm _ _)
  have e1 : ((win0_8.blk t).view.emb (ix3 r a w) 1).val = a.val := by
    blk_simp [idx t]
  have e2 : ((win0_8.blk t).view.emb (ix3 r a w) 2).val = w.val := by
    blk_simp [idx t]
  refine Eq.trans ?_ (wideSum_at m c (tp t) r _ _ a _ w e0 e1 e2).symm
  exact sum8 m c t ((flush0_8 t).mp hf) r a w

end Cert.KernelIdeal.Tile

end
-- ==== Proof.Kern.lean ====
/- What the kernel's program leaves in its four results: the four cotangents of the band attention. -/
module

public import proofs.«01_k».proof.Proof.Arr

@[expose] public section

set_option maxRecDepth 16384

noncomputable section

namespace Cert.KernelIdeal.Tile

open Idealize.ShloMosaic Idealize.ShloMosaic.TcCoe Idealize.SL.Sem
open Cert.KernelIdeal Cert.KernelIdeal.Gen Cert.Attn Idealize.ShloMosaic.WordCmp
open scoped BigOperators

variable (m : (ℓ : Loc nD τ sig) → Buf (Elt Ideal) ℓ) (ρ : Dev nD → PrngReg)

/-- The windows' arrays are nine different buffers. -/
theorem arr_inj : Function.Injective (Pipeline.arrRef (cfgs 0).spec) := by decide +kernel

/-- The four shifted cuts of the widened bias's cotangent, added up. -/
theorem fold_cuts (x : S8x256x768.Idx → EReal) (h : Fin 8) (a : Fin 64) (b : Fin 576) :
    addf (F := Ideal) (φ := .f32) (addf (addf (extractStridedSlice S8x64x576 ![0, 0, 0] x slices_S8x256x768_S8x64x576_0_0_0)
        (extractStridedSlice S8x64x576 ![0, 64, 64] x slices_S8x256x768_S8x64x576_0_64_64))
        (extractStridedSlice S8x64x576 ![0, 128, 128] x slices_S8x256x768_S8x64x576_0_128_128))
        (extractStridedSlice S8x64x576 ![0, 192, 192] x slices_S8x256x768_S8x64x576_0_192_192) (ix3 h a b)
      = ∑ j : Fin 4, x (ix3 h (trow j a) (tkey j b)) := by
  rw [Fin.sum_univ_four]
  have e : ∀ (o : Fin 3 → ℕ) (hs : S8x256x768.Slices o S8x64x576) (j : Fin 4), o 0 = 0 → o 1 = 64 * j.val → o 2 = 64 * j.val →
      extractStridedSlice S8x64x576 o x hs (ix3 h a b) = x (ix3 h (trow j a) (tkey j b)) := by
    intro o hs j h0 h1 h2
    refine congrArg x (funext fun n => Fin.ext ?_)
    fin_cases n
    · show o 0 + h.val = h.val; omega
    · show o 1 + a.val = 64 * j.val + a.val; omega
    · show o 2 + b.val = 64 * j.val + b.val; omega
  show _ + _ + _ + _ = _
  rw [e _ _ 0 rfl rfl rfl, e _ _ 1 rfl rfl rfl, e _ _ 2 rfl rfl rfl, e _ _ 3 rfl rfl rfl]

/-- The bias's cotangent, out of the widened one. -/
theorem fold_wide (c : Dev nD) (F : Finite (aq m c) (ak m c) (ab m c)) (h : Fin 8) (a : Fin 64) (b : Fin 576) :
    ∑ j : Fin 4, wideSum m c h (trow j a) (tkey j b) = dB (aq m c) (ak m c) (av m c) (ag m c) (ab m c) h a b := by
  have hh : headOf (pairOf h) (sideOf h) = h := Fin.ext (by show 2 * (h.val / 2) + h.val % 2 = h.val; omega)
  refine Eq.trans ?_ (congrArg (fun h' => dB (aq m c) (ak m c) (av m c) (ag m c) (ab m c) h' a b) hh)
  exact fold_tDS (av m c) (ag m c) (pairOf h) (sideOf h) F a b

/-- What the lines after the call leave in the bias's cotangent. -/
theorem tail16 (c : Dev nD) (F : Finite (aq m c) (ak m c) (ab m c)) :
    (Pipeline.afterTail₀ cfgs (dats m) 0 (V0 m) [hostOps1] c main_v16 : S8x64x576.Idx → EReal)
      = fun j => dB (aq m c) (ak m c) (av m c) (ag m c) (ab m c) (j 0) (j 1) (j 2) := by
  funext y
  obtain ⟨h, a, b, rfl⟩ : ∃ (h : Fin 8) (a : Fin 64) (b : Fin 576), y = ix3 h a b := ⟨y 0, y 1, y 2, (ix3_eta y).symm⟩
  refine Eq.trans ?_ (fold_wide m c F h a b)
  unfold Pipeline.afterTail₀
  simp only [List.flatten_cons, List.flatten_nil, List.append_nil]
  after_reads_simp
  have key : (Pipeline.withArrays (cfgs 0).spec c (V0 m c) (fun w => (dats m 0 c).arrAt w (cfgs 0).N) (Proc.devRef .tc main_v9_3) : S8x256x768.Idx → EReal)
      = fun j => wideSum m c (j 0) (j 1) (j 2) :=
    (Pipeline.withArrays_arr (cfgs 0).spec arr_inj c (V0 m c) (fun w => (dats m 0 c).arrAt w (cfgs 0).N) 8).trans (arr8 m c)
  rw [key]
  exact fold_cuts _ h a b

/-- The run of the kernel's program: the four cotangents, and the arguments as they were. -/
theorem run_value (F : ∀ c, Finite (aq m c) (ak m c) (ab m c)) :
    θ_run defs (onTc (τ := τ) (main (F := Ideal))) ⟨m, fun _ => 0, ρ⟩ fun r => ∀ c : Dev nD,
      r.2.mem ((c : Thread nD τ).loc main_v9_0) = (fun j : S8192x512.Idx => dQa (aq m c) (ak m c) (av m c) (ag m c) (ab m c) (j 0) (j 1))
      ∧ r.2.mem ((c : Thread nD τ).loc main_v9_1) = (fun j : S8704x512.Idx => dKa (aq m c) (ak m c) (av m c) (ag m c) (ab m c) (j 0) (j 1))
      ∧ r.2.mem ((c : Thread nD τ).loc main_v9_2) = (fun j : S8704x512.Idx => dVa (aq m c) (ak m c) (ag m c) (ab m c) (j 0) (j 1))
      ∧ r.2.mem ((c : Thread nD τ).loc main_v16) = (fun j : S8x64x576.Idx => dB (aq m c) (ak m c) (av m c) (ag m c) (ab m c) (j 0) (j 1) (j 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (arr5 m c (F c)), ((h.1 c).1 6).trans (arr6 m c (F c)),
      ((h.1 c).1 7).trans (arr7 m c (F c)),
      ((h.1 c).2 main_v16 (Pipeline.mem_restRefs_of main_v16 (by decide) (by decide))).trans (tail16 m c (F c)),
      h.2 c⟩)
    (θ_run_and (run_main m ρ) (unchanged m ρ))

end Cert.KernelIdeal.Tile

end
-- ==== Proof.Ref.lean ====
/- What the reference's intermediate arrays hold: scores, probabilities and their cotangents. -/
module

public import Idealize.ShloMosaic.Lib.Pipeline.ValueKit
public import Idealize.ShloMosaic.Lib.KernelVsHost
public import Idealize.ShloMosaic.Lib.WordCmp
public import proofs.«01_k».proof.Proof.Gen.ReferenceIdeal.Read
public import proofs.«01_k».proof.Proof.Spec

@[expose] public section

set_option maxRecDepth 16384

noncomputable section

namespace Cert.ReferenceIdeal.Read

open Idealize.ShloMosaic Idealize.ShloMosaic.TcCoe
open Cert.ReferenceIdeal Cert.ReferenceIdeal.Gen Cert.Attn Idealize.ShloMosaic.WordCmp
open scoped BigOperators

variable (x0 : (⟨S8192x512, .f32⟩ : BufTy).Contents (Elt Ideal)) (x1 x2 : (⟨S8704x512, .f32⟩ : BufTy).Contents (Elt Ideal))
  (x3 : (⟨S8192x512, .f32⟩ : BufTy).Contents (Elt Ideal)) (x4 : (⟨S8x64x576, .f32⟩ : BufTy).Contents (Elt Ideal))

/-- The arguments by coordinates. -/
abbrev rows (x : (⟨S8192x512, .f32⟩ : BufTy).Contents (Elt Ideal)) (r : Fin 8192) (l : Fin 512) : EReal := x (ix2 r l)
abbrev keys (x : (⟨S8704x512, .f32⟩ : BufTy).Contents (Elt Ideal)) (r : Fin 8704) (l : Fin 512) : EReal := x (ix2 r l)
abbrev slab (x : (⟨S8x64x576, .f32⟩ : BufTy).Contents (Elt Ideal)) (h : Fin 8) (a : Fin 64) (b : Fin 576) : EReal := x (ix3 h a b)

/-- The queries by chunk, row, head and lane. -/
theorem v0_at (c : Fin 128) (a : Fin 64) (h : Fin 8) (d : Fin 64) :
    val_main_v0 (F := Ideal) x0 (ix4 c a h d) = rows x0 (qrow c a) (lane h d) := by
  rw [val_main_v0_apply]
  refine congrArg x0 (funext fun n => Fin.ext ?_)
  fin_cases n
  · show (((c.val * 64 + a.val) * 8 + h.val) * 64 + d.val) / 512 = 64 * c.val + a.val; omega
  · show (((c.val * 64 + a.val) * 8 + h.val) * 64 + d.val) % 512 = 64 * h.val + d.val; omega

/-- The output's cotangent by chunk, row, head and lane. -/
theorem v75_at (c : Fin 128) (a : Fin 64) (h : Fin 8) (d : Fin 64) :
    val_main_v75 (F := Ideal) x3 (ix4 c a h d) = rows x3 (qrow c a) (lane h d) := v0_at x3 c a h d

theorem v1_at (c : Fin 136) (a : Fin 64) (h : Fin 8) (d : Fin 64) (r : Fin 8704) (l : Fin 512)
    (hr : r.val = 64 * c.val + a.val) (hl : l.val = 64 * h.val + d.val) :
    val_main_v1 (F := Ideal) x1 (ix4 c a h d) = keys x1 r l := by
  rw [val_main_v1_apply]
  refine congrArg x1 (funext fun n => Fin.ext ?_)
  fin_cases n
  · show (((c.val * 64 + a.val) * 8 + h.val) * 64 + d.val) / 512 = r.val; omega
  · show (((c.val * 64 + a.val) * 8 + h.val) * 64 + d.val) % 512 = l.val; omega

/-- Piece `n` of the keys' windows: the chunks moved by `n`. -/
def piece (n : Fin 9) : S128x64x8x64.Idx → EReal :=
  fun j => keys x1 ⟨64 * ((j 0).val + n.val) + (j 1).val, by
    have h0 : (j 0).val < 128 := (j 0).isLt
    have h1 : (j 1).val < 64 := (j 1).isLt
    omega⟩ (lane (j 2) (j 3))

theorem slice_piece (o : Fin 4 → ℕ) (hs : S136x64x8x64.Slices o S128x64x8x64) (n : Fin 9) (h0 : o 0 = n.val) (h1 : o 1 = 0)
    (h2 : o 2 = 0) (h3 : o 3 = 0) :
    extractStridedSlice S128x64x8x64 o (val_main_v1 (F := Ideal) x1) hs = piece x1 n := by
  funext j
  obtain ⟨c, a, h, d, rfl⟩ : ∃ (c : Fin 128) (a : Fin 64) (h : Fin 8) (d : Fin 64), j = ix4 c a h d := ⟨j 0, j 1, j 2, j 3, eq_ix4 j⟩
  rw [extractStridedSlice_apply o _ hs (ix4 c a h d) (ix4 (⟨c.val + n.val, by omega⟩ : Fin 136) a h d) (fun b => by
    fin_cases b
    · show c.val + n.val = o 0 + c.val; omega
    · show a.val = o 1 + a.val; omega
    · show h.val = o 2 + h.val; omega
    · show d.val = o 3 + d.val; omega)]
  exact v1_at x1 _ a h d _ _ rfl rfl

/-- The windows of the keys. -/
theorem v11_at (c : Fin 128) (b : Fin 576) (h : Fin 8) (d : Fin 64) :
    val_main_v11 (F := Ideal) x1 (ix4 c b h d) = keys x1 (krow c b) (lane h d) := by
  unfold val_main_v11 val_main_v2 val_main_v3 val_main_v4 val_main_v5 val_main_v6 val_main_v7 val_main_v8 val_main_v9 val_main_v10
  rw [slice_piece x1 _ _ 0 rfl rfl rfl rfl, slice_piece x1 _ _ 1 rfl rfl rfl rfl, slice_piece x1 _ _ 2 rfl rfl rfl rfl,
    slice_piece x1 _ _ 3 rfl rfl rfl rfl, slice_piece x1 _ _ 4 rfl rfl rfl rfl, slice_piece x1 _ _ 5 rfl rfl rfl rfl,
    slice_piece x1 _ _ 6 rfl rfl rfl rfl, slice_piece x1 _ _ 7 rfl rfl rfl rfl, slice_piece x1 _ _ 8 rfl rfl rfl rfl]
  refine (concatenate_ofFn_apply (t := S128x576x8x64) (s₁ := S128x64x8x64) 1 (piece x1) _ rfl 64 rfl (ix4 c b h d)
    ⟨b.val / 64, by omega⟩ rfl (ix4 c (⟨b.val % 64, by omega⟩ : Fin 64) h d) rfl (fun n hn => ?_)).trans ?_
  · fin_cases n
    · rfl
    · exact absurd rfl hn
    · rfl
    · rfl
  · refine congrArg (fun r => keys x1 r (lane h d)) (Fin.ext ?_)
    show 64 * (c.val + b.val / 64) + b.val % 64 = 64 * c.val + b.val
    omega

/-- The windows of the values. -/
theorem v22_at (c : Fin 128) (b : Fin 576) (h : Fin 8) (d : Fin 64) :
    val_main_v22 (F := Ideal) x2 (ix4 c b h d) = keys x2 (krow c b) (lane h d) := v11_at x2 c b h d

/-- A key of a window is valid past the padding. -/
theorem valid_at (c : Fin 128) (h : Fin 8) (a : Fin 64) (b : Fin 576) :
    val_main_v43_1 (F := Ideal) (ix4 c h a b) = BitVec.ofBool (decide (512 ≤ 64 * c.val + b.val)) := by
  show IntOp.cmpi .sge (IntOp.addi (IntOp.muli (BitVec.ofNat 32 c.val) 64#32) (IntOp.subi (BitVec.ofNat 32 b.val) 512#32)) 0#32 = _
  rw [cmpi_sge_zero]
  have hc := c.isLt
  have hb := b.isLt
  have e : (IntOp.addi (IntOp.muli (BitVec.ofNat 32 c.val) 64#32) (IntOp.subi (BitVec.ofNat 32 b.val) 512#32)).toNat
      = (c.val * 64 + (b.val + 2 ^ 32 - 512) % 2 ^ 32) % 2 ^ 32 := by
    simp [IntOp.addi, IntOp.muli, IntOp.subi, BitVec.toNat_add, BitVec.toNat_sub, BitVec.toNat_mul]
    omega
  rw [e]
  refine congrArg BitVec.ofBool (decide_eq_decide.mpr ?_)
  omega

theorem bits_eighth : (FloatOps.ofBits FTy.f32 0x3E000000#32 : Ideal .f32) = (sc : EReal) := by
  show Ideal.ofBits .f32 0x3E000000#32 = sc
  simp [Ideal.ofBits, Ideal.ieee, -EReal.coe_mul]; norm_num

theorem bits_neg_inf : (FloatOps.ofBits FTy.f32 0xFF800000#32 : Ideal .f32) = (⊥ : EReal) := by
  show Ideal.ofBits .f32 0xFF800000#32 = ⊥
  simp [Ideal.ofBits, Ideal.ieee]

theorem bits_zero : (FloatOps.ofBits FTy.f32 0x00000000#32 : Ideal .f32) = (0 : EReal) := by
  show Ideal.ofBits .f32 0x00000000#32 = 0
  simp [Ideal.ofBits, Ideal.ieee]

theorem bits_one : (FloatOps.ofBits FTy.f32 0x3F800000#32 : Ideal .f32) = (1 : EReal) := by
  show Ideal.ofBits .f32 0x3F800000#32 = 1
  simp [Ideal.ofBits, Ideal.ieee, -EReal.coe_mul]; norm_num

/-- The product of the queries and the keys. -/
theorem v29_at (c : Fin 128) (h : Fin 8) (a : Fin 64) (b : Fin 576) :
    val_main_v29 (F := Ideal) x0 x1 (ix4 c h a b) = ∑ d, rows x0 (qrow c a) (lane h d) * keys x1 (krow c b) (lane h d) := by
  rw [val_main_v29_apply]
  refine Finset.sum_congr rfl fun d _ => ?_
  have e0 : lidx_main_v29 (ix4 c h a b) d = ix4 c a h d := eq_ix4 _
  have e1 : ridx_main_v29 (ix4 c h a b) d = ix4 c b h d := eq_ix4 _
  rw [e0, e1, v0_at, v11_at]

/-- The scores. -/
theorem score_at (c : Fin 128) (h : Fin 8) (a : Fin 64) (b : Fin 576) :
    val_main_v43_0 (F := Ideal) x0 x1 x4 (ix4 c h a b) = score (rows x0) (keys x1) (slab x4) c h a b := by
  rw [val_main_v43_0_apply, valid_at, val_main_v34_apply, val_main_v31_apply, v29_at, val_main_v33_apply, val_main_v32_apply]
  have e : idx_main_v32 (idx_main_v33 (ix4 c h a b)) = ix3 h a b := eq_ix3 _
  rw [e, val_main_v30_apply, val_main_cst_apply, val_main_call0_v2_apply, val_main_call0_v0_apply, val_main_cst_2_apply, bits_eighth, bits_neg_inf]
  unfold score
  by_cases hb : 512 ≤ 64 * c.val + b.val
  · rw [if_pos hb, decide_eq_true hb]; rfl
  · rw [if_neg hb, decide_eq_false hb]; rfl

/-- The row maximum. -/
theorem max_at (c : Fin 128) (h : Fin 8) (a : Fin 64) :
    val_main_v51 (F := Ideal) x0 x1 x4 (ix3 c h a) = rowMax (score (rows x0) (keys x1) (slab x4) c h a) := by
  have e : val_main_v44 (F := Ideal) x0 x1 x4 (ix3 c h a) = rowMax (score (rows x0) (keys x1) (slab x4) c h a) := by
    unfold val_main_v44
    rw [Host.reduce_eq_fold_single (FloatOps.maximumf : Ideal .f32 → Ideal .f32 → Ideal .f32) _ _ _ (by decide) h_S_, val_main_cst_3_apply, bits_neg_inf]
    unfold rowMax
    refine Finset.fold_congr fun b _ => ?_
    refine Eq.trans (congrArg (val_main_v43_0 (F := Ideal) x0 x1 x4) ?_) (score_at x0 x1 x4 c h a b)
    funext n
    fin_cases n <;> rfl
  rw [val_main_v51_apply, e, val_main_v50_apply, val_main_cst_5_apply, bits_neg_inf]
  exact max_eq_right bot_le

/-- The exponentials. -/
theorem ex_at (c : Fin 128) (h : Fin 8) (a : Fin 64) (b : Fin 576) :
    val_main_v64 (F := Ideal) x0 x1 x4 (ix4 c h a b) = ex (score (rows x0) (keys x1) (slab x4) c h a) b := by
  rw [val_main_v64_apply, val_main_v63_apply, score_at, val_main_v62_apply, val_main_v61_apply]
  have e : idx_main_v61 (idx_main_v62 (ix4 c h a b)) = ix3 c h a := eq_ix3 _
  rw [e, max_at]
  rfl

/-- Their sums. -/
theorem den_at (c : Fin 128) (h : Fin 8) (a : Fin 64) :
    val_main_v65 (F := Ideal) x0 x1 x4 (ix3 c h a) = den (score (rows x0) (keys x1) (slab x4) c h a) := by
  rw [val_main_v65_apply, val_main_cst_11_apply, bits_zero, zero_add]
  refine Finset.sum_congr rfl fun b _ => ?_
  have e : idx_main_v65 (ix3 c h a) b = ix4 c h a b := eq_ix4 _
  rw [e, ex_at]

theorem v66_at (c : Fin 128) (h : Fin 8) (a : Fin 64) :
    val_main_v66 (F := Ideal) x0 x1 x4 (ix4 c h a (0 : Fin 1)) = den (score (rows x0) (keys x1) (slab x4) c h a) := by
  rw [val_main_v66_apply]
  have e : idx_main_v66 (ix4 c h a (0 : Fin 1)) = ix3 c h a := eq_ix3 _
  rw [e, den_at]

/-- The probabilities. -/
theorem prob_at (c : Fin 128) (h : Fin 8) (a : Fin 64) (b : Fin 576) :
    val_main_v68 (F := Ideal) x0 x1 x4 (ix4 c h a b) = P (rows x0) (keys x1) (slab x4) c h a b := by
  rw [val_main_v68_apply, ex_at, val_main_v67_apply]
  have e : idx_main_v67 (ix4 c h a b) = ix4 c h a (0 : Fin 1) := eq_ix4 _
  rw [e, v66_at]
  rfl

/-- The cotangents of the probabilities. -/
theorem dprob_at (c : Fin 128) (h : Fin 8) (a : Fin 64) (b : Fin 576) :
    val_main_v77 (F := Ideal) x2 x3 (ix4 c h a b) = dprob (keys x2) (rows x3) c h a b := by
  rw [val_main_v77_apply]
  refine Finset.sum_congr rfl fun d _ => ?_
  have e0 : lidx_main_v77 (ix4 c h a b) d = ix4 c h d a := eq_ix4 _
  have e1 : ridx_main_v77 (ix4 c h a b) d = ix4 c b h d := eq_ix4 _
  rw [e0, e1, v22_at, val_main_v76_apply]
  have e2 : idx_main_v76 (ix4 c h d a) = ix4 c a h d := eq_ix4 _
  rw [e2, v75_at]

/-- The row's sum that the softmax's gradient takes away. -/
theorem v84_at (c : Fin 128) (h : Fin 8) (a : Fin 64) :
    val_main_v84 (F := Ideal) x0 x1 x2 x3 x4 (ix4 c h a (0 : Fin 1))
      = ∑ b, dprob (keys x2) (rows x3) c h a b
          * Ideal.div 1 (den (score (rows x0) (keys x1) (slab x4) c h a) * den (score (rows x0) (keys x1) (slab x4) c h a))
          * ex (score (rows x0) (keys x1) (slab x4) c h a) b := by
  rw [val_main_v84_apply]
  have e : idx_main_v84 (ix4 c h a (0 : Fin 1)) = ix3 c h a := by
    refine funext fun n => Fin.ext ?_
    fin_cases n
    · show (((c.val * 8 + h.val) * 64 + a.val) * 1 + 0) / 512 = c.val; omega
    · show (((c.val * 8 + h.val) * 64 + a.val) * 1 + 0) / 64 % 8 = h.val; omega
    · show (((c.val * 8 + h.val) * 64 + a.val) * 1 + 0) % 64 = a.val; omega
  rw [e, val_main_v83_apply, val_main_cst_13_apply, bits_zero, zero_add]
  refine Finset.sum_congr rfl fun b _ => ?_
  have e1 : idx_main_v83 (ix3 c h a) b = ix4 c h a b := eq_ix4 _
  rw [e1, val_main_v82_apply, val_main_v81_apply, dprob_at, ex_at, val_main_v80_apply]
  have e2 : idx_main_v80 (ix4 c h a b) = ix4 c h a (0 : Fin 1) := eq_ix4 _
  rw [e2, val_main_v71_apply, val_main_v69_apply, v66_at, val_main_v70_apply, val_main_cst_12_apply, bits_one]
  rfl

/-- The cotangents of the scores. -/
theorem DS_at (F : Finite (rows x0) (keys x1) (slab x4)) (c : Fin 128) (h : Fin 8) (a : Fin 64) (b : Fin 576) :
    val_main_v92 (F := Ideal) x0 x1 x2 x3 x4 (ix4 c h a b) = DS (rows x0) (keys x1) (keys x2) (rows x3) (slab x4) c h a b := by
  have H := (F.proper c h a).dscore_eq (dprob (keys x2) (rows x3) c h a) b
  rw [val_main_v92_apply, valid_at, val_main_v91_apply, val_main_v90_apply, val_main_v87_apply, dprob_at, ex_at, val_main_v86_apply,
    val_main_v89_apply]
  have e0 : idx_main_v86 (ix4 c h a b) = ix4 c h a (0 : Fin 1) := eq_ix4 _
  have e1 : idx_main_v89 (ix4 c h a b) = ix3 c h a := eq_ix3 _
  rw [e0, e1, v66_at, val_main_v88_apply, val_main_cst_14_apply, bits_zero, zero_add, Fin.sum_univ_one]
  have e2 : idx_main_v88 (ix3 c h a) 0 = ix4 c h a (0 : Fin 1) := eq_ix4 _
  rw [e2, val_main_v85_apply, v84_at, val_main_call1_v0_apply, val_main_call1_cst_apply, bits_zero]
  by_cases hb : 512 ≤ 64 * c.val + b.val
  · rw [decide_eq_true hb]
    exact H
  · rw [decide_eq_false hb]
    exact ((F.proper c h a).dscore_bot _ b (by rw [score, if_neg hb])).symm

end Cert.ReferenceIdeal.Read

end
-- ==== Proof.RefOut.lean ====
/- The reference's four results are the cotangents of the band attention. -/
module

public import proofs.«01_k».proof.Proof.Ref

@[expose] public section

set_option maxRecDepth 16384

noncomputable section

namespace Cert.ReferenceIdeal.Read

open Idealize.ShloMosaic Idealize.ShloMosaic.TcCoe
open Cert.ReferenceIdeal Cert.ReferenceIdeal.Gen Cert.Attn
open scoped BigOperators

/-- What the `n`-th of nine moved copies adds to row `x` of chunk `C`: row `64 n + x` of chunk `C - n`'s window. -/
def moved (y : S128x576x8x64.Idx → EReal) (C : Fin 136) (x : Fin 64) (h : Fin 8) (d : Fin 64) (n : Fin 9) : EReal :=
  if hC : n.val ≤ C.val ∧ C.val - n.val < 128 then y (ix4 (⟨C.val - n.val, hC.2⟩ : Fin 128) (⟨64 * n.val + x.val, by omega⟩ : Fin 576) h d) else 0

/-- A slice of the windows, padded back to its place. -/
theorem pad_moved (y : S128x576x8x64.Idx → EReal) (z : S_.Idx → EReal) (hz : ∀ i, z i = 0) (n : Fin 9)
    (o lo hi : Fin 4 → ℕ) (hs : S128x576x8x64.Slices o S128x64x8x64) (hp : S128x64x8x64.Pads lo hi ![0, 0, 0, 0] S136x64x8x64)
    (ho : o = ![0, 64 * n.val, 0, 0]) (hl : lo = ![n.val, 0, 0, 0])
    (C : Fin 136) (x : Fin 64) (h : Fin 8) (d : Fin 64) :
    pad S136x64x8x64 lo hi ![0, 0, 0, 0] (extractStridedSlice S128x64x8x64 o y hs) z hp h_S_ (ix4 C x h d) = moved y C x h d n := by
  subst ho hl
  unfold moved
  by_cases hC : n.val ≤ C.val ∧ C.val - n.val < 128
  · rw [dif_pos hC]
    rw [pad_apply_of_inside _ _ _ _ z hp h_S_ (ix4 C x h d) (ix4 (⟨C.val - n.val, hC.2⟩ : Fin 128) x h d) (fun b => by
      fin_cases b
      · show C.val = n.val + (C.val - n.val) * (0 + 1); omega
      · show x.val = 0 + x.val * (0 + 1); omega
      · show h.val = 0 + h.val * (0 + 1); omega
      · show d.val = 0 + d.val * (0 + 1); omega)]
    exact extractStridedSlice_apply _ y hs _ _ (fun b => by
      fin_cases b
      · show C.val - n.val = 0 + (C.val - n.val); omega
      · show 64 * n.val + x.val = 64 * n.val + x.val; rfl
      · show h.val = 0 + h.val; omega
      · show d.val = 0 + d.val; omega)
  · rw [dif_neg hC]
    rw [pad_apply_of_not_inside _ _ _ _ z hp h_S_ (ix4 C x h d) 0 (fun hh => hC ?_)]
    · exact hz _
    · obtain ⟨h1, -, h3⟩ := hh
      have h1' : n.val ≤ C.val := h1
      have h3' : (C.val - n.val) / (0 + 1) < 128 := h3
      omega

/-- Row `R` of all the windows that hold it. -/
theorem sum_moved (y : S128x576x8x64.Idx → EReal) (C : Fin 136) (x : Fin 64) (h : Fin 8) (d : Fin 64) (R : Fin 8704)
    (hR : R.val = 64 * C.val + x.val) :
    ∑ n : Fin 9, moved y C x h d n
      = ∑ c : Fin 128, if hb : 64 * c.val ≤ R.val ∧ R.val < 64 * c.val + 576 then y (ix4 c (⟨R.val - 64 * c.val, by omega⟩ : Fin 576) h d) else 0 := by
  have hx := x.isLt
  let T : Fin 128 → EReal := fun c =>
    if hb : 64 * c.val ≤ R.val ∧ R.val < 64 * c.val + 576 then y (ix4 c (⟨R.val - 64 * c.val, by omega⟩ : Fin 576) h d) else 0
  have e1 : ∀ c : Fin 128, T c = ∑ n : Fin 9, if c.val + n.val = C.val then T c else 0 := by
    intro c
    by_cases hb : 64 * c.val ≤ R.val ∧ R.val < 64 * c.val + 576
    · rw [Finset.sum_eq_single (⟨C.val - c.val, by omega⟩ : Fin 9)]
      · rw [if_pos (by show c.val + (C.val - c.val) = C.val; omega)]
      · intro n _ hn
        exact if_neg fun hh => hn (Fin.ext (by show n.val = C.val - c.val; omega))
      · intro hh; exact absurd (Finset.mem_univ _) hh
    · have h0 : T c = 0 := dif_neg hb
      rw [h0]
      exact (Finset.sum_eq_zero fun n _ => ite_self _).symm
  have e2 : ∀ n : Fin 9, moved y C x h d n = ∑ c : Fin 128, if c.val + n.val = C.val then T c else 0 := by
    intro n
    unfold moved
    by_cases hC : n.val ≤ C.val ∧ C.val - n.val < 128
    · rw [dif_pos hC, Finset.sum_eq_single (⟨C.val - n.val, hC.2⟩ : Fin 128)]
      · rw [if_pos (by show C.val - n.val + n.val = C.val; omega)]
        refine Eq.trans ?_ (dif_pos (by show 64 * (C.val - n.val) ≤ R.val ∧ R.val < 64 * (C.val - n.val) + 576; omega)).symm
        refine congrArg (fun b : Fin 576 => y (ix4 (⟨C.val - n.val, hC.2⟩ : Fin 128) b h d)) (Fin.ext ?_)
        show 64 * n.val + x.val = R.val - 64 * (C.val - n.val)
        omega
      · intro c _ hc
        exact if_neg fun hh => hc (Fin.ext (by show c.val = C.val - n.val; omega))
      · intro hh; exact absurd (Finset.mem_univ _) hh
    · rw [dif_neg hC]
      refine (Finset.sum_eq_zero fun c _ => if_neg fun hh => hC ?_).symm
      have := c.isLt
      omega
  rw [Finset.sum_congr rfl fun n _ => e2 n, Finset.sum_comm]
  exact (Finset.sum_congr rfl fun c _ => (e1 c).symm)

theorem sum_nine (f : Fin 9 → EReal) : f 8 + f 7 + f 6 + f 5 + f 4 + f 3 + f 2 + f 1 + f 0 = ∑ n, f n := by
  simp only [Fin.sum_univ_succ, Fin.sum_univ_zero, add_zero]
  show f 8 + f 7 + f 6 + f 5 + f 4 + f 3 + f 2 + f 1 + f 0 = f 0 + (f 1 + (f 2 + (f 3 + (f 4 + (f 5 + (f 6 + (f 7 + f 8)))))))
  ac_rfl

variable (x0 : (⟨S8192x512, .f32⟩ : BufTy).Contents (Elt Ideal)) (x1 x2 : (⟨S8704x512, .f32⟩ : BufTy).Contents (Elt Ideal))
  (x3 : (⟨S8192x512, .f32⟩ : BufTy).Contents (Elt Ideal)) (x4 : (⟨S8x64x576, .f32⟩ : BufTy).Contents (Elt Ideal))

/-- The nine copies of the values' windows. -/
theorem v127_at (C : Fin 136) (x : Fin 64) (h : Fin 8) (d : Fin 64) :
    val_main_v127 (F := Ideal) x0 x1 x3 x4 (ix4 C x h d) = ∑ n, moved (val_main_v79 (F := Ideal) x0 x1 x3 x4) C x h d n := by
  rw [← sum_nine]
  have z : ∀ i, constant (F := Ideal) S_ .f32 0x00000000#32 i = (0 : EReal) := fun _ => bits_zero
  have p := pad_moved (val_main_v79 (F := Ideal) x0 x1 x3 x4) (constant (F := Ideal) S_ .f32 0x00000000#32) z
  rw [val_main_v127_apply, val_main_v125_apply, val_main_v123_apply, val_main_v121_apply, val_main_v119_apply, val_main_v117_apply,
    val_main_v115_apply, val_main_v113_apply]
  exact congrArg₂ (· + ·) (congrArg₂ (· + ·) (congrArg₂ (· + ·) (congrArg₂ (· + ·) (congrArg₂ (· + ·) (congrArg₂ (· + ·) (congrArg₂ (· + ·)
    (congrArg₂ (· + ·) (p 8 _ _ _ _ _ rfl rfl C x h d) (p 7 _ _ _ _ _ rfl rfl C x h d)) (p 6 _ _ _ _ _ rfl rfl C x h d))
    (p 5 _ _ _ _ _ rfl rfl C x h d)) (p 4 _ _ _ _ _ rfl rfl C x h d)) (p 3 _ _ _ _ _ rfl rfl C x h d)) (p 2 _ _ _ _ _ rfl rfl C x h d))
    (p 1 _ _ _ _ _ rfl rfl C x h d)) (p 0 _ _ _ _ _ rfl rfl C x h d)

/-- The nine copies of the keys' windows. -/
theorem v154_at (C : Fin 136) (x : Fin 64) (h : Fin 8) (d : Fin 64) :
    val_main_v154 (F := Ideal) x0 x1 x2 x3 x4 (ix4 C x h d) = ∑ n, moved (val_main_v99 (F := Ideal) x0 x1 x2 x3 x4) C x h d n := by
  rw [← sum_nine]
  have z : ∀ i, constant (F := Ideal) S_ .f32 0x00000000#32 i = (0 : EReal) := fun _ => bits_zero
  have p := pad_moved (val_main_v99 (F := Ideal) x0 x1 x2 x3 x4) (constant (F := Ideal) S_ .f32 0x00000000#32) z
  rw [val_main_v154_apply, val_main_v152_apply, val_main_v150_apply, val_main_v148_apply, val_main_v146_apply, val_main_v144_apply,
    val_main_v142_apply, val_main_v140_apply]
  exact congrArg₂ (· + ·) (congrArg₂ (· + ·) (congrArg₂ (· + ·) (congrArg₂ (· + ·) (congrArg₂ (· + ·) (congrArg₂ (· + ·) (congrArg₂ (· + ·)
    (congrArg₂ (· + ·) (p 8 _ _ _ _ _ rfl rfl C x h d) (p 7 _ _ _ _ _ rfl rfl C x h d)) (p 6 _ _ _ _ _ rfl rfl C x h d))
    (p 5 _ _ _ _ _ rfl rfl C x h d)) (p 4 _ _ _ _ _ rfl rfl C x h d)) (p 3 _ _ _ _ _ rfl rfl C x h d)) (p 2 _ _ _ _ _ rfl rfl C x h d))
    (p 1 _ _ _ _ _ rfl rfl C x h d)) (p 0 _ _ _ _ _ rfl rfl C x h d)

/-- The values' cotangent of one window. -/
theorem v79_at (c : Fin 128) (b : Fin 576) (h : Fin 8) (d : Fin 64) :
    val_main_v79 (F := Ideal) x0 x1 x3 x4 (ix4 c b h d)
      = ∑ a, P (rows x0) (keys x1) (slab x4) c h a b * rows x3 (qrow c a) (lane h d) := by
  rw [val_main_v79_apply]
  have e : idx_main_v79 (ix4 c b h d) = ix4 c h d b := eq_ix4 _
  rw [e, val_main_v78_apply]
  refine Finset.sum_congr rfl fun a _ => ?_
  have e0 : lidx_main_v78 (ix4 c h d b) a = ix4 c h d a := eq_ix4 _
  have e1 : ridx_main_v78 (ix4 c h d b) a = ix4 c h a b := eq_ix4 _
  rw [e0, e1, prob_at, val_main_v76_apply]
  have e2 : idx_main_v76 (ix4 c h d a) = ix4 c a h d := eq_ix4 _
  rw [e2, v75_at, mul_comm]

section
variable (F : Finite (rows x0) (keys x1) (slab x4))
include F

/-- The scores' cotangents, scaled. -/
theorem v97_at (c : Fin 128) (h : Fin 8) (a : Fin 64) (b : Fin 576) :
    val_main_v97 (F := Ideal) x0 x1 x2 x3 x4 (ix4 c h a b) = DS (rows x0) (keys x1) (keys x2) (rows x3) (slab x4) c h a b * sc := by
  rw [val_main_v97_apply, DS_at x0 x1 x2 x3 x4 F, val_main_v96_apply, val_main_cst_17_apply, bits_eighth]
  rfl

/-- The keys' cotangent of one window. -/
theorem v99_at (c : Fin 128) (b : Fin 576) (h : Fin 8) (d : Fin 64) :
    val_main_v99 (F := Ideal) x0 x1 x2 x3 x4 (ix4 c b h d)
      = (∑ a, DS (rows x0) (keys x1) (keys x2) (rows x3) (slab x4) c h a b * rows x0 (qrow c a) (lane h d)) * sc := by
  rw [val_main_v99_apply]
  have e : idx_main_v99 (ix4 c b h d) = ix4 c h b d := eq_ix4 _
  rw [e, val_main_v98_apply, sum_mul_coe _ (by norm_num)]
  refine Finset.sum_congr rfl fun a _ => ?_
  have e0 : lidx_main_v98 (ix4 c h b d) a = ix4 c h a b := eq_ix4 _
  have e1 : ridx_main_v98 (ix4 c h b d) a = ix4 c a h d := eq_ix4 _
  rw [e0, e1, v97_at x0 x1 x2 x3 x4 F, v0_at, mul_right_comm]

/-- The queries' cotangent. -/
theorem v101_at (c : Fin 128) (a : Fin 64) (h : Fin 8) (d : Fin 64) :
    val_main_v101 (F := Ideal) x0 x1 x2 x3 x4 (ix4 c a h d) = dQ (rows x0) (keys x1) (keys x2) (rows x3) (slab x4) c a h d := by
  rw [val_main_v101_apply]
  have e : idx_main_v101 (ix4 c a h d) = ix4 c h a d := eq_ix4 _
  rw [e, val_main_v100_apply]
  unfold dQ
  rw [sum_mul_coe _ (by norm_num)]
  refine Finset.sum_congr rfl fun b _ => ?_
  have e0 : lidx_main_v100 (ix4 c h a d) b = ix4 c h a b := eq_ix4 _
  have e1 : ridx_main_v100 (ix4 c h a d) b = ix4 c b h d := eq_ix4 _
  rw [e0, e1, v97_at x0 x1 x2 x3 x4 F, v11_at, mul_right_comm]

/-- The first result. -/
theorem v156_eq :
    val_main_v156 (F := Ideal) x0 x1 x2 x3 x4 = fun j : S8192x512.Idx => dQa (rows x0) (keys x1) (keys x2) (rows x3) (slab x4) (j 0) (j 1) := by
  funext j
  obtain ⟨R, l, rfl⟩ : ∃ (R : Fin 8192) (l : Fin 512), j = ix2 R l := ⟨j 0, j 1, (ix2_eta j).symm⟩
  rw [val_main_v156_apply]
  have e : idx_main_v156 (ix2 R l) = ix4 (⟨R.val / 64, by omega⟩ : Fin 128) (⟨R.val % 64, by omega⟩ : Fin 64) (⟨l.val / 64, by omega⟩ : Fin 8) (⟨l.val % 64, by omega⟩ : Fin 64) := by
    refine funext fun n => Fin.ext ?_
    have hl := l.isLt
    fin_cases n
    · show (R.val * 512 + l.val) / 32768 = R.val / 64; omega
    · show (R.val * 512 + l.val) / 512 % 64 = R.val % 64; omega
    · show (R.val * 512 + l.val) / 64 % 8 = l.val / 64; omega
    · show (R.val * 512 + l.val) % 64 = l.val % 64; omega
  rw [e]
  exact v101_at x0 x1 x2 x3 x4 F _ _ _ _

/-- The second result. -/
theorem v155_eq :
    val_main_v155 (F := Ideal) x0 x1 x2 x3 x4 = fun j : S8704x512.Idx => dKa (rows x0) (keys x1) (keys x2) (rows x3) (slab x4) (j 0) (j 1) := by
  funext j
  obtain ⟨R, l, rfl⟩ : ∃ (R : Fin 8704) (l : Fin 512), j = ix2 R l := ⟨j 0, j 1, (ix2_eta j).symm⟩
  rw [val_main_v155_apply]
  have e : idx_main_v155 (ix2 R l) = ix4 (⟨R.val / 64, by omega⟩ : Fin 136) (⟨R.val % 64, by omega⟩ : Fin 64) (⟨l.val / 64, by omega⟩ : Fin 8) (⟨l.val % 64, by omega⟩ : Fin 64) := by
    refine funext fun n => Fin.ext ?_
    have hl := l.isLt
    fin_cases n
    · show (R.val * 512 + l.val) / 32768 = R.val / 64; omega
    · show (R.val * 512 + l.val) / 512 % 64 = R.val % 64; omega
    · show (R.val * 512 + l.val) / 64 % 8 = l.val / 64; omega
    · show (R.val * 512 + l.val) % 64 = l.val % 64; omega
  rw [e, v154_at, sum_moved _ _ _ _ _ R (by show R.val = 64 * (R.val / 64) + R.val % 64; omega)]
  unfold dKa dK
  refine Finset.sum_congr rfl fun c _ => dite_congr rfl (fun hb => ?_) fun _ => rfl
  exact v99_at x0 x1 x2 x3 x4 F c _ _ _

/-- The fourth result. -/
theorem v95_eq :
    val_main_v95 (F := Ideal) x0 x1 x2 x3 x4 = fun j : S8x64x576.Idx => dB (rows x0) (keys x1) (keys x2) (rows x3) (slab x4) (j 0) (j 1) (j 2) := by
  funext j
  obtain ⟨h, a, b, rfl⟩ : ∃ (h : Fin 8) (a : Fin 64) (b : Fin 576), j = ix3 h a b := ⟨j 0, j 1, j 2, (ix3_eta j).symm⟩
  rw [val_main_v95_apply, val_main_cst_16_apply, bits_zero, zero_add, Fin.sum_univ_one]
  have e : idx_main_v95 (ix3 h a b) 0 = ix4 (0 : Fin 1) h a b := eq_ix4 _
  rw [e, val_main_v94_apply]
  have e1 : idx_main_v94 (ix4 (0 : Fin 1) h a b) = ix3 h a b := by
    refine funext fun n => Fin.ext ?_
    fin_cases n
    · show (((0 * 8 + h.val) * 64 + a.val) * 576 + b.val) / 36864 = h.val; omega
    · show (((0 * 8 + h.val) * 64 + a.val) * 576 + b.val) / 576 % 64 = a.val; omega
    · show (((0 * 8 + h.val) * 64 + a.val) * 576 + b.val) % 576 = b.val; omega
  rw [e1, val_main_v93_apply, val_main_cst_15_apply, bits_zero, zero_add]
  refine Finset.sum_congr rfl fun c _ => ?_
  have e2 : idx_main_v93 (ix3 h a b) c = ix4 c h a b := eq_ix4 _
  rw [e2]
  exact DS_at x0 x1 x2 x3 x4 F c h a b

end

/-- The third result. -/
theorem v128_eq :
    val_main_v128 (F := Ideal) x0 x1 x3 x4 = fun j : S8704x512.Idx => dVa (rows x0) (keys x1) (rows x3) (slab x4) (j 0) (j 1) := by
  funext j
  obtain ⟨R, l, rfl⟩ : ∃ (R : Fin 8704) (l : Fin 512), j = ix2 R l := ⟨j 0, j 1, (ix2_eta j).symm⟩
  rw [val_main_v128_apply]
  have e : idx_main_v128 (ix2 R l) = ix4 (⟨R.val / 64, by omega⟩ : Fin 136) (⟨R.val % 64, by omega⟩ : Fin 64) (⟨l.val / 64, by omega⟩ : Fin 8) (⟨l.val % 64, by omega⟩ : Fin 64) := by
    refine funext fun n => Fin.ext ?_
    have hl := l.isLt
    fin_cases n
    · show (R.val * 512 + l.val) / 32768 = R.val / 64; omega
    · show (R.val * 512 + l.val) / 512 % 64 = R.val % 64; omega
    · show (R.val * 512 + l.val) / 64 % 8 = l.val / 64; omega
    · show (R.val * 512 + l.val) % 64 = l.val % 64; omega
  rw [e, v127_at, sum_moved _ _ _ _ _ R (by show R.val = 64 * (R.val / 64) + R.val % 64; omega)]
  unfold dVa dV
  refine Finset.sum_congr rfl fun c _ => dite_congr rfl (fun hb => ?_) fun _ => rfl
  exact v79_at x0 x1 x3 x4 c _ _ _

end Cert.ReferenceIdeal.Read

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Frame
public import proofs.«01_k».proof.Proof.Gen.FfnRefIdeal.Run
public import proofs.«01_k».proof.Proof.Gen.Mix.Frame
public import proofs.«01_k».proof.Proof.Gen.MixIdeal.Frame
public import proofs.«01_k».proof.Proof.Gen.MixRefIdeal.Run
public import proofs.«01_k».proof.Proof.Gen.Ssm.Frame
public import proofs.«01_k».proof.Proof.Gen.SsmIdeal.Frame
public import proofs.«01_k».proof.Proof.Gen.SsmRefIdeal.Run
public import proofs.«01_k».proof.Proof.Gen.FfnDwIn.Frame
public import proofs.«01_k».proof.Proof.Gen.FfnDwInIdeal.Frame
public import proofs.«01_k».proof.Proof.Gen.FfnDwInRefIdeal.Run
public import proofs.«01_k».proof.Proof.Gen.FfnDwOut.Frame
public import proofs.«01_k».proof.Proof.Gen.FfnDwOutIdeal.Frame
public import proofs.«01_k».proof.Proof.Gen.FfnDwOutRefIdeal.Run
public import proofs.«01_k».proof.Proof.Gen.AttnDwIn.Frame
public import proofs.«01_k».proof.Proof.Gen.AttnDwInIdeal.Frame
public import proofs.«01_k».proof.Proof.Gen.AttnDwInRefIdeal.Run
public import proofs.«01_k».proof.Proof.Gen.AttnDwOut.Frame
public import proofs.«01_k».proof.Proof.Gen.AttnDwOutIdeal.Frame
public import proofs.«01_k».proof.Proof.Gen.AttnDwOutRefIdeal.Run
public import proofs.«01_k».proof.Proof.Gen.SsmDwZ.Frame
public import proofs.«01_k».proof.Proof.Gen.SsmDwZIdeal.Frame
public import proofs.«01_k».proof.Proof.Gen.SsmDwZRefIdeal.Run
public import proofs.«01_k».proof.Proof.Gen.SsmDwX.Frame
public import proofs.«01_k».proof.Proof.Gen.SsmDwXIdeal.Frame
public import proofs.«01_k».proof.Proof.Gen.SsmDwXRefIdeal.Run
public import proofs.«01_k».proof.Proof.Gen.SsmDwOut.Frame
public import proofs.«01_k».proof.Proof.Gen.SsmDwOutIdeal.Frame
public import proofs.«01_k».proof.Proof.Gen.SsmDwOutRefIdeal.Run
public import proofs.«01_k».proof.Proof.Gen.FfnDh.Frame
public import proofs.«01_k».proof.Proof.Gen.FfnDhIdeal.Frame
public import proofs.«01_k».proof.Proof.Gen.FfnDhRefIdeal.Run
public import proofs.«01_k».proof.Proof.Gen.AttnDh.Frame
public import proofs.«01_k».proof.Proof.Gen.AttnDhIdeal.Frame
public import proofs.«01_k».proof.Proof.Gen.AttnDhRefIdeal.Run
public import proofs.«01_k».proof.Proof.Gen.FfnLoss.Frame
public import proofs.«01_k».proof.Proof.Gen.FfnLossIdeal.Frame
public import proofs.«01_k».proof.Proof.Gen.FfnLossRefIdeal.Run
public import proofs.«01_k».proof.Proof.Gen.AttnOut.Frame
public import proofs.«01_k».proof.Proof.Gen.AttnOutIdeal.Frame
public import proofs.«01_k».proof.Proof.Gen.AttnOutRefIdeal.Run
public import proofs.«01_k».proof.Proof.Gen.AttnOutRefIdeal.Read
public import proofs.«01_k».proof.Proof.Products
public import proofs.«01_k».proof.Proof.FwdPre
public import proofs.«01_k».proof.Proof.FwdVal
public import proofs.«01_k».proof.Proof.FwdRef
public import proofs.«01_k».proof.Proof.Pre
public import proofs.«01_k».proof.Proof.Kern
public import proofs.«01_k».proof.Proof.RefOut
public import Idealize.ShloMosaic.Adequacy
public import Idealize.ShloMosaic.Init

@[expose] public section

noncomputable section

namespace Cert.Proof

open Idealize.ShloMosaic Idealize.SL.Sem Cert.KernelIdeal Cert.KernelIdeal.Tile Cert.ReferenceIdeal.Read

/-- The reference's frame: its run leaves the arguments unchanged, and it has no semaphore. -/
theorem frame_r : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run m ρ)

/-- The same for the initial memories that meet the precondition. -/
theorem frame_r_finite [Cert.Pre_finite.Facts] : Cert.quiescent_ReferenceIdeal_pre_finite := fun m ρ _ =>
  frame_r m ρ trivial

/-- A function of five equal arguments. -/
theorem congr5 {A B C D E T : Type} {a a' : A} {b b' : B} {c c' : C} {d d' : D} {e e' : E} (ha : a = a') (hb : b = b')
    (hc : c = c') (hd : d = d') (he : e = e') (f : A → B → C → D → E → T) : f a b c d e = f a' b' c' d' e' := by
  rw [ha, hb, hc, hd, he]

/-- A function of four equal arguments. -/
theorem congr4 {A B C D T : Type} {a a' : A} {b b' : B} {c c' : C} {d d' : D} (ha : a = a') (hb : b = b')
    (hc : c = c') (hd : d = d') (f : A → B → C → D → T) : f a b c d = f a' b' c' d' := by
  rw [ha, hb, hc, hd]

/-- The kernel's gradients of the queries, the keys, the values and the bias are the reference's. -/
theorem gradient [Cert.Pre_finite.Facts] : Cert.algebraic_KernelIdeal_ReferenceIdeal_pre_finite := by
  intro m g m' g' hp h
  have F : ∀ c, Cert.Attn.Finite (Cert.KernelIdeal.Tile.aq m c) (Cert.KernelIdeal.Tile.ak m c) (Cert.KernelIdeal.Tile.ab m c) :=
    fun c => Cert.Pre_finite.finite_of _ _ _ _ _ (hp c)
  refine ⟨fun c => (fun j : S8192x512.Idx => Cert.Attn.dQa (aq m c) (ak m c) (av m c) (ag m c) (ab m c) (j 0) (j 1)),
    fun c => (fun j : S8704x512.Idx => Cert.Attn.dKa (aq m c) (ak m c) (av m c) (ag m c) (ab m c) (j 0) (j 1)),
    fun c => (fun j : S8704x512.Idx => Cert.Attn.dVa (aq m c) (ak m c) (ag m c) (ab m c) (j 0) (j 1)),
    fun c => (fun j : S8x64x576.Idx => Cert.Attn.dB (aq m c) (ak m c) (av m c) (ag m c) (ab m c) (j 0) (j 1) (j 2)),
    Cert.KernelIdeal.Tile.run_value m g F,
    (θ_run Cert.ReferenceIdeal.defs _ _).mono (fun r hr c => ?_) (Cert.ReferenceIdeal.Value.run m' g')⟩
  obtain ⟨h0, h1, h2, h3, h4⟩ := h c
  obtain ⟨r0, r1, r2, r3, ra⟩ := hr c
  exact ⟨(r0.trans (val_main_v156_eq _)).trans ((congr5 h0 h1 h2 h3 h4 (val_main_v156 (F := Ideal))).trans (v156_eq _ _ _ _ _ (F c))),
    (r1.trans (val_main_v155_eq _)).trans ((congr5 h0 h1 h2 h3 h4 (val_main_v155 (F := Ideal))).trans (v155_eq _ _ _ _ _ (F c))),
    (r2.trans (val_main_v128_eq _)).trans ((congr4 h0 h1 h3 h4 (val_main_v128 (F := Ideal))).trans (v128_eq _ _ _ _)),
    (r3.trans (val_main_v95_eq _)).trans ((congr5 h0 h1 h2 h3 h4 (val_main_v95 (F := Ideal))).trans (v95_eq _ _ _ _ _ (F c))), ra⟩

/-- The frame of `FfnRefIdeal`. -/
theorem frame_Ffn : Cert.quiescent_FfnRefIdeal := fun m ρ _ =>
  (θ_run Cert.FfnRefIdeal.defs _ _).mono
    (fun r h => ⟨fun c => (h c).2.2.2.2.2.2, Idealize.ShloMosaic.sem_eq_zero_of_no_sems (by decide) r.2⟩)
    (Cert.FfnRefIdeal.Value.run m ρ)

/-- The frame of `MixRefIdeal`. -/
theorem frame_Mix : Cert.quiescent_MixRefIdeal := fun m ρ _ =>
  (θ_run Cert.MixRefIdeal.defs _ _).mono
    (fun r h => ⟨fun c => (h c).2.2.2.2.2, Idealize.ShloMosaic.sem_eq_zero_of_no_sems (by decide) r.2⟩)
    (Cert.MixRefIdeal.Value.run m ρ)

/-- The frame of `SsmRefIdeal`. -/
theorem frame_Ssm : Cert.quiescent_SsmRefIdeal := fun m ρ _ =>
  (θ_run Cert.SsmRefIdeal.defs _ _).mono
    (fun r h => ⟨fun c => (h c).2.2.2.2.2.2, Idealize.ShloMosaic.sem_eq_zero_of_no_sems (by decide) r.2⟩)
    (Cert.SsmRefIdeal.Value.run m ρ)

/-- The frame of `FfnDwInRefIdeal`. -/
theorem frame_FfnDwIn : Cert.quiescent_FfnDwInRefIdeal := fun m ρ _ =>
  (θ_run Cert.FfnDwInRefIdeal.defs _ _).mono
    (fun r h => ⟨fun c => (h c).2, Idealize.ShloMosaic.sem_eq_zero_of_no_sems (by decide) r.2⟩)
    (Cert.FfnDwInRefIdeal.Value.run m ρ)

/-- The frame of `FfnDwOutRefIdeal`. -/
theorem frame_FfnDwOut : Cert.quiescent_FfnDwOutRefIdeal := fun m ρ _ =>
  (θ_run Cert.FfnDwOutRefIdeal.defs _ _).mono
    (fun r h => ⟨fun c => (h c).2, Idealize.ShloMosaic.sem_eq_zero_of_no_sems (by decide) r.2⟩)
    (Cert.FfnDwOutRefIdeal.Value.run m ρ)

/-- The frame of `AttnDwInRefIdeal`. -/
theorem frame_AttnDwIn : Cert.quiescent_AttnDwInRefIdeal := fun m ρ _ =>
  (θ_run Cert.AttnDwInRefIdeal.defs _ _).mono
    (fun r h => ⟨fun c => (h c).2, Idealize.ShloMosaic.sem_eq_zero_of_no_sems (by decide) r.2⟩)
    (Cert.AttnDwInRefIdeal.Value.run m ρ)

/-- The frame of `AttnDwOutRefIdeal`. -/
theorem frame_AttnDwOut : Cert.quiescent_AttnDwOutRefIdeal := fun m ρ _ =>
  (θ_run Cert.AttnDwOutRefIdeal.defs _ _).mono
    (fun r h => ⟨fun c => (h c).2, Idealize.ShloMosaic.sem_eq_zero_of_no_sems (by decide) r.2⟩)
    (Cert.AttnDwOutRefIdeal.Value.run m ρ)

/-- The frame of `SsmDwZRefIdeal`. -/
theorem frame_SsmDwZ : Cert.quiescent_SsmDwZRefIdeal := fun m ρ _ =>
  (θ_run Cert.SsmDwZRefIdeal.defs _ _).mono
    (fun r h => ⟨fun c => (h c).2, Idealize.ShloMosaic.sem_eq_zero_of_no_sems (by decide) r.2⟩)
    (Cert.SsmDwZRefIdeal.Value.run m ρ)

/-- The frame of `SsmDwXRefIdeal`. -/
theorem frame_SsmDwX : Cert.quiescent_SsmDwXRefIdeal := fun m ρ _ =>
  (θ_run Cert.SsmDwXRefIdeal.defs _ _).mono
    (fun r h => ⟨fun c => (h c).2, Idealize.ShloMosaic.sem_eq_zero_of_no_sems (by decide) r.2⟩)
    (Cert.SsmDwXRefIdeal.Value.run m ρ)

/-- The frame of `SsmDwOutRefIdeal`. -/
theorem frame_SsmDwOut : Cert.quiescent_SsmDwOutRefIdeal := fun m ρ _ =>
  (θ_run Cert.SsmDwOutRefIdeal.defs _ _).mono
    (fun r h => ⟨fun c => (h c).2, Idealize.ShloMosaic.sem_eq_zero_of_no_sems (by decide) r.2⟩)
    (Cert.SsmDwOutRefIdeal.Value.run m ρ)

/-- The frame of `FfnDhRefIdeal`. -/
theorem frame_FfnDh : Cert.quiescent_FfnDhRefIdeal := fun m ρ _ =>
  (θ_run Cert.FfnDhRefIdeal.defs _ _).mono
    (fun r h => ⟨fun c => (h c).2.2.2, Idealize.ShloMosaic.sem_eq_zero_of_no_sems (by decide) r.2⟩)
    (Cert.FfnDhRefIdeal.Value.run m ρ)

/-- The frame of `AttnDhRefIdeal`. -/
theorem frame_AttnDh : Cert.quiescent_AttnDhRefIdeal := fun m ρ _ =>
  (θ_run Cert.AttnDhRefIdeal.defs _ _).mono
    (fun r h => ⟨fun c => (h c).2.2.2, Idealize.ShloMosaic.sem_eq_zero_of_no_sems (by decide) r.2⟩)
    (Cert.AttnDhRefIdeal.Value.run m ρ)

/-- The frame of `FfnLossRefIdeal`. -/
theorem frame_FfnLoss : Cert.quiescent_FfnLossRefIdeal := fun m ρ _ =>
  (θ_run Cert.FfnLossRefIdeal.defs _ _).mono
    (fun r h => ⟨fun c => (h c).2.2.2, Idealize.ShloMosaic.sem_eq_zero_of_no_sems (by decide) r.2⟩)
    (Cert.FfnLossRefIdeal.Value.run m ρ)

/-- The frame of `AttnOutRefIdeal`. -/
theorem frame_AttnOut : Cert.quiescent_AttnOutRefIdeal := fun m ρ _ =>
  (θ_run Cert.AttnOutRefIdeal.defs _ _).mono
    (fun r h => ⟨fun c => (h c).2, Idealize.ShloMosaic.sem_eq_zero_of_no_sems (by decide) r.2⟩)
    (Cert.AttnOutRefIdeal.Value.run m ρ)

/-- The same for the initial memories that meet the precondition. -/
theorem frame_AttnOut_finite [Cert.Pre_finite_fwd.Facts] : Cert.quiescent_AttnOutRefIdeal_pre_finite_fwd := fun m ρ _ =>
  frame_AttnOut m ρ trivial

/-- The output of the attention's forward is the reference's: both are `Cert.Attn.Oa` of the arguments. -/
theorem forward [Cert.Pre_finite_fwd.Facts] : Cert.algebraic_AttnOutIdeal_AttnOutRefIdeal_pre_finite_fwd := by
  intro m g m' g' hp h
  have F : ∀ c, Cert.Attn.Finite (Cert.AttnOutIdeal.Tile.aq m c) (Cert.AttnOutIdeal.Tile.ak m c) (Cert.AttnOutIdeal.Tile.ab m c) :=
    fun c => Cert.Pre_finite_fwd.finite_of _ _ _ _ (hp c)
  refine ⟨fun c => (fun j : Cert.AttnOutIdeal.S8192x512.Idx => Cert.Attn.Oa (Cert.AttnOutIdeal.Tile.aq m c)
      (Cert.AttnOutIdeal.Tile.ak m c) (Cert.AttnOutIdeal.Tile.av m c) (Cert.AttnOutIdeal.Tile.ab m c) (j 0) (j 1)),
    Cert.AttnOutIdeal.Tile.run_value m g F,
    (θ_run Cert.AttnOutRefIdeal.defs _ _).mono (fun r hr c => ?_) (Cert.AttnOutRefIdeal.Value.run m' g')⟩
  obtain ⟨h0, h1, h2, h3⟩ := h c
  obtain ⟨r0, ra⟩ := hr c
  exact ⟨(r0.trans (Cert.AttnOutRefIdeal.Read.val_main_v58_eq _ _)).trans
    ((congr4 h0 h1 h2 h3 (Cert.AttnOutRefIdeal.Read.val_main_v58 (F := Ideal))).trans
      (Cert.AttnOutRefIdeal.Read.ref_value _ _ _ _)), ra⟩

/-- All the claims of the fifteen programs: side conditions, frames, idealizations, values. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Ssm.Gen.facts, Cert.SsmIdeal.Gen.facts, Cert.SsmRefIdeal.Gen.facts,
  Cert.FfnDwIn.Gen.facts, Cert.FfnDwInIdeal.Gen.facts, Cert.FfnDwInRefIdeal.Gen.facts,
  Cert.FfnDwOut.Gen.facts, Cert.FfnDwOutIdeal.Gen.facts, Cert.FfnDwOutRefIdeal.Gen.facts,
  Cert.AttnDwIn.Gen.facts, Cert.AttnDwInIdeal.Gen.facts, Cert.AttnDwInRefIdeal.Gen.facts,
  Cert.AttnDwOut.Gen.facts, Cert.AttnDwOutIdeal.Gen.facts, Cert.AttnDwOutRefIdeal.Gen.facts,
  Cert.SsmDwZ.Gen.facts, Cert.SsmDwZIdeal.Gen.facts, Cert.SsmDwZRefIdeal.Gen.facts,
  Cert.SsmDwX.Gen.facts, Cert.SsmDwXIdeal.Gen.facts, Cert.SsmDwXRefIdeal.Gen.facts,
  Cert.SsmDwOut.Gen.facts, Cert.SsmDwOutIdeal.Gen.facts, Cert.SsmDwOutRefIdeal.Gen.facts,
  Cert.FfnDh.Gen.facts, Cert.FfnDhIdeal.Gen.facts, Cert.FfnDhRefIdeal.Gen.facts,
  Cert.AttnDh.Gen.facts, Cert.AttnDhIdeal.Gen.facts, Cert.AttnDhRefIdeal.Gen.facts,
  Cert.FfnLoss.Gen.facts, Cert.FfnLossIdeal.Gen.facts, Cert.FfnLossRefIdeal.Gen.facts,
  Cert.AttnOut.Gen.facts, Cert.AttnOutIdeal.Gen.facts, Cert.AttnOutRefIdeal.Gen.facts,
  Cert.Pre_finite.facts, Cert.Pre_finite_fwd.facts,
  fun m ρ _ => Cert.Kernel.Gen.frame m ρ, fun m ρ _ => Cert.KernelIdeal.Gen.frame m ρ,
  fun m ρ _ => Cert.KernelIdeal.Gen.frame m ρ,
  frame_r, @frame_r_finite Cert.Pre_finite.facts,
  fun m ρ _ => Cert.Ffn.Gen.frame m ρ, fun m ρ _ => Cert.FfnIdeal.Gen.frame m ρ, frame_Ffn,
  fun m ρ _ => Cert.Mix.Gen.frame m ρ, fun m ρ _ => Cert.MixIdeal.Gen.frame m ρ, frame_Mix,
  fun m ρ _ => Cert.Ssm.Gen.frame m ρ, fun m ρ _ => Cert.SsmIdeal.Gen.frame m ρ, frame_Ssm,
  fun m ρ _ => Cert.FfnDwIn.Gen.frame m ρ, fun m ρ _ => Cert.FfnDwInIdeal.Gen.frame m ρ, frame_FfnDwIn,
  fun m ρ _ => Cert.FfnDwOut.Gen.frame m ρ, fun m ρ _ => Cert.FfnDwOutIdeal.Gen.frame m ρ, frame_FfnDwOut,
  fun m ρ _ => Cert.AttnDwIn.Gen.frame m ρ, fun m ρ _ => Cert.AttnDwInIdeal.Gen.frame m ρ, frame_AttnDwIn,
  fun m ρ _ => Cert.AttnDwOut.Gen.frame m ρ, fun m ρ _ => Cert.AttnDwOutIdeal.Gen.frame m ρ, frame_AttnDwOut,
  fun m ρ _ => Cert.SsmDwZ.Gen.frame m ρ, fun m ρ _ => Cert.SsmDwZIdeal.Gen.frame m ρ, frame_SsmDwZ,
  fun m ρ _ => Cert.SsmDwX.Gen.frame m ρ, fun m ρ _ => Cert.SsmDwXIdeal.Gen.frame m ρ, frame_SsmDwX,
  fun m ρ _ => Cert.SsmDwOut.Gen.frame m ρ, fun m ρ _ => Cert.SsmDwOutIdeal.Gen.frame m ρ, frame_SsmDwOut,
  fun m ρ _ => Cert.FfnDh.Gen.frame m ρ, fun m ρ _ => Cert.FfnDhIdeal.Gen.frame m ρ, frame_FfnDh,
  fun m ρ _ => Cert.AttnDh.Gen.frame m ρ, fun m ρ _ => Cert.AttnDhIdeal.Gen.frame m ρ, frame_AttnDh,
  fun m ρ _ => Cert.FfnLoss.Gen.frame m ρ, fun m ρ _ => Cert.FfnLossIdeal.Gen.frame m ρ, frame_FfnLoss,
  fun m ρ _ => Cert.AttnOut.Gen.frame m ρ, fun m ρ _ => Cert.AttnOutIdeal.Gen.frame m ρ,
  fun m ρ _ => Cert.AttnOutIdeal.Gen.frame m ρ,
  frame_AttnOut, @frame_AttnOut_finite Cert.Pre_finite_fwd.facts,
  trivial, @gradient Cert.Pre_finite.facts,
  trivial, Cert.Products.value_Ffn,
  trivial, Cert.Products.value_Mix,
  trivial, Cert.Products.value_Ssm,
  trivial, Cert.Products.value_FfnDwIn,
  trivial, Cert.Products.value_FfnDwOut,
  trivial, Cert.Products.value_AttnDwIn,
  trivial, Cert.Products.value_AttnDwOut,
  trivial, Cert.Products.value_SsmDwZ,
  trivial, Cert.Products.value_SsmDwX,
  trivial, Cert.Products.value_SsmDwOut,
  trivial, Cert.Products.value_FfnDh,
  trivial, Cert.Products.value_AttnDh,
  trivial, Cert.Products.value_FfnLoss,
  trivial, @forward Cert.Pre_finite_fwd.facts⟩

end Cert.Proof

end
